-- ==== Defs.lean ====
def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaReferenceIdeal (m : (ℓ : Loc Cert.SwaReferenceIdeal.nD Cert.SwaReferenceIdeal.τ Cert.SwaReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_Prompt (m : (ℓ : Loc Cert.Prompt.nD Cert.Prompt.τ Cert.Prompt.sig) → Buf (Elt Bits) ℓ) : Prop :=
  True

def Pre_PromptIdeal (m : (ℓ : Loc Cert.PromptIdeal.nD Cert.PromptIdeal.τ Cert.PromptIdeal.sig) → Buf (Elt Ideal) ℓ) : Prop :=
  True

def Pre_PromptReferenceIdeal (m : (ℓ : Loc Cert.PromptReferenceIdeal.nD Cert.PromptReferenceIdeal.τ Cert.PromptReferenceIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleReferenceIdeal (m : (ℓ : Loc Cert.SampleReferenceIdeal.nD Cert.SampleReferenceIdeal.τ Cert.SampleReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryReferenceIdeal (m : (ℓ : Loc Cert.MemoryReferenceIdeal.nD Cert.MemoryReferenceIdeal.τ Cert.MemoryReferenceIdeal.sig) → Buf (Elt Ideal) ℓ) : Prop :=
  True

def Pre_Na (m : (ℓ : Loc Cert.Na.nD Cert.Na.τ Cert.Na.sig) → Buf (Elt Bits) ℓ) : Prop :=
  True

def Pre_NaIdeal (m : (ℓ : Loc Cert.NaIdeal.nD Cert.NaIdeal.τ Cert.NaIdeal.sig) → Buf (Elt Ideal) ℓ) : Prop :=
  True

def Pre_NaReferenceIdeal (m : (ℓ : Loc Cert.NaReferenceIdeal.nD Cert.NaReferenceIdeal.τ Cert.NaReferenceIdeal.sig) → Buf (Elt Ideal) ℓ) : Prop :=
  True

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1))
      ∧ r.2.sem = fun _ => 0)

def quiescent_SwaReferenceIdeal [hSwaReferenceIdeal : Cert.SwaReferenceIdeal.Facts] : Prop :=
  ∀ (m : (ℓ : Loc Cert.SwaReferenceIdeal.nD Cert.SwaReferenceIdeal.τ Cert.SwaReferenceIdeal.sig) → Buf (Elt Ideal) ℓ) (g : Dev Cert.SwaReferenceIdeal.nD → PrngReg), Pre_SwaReferenceIdeal m →
    θ_run (Cert.SwaReferenceIdeal.defs (F := Ideal)) (onTc (τ := Cert.SwaReferenceIdeal.τ) (Cert.SwaReferenceIdeal.main (F := Ideal))) ⟨m, fun _ => 0, g⟩ (fun r => (∀ c : Dev Cert.SwaReferenceIdeal.nD,
      r.2.mem ((c.tc : Thread Cert.SwaReferenceIdeal.nD Cert.SwaReferenceIdeal.τ).loc Cert.SwaReferenceIdeal.main_arg0) = m ((c.tc : Thread Cert.SwaReferenceIdeal.nD Cert.SwaReferenceIdeal.τ).loc Cert.SwaReferenceIdeal.main_arg0)
      ∧ r.2.mem ((c.tc : Thread Cert.SwaReferenceIdeal.nD Cert.SwaReferenceIdeal.τ).loc Cert.SwaReferenceIdeal.main_arg1) = m ((c.tc : Thread Cert.SwaReferenceIdeal.nD Cert.SwaReferenceIdeal.τ).loc Cert.SwaReferenceIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2))
      ∧ r.2.sem = fun _ => 0)

def quiescent_Prompt [hPrompt : Cert.Prompt.Facts] : Prop :=
  ∀ (m : (ℓ : Loc Cert.Prompt.nD Cert.Prompt.τ Cert.Prompt.sig) → Buf (Elt Bits) ℓ) (g : Dev Cert.Prompt.nD → PrngReg), Pre_Prompt m →
    θ_run (Cert.Prompt.defs (F := Bits)) (onTc (τ := Cert.Prompt.τ) (Cert.Prompt.main (F := Bits))) ⟨m, fun _ => 0, g⟩ (fun r => (∀ c : Dev Cert.Prompt.nD,
      r.2.mem ((c.tc : Thread Cert.Prompt.nD Cert.Prompt.τ).loc Cert.Prompt.main_arg0) = m ((c.tc : Thread Cert.Prompt.nD Cert.Prompt.τ).loc Cert.Prompt.main_arg0)
      ∧ r.2.mem ((c.tc : Thread Cert.Prompt.nD Cert.Prompt.τ).loc Cert.Prompt.main_arg1) = m ((c.tc : Thread Cert.Prompt.nD Cert.Prompt.τ).loc Cert.Prompt.main_arg1))
      ∧ r.2.sem = fun _ => 0)

def quiescent_PromptIdeal [hPromptIdeal : Cert.PromptIdeal.Facts] : Prop :=
  ∀ (m : (ℓ : Loc Cert.PromptIdeal.nD Cert.PromptIdeal.τ Cert.PromptIdeal.sig) → Buf (Elt Ideal) ℓ) (g : Dev Cert.PromptIdeal.nD → PrngReg), Pre_PromptIdeal m →
    θ_run (Cert.PromptIdeal.defs (F := Ideal)) (onTc (τ := Cert.PromptIdeal.τ) (Cert.PromptIdeal.main (F := Ideal))) ⟨m, fun _ => 0, g⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
      ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1))
      ∧ r.2.sem = fun _ => 0)

def quiescent_PromptReferenceIdeal [hPromptReferenceIdeal : Cert.PromptReferenceIdeal.Facts] : Prop :=
  ∀ (m : (ℓ : Loc Cert.PromptReferenceIdeal.nD Cert.PromptReferenceIdeal.τ Cert.PromptReferenceIdeal.sig) → Buf (Elt Ideal) ℓ) (g : Dev Cert.PromptReferenceIdeal.nD → PrngReg), Pre_PromptReferenceIdeal m →
    θ_run (Cert.PromptReferenceIdeal.defs (F := Ideal)) (onTc (τ := Cert.PromptReferenceIdeal.τ) (Cert.PromptReferenceIdeal.main (F := Ideal))) ⟨m, fun _ => 0, g⟩ (fun r => (∀ c : Dev Cert.PromptReferenceIdeal.nD,
      r.2.mem ((c.tc : Thread Cert.PromptReferenceIdeal.nD Cert.PromptReferenceIdeal.τ).loc Cert.PromptReferenceIdeal.main_arg0) = m ((c.tc : Thread Cert.PromptReferenceIdeal.nD Cert.PromptReferenceIdeal.τ).loc Cert.PromptReferenceIdeal.main_arg0)
      ∧ r.2.mem ((c.tc : Thread Cert.PromptReferenceIdeal.nD Cert.PromptReferenceIdeal.τ).loc Cert.PromptReferenceIdeal.main_arg1) = m ((c.tc : Thread Cert.PromptReferenceIdeal.nD Cert.PromptReferenceIdeal.τ).loc Cert.PromptReferenceIdeal.main_arg1))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1))
      ∧ r.2.sem = fun _ => 0)

def quiescent_SampleReferenceIdeal [hSampleReferenceIdeal : Cert.SampleReferenceIdeal.Facts] : Prop :=
  ∀ (m : (ℓ : Loc Cert.SampleReferenceIdeal.nD Cert.SampleReferenceIdeal.τ Cert.SampleReferenceIdeal.sig) → Buf (Elt Ideal) ℓ) (g : Dev Cert.SampleReferenceIdeal.nD → PrngReg), Pre_SampleReferenceIdeal m →
    θ_run (Cert.SampleReferenceIdeal.defs (F := Ideal)) (onTc (τ := Cert.SampleReferenceIdeal.τ) (Cert.SampleReferenceIdeal.main (F := Ideal))) ⟨m, fun _ => 0, g⟩ (fun r => (∀ c : Dev Cert.SampleReferenceIdeal.nD,
      r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0)
      ∧ r.2.mem ((c.tc : Thread Cert.SampleReferenceIdeal.nD Cert.SampleReferenceIdeal.τ).loc Cert.SampleReferenceIdeal.main_arg1) = m ((c.tc : Thread Cert.SampleReferenceIdeal.nD Cert.SampleReferenceIdeal.τ).loc Cert.SampleReferenceIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ r.2.sem = fun _ => 0)

def quiescent_MemoryReferenceIdeal [hMemoryReferenceIdeal : Cert.MemoryReferenceIdeal.Facts] : Prop :=
  ∀ (m : (ℓ : Loc Cert.MemoryReferenceIdeal.nD Cert.MemoryReferenceIdeal.τ Cert.MemoryReferenceIdeal.sig) → Buf (Elt Ideal) ℓ) (g : Dev Cert.MemoryReferenceIdeal.nD → PrngReg), Pre_MemoryReferenceIdeal m →
    θ_run (Cert.MemoryReferenceIdeal.defs (F := Ideal)) (onTc (τ := Cert.MemoryReferenceIdeal.τ) (Cert.MemoryReferenceIdeal.main (F := Ideal))) ⟨m, fun _ => 0, g⟩ (fun r => (∀ c : Dev Cert.MemoryReferenceIdeal.nD,
      r.2.mem ((c.tc : Thread Cert.MemoryReferenceIdeal.nD Cert.MemoryReferenceIdeal.τ).loc Cert.MemoryReferenceIdeal.main_arg0) = m ((c.tc : Thread Cert.MemoryReferenceIdeal.nD Cert.MemoryReferenceIdeal.τ).loc Cert.MemoryReferenceIdeal.main_arg0)
      ∧ r.2.mem ((c.tc : Thread Cert.MemoryReferenceIdeal.nD Cert.MemoryReferenceIdeal.τ).loc Cert.MemoryReferenceIdeal.main_arg1) = m ((c.tc : Thread Cert.MemoryReferenceIdeal.nD Cert.MemoryReferenceIdeal.τ).loc Cert.MemoryReferenceIdeal.main_arg1)
      ∧ r.2.mem ((c.tc : Thread Cert.MemoryReferenceIdeal.nD Cert.MemoryReferenceIdeal.τ).loc Cert.MemoryReferenceIdeal.main_arg2) = m ((c.tc : Thread Cert.MemoryReferenceIdeal.nD Cert.MemoryReferenceIdeal.τ).loc Cert.MemoryReferenceIdeal.main_arg2))
      ∧ r.2.sem = fun _ => 0)

def quiescent_Na [hNa : Cert.Na.Facts] : Prop :=
  ∀ (m : (ℓ : Loc Cert.Na.nD Cert.Na.τ Cert.Na.sig) → Buf (Elt Bits) ℓ) (g : Dev Cert.Na.nD → PrngReg), Pre_Na m →
    θ_run (Cert.Na.defs (F := Bits)) (onTc (τ := Cert.Na.τ) (Cert.Na.main (F := Bits))) ⟨m, fun _ => 0, g⟩ (fun r => (∀ c : Dev Cert.Na.nD,
      r.2.mem ((c.tc : Thread Cert.Na.nD Cert.Na.τ).loc Cert.Na.main_arg0) = m ((c.tc : Thread Cert.Na.nD Cert.Na.τ).loc Cert.Na.main_arg0)
      ∧ r.2.mem ((c.tc : Thread Cert.Na.nD Cert.Na.τ).loc Cert.Na.main_arg1) = m ((c.tc : Thread Cert.Na.nD Cert.Na.τ).loc Cert.Na.main_arg1))
      ∧ r.2.sem = fun _ => 0)

def quiescent_NaIdeal [hNaIdeal : Cert.NaIdeal.Facts] : Prop :=
  ∀ (m : (ℓ : Loc Cert.NaIdeal.nD Cert.NaIdeal.τ Cert.NaIdeal.sig) → Buf (Elt Ideal) ℓ) (g : Dev Cert.NaIdeal.nD → PrngReg), Pre_NaIdeal m →
    θ_run (Cert.NaIdeal.defs (F := Ideal)) (onTc (τ := Cert.NaIdeal.τ) (Cert.NaIdeal.main (F := Ideal))) ⟨m, fun _ => 0, g⟩ (fun r => (∀ c : Dev Cert.NaIdeal.nD,
      r.2.mem ((c.tc : Thread Cert.NaIdeal.nD Cert.NaIdeal.τ).loc Cert.NaIdeal.main_arg0) = m ((c.tc : Thread Cert.NaIdeal.nD Cert.NaIdeal.τ).loc Cert.NaIdeal.main_arg0)
      ∧ r.2.mem ((c.tc : Thread Cert.NaIdeal.nD Cert.NaIdeal.τ).loc Cert.NaIdeal.main_arg1) = m ((c.tc : Thread Cert.NaIdeal.nD Cert.NaIdeal.τ).loc Cert.NaIdeal.main_arg1))
      ∧ r.2.sem = fun _ => 0)

def quiescent_NaReferenceIdeal [hNaReferenceIdeal : Cert.NaReferenceIdeal.Facts] : Prop :=
  ∀ (m : (ℓ : Loc Cert.NaReferenceIdeal.nD Cert.NaReferenceIdeal.τ Cert.NaReferenceIdeal.sig) → Buf (Elt Ideal) ℓ) (g : Dev Cert.NaReferenceIdeal.nD → PrngReg), Pre_NaReferenceIdeal m →
    θ_run (Cert.NaReferenceIdeal.defs (F := Ideal)) (onTc (τ := Cert.NaReferenceIdeal.τ) (Cert.NaReferenceIdeal.main (F := Ideal))) ⟨m, fun _ => 0, g⟩ (fun r => (∀ c : Dev Cert.NaReferenceIdeal.nD,
      r.2.mem ((c.tc : Thread Cert.NaReferenceIdeal.nD Cert.NaReferenceIdeal.τ).loc Cert.NaReferenceIdeal.main_arg0) = m ((c.tc : Thread Cert.NaReferenceIdeal.nD Cert.NaReferenceIdeal.τ).loc Cert.NaReferenceIdeal.main_arg0)
      ∧ r.2.mem ((c.tc : Thread Cert.NaReferenceIdeal.nD Cert.NaReferenceIdeal.τ).loc Cert.NaReferenceIdeal.main_arg1) = m ((c.tc : Thread Cert.NaReferenceIdeal.nD Cert.NaReferenceIdeal.τ).loc Cert.NaReferenceIdeal.main_arg1))
      ∧ r.2.sem = fun _ => 0)

def preserves_Swa_SwaIdeal : Prop :=
  IdealRules.named_const.Statement Cert.SwaIdeal.κ "mask" .f32 0xF149F2CA#32 ⊥

def algebraic_SwaIdeal_SwaReferenceIdeal [hSwaIdeal : Cert.SwaIdeal.Facts] [hSwaReferenceIdeal : Cert.SwaReferenceIdeal.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaReferenceIdeal.nD Cert.SwaReferenceIdeal.τ Cert.SwaReferenceIdeal.sig) → Buf (Elt Ideal) ℓ) (g' : Dev Cert.SwaReferenceIdeal.nD → PrngReg), Pre_SwaIdeal m →
    (∀ c : Dev Cert.SwaIdeal.nD,
      m' ((c.tc : Thread Cert.SwaReferenceIdeal.nD Cert.SwaReferenceIdeal.τ).loc Cert.SwaReferenceIdeal.main_arg0) = m ((c.tc : Thread Cert.SwaIdeal.nD Cert.SwaIdeal.τ).loc Cert.SwaIdeal.main_arg0)
      ∧ m' ((c.tc : Thread Cert.SwaReferenceIdeal.nD Cert.SwaReferenceIdeal.τ).loc Cert.SwaReferenceIdeal.main_arg1) = m ((c.tc : Thread Cert.SwaIdeal.nD Cert.SwaIdeal.τ).loc Cert.SwaIdeal.main_arg1)) →
    ∃ (v0 : (c : Dev Cert.SwaIdeal.nD) → Buf (Elt Ideal) ((c.tc : Thread Cert.SwaIdeal.nD Cert.SwaIdeal.τ).loc Cert.SwaIdeal.main_v20)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v20) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1))
      ∧ θ_run (Cert.SwaReferenceIdeal.defs (F := Ideal)) (onTc (τ := Cert.SwaReferenceIdeal.τ) (Cert.SwaReferenceIdeal.main (F := Ideal))) ⟨m', fun _ => 0, g'⟩ (fun r => ∀ c : Dev Cert.SwaReferenceIdeal.nD,
          r.2.mem ((c.tc : Thread Cert.SwaReferenceIdeal.nD Cert.SwaReferenceIdeal.τ).loc Cert.SwaReferenceIdeal.main_v200) = v0 c
          ∧ r.2.mem ((c.tc : Thread Cert.SwaReferenceIdeal.nD Cert.SwaReferenceIdeal.τ).loc Cert.SwaReferenceIdeal.main_arg0) = m' ((c.tc : Thread Cert.SwaReferenceIdeal.nD Cert.SwaReferenceIdeal.τ).loc Cert.SwaReferenceIdeal.main_arg0)
          ∧ r.2.mem ((c.tc : Thread Cert.SwaReferenceIdeal.nD Cert.SwaReferenceIdeal.τ).loc Cert.SwaReferenceIdeal.main_arg1) = m' ((c.tc : Thread Cert.SwaReferenceIdeal.nD Cert.SwaReferenceIdeal.τ).loc Cert.SwaReferenceIdeal.main_arg1))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v1) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v15) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)) →
    ∃ (v0 : (c : Dev Cert.ProjectIdeal.nD) → Buf (Elt Ideal) ((c.tc : Thread Cert.ProjectIdeal.nD Cert.ProjectIdeal.τ).loc Cert.ProjectIdeal.main_v2)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v2) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v14) = v0 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2))

def preserves_Prompt_PromptIdeal : Prop :=
  True

def algebraic_PromptIdeal_PromptReferenceIdeal [hPromptIdeal : Cert.PromptIdeal.Facts] [hPromptReferenceIdeal : Cert.PromptReferenceIdeal.Facts] : Prop :=
  ∀ (m : (ℓ : Loc Cert.PromptIdeal.nD Cert.PromptIdeal.τ Cert.PromptIdeal.sig) → Buf (Elt Ideal) ℓ) (g : Dev Cert.PromptIdeal.nD → PrngReg)
    (m' : (ℓ : Loc Cert.PromptReferenceIdeal.nD Cert.PromptReferenceIdeal.τ Cert.PromptReferenceIdeal.sig) → Buf (Elt Ideal) ℓ) (g' : Dev Cert.PromptReferenceIdeal.nD → PrngReg), Pre_PromptIdeal m →
    (∀ c : Dev Cert.PromptIdeal.nD,
      m' ((c.tc : Thread Cert.PromptReferenceIdeal.nD Cert.PromptReferenceIdeal.τ).loc Cert.PromptReferenceIdeal.main_arg0) = m ((c.tc : Thread Cert.PromptIdeal.nD Cert.PromptIdeal.τ).loc Cert.PromptIdeal.main_arg0)
      ∧ m' ((c.tc : Thread Cert.PromptReferenceIdeal.nD Cert.PromptReferenceIdeal.τ).loc Cert.PromptReferenceIdeal.main_arg1) = m ((c.tc : Thread Cert.PromptIdeal.nD Cert.PromptIdeal.τ).loc Cert.PromptIdeal.main_arg1)) →
    ∃ (v0 : (c : Dev Cert.PromptIdeal.nD) → Buf (Elt Ideal) ((c.tc : Thread Cert.PromptIdeal.nD Cert.PromptIdeal.τ).loc Cert.PromptIdeal.main_v1)),
      θ_run (Cert.PromptIdeal.defs (F := Ideal)) (onTc (τ := Cert.PromptIdeal.τ) (Cert.PromptIdeal.main (F := Ideal))) ⟨m, fun _ => 0, g⟩ (fun r => ∀ c : Dev Cert.PromptIdeal.nD,
          r.2.mem ((c.tc : Thread Cert.PromptIdeal.nD Cert.PromptIdeal.τ).loc Cert.PromptIdeal.main_v1) = v0 c
          ∧ r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
          ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1))
      ∧ θ_run (Cert.PromptReferenceIdeal.defs (F := Ideal)) (onTc (τ := Cert.PromptReferenceIdeal.τ) (Cert.PromptReferenceIdeal.main (F := Ideal))) ⟨m', fun _ => 0, g'⟩ (fun r => ∀ c : Dev Cert.PromptReferenceIdeal.nD,
          r.2.mem ((c.tc : Thread Cert.PromptReferenceIdeal.nD Cert.PromptReferenceIdeal.τ).loc Cert.PromptReferenceIdeal.main_v13) = v0 c
          ∧ r.2.mem ((c.tc : Thread Cert.PromptReferenceIdeal.nD Cert.PromptReferenceIdeal.τ).loc Cert.PromptReferenceIdeal.main_arg0) = m' ((c.tc : Thread Cert.PromptReferenceIdeal.nD Cert.PromptReferenceIdeal.τ).loc Cert.PromptReferenceIdeal.main_arg0)
          ∧ r.2.mem ((c.tc : Thread Cert.PromptReferenceIdeal.nD Cert.PromptReferenceIdeal.τ).loc Cert.PromptReferenceIdeal.main_arg1) = m' ((c.tc : Thread Cert.PromptReferenceIdeal.nD Cert.PromptReferenceIdeal.τ).loc Cert.PromptReferenceIdeal.main_arg1))

def preserves_Sample_SampleIdeal : Prop :=
  True

def algebraic_SampleIdeal_SampleReferenceIdeal [hSampleIdeal : Cert.SampleIdeal.Facts] [hSampleReferenceIdeal : Cert.SampleReferenceIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleReferenceIdeal.nD Cert.SampleReferenceIdeal.τ Cert.SampleReferenceIdeal.sig) → Buf (Elt Ideal) ℓ) (g' : Dev Cert.SampleReferenceIdeal.nD → PrngReg), Pre_SampleIdeal m →
    (∀ c : Dev Cert.SampleIdeal.nD,
      m' ((c.tc : Thread Cert.SampleReferenceIdeal.nD Cert.SampleReferenceIdeal.τ).loc Cert.SampleReferenceIdeal.main_arg0) = m ((c.tc : Thread Cert.SampleIdeal.nD Cert.SampleIdeal.τ).loc Cert.SampleIdeal.main_arg0)
      ∧ m' ((c.tc : Thread Cert.SampleReferenceIdeal.nD Cert.SampleReferenceIdeal.τ).loc Cert.SampleReferenceIdeal.main_arg1) = m ((c.tc : Thread Cert.SampleIdeal.nD Cert.SampleIdeal.τ).loc Cert.SampleIdeal.main_arg1)) →
    ∃ (v0 : (c : Dev Cert.SampleIdeal.nD) → Buf (Elt Ideal) ((c.tc : Thread Cert.SampleIdeal.nD Cert.SampleIdeal.τ).loc Cert.SampleIdeal.main_v1)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v1) = v0 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1))
      ∧ θ_run (Cert.SampleReferenceIdeal.defs (F := Ideal)) (onTc (τ := Cert.SampleReferenceIdeal.τ) (Cert.SampleReferenceIdeal.main (F := Ideal))) ⟨m', fun _ => 0, g'⟩ (fun r => ∀ c : Dev Cert.SampleReferenceIdeal.nD,
          r.2.mem ((c.tc : Thread Cert.SampleReferenceIdeal.nD Cert.SampleReferenceIdeal.τ).loc Cert.SampleReferenceIdeal.main_v13) = v0 c
          ∧ r.2.mem ((c.tc : Thread Cert.SampleReferenceIdeal.nD Cert.SampleReferenceIdeal.τ).loc Cert.SampleReferenceIdeal.main_arg0) = m' ((c.tc : Thread Cert.SampleReferenceIdeal.nD Cert.SampleReferenceIdeal.τ).loc Cert.SampleReferenceIdeal.main_arg0)
          ∧ r.2.mem ((c.tc : Thread Cert.SampleReferenceIdeal.nD Cert.SampleReferenceIdeal.τ).loc Cert.SampleReferenceIdeal.main_arg1) = m' ((c.tc : Thread Cert.SampleReferenceIdeal.nD Cert.SampleReferenceIdeal.τ).loc Cert.SampleReferenceIdeal.main_arg1))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)
      ∧ m' ((c.tc : Thread Cert.MixReferenceIdeal.nD Cert.MixReferenceIdeal.τ).loc Cert.MixReferenceIdeal.main_arg9) = m ((c.tc : Thread Cert.MixIdeal.nD Cert.MixIdeal.τ).loc Cert.MixIdeal.main_arg9)
      ∧ m' ((c.tc : Thread Cert.MixReferenceIdeal.nD Cert.MixReferenceIdeal.τ).loc Cert.MixReferenceIdeal.main_arg10) = m ((c.tc : Thread Cert.MixIdeal.nD Cert.MixIdeal.τ).loc Cert.MixIdeal.main_arg10)) →
    ∃ (v0 : (c : Dev Cert.MixIdeal.nD) → Buf (Elt Ideal) ((c.tc : Thread Cert.MixIdeal.nD Cert.MixIdeal.τ).loc Cert.MixIdeal.main_v6_0)) (v1 : (c : Dev Cert.MixIdeal.nD) → Buf (Elt Ideal) ((c.tc : Thread Cert.MixIdeal.nD Cert.MixIdeal.τ).loc Cert.MixIdeal.main_v6_1)) (v2 : (c : Dev Cert.MixIdeal.nD) → Buf (Elt Ideal) ((c.tc : Thread Cert.MixIdeal.nD Cert.MixIdeal.τ).loc Cert.MixIdeal.main_v6_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v6_0) = v0 c
          ∧ r.2.mem ((c.tc : Thread Cert.MixIdeal.nD Cert.MixIdeal.τ).loc Cert.MixIdeal.main_v6_1) = v1 c
          ∧ r.2.mem ((c.tc : Thread Cert.MixIdeal.nD Cert.MixIdeal.τ).loc Cert.MixIdeal.main_v6_2) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v151) = v0 c
          ∧ r.2.mem ((c.tc : Thread Cert.MixReferenceIdeal.nD Cert.MixReferenceIdeal.τ).loc Cert.MixReferenceIdeal.main_v152) = v1 c
          ∧ r.2.mem ((c.tc : Thread Cert.MixReferenceIdeal.nD Cert.MixReferenceIdeal.τ).loc Cert.MixReferenceIdeal.main_v153) = v2 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9)
          ∧ r.2.mem ((c.tc : Thread Cert.MixReferenceIdeal.nD Cert.MixReferenceIdeal.τ).loc Cert.MixReferenceIdeal.main_arg10) = m' ((c.tc : Thread Cert.MixReferenceIdeal.nD Cert.MixReferenceIdeal.τ).loc Cert.MixReferenceIdeal.main_arg10))

def preserves_Memory_MemoryIdeal : Prop :=
  True

def algebraic_MemoryIdeal_MemoryReferenceIdeal [hMemoryIdeal : Cert.MemoryIdeal.Facts] [hMemoryReferenceIdeal : Cert.MemoryReferenceIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryReferenceIdeal.nD Cert.MemoryReferenceIdeal.τ Cert.MemoryReferenceIdeal.sig) → Buf (Elt Ideal) ℓ) (g' : Dev Cert.MemoryReferenceIdeal.nD → PrngReg), Pre_MemoryIdeal m →
    (∀ c : Dev Cert.MemoryIdeal.nD,
      m' ((c.tc : Thread Cert.MemoryReferenceIdeal.nD Cert.MemoryReferenceIdeal.τ).loc Cert.MemoryReferenceIdeal.main_arg0) = m ((c.tc : Thread Cert.MemoryIdeal.nD Cert.MemoryIdeal.τ).loc Cert.MemoryIdeal.main_arg0)
      ∧ m' ((c.tc : Thread Cert.MemoryReferenceIdeal.nD Cert.MemoryReferenceIdeal.τ).loc Cert.MemoryReferenceIdeal.main_arg1) = m ((c.tc : Thread Cert.MemoryIdeal.nD Cert.MemoryIdeal.τ).loc Cert.MemoryIdeal.main_arg1)
      ∧ m' ((c.tc : Thread Cert.MemoryReferenceIdeal.nD Cert.MemoryReferenceIdeal.τ).loc Cert.MemoryReferenceIdeal.main_arg2) = m ((c.tc : Thread Cert.MemoryIdeal.nD Cert.MemoryIdeal.τ).loc Cert.MemoryIdeal.main_arg2)) →
    ∃ (v0 : (c : Dev Cert.MemoryIdeal.nD) → Buf (Elt Ideal) ((c.tc : Thread Cert.MemoryIdeal.nD Cert.MemoryIdeal.τ).loc Cert.MemoryIdeal.main_v2)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v2) = v0 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ θ_run (Cert.MemoryReferenceIdeal.defs (F := Ideal)) (onTc (τ := Cert.MemoryReferenceIdeal.τ) (Cert.MemoryReferenceIdeal.main (F := Ideal))) ⟨m', fun _ => 0, g'⟩ (fun r => ∀ c : Dev Cert.MemoryReferenceIdeal.nD,
          r.2.mem ((c.tc : Thread Cert.MemoryReferenceIdeal.nD Cert.MemoryReferenceIdeal.τ).loc Cert.MemoryReferenceIdeal.main_v14) = v0 c
          ∧ r.2.mem ((c.tc : Thread Cert.MemoryReferenceIdeal.nD Cert.MemoryReferenceIdeal.τ).loc Cert.MemoryReferenceIdeal.main_arg0) = m' ((c.tc : Thread Cert.MemoryReferenceIdeal.nD Cert.MemoryReferenceIdeal.τ).loc Cert.MemoryReferenceIdeal.main_arg0)
          ∧ r.2.mem ((c.tc : Thread Cert.MemoryReferenceIdeal.nD Cert.MemoryReferenceIdeal.τ).loc Cert.MemoryReferenceIdeal.main_arg1) = m' ((c.tc : Thread Cert.MemoryReferenceIdeal.nD Cert.MemoryReferenceIdeal.τ).loc Cert.MemoryReferenceIdeal.main_arg1)
          ∧ r.2.mem ((c.tc : Thread Cert.MemoryReferenceIdeal.nD Cert.MemoryReferenceIdeal.τ).loc Cert.MemoryReferenceIdeal.main_arg2) = m' ((c.tc : Thread Cert.MemoryReferenceIdeal.nD Cert.MemoryReferenceIdeal.τ).loc Cert.MemoryReferenceIdeal.main_arg2))

def preserves_Na_NaIdeal : Prop :=
  True

def Claim : Prop :=
  ∃ (hSwa : Cert.Swa.Facts) (hSwaIdeal : Cert.SwaIdeal.Facts) (hSwaReferenceIdeal : Cert.SwaReferenceIdeal.Facts) (hFfn : Cert.Ffn.Facts) (hFfnIdeal : Cert.FfnIdeal.Facts) (hFfnReferenceIdeal : Cert.FfnReferenceIdeal.Facts) (hProject : Cert.Project.Facts) (hProjectIdeal : Cert.ProjectIdeal.Facts) (hProjectReferenceIdeal : Cert.ProjectReferenceIdeal.Facts) (hPrompt : Cert.Prompt.Facts) (hPromptIdeal : Cert.PromptIdeal.Facts) (hPromptReferenceIdeal : Cert.PromptReferenceIdeal.Facts) (hSample : Cert.Sample.Facts) (hSampleIdeal : Cert.SampleIdeal.Facts) (hSampleReferenceIdeal : Cert.SampleReferenceIdeal.Facts) (hMix : Cert.Mix.Facts) (hMixIdeal : Cert.MixIdeal.Facts) (hMixReferenceIdeal : Cert.MixReferenceIdeal.Facts) (hMemory : Cert.Memory.Facts) (hMemoryIdeal : Cert.MemoryIdeal.Facts) (hMemoryReferenceIdeal : Cert.MemoryReferenceIdeal.Facts) (hNa : Cert.Na.Facts) (hNaIdeal : Cert.NaIdeal.Facts) (hNaReferenceIdeal : Cert.NaReferenceIdeal.Facts),
    quiescent_Swa (hSwa := hSwa)
    ∧ quiescent_SwaIdeal (hSwaIdeal := hSwaIdeal)
    ∧ quiescent_SwaReferenceIdeal (hSwaReferenceIdeal := hSwaReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Project (hProject := hProject)
    ∧ quiescent_ProjectIdeal (hProjectIdeal := hProjectIdeal)
    ∧ quiescent_ProjectReferenceIdeal (hProjectReferenceIdeal := hProjectReferenceIdeal)
    ∧ quiescent_Prompt (hPrompt := hPrompt)
    ∧ quiescent_PromptIdeal (hPromptIdeal := hPromptIdeal)
    ∧ quiescent_PromptReferenceIdeal (hPromptReferenceIdeal := hPromptReferenceIdeal)
    ∧ quiescent_Sample (hSample := hSample)
    ∧ quiescent_SampleIdeal (hSampleIdeal := hSampleIdeal)
    ∧ quiescent_SampleReferenceIdeal (hSampleReferenceIdeal := hSampleReferenceIdeal)
    ∧ quiescent_Mix (hMix := hMix)
    ∧ quiescent_MixIdeal (hMixIdeal := hMixIdeal)
    ∧ quiescent_MixReferenceIdeal (hMixReferenceIdeal := hMixReferenceIdeal)
    ∧ quiescent_Memory (hMemory := hMemory)
    ∧ quiescent_MemoryIdeal (hMemoryIdeal := hMemoryIdeal)
    ∧ quiescent_MemoryReferenceIdeal (hMemoryReferenceIdeal := hMemoryReferenceIdeal)
    ∧ quiescent_Na (hNa := hNa)
    ∧ quiescent_NaIdeal (hNaIdeal := hNaIdeal)
    ∧ quiescent_NaReferenceIdeal (hNaReferenceIdeal := hNaReferenceIdeal)
    ∧ preserves_Swa_SwaIdeal
    ∧ algebraic_SwaIdeal_SwaReferenceIdeal (hSwaIdeal := hSwaIdeal) (hSwaReferenceIdeal := hSwaReferenceIdeal)
    ∧ preserves_Ffn_FfnIdeal
    ∧ algebraic_FfnIdeal_FfnReferenceIdeal (hFfnIdeal := hFfnIdeal) (hFfnReferenceIdeal := hFfnReferenceIdeal)
    ∧ preserves_Project_ProjectIdeal
    ∧ algebraic_ProjectIdeal_ProjectReferenceIdeal (hProjectIdeal := hProjectIdeal) (hProjectReferenceIdeal := hProjectReferenceIdeal)
    ∧ preserves_Prompt_PromptIdeal
    ∧ algebraic_PromptIdeal_PromptReferenceIdeal (hPromptIdeal := hPromptIdeal) (hPromptReferenceIdeal := hPromptReferenceIdeal)
    ∧ preserves_Sample_SampleIdeal
    ∧ algebraic_SampleIdeal_SampleReferenceIdeal (hSampleIdeal := hSampleIdeal) (hSampleReferenceIdeal := hSampleReferenceIdeal)
    ∧ preserves_Mix_MixIdeal
    ∧ algebraic_MixIdeal_MixReferenceIdeal (hMixIdeal := hMixIdeal) (hMixReferenceIdeal := hMixReferenceIdeal)
    ∧ preserves_Memory_MemoryIdeal
    ∧ algebraic_MemoryIdeal_MemoryReferenceIdeal (hMemoryIdeal := hMemoryIdeal) (hMemoryReferenceIdeal := hMemoryReferenceIdeal)
    ∧ preserves_Na_NaIdeal
-- ==== Swa.lean ====
abbrev S40960x3584 : Shape := ⟨2, ![40960, 3584]⟩
abbrev S8 : Shape := ⟨1, ![8]⟩
abbrev S128x384 : Shape := ⟨2, ![128, 384]⟩
abbrev S1x128x384 : Shape := ⟨3, ![1, 128, 384]⟩
abbrev S_ : Shape := ⟨0, ![]⟩
abbrev S8x1x1 : Shape := ⟨3, ![8, 1, 1]⟩
abbrev S8x128x384 : Shape := ⟨3, ![8, 128, 384]⟩
abbrev S2x512x384 : Shape := ⟨3, ![2, 512, 384]⟩
abbrev S8x128 : Shape := ⟨2, ![8, 128]⟩
abbrev S1024 : Shape := ⟨1, ![1024]⟩
abbrev S2x512x1 : Shape := ⟨3, ![2, 512, 1]⟩
abbrev S40960x1024 : Shape := ⟨2, ![40960, 1024]⟩
abbrev S128x1024 : Shape := ⟨2, ![128, 1024]⟩
abbrev S128x256 : Shape := ⟨2, ![128, 256]⟩
abbrev S128x128 : Shape := ⟨2, ![128, 128]⟩
abbrev S512x128 : Shape := ⟨2, ![512, 128]⟩
abbrev S384x128 : Shape := ⟨2, ![384, 128]⟩
abbrev S512x384 : Shape := ⟨2, ![512, 384]⟩
abbrev S1x512x384 : Shape := ⟨3, ![1, 512, 384]⟩
abbrev S1x512x1 : Shape := ⟨3, ![1, 512, 1]⟩
abbrev S512x1 : Shape := ⟨2, ![512, 1]⟩
abbrev S512 : Shape := ⟨1, ![512]⟩

abbrev nBuf : Space → Nat
  | .hbm => 32
  | .vmem => 18
  | .smem => 0
  | _ => 0

abbrev bufTy : (tb : Table) → Fin (tcTables nBuf tb) → BufTy
  | .hbm, ⟨0, _⟩ => ⟨S40960x3584, .bf16⟩
  | .hbm, ⟨1, _⟩ => ⟨S8, .f32⟩
  | .hbm, ⟨2, _⟩ => ⟨S128x384, .i1⟩
  | .hbm, ⟨3, _⟩ => ⟨S128x384, .f32⟩
  | .hbm, ⟨4, _⟩ => ⟨S1x128x384, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S8, .f32⟩
  | .hbm, ⟨17, _⟩ => ⟨S1x128x384, .i1⟩
  | .hbm, ⟨18, _⟩ => ⟨S8x1x1, .f32⟩
  | .hbm, ⟨19, _⟩ => ⟨S8x128x384, .f32⟩
  | .hbm, ⟨20, _⟩ => ⟨S8x128x384, .f32⟩
  | .hbm, ⟨21, _⟩ => ⟨S8x128x384, .f32⟩
  | .hbm, ⟨22, _⟩ => ⟨S_, .f32⟩
  | .hbm, ⟨23, _⟩ => ⟨S_, .f32⟩
  | .hbm, ⟨24, _⟩ => ⟨S8x128x384, .i1⟩
  | .hbm, ⟨25, _⟩ => ⟨S8x128x384, .f32⟩
  | .hbm, ⟨26, _⟩ => ⟨S8x128x384, .f32⟩
  | .hbm, ⟨27, _⟩ => ⟨S2x512x384, .f32⟩
  | .hbm, ⟨28, _⟩ => ⟨S8x128, .f32⟩
  | .hbm, ⟨29, _⟩ => ⟨S1024, .f32⟩
  | .hbm, ⟨30, _⟩ => ⟨S2x512x1, .f32⟩
  | .hbm, ⟨31, _⟩ => ⟨S40960x1024, .bf16⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S128x256, .bf16⟩
  | .local _ .vmem, ⟨11, _⟩ => ⟨S128x256, .bf16⟩
  | .local _ .vmem, ⟨12, _⟩ => ⟨S128x256, .bf16⟩
  | .local _ .vmem, ⟨13, _⟩ => ⟨S128x256, .bf16⟩
  | .local _ .vmem, ⟨14, _⟩ => ⟨S2x512x384, .f32⟩
  | .local _ .vmem, ⟨15, _⟩ => ⟨S2x512x1, .f32⟩
  | .local _ .vmem, ⟨16, _⟩ => ⟨S128x1024, .bf16⟩
  | .local _ .vmem, ⟨17, _⟩ => ⟨S128x1024, .bf16⟩
  | _, _ => ⟨S40960x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![320], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c64_i32 : BitVec 32 := 64#32
  let v1 : BitVec 1 := Scalar.cmpi .sge arg0 c64_i32
  let c64_i32_0 : BitVec 32 := 64#32
  let c0_i32 : BitVec 32 := 0#32
  let v2 : BitVec 32 := Scalar.select v1 c64_i32_0 c0_i32
  let c192_i32 : BitVec 32 := 192#32
  let v3 : BitVec 1 := Scalar.cmpi .sge arg0 c192_i32
  let c192_i32_1 : BitVec 32 := 192#32
  let v4 : BitVec 32 := Scalar.select v3 c192_i32_1 v2
  let v5 : BitVec 32 := Scalar.maxsi v0 v4
  let c12_i32 : BitVec 32 := 12#32
  let c0_i32_2 : BitVec 32 := 0#32
  ![v5.toNat, c12_i32.toNat]

def cc0_transform_2 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c191_i32 : BitVec 32 := 191#32
  let v1 : BitVec 1 := Scalar.cmpi .sle arg0 c191_i32
  let c191_i32_0 : BitVec 32 := 191#32
  let c319_i32 : BitVec 32 := 319#32
  let v2 : BitVec 32 := Scalar.select v1 c191_i32_0 c319_i32
  let c63_i32 : BitVec 32 := 63#32
  let v3 : BitVec 1 := Scalar.cmpi .sle arg0 c63_i32
  let c63_i32_1 : BitVec 32 := 63#32
  let v4 : BitVec 32 := Scalar.select v3 c63_i32_1 v2
  let v5 : BitVec 32 := Scalar.minsi v0 v4
  let c12_i32 : BitVec 32 := 12#32
  let c0_i32 : BitVec 32 := 0#32
  ![v5.toNat, c12_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c64_i32 : BitVec 32 := 64#32
  let v1 : BitVec 1 := Scalar.cmpi .sge arg0 c64_i32
  let c64_i32_0 : BitVec 32 := 64#32
  let c0_i32 : BitVec 32 := 0#32
  let v2 : BitVec 32 := Scalar.select v1 c64_i32_0 c0_i32
  let c192_i32 : BitVec 32 := 192#32
  let v3 : BitVec 1 := Scalar.cmpi .sge arg0 c192_i32
  let c192_i32_1 : BitVec 32 := 192#32
  let v4 : BitVec 32 := Scalar.select v3 c192_i32_1 v2
  let v5 : BitVec 32 := Scalar.maxsi v0 v4
  let c13_i32 : BitVec 32 := 13#32
  let c0_i32_2 : BitVec 32 := 0#32
  ![v5.toNat, c13_i32.toNat]

def cc0_transform_5 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c191_i32 : BitVec 32 := 191#32
  let v1 : BitVec 1 := Scalar.cmpi .sle arg0 c191_i32
  let c191_i32_0 : BitVec 32 := 191#32
  let c319_i32 : BitVec 32 := 319#32
  let v2 : BitVec 32 := Scalar.select v1 c191_i32_0 c319_i32
  let c63_i32 : BitVec 32 := 63#32
  let v3 : BitVec 1 := Scalar.cmpi .sle arg0 c63_i32
  let c63_i32_1 : BitVec 32 := 63#32
  let v4 : BitVec 32 := Scalar.select v3 c63_i32_1 v2
  let v5 : BitVec 32 := Scalar.minsi v0 v4
  let c13_i32 : BitVec 32 := 13#32
  let c0_i32 : BitVec 32 := 0#32
  ![v5.toNat, c13_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2x512x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x512x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== SwaIdeal.lean ====
variable {F : FTy → Type} [FloatOps F] [Named F]
def κ : String → Option EReal := fun
  | "mask" => some ⊥
  | _ => none
-- ==== SwaReferenceIdeal.lean ====
abbrev S40960x3584 : Shape := ⟨2, ![40960, 3584]⟩
abbrev S8 : Shape := ⟨1, ![8]⟩
abbrev S8192x3584 : Shape := ⟨2, ![8192, 3584]⟩
abbrev S1x8192x3584 : Shape := ⟨3, ![1, 8192, 3584]⟩
abbrev S1x8192x1024 : Shape := ⟨3, ![1, 8192, 1024]⟩
abbrev S1x8192x256 : Shape := ⟨3, ![1, 8192, 256]⟩
abbrev S1x8192x8x128 : Shape := ⟨4, ![1, 8192, 8, 128]⟩
abbrev S1x8192x2x128 : Shape := ⟨4, ![1, 8192, 2, 128]⟩
abbrev S1x64x128x2x4x128 : Shape := ⟨6, ![1, 64, 128, 2, 4, 128]⟩
abbrev S_ : Shape := ⟨0, ![]⟩
abbrev S1x8448x2x128 : Shape := ⟨4, ![1, 8448, 2, 128]⟩
abbrev S1x66x128x2x128 : Shape := ⟨5, ![1, 66, 128, 2, 128]⟩
abbrev S1x64x128x2x128 : Shape := ⟨5, ![1, 64, 128, 2, 128]⟩
abbrev S1x64x384x2x128 : Shape := ⟨5, ![1, 64, 384, 2, 128]⟩
abbrev S1x64x2x384x128x4 : Shape := ⟨6, ![1, 64, 2, 384, 128, 4]⟩
abbrev S1x64x2x4x128x384 : Shape := ⟨6, ![1, 64, 2, 4, 128, 384]⟩
abbrev S128 : Shape := ⟨1, ![128]⟩
abbrev S384 : Shape := ⟨1, ![384]⟩
abbrev S1x384 : Shape := ⟨2, ![1, 384]⟩
abbrev S128x1 : Shape := ⟨2, ![128, 1]⟩
abbrev S128x384 : Shape := ⟨2, ![128, 384]⟩
abbrev S64 : Shape := ⟨1, ![64]⟩
abbrev S64x1 : Shape := ⟨2, ![64, 1]⟩
abbrev S64x384 : Shape := ⟨2, ![64, 384]⟩
abbrev S1x128x384 : Shape := ⟨3, ![1, 128, 384]⟩
abbrev S64x1x384 : Shape := ⟨3, ![64, 1, 384]⟩
abbrev S64x128x384 : Shape := ⟨3, ![64, 128, 384]⟩
abbrev S2x4 : Shape := ⟨2, ![2, 4]⟩
abbrev S1x1x2x4x1x1 : Shape := ⟨6, ![1, 1, 2, 4, 1, 1]⟩
abbrev S1x1x1x1x128x384 : Shape := ⟨6, ![1, 1, 1, 1, 128, 384]⟩
abbrev S1x1x2x4x128x384 : Shape := ⟨6, ![1, 1, 2, 4, 128, 384]⟩
abbrev S1x64x1x1x128x384 : Shape := ⟨6, ![1, 64, 1, 1, 128, 384]⟩
abbrev S1x1x2x4x1 : Shape := ⟨5, ![1, 1, 2, 4, 1]⟩
abbrev S1x64x2x4x128 : Shape := ⟨5, ![1, 64, 2, 4, 128]⟩
abbrev S1x64x2x4x128x1 : Shape := ⟨6, ![1, 64, 2, 4, 128, 1]⟩
abbrev S1x64x2x128x4x128 : Shape := ⟨6, ![1, 64, 2, 128, 4, 128]⟩
abbrev S8192x1024 : Shape := ⟨2, ![8192, 1024]⟩
abbrev S32768x3584 : Shape := ⟨2, ![32768, 3584]⟩
abbrev S2x16384x3584 : Shape := ⟨3, ![2, 16384, 3584]⟩
abbrev S2x16384x1024 : Shape := ⟨3, ![2, 16384, 1024]⟩
abbrev S2x16384x256 : Shape := ⟨3, ![2, 16384, 256]⟩
abbrev S2x16384x8x128 : Shape := ⟨4, ![2, 16384, 8, 128]⟩
abbrev S2x16384x2x128 : Shape := ⟨4, ![2, 16384, 2, 128]⟩
abbrev S2x128x128x2x4x128 : Shape := ⟨6, ![2, 128, 128, 2, 4, 128]⟩
abbrev S2x16640x2x128 : Shape := ⟨4, ![2, 16640, 2, 128]⟩
abbrev S2x130x128x2x128 : Shape := ⟨5, ![2, 130, 128, 2, 128]⟩
abbrev S2x128x128x2x128 : Shape := ⟨5, ![2, 128, 128, 2, 128]⟩
abbrev S2x128x384x2x128 : Shape := ⟨5, ![2, 128, 384, 2, 128]⟩
abbrev S2x128x2x384x128x4 : Shape := ⟨6, ![2, 128, 2, 384, 128, 4]⟩
abbrev S2x128x2x4x128x384 : Shape := ⟨6, ![2, 128, 2, 4, 128, 384]⟩
abbrev S128x1x384 : Shape := ⟨3, ![128, 1, 384]⟩
abbrev S128x128x384 : Shape := ⟨3, ![128, 128, 384]⟩
abbrev S1x128x1x1x128x384 : Shape := ⟨6, ![1, 128, 1, 1, 128, 384]⟩
abbrev S2x128x2x4x128 : Shape := ⟨5, ![2, 128, 2, 4, 128]⟩
abbrev S2x128x2x4x128x1 : Shape := ⟨6, ![2, 128, 2, 4, 128, 1]⟩
abbrev S2x128x2x128x4x128 : Shape := ⟨6, ![2, 128, 2, 128, 4, 128]⟩
abbrev S32768x1024 : Shape := ⟨2, ![32768, 1024]⟩
abbrev S40960x1024 : Shape := ⟨2, ![40960, 1024]⟩

abbrev nBuf : Space → Nat
  | .hbm => 243
  | .vmem => 0
  | .smem => 0
  | _ => 0

abbrev hbmTy0_0 (i : Nat) : BufTy := match i % 128 with
  | 0 => ⟨S40960x3584, .bf16⟩
  | 1 => ⟨S8, .f32⟩
  | 2 => ⟨S40960x3584, .f32⟩
  | 3 => ⟨S8192x3584, .f32⟩
  | 4 => ⟨S1x8192x3584, .f32⟩
  | 5 => ⟨S1x8192x1024, .f32⟩
  | 6 => ⟨S1x8192x256, .f32⟩
  | 7 => ⟨S1x8192x256, .f32⟩
  | 8 => ⟨S1x8192x8x128, .f32⟩
  | 9 => ⟨S1x8192x2x128, .f32⟩
  | 10 => ⟨S1x8192x2x128, .f32⟩
  | 11 => ⟨S1x64x128x2x4x128, .f32⟩
  | 12 => ⟨S_, .i32⟩
  | 13 => ⟨S_, .f32⟩
  | 14 => ⟨S1x8448x2x128, .f32⟩
  | 15 => ⟨S1x66x128x2x128, .f32⟩
  | 16 => ⟨S_, .i32⟩
  | 17 => ⟨S_, .f32⟩
  | 18 => ⟨S1x8448x2x128, .f32⟩
  | 19 => ⟨S1x66x128x2x128, .f32⟩
  | 20 => ⟨S1x64x128x2x128, .f32⟩
  | 21 => ⟨S1x64x128x2x128, .f32⟩
  | 22 => ⟨S1x64x128x2x128, .f32⟩
  | 23 => ⟨S1x64x384x2x128, .f32⟩
  | 24 => ⟨S1x64x128x2x128, .f32⟩
  | 25 => ⟨S1x64x128x2x128, .f32⟩
  | 26 => ⟨S1x64x128x2x128, .f32⟩
  | 27 => ⟨S1x64x384x2x128, .f32⟩
  | 28 => ⟨S1x64x2x384x128x4, .f32⟩
  | 29 => ⟨S1x64x2x4x128x384, .f32⟩
  | 30 => ⟨S_, .f32⟩
  | 31 => ⟨S1x64x2x4x128x384, .f32⟩
  | 32 => ⟨S1x64x2x4x128x384, .f32⟩
  | 33 => ⟨S128, .i32⟩
  | 34 => ⟨S384, .i32⟩
  | 35 => ⟨S1x384, .i32⟩
  | 36 => ⟨S_, .i32⟩
  | 37 => ⟨S1x384, .i32⟩
  | 38 => ⟨S1x384, .i32⟩
  | 39 => ⟨S128x1, .i32⟩
  | 40 => ⟨S128x384, .i32⟩
  | 41 => ⟨S128x384, .i32⟩
  | 42 => ⟨S128x384, .i32⟩
  | 43 => ⟨S64, .i32⟩
  | 44 => ⟨S64x1, .i32⟩
  | 45 => ⟨S_, .i32⟩
  | 46 => ⟨S64x1, .i32⟩
  | 47 => ⟨S64x1, .i32⟩
  | 48 => ⟨S_, .i32⟩
  | 49 => ⟨S64x1, .i32⟩
  | 50 => ⟨S64x1, .i32⟩
  | 51 => ⟨S1x384, .i32⟩
  | 52 => ⟨S64x384, .i32⟩
  | 53 => ⟨S64x384, .i32⟩
  | 54 => ⟨S64x384, .i32⟩
  | 55 => ⟨S128x384, .i32⟩
  | 56 => ⟨S_, .i32⟩
  | 57 => ⟨S128x384, .i32⟩
  | 58 => ⟨S128x384, .i1⟩
  | 59 => ⟨S1x128x384, .i1⟩
  | 60 => ⟨S_, .i32⟩
  | 61 => ⟨S64x384, .i32⟩
  | 62 => ⟨S64x384, .i1⟩
  | 63 => ⟨S_, .i32⟩
  | 64 => ⟨S64x384, .i32⟩
  | 65 => ⟨S64x384, .i1⟩
  | 66 => ⟨S64x384, .i1⟩
  | 67 => ⟨S64x1x384, .i1⟩
  | 68 => ⟨S64x128x384, .i1⟩
  | 69 => ⟨S64x128x384, .i1⟩
  | 70 => ⟨S64x128x384, .i1⟩
  | 71 => ⟨S8, .f32⟩
  | 72 => ⟨S_, .f32⟩
  | 73 => ⟨S8, .f32⟩
  | 74 => ⟨S8, .f32⟩
  | 75 => ⟨S8, .f32⟩
  | 76 => ⟨S_, .f32⟩
  | 77 => ⟨S8, .f32⟩
  | 78 => ⟨S8, .f32⟩
  | 79 => ⟨S_, .f32⟩
  | 80 => ⟨S8, .f32⟩
  | 81 => ⟨S8, .f32⟩
  | 82 => ⟨S8, .f32⟩
  | 83 => ⟨S2x4, .f32⟩
  | 84 => ⟨S1x1x2x4x1x1, .f32⟩
  | 85 => ⟨S128x384, .i32⟩
  | 86 => ⟨S128x384, .f32⟩
  | 87 => ⟨S1x1x1x1x128x384, .f32⟩
  | 88 => ⟨S1x1x2x4x128x384, .f32⟩
  | 89 => ⟨S1x1x2x4x128x384, .f32⟩
  | 90 => ⟨S1x1x2x4x128x384, .f32⟩
  | 91 => ⟨S1x64x2x4x128x384, .f32⟩
  | 92 => ⟨S1x64x2x4x128x384, .f32⟩
  | 93 => ⟨S1x64x1x1x128x384, .i1⟩
  | 94 => ⟨S_, .f32⟩
  | 95 => ⟨S_, .f32⟩
  | 96 => ⟨S1x64x2x4x128x384, .i1⟩
  | 97 => ⟨S1x64x2x4x128x384, .f32⟩
  | 98 => ⟨S1x64x2x4x128x384, .f32⟩
  | 99 => ⟨S2x4, .f32⟩
  | 100 => ⟨S1x1x2x4x1, .f32⟩
  | 101 => ⟨S_, .f32⟩
  | 102 => ⟨S1x64x2x4x128, .f32⟩
  | 103 => ⟨S1x64x2x4x128, .f32⟩
  | 104 => ⟨S1x64x2x4x128, .f32⟩
  | 105 => ⟨S1x64x2x4x128x1, .f32⟩
  | 106 => ⟨S1x64x2x4x128x384, .f32⟩
  | 107 => ⟨S1x64x2x4x128x384, .f32⟩
  | 108 => ⟨S1x64x2x4x128x384, .f32⟩
  | 109 => ⟨S_, .f32⟩
  | 110 => ⟨S1x64x2x4x128, .f32⟩
  | 111 => ⟨S1x64x2x4x128, .f32⟩
  | 112 => ⟨S1x64x2x4x128, .f32⟩
  | 113 => ⟨S1x64x2x4x128, .f32⟩
  | 114 => ⟨S1x64x2x4x128, .f32⟩
  | 115 => ⟨S1x64x2x4x128x1, .f32⟩
  | 116 => ⟨S1x64x2x4x128x384, .f32⟩
  | 117 => ⟨S1x64x2x4x128x384, .f32⟩
  | 118 => ⟨S1x64x2x128x4x128, .f32⟩
  | 119 => ⟨S1x64x128x2x4x128, .f32⟩
  | 120 => ⟨S1x8192x8x128, .f32⟩
  | 121 => ⟨S8192x1024, .f32⟩
  | 122 => ⟨S32768x3584, .f32⟩
  | 123 => ⟨S2x16384x3584, .f32⟩
  | 124 => ⟨S2x16384x1024, .f32⟩
  | 125 => ⟨S2x16384x256, .f32⟩
  | 126 => ⟨S2x16384x256, .f32⟩
  | 127 => ⟨S2x16384x8x128, .f32⟩
  | _ => ⟨S40960x3584, .bf16⟩

abbrev hbmTy0_1 (i : Nat) : BufTy := match i % 128 with
  | 0 => ⟨S2x16384x2x128, .f32⟩
  | 1 => ⟨S2x16384x2x128, .f32⟩
  | 2 => ⟨S2x128x128x2x4x128, .f32⟩
  | 3 => ⟨S_, .i32⟩
  | 4 => ⟨S_, .f32⟩
  | 5 => ⟨S2x16640x2x128, .f32⟩
  | 6 => ⟨S2x130x128x2x128, .f32⟩
  | 7 => ⟨S_, .i32⟩
  | 8 => ⟨S_, .f32⟩
  | 9 => ⟨S2x16640x2x128, .f32⟩
  | 10 => ⟨S2x130x128x2x128, .f32⟩
  | 11 => ⟨S2x128x128x2x128, .f32⟩
  | 12 => ⟨S2x128x128x2x128, .f32⟩
  | 13 => ⟨S2x128x128x2x128, .f32⟩
  | 14 => ⟨S2x128x384x2x128, .f32⟩
  | 15 => ⟨S2x128x128x2x128, .f32⟩
  | 16 => ⟨S2x128x128x2x128, .f32⟩
  | 17 => ⟨S2x128x128x2x128, .f32⟩
  | 18 => ⟨S2x128x384x2x128, .f32⟩
  | 19 => ⟨S2x128x2x384x128x4, .f32⟩
  | 20 => ⟨S2x128x2x4x128x384, .f32⟩
  | 21 => ⟨S_, .f32⟩
  | 22 => ⟨S2x128x2x4x128x384, .f32⟩
  | 23 => ⟨S2x128x2x4x128x384, .f32⟩
  | 24 => ⟨S128, .i32⟩
  | 25 => ⟨S384, .i32⟩
  | 26 => ⟨S1x384, .i32⟩
  | 27 => ⟨S_, .i32⟩
  | 28 => ⟨S1x384, .i32⟩
  | 29 => ⟨S1x384, .i32⟩
  | 30 => ⟨S128x1, .i32⟩
  | 31 => ⟨S128x384, .i32⟩
  | 32 => ⟨S128x384, .i32⟩
  | 33 => ⟨S128x384, .i32⟩
  | 34 => ⟨S128, .i32⟩
  | 35 => ⟨S128x1, .i32⟩
  | 36 => ⟨S_, .i32⟩
  | 37 => ⟨S128x1, .i32⟩
  | 38 => ⟨S128x1, .i32⟩
  | 39 => ⟨S_, .i32⟩
  | 40 => ⟨S128x1, .i32⟩
  | 41 => ⟨S128x1, .i32⟩
  | 42 => ⟨S1x384, .i32⟩
  | 43 => ⟨S128x384, .i32⟩
  | 44 => ⟨S128x384, .i32⟩
  | 45 => ⟨S128x384, .i32⟩
  | 46 => ⟨S128x384, .i32⟩
  | 47 => ⟨S_, .i32⟩
  | 48 => ⟨S128x384, .i32⟩
  | 49 => ⟨S128x384, .i1⟩
  | 50 => ⟨S1x128x384, .i1⟩
  | 51 => ⟨S_, .i32⟩
  | 52 => ⟨S128x384, .i32⟩
  | 53 => ⟨S128x384, .i1⟩
  | 54 => ⟨S_, .i32⟩
  | 55 => ⟨S128x384, .i32⟩
  | 56 => ⟨S128x384, .i1⟩
  | 57 => ⟨S128x384, .i1⟩
  | 58 => ⟨S128x1x384, .i1⟩
  | 59 => ⟨S128x128x384, .i1⟩
  | 60 => ⟨S128x128x384, .i1⟩
  | 61 => ⟨S128x128x384, .i1⟩
  | 62 => ⟨S8, .f32⟩
  | 63 => ⟨S_, .f32⟩
  | 64 => ⟨S8, .f32⟩
  | 65 => ⟨S8, .f32⟩
  | 66 => ⟨S8, .f32⟩
  | 67 => ⟨S_, .f32⟩
  | 68 => ⟨S8, .f32⟩
  | 69 => ⟨S8, .f32⟩
  | 70 => ⟨S_, .f32⟩
  | 71 => ⟨S8, .f32⟩
  | 72 => ⟨S8, .f32⟩
  | 73 => ⟨S8, .f32⟩
  | 74 => ⟨S2x4, .f32⟩
  | 75 => ⟨S1x1x2x4x1x1, .f32⟩
  | 76 => ⟨S128x384, .i32⟩
  | 77 => ⟨S128x384, .f32⟩
  | 78 => ⟨S1x1x1x1x128x384, .f32⟩
  | 79 => ⟨S1x1x2x4x128x384, .f32⟩
  | 80 => ⟨S1x1x2x4x128x384, .f32⟩
  | 81 => ⟨S1x1x2x4x128x384, .f32⟩
  | 82 => ⟨S2x128x2x4x128x384, .f32⟩
  | 83 => ⟨S2x128x2x4x128x384, .f32⟩
  | 84 => ⟨S1x128x1x1x128x384, .i1⟩
  | 85 => ⟨S_, .f32⟩
  | 86 => ⟨S_, .f32⟩
  | 87 => ⟨S2x128x2x4x128x384, .i1⟩
  | 88 => ⟨S2x128x2x4x128x384, .f32⟩
  | 89 => ⟨S2x128x2x4x128x384, .f32⟩
  | 90 => ⟨S2x4, .f32⟩
  | 91 => ⟨S1x1x2x4x1, .f32⟩
  | 92 => ⟨S_, .f32⟩
  | 93 => ⟨S2x128x2x4x128, .f32⟩
  | 94 => ⟨S2x128x2x4x128, .f32⟩
  | 95 => ⟨S2x128x2x4x128, .f32⟩
  | 96 => ⟨S2x128x2x4x128x1, .f32⟩
  | 97 => ⟨S2x128x2x4x128x384, .f32⟩
  | 98 => ⟨S2x128x2x4x128x384, .f32⟩
  | 99 => ⟨S2x128x2x4x128x384, .f32⟩
  | 100 => ⟨S_, .f32⟩
  | 101 => ⟨S2x128x2x4x128, .f32⟩
  | 102 => ⟨S2x128x2x4x128, .f32⟩
  | 103 => ⟨S2x128x2x4x128, .f32⟩
  | 104 => ⟨S2x128x2x4x128, .f32⟩
  | 105 => ⟨S2x128x2x4x128, .f32⟩
  | 106 => ⟨S2x128x2x4x128x1, .f32⟩
  | 107 => ⟨S2x128x2x4x128x384, .f32⟩
  | 108 => ⟨S2x128x2x4x128x384, .f32⟩
  | 109 => ⟨S2x128x2x128x4x128, .f32⟩
  | 110 => ⟨S2x128x128x2x4x128, .f32⟩
  | 111 => ⟨S2x16384x8x128, .f32⟩
  | 112 => ⟨S32768x1024, .f32⟩
  | 113 => ⟨S40960x1024, .f32⟩
  | 114 => ⟨S40960x1024, .bf16⟩
  | _ => ⟨S40960x3584, .bf16⟩

abbrev hbmTy (i : Nat) : BufTy := match i / 128 with
  | 0 => hbmTy0_0 i
  | 1 => hbmTy0_1 i
  | _ => ⟨S40960x3584, .bf16⟩

abbrev bufTy : (tb : Table) → Fin (tcTables nBuf tb) → BufTy
  | .hbm, ⟨i, _⟩ => hbmTy i
  | _, _ => ⟨S40960x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c : Ref sig .tc := ⟨.hbm, 12, rfl⟩
abbrev main_call0_v0 : Ref sig .tc := ⟨.hbm, 13, rfl⟩
abbrev main_v10 : Ref sig .tc := ⟨.hbm, 14, rfl⟩
abbrev main_v11 : Ref sig .tc := ⟨.hbm, 15, rfl⟩
abbrev main_c_0 : Ref sig .tc := ⟨.hbm, 16, rfl⟩
abbrev main_call1_v0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_c_1 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_c_2 : Ref sig .tc := ⟨.hbm, 45, rfl⟩
abbrev main_v37 : Ref sig .tc := ⟨.hbm, 46, rfl⟩
abbrev main_v38 : Ref sig .tc := ⟨.hbm, 47, rfl⟩
abbrev main_c_3 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_c_4 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_c_5 : Ref sig .tc := ⟨.hbm, 60, rfl⟩
abbrev main_v49 : Ref sig .tc := ⟨.hbm, 61, rfl⟩
abbrev main_v50 : Ref sig .tc := ⟨.hbm, 62, rfl⟩
abbrev main_c_6 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_7 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_8 : Ref sig .tc := ⟨.hbm, 76, rfl⟩
abbrev main_v62 : Ref sig .tc := ⟨.hbm, 77, rfl⟩
abbrev main_v63 : Ref sig .tc := ⟨.hbm, 78, rfl⟩
abbrev main_cst_9 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_cst_10 : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_11 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_cst_12 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_c_13 : Ref sig .tc := ⟨.hbm, 131, rfl⟩
abbrev main_call3_v0 : Ref sig .tc := ⟨.hbm, 132, rfl⟩
abbrev main_v109 : Ref sig .tc := ⟨.hbm, 133, rfl⟩
abbrev main_v110 : Ref sig .tc := ⟨.hbm, 134, rfl⟩
abbrev main_c_14 : Ref sig .tc := ⟨.hbm, 135, rfl⟩
abbrev main_call4_v0 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_cst_15 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_c_16 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_c_17 : Ref sig .tc := ⟨.hbm, 164, rfl⟩
abbrev main_v136 : Ref sig .tc := ⟨.hbm, 165, rfl⟩
abbrev main_v137 : Ref sig .tc := ⟨.hbm, 166, rfl⟩
abbrev main_c_18 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_c_19 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_c_20 : Ref sig .tc := ⟨.hbm, 179, rfl⟩
abbrev main_v148 : Ref sig .tc := ⟨.hbm, 180, rfl⟩
abbrev main_v149 : Ref sig .tc := ⟨.hbm, 181, rfl⟩
abbrev main_c_21 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_cst_22 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_cst_23 : Ref sig .tc := ⟨.hbm, 195, rfl⟩
abbrev main_v161 : Ref sig .tc := ⟨.hbm, 196, rfl⟩
abbrev main_v162 : Ref sig .tc := ⟨.hbm, 197, rfl⟩
abbrev main_cst_24 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_cst_25 : Ref sig .tc := ⟨.hbm, 213, rfl⟩
abbrev main_call5_v0 : Ref sig .tc := ⟨.hbm, 214, rfl⟩
abbrev main_call5_v1 : Ref sig .tc := ⟨.hbm, 215, rfl⟩
abbrev main_call5_v2 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_cst_26 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_v185 : Ref sig .tc := ⟨.hbm, 226, rfl⟩
abbrev main_v186 : Ref sig .tc := ⟨.hbm, 227, rfl⟩
abbrev main_cst_27 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_v195 : Ref sig .tc := ⟨.hbm, 237, rfl⟩
abbrev main_v196 : Ref sig .tc := ⟨.hbm, 238, rfl⟩
abbrev main_v197 : Ref sig .tc := ⟨.hbm, 239, rfl⟩
abbrev main_v198 : Ref sig .tc := ⟨.hbm, 240, rfl⟩
abbrev main_v199 : Ref sig .tc := ⟨.hbm, 241, rfl⟩
abbrev main_v200 : Ref sig .tc := ⟨.hbm, 242, rfl⟩

abbrev nD : Nat := 1
abbrev τ : Topo := Topo.v7x

variable {F : FTy → Type} [FloatOps F]
-- ==== Ffn.lean ====
abbrev S16x5120x2048 : Shape := ⟨3, ![16, 5120, 2048]⟩
abbrev S16x5120 : Shape := ⟨2, ![16, 5120]⟩
abbrev S4x16x2048x4096 : Shape := ⟨4, ![4, 16, 2048, 4096]⟩
abbrev S4x16x4096x2048 : Shape := ⟨4, ![4, 16, 4096, 2048]⟩
abbrev S16x5120x1 : Shape := ⟨3, ![16, 5120, 1]⟩
abbrev S1x1024x2048 : Shape := ⟨3, ![1, 1024, 2048]⟩
abbrev S1x1024x1 : Shape := ⟨3, ![1, 1024, 1]⟩
abbrev S1x1x2048x512 : Shape := ⟨4, ![1, 1, 2048, 512]⟩
abbrev S1x1x4096x256 : Shape := ⟨4, ![1, 1, 4096, 256]⟩
abbrev S1x1024x256 : Shape := ⟨3, ![1, 1024, 256]⟩
abbrev S1024x4096 : Shape := ⟨2, ![1024, 4096]⟩
abbrev S1024x2048 : Shape := ⟨2, ![1024, 2048]⟩
abbrev S2048x512 : Shape := ⟨2, ![2048, 512]⟩
abbrev S1024x512 : Shape := ⟨2, ![1024, 512]⟩
abbrev S4096x256 : Shape := ⟨2, ![4096, 256]⟩
abbrev S1024x256 : Shape := ⟨2, ![1024, 256]⟩
abbrev S1024x1 : Shape := ⟨2, ![1024, 1]⟩

abbrev nBuf : Space → Nat
  | .hbm => 7
  | .vmem => 13
  | .smem => 0
  | _ => 0

abbrev bufTy : (tb : Table) → Fin (tcTables nBuf tb) → BufTy
  | .hbm, ⟨0, _⟩ => ⟨S16x5120x2048, .bf16⟩
  | .hbm, ⟨1, _⟩ => ⟨S16x5120, .f32⟩
  | .hbm, ⟨2, _⟩ => ⟨S4x16x2048x4096, .f32⟩
  | .hbm, ⟨3, _⟩ => ⟨S4x16x2048x4096, .f32⟩
  | .hbm, ⟨4, _⟩ => ⟨S4x16x4096x2048, .f32⟩
  | .hbm, ⟨5, _⟩ => ⟨S16x5120x1, .f32⟩
  | .hbm, ⟨6, _⟩ => ⟨S16x5120x2048, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x1024x1, .f32⟩
  | .local _ .vmem, ⟨3, _⟩ => ⟨S1x1024x1, .f32⟩
  | .local _ .vmem, ⟨4, _⟩ => ⟨S1x1x2048x512, .f32⟩
  | .local _ .vmem, ⟨5, _⟩ => ⟨S1x1x2048x512, .f32⟩
  | .local _ .vmem, ⟨6, _⟩ => ⟨S1x1x2048x512, .f32⟩
  | .local _ .vmem, ⟨7, _⟩ => ⟨S1x1x2048x512, .f32⟩
  | .local _ .vmem, ⟨8, _⟩ => ⟨S1x1x4096x256, .f32⟩
  | .local _ .vmem, ⟨9, _⟩ => ⟨S1x1x4096x256, .f32⟩
  | .local _ .vmem, ⟨10, _⟩ => ⟨S1x1024x256, .bf16⟩
  | .local _ .vmem, ⟨11, _⟩ => ⟨S1x1024x256, .bf16⟩
  | .local _ .vmem, ⟨12, _⟩ => ⟨S1024x4096, .bf16⟩
  | _, _ => ⟨S16x5120x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 5, 16], ![false, false, false]⟩

def k0_cond1 (i : grid0.Coords) : BitVec 1 :=
  let arg2 : BitVec 32 := BitVec.ofNat 32 (i 2).val
  let c8_i32 : BitVec 32 := 8#32
  let v0 : BitVec 1 := Scalar.cmpi .slt arg2 c8_i32
  let v1 : BitVec 32 := Scalar.extui v0
  let c0_i32 : BitVec 32 := 0#32
  let v2 : BitVec 1 := Scalar.cmpi .ne v1 c0_i32
  v2

def k0_mult1 (i : grid0.Coords) : BitVec 32 :=
  let arg2 : BitVec 32 := BitVec.ofNat 32 (i 2).val
  let c512_i32 : BitVec 32 := 512#32
  let v20 : BitVec 32 := Scalar.muli arg2 c512_i32
  v20
def k0_off1 (i : grid0.Coords) : Fin 2 → Nat :=
  let c0_13 : Index := 0#32
  let arg2 : BitVec 32 := BitVec.ofNat 32 (i 2).val
  let c512_i32 : BitVec 32 := 512#32
  let v20 : BitVec 32 := Scalar.muli arg2 c512_i32
  let v21 : BitVec 32 := v20
  let v22 : Index := Scalar.indexCast v21
  ![0, v22.toNat]
def k0_cond2 (i : grid0.Coords) : BitVec 1 :=
  let arg2 : BitVec 32 := BitVec.ofNat 32 (i 2).val
  let c8_i32_0 : BitVec 32 := 8#32
  let v3 : BitVec 1 := Scalar.cmpi .sge arg2 c8_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.minsi arg2 c7_i32
  let c0_i32 : BitVec 32 := 0#32
  let c0_i32_0 : BitVec 32 := 0#32
  let c0_i32_1 : BitVec 32 := 0#32
  ![c0_i32.toNat, arg0.toNat, c0_i32_0.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.minsi arg2 c7_i32
  let c0_i32 : BitVec 32 := 0#32
  let c0_i32_0 : BitVec 32 := 0#32
  let c0_i32_1 : BitVec 32 := 0#32
  ![c0_i32.toNat, arg0.toNat, c0_i32_0.toNat, v0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi arg2 c8_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, arg0.toNat, c0_i32_1.toNat, v1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi arg2 c8_i32
  let c0_i32 : BitVec 32 := 0#32
  let v1 : BitVec 32 := Scalar.maxsi v0 c0_i32
  let c0_i32_0 : BitVec 32 := 0#32
  ![arg0.toNat, arg1.toNat, v1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== FfnReferenceIdeal.lean ====
abbrev S16x5120x2048 : Shape := ⟨3, ![16, 5120, 2048]⟩
abbrev S16x5120 : Shape := ⟨2, ![16, 5120]⟩
abbrev S4x16x2048x4096 : Shape := ⟨4, ![4, 16, 2048, 4096]⟩
abbrev S4x16x4096x2048 : Shape := ⟨4, ![4, 16, 4096, 2048]⟩
abbrev S1x16x2048x4096 : Shape := ⟨4, ![1, 16, 2048, 4096]⟩
abbrev S16x2048x4096 : Shape := ⟨3, ![16, 2048, 4096]⟩
abbrev S1x16x4096x2048 : Shape := ⟨4, ![1, 16, 4096, 2048]⟩
abbrev S16x4096x2048 : Shape := ⟨3, ![16, 4096, 2048]⟩
abbrev S16x5120x4096 : Shape := ⟨3, ![16, 5120, 4096]⟩
abbrev S_ : Shape := ⟨0, ![]⟩
abbrev S16x5120x1 : Shape := ⟨3, ![16, 5120, 1]⟩

abbrev nBuf : Space → Nat
  | .hbm => 29
  | .vmem => 0
  | .smem => 0
  | _ => 0

abbrev bufTy : (tb : Table) → Fin (tcTables nBuf tb) → BufTy
  | .hbm, ⟨0, _⟩ => ⟨S16x5120x2048, .bf16⟩
  | .hbm, ⟨1, _⟩ => ⟨S16x5120, .f32⟩
  | .hbm, ⟨2, _⟩ => ⟨S4x16x2048x4096, .f32⟩
  | .hbm, ⟨3, _⟩ => ⟨S4x16x2048x4096, .f32⟩
  | .hbm, ⟨4, _⟩ => ⟨S4x16x4096x2048, .f32⟩
  | .hbm, ⟨5, _⟩ => ⟨S16x5120x2048, .f32⟩
  | .hbm, ⟨6, _⟩ => ⟨S1x16x2048x4096, .f32⟩
  | .hbm, ⟨7, _⟩ => ⟨S16x2048x4096, .f32⟩
  | .hbm, ⟨8, _⟩ => ⟨S1x16x2048x4096, .f32⟩
  | .hbm, ⟨9, _⟩ => ⟨S16x2048x4096, .f32⟩
  | .hbm, ⟨10, _⟩ => ⟨S1x16x4096x2048, .f32⟩
  | .hbm, ⟨11, _⟩ => ⟨S16x4096x2048, .f32⟩
  | .hbm, ⟨12, _⟩ => ⟨S16x5120x4096, .f32⟩
  | .hbm, ⟨13, _⟩ => ⟨S16x5120x4096, .f32⟩
  | .hbm, ⟨14, _⟩ => ⟨S16x5120x4096, .f32⟩
  | .hbm, ⟨15, _⟩ => ⟨S16x5120x4096, .f32⟩
  | .hbm, ⟨16, _⟩ => ⟨S_, .f32⟩
  | .hbm, ⟨17, _⟩ => ⟨S16x5120x4096, .f32⟩
  | .hbm, ⟨18, _⟩ => ⟨S16x5120x4096, .f32⟩
  | .hbm, ⟨19, _⟩ => ⟨S_, .f32⟩
  | .hbm, ⟨20, _⟩ => ⟨S16x5120x4096, .f32⟩
  | .hbm, ⟨21, _⟩ => ⟨S16x5120x4096, .f32⟩
  | .hbm, ⟨22, _⟩ => ⟨S16x5120x4096, .f32⟩
  | .hbm, ⟨23, _⟩ => ⟨S16x5120x4096, .f32⟩
  | .hbm, ⟨24, _⟩ => ⟨S16x5120x2048, .f32⟩
  | .hbm, ⟨25, _⟩ => ⟨S16x5120x1, .f32⟩
  | .hbm, ⟨26, _⟩ => ⟨S16x5120x2048, .f32⟩
  | .hbm, ⟨27, _⟩ => ⟨S16x5120x2048, .f32⟩
  | .hbm, ⟨28, _⟩ => ⟨S16x5120x2048, .bf16⟩
  | _, _ => ⟨S16x5120x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩

abbrev nD : Nat := 1
abbrev τ : Topo := Topo.v7x

variable {F : FTy → Type} [FloatOps F]
-- ==== Project.lean ====
abbrev S40960x2048 : Shape := ⟨2, ![40960, 2048]⟩
abbrev S2048 : Shape := ⟨1, ![2048]⟩
abbrev S2048x3584 : Shape := ⟨2, ![2048, 3584]⟩
abbrev S1x2048 : Shape := ⟨2, ![1, 2048]⟩
abbrev S40960x3584 : Shape := ⟨2, ![40960, 3584]⟩
abbrev S512x2048 : Shape := ⟨2, ![512, 2048]⟩
abbrev S512x3584 : Shape := ⟨2, ![512, 3584]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S40960x2048, .f32⟩
  | .hbm, ⟨1, _⟩ => ⟨S2048, .f32⟩
  | .hbm, ⟨2, _⟩ => ⟨S2048x3584, .f32⟩
  | .hbm, ⟨3, _⟩ => ⟨S2048x3584, .bf16⟩
  | .hbm, ⟨4, _⟩ => ⟨S1x2048, .f32⟩
  | .hbm, ⟨5, _⟩ => ⟨S40960x3584, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x3584, .bf16⟩
  | .local _ .vmem, ⟨4, _⟩ => ⟨S512x3584, .bf16⟩
  | .local _ .vmem, ⟨5, _⟩ => ⟨S512x3584, .bf16⟩
  | _, _ => ⟨S40960x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3584 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjectIdeal.lean ====
abbrev S40960x2048 : Shape := ⟨2, ![40960, 2048]⟩
abbrev S2048 : Shape := ⟨1, ![2048]⟩
abbrev S2048x3584 : Shape := ⟨2, ![2048, 3584]⟩
abbrev S1x2048 : Shape := ⟨2, ![1, 2048]⟩
abbrev S40960x3584 : Shape := ⟨2, ![40960, 3584]⟩
abbrev S512x2048 : Shape := ⟨2, ![512, 2048]⟩
abbrev S512x3584 : Shape := ⟨2, ![512, 3584]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S40960x2048, .f32⟩
  | .hbm, ⟨1, _⟩ => ⟨S2048, .f32⟩
  | .hbm, ⟨2, _⟩ => ⟨S2048x3584, .f32⟩
  | .hbm, ⟨3, _⟩ => ⟨S2048x3584, .bf16⟩
  | .hbm, ⟨4, _⟩ => ⟨S1x2048, .f32⟩
  | .hbm, ⟨5, _⟩ => ⟨S40960x3584, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x3584, .bf16⟩
  | .local _ .vmem, ⟨4, _⟩ => ⟨S512x3584, .bf16⟩
  | .local _ .vmem, ⟨5, _⟩ => ⟨S512x3584, .bf16⟩
  | _, _ => ⟨S40960x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3584 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjectReferenceIdeal.lean ====
abbrev S40960x2048 : Shape := ⟨2, ![40960, 2048]⟩
abbrev S2048 : Shape := ⟨1, ![2048]⟩
abbrev S2048x3584 : Shape := ⟨2, ![2048, 3584]⟩
abbrev S_ : Shape := ⟨0, ![]⟩
abbrev S40960 : Shape := ⟨1, ![40960]⟩
abbrev S40960x1 : Shape := ⟨2, ![40960, 1]⟩
abbrev S1x2048 : Shape := ⟨2, ![1, 2048]⟩
abbrev S40960x3584 : Shape := ⟨2, ![40960, 3584]⟩

abbrev nBuf : Space → Nat
  | .hbm => 21
  | .vmem => 0
  | .smem => 0
  | _ => 0

abbrev bufTy : (tb : Table) → Fin (tcTables nBuf tb) → BufTy
  | .hbm, ⟨0, _⟩ => ⟨S40960x2048, .f32⟩
  | .hbm, ⟨1, _⟩ => ⟨S2048, .f32⟩
  | .hbm, ⟨2, _⟩ => ⟨S2048x3584, .f32⟩
  | .hbm, ⟨3, _⟩ => ⟨S40960x2048, .f32⟩
  | .hbm, ⟨4, _⟩ => ⟨S_, .f32⟩
  | .hbm, ⟨5, _⟩ => ⟨S40960, .f32⟩
  | .hbm, ⟨6, _⟩ => ⟨S40960x1, .f32⟩
  | .hbm, ⟨7, _⟩ => ⟨S_, .f32⟩
  | .hbm, ⟨8, _⟩ => ⟨S40960x1, .f32⟩
  | .hbm, ⟨9, _⟩ => ⟨S40960x1, .f32⟩
  | .hbm, ⟨10, _⟩ => ⟨S_, .f32⟩
  | .hbm, ⟨11, _⟩ => ⟨S40960x1, .f32⟩
  | .hbm, ⟨12, _⟩ => ⟨S40960x1, .f32⟩
  | .hbm, ⟨13, _⟩ => ⟨S40960x1, .f32⟩
  | .hbm, ⟨14, _⟩ => ⟨S40960x2048, .f32⟩
  | .hbm, ⟨15, _⟩ => ⟨S40960x2048, .f32⟩
  | .hbm, ⟨16, _⟩ => ⟨S1x2048, .f32⟩
  | .hbm, ⟨17, _⟩ => ⟨S40960x2048, .f32⟩
  | .hbm, ⟨18, _⟩ => ⟨S40960x2048, .f32⟩
  | .hbm, ⟨19, _⟩ => ⟨S40960x3584, .f32⟩
  | .hbm, ⟨20, _⟩ => ⟨S40960x3584, .bf16⟩
  | _, _ => ⟨S40960x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Prompt.lean ====
abbrev S40960x2048 : Shape := ⟨2, ![40960, 2048]⟩
abbrev S2048 : Shape := ⟨1, ![2048]⟩
abbrev S1x2048 : Shape := ⟨2, ![1, 2048]⟩
abbrev S8192x2048 : Shape := ⟨2, ![8192, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S40960x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .f32⟩
  | .local _ .vmem, ⟨4, _⟩ => ⟨S1024x2048, .f32⟩
  | _, _ => ⟨S40960x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PromptReferenceIdeal.lean ====
abbrev S40960x2048 : Shape := ⟨2, ![40960, 2048]⟩
abbrev S2048 : Shape := ⟨1, ![2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S40960x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | _, _ => ⟨S40960x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Sample.lean ====
abbrev S40960x2048 : Shape := ⟨2, ![40960, 2048]⟩
abbrev S2048 : Shape := ⟨1, ![2048]⟩
abbrev S1x2048 : Shape := ⟨2, ![1, 2048]⟩
abbrev S32768x2048 : Shape := ⟨2, ![32768, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S40960x2048, .f32⟩
  | .hbm, ⟨1, _⟩ => ⟨S2048, .f32⟩
  | .hbm, ⟨2, _⟩ => ⟨S1x2048, .f32⟩
  | .hbm, ⟨3, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .f32⟩
  | .local _ .vmem, ⟨4, _⟩ => ⟨S1024x2048, .f32⟩
  | _, _ => ⟨S40960x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SampleReferenceIdeal.lean ====
abbrev S40960x2048 : Shape := ⟨2, ![40960, 2048]⟩
abbrev S2048 : Shape := ⟨1, ![2048]⟩
abbrev S32768x2048 : Shape := ⟨2, ![32768, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S40960x2048, .f32⟩
  | .hbm, ⟨1, _⟩ => ⟨S2048, .f32⟩
  | .hbm, ⟨2, _⟩ => ⟨S32768x2048, .f32⟩
  | .hbm, ⟨3, _⟩ => ⟨S32768x2048, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x2048, .f32⟩
  | .hbm, ⟨15, _⟩ => ⟨S32768x2048, .f32⟩
  | .hbm, ⟨16, _⟩ => ⟨S1x2048, .f32⟩
  | .hbm, ⟨17, _⟩ => ⟨S32768x2048, .f32⟩
  | .hbm, ⟨18, _⟩ => ⟨S32768x2048, .f32⟩
  | _, _ => ⟨S40960x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Mix.lean ====
abbrev S40960x2048 : Shape := ⟨2, ![40960, 2048]⟩
abbrev S40960x512 : Shape := ⟨2, ![40960, 512]⟩
abbrev S40960x1024 : Shape := ⟨2, ![40960, 1024]⟩
abbrev S2048x2048 : Shape := ⟨2, ![2048, 2048]⟩
abbrev S2048 : Shape := ⟨1, ![2048]⟩
abbrev S2048x512 : Shape := ⟨2, ![2048, 512]⟩
abbrev S768x1024 : Shape := ⟨2, ![768, 1024]⟩
abbrev S512x2048 : Shape := ⟨2, ![512, 2048]⟩
abbrev S2048x16 : Shape := ⟨2, ![2048, 16]⟩
abbrev S1x2048 : Shape := ⟨2, ![1, 2048]⟩
abbrev S40960x16 : Shape := ⟨2, ![40960, 16]⟩
abbrev S512x512 : Shape := ⟨2, ![512, 512]⟩
abbrev S512x1024 : Shape := ⟨2, ![512, 1024]⟩
abbrev S256x1024 : Shape := ⟨2, ![256, 1024]⟩
abbrev S512x16 : Shape := ⟨2, ![512, 16]⟩
abbrev S1024x2048 : Shape := ⟨2, ![1024, 2048]⟩
abbrev S512 : Shape := ⟨1, ![512]⟩
abbrev S512x1 : Shape := ⟨2, ![512, 1]⟩
abbrev S512x128 : Shape := ⟨2, ![512, 128]⟩
abbrev S256x128 : Shape := ⟨2, ![256, 128]⟩
abbrev S512x256 : Shape := ⟨2, ![512, 256]⟩

abbrev nBuf : Space → Nat
  | .hbm => 20
  | .vmem => 22
  | .smem => 0
  | _ => 0

abbrev bufTy : (tb : Table) → Fin (tcTables nBuf tb) → BufTy
  | .hbm, ⟨0, _⟩ => ⟨S40960x2048, .f32⟩
  | .hbm, ⟨1, _⟩ => ⟨S40960x512, .bf16⟩
  | .hbm, ⟨2, _⟩ => ⟨S40960x512, .bf16⟩
  | .hbm, ⟨3, _⟩ => ⟨S40960x1024, .bf16⟩
  | .hbm, ⟨4, _⟩ => ⟨S2048x2048, .f32⟩
  | .hbm, ⟨5, _⟩ => ⟨S2048, .f32⟩
  | .hbm, ⟨6, _⟩ => ⟨S2048x512, .f32⟩
  | .hbm, ⟨7, _⟩ => ⟨S768x1024, .bf16⟩
  | .hbm, ⟨8, _⟩ => ⟨S512x2048, .f32⟩
  | .hbm, ⟨9, _⟩ => ⟨S2048, .f32⟩
  | .hbm, ⟨10, _⟩ => ⟨S2048x16, .f32⟩
  | .hbm, ⟨11, _⟩ => ⟨S2048x2048, .bf16⟩
  | .hbm, ⟨12, _⟩ => ⟨S2048x512, .bf16⟩
  | .hbm, ⟨13, _⟩ => ⟨S512x2048, .bf16⟩
  | .hbm, ⟨14, _⟩ => ⟨S2048x16, .bf16⟩
  | .hbm, ⟨15, _⟩ => ⟨S1x2048, .f32⟩
  | .hbm, ⟨16, _⟩ => ⟨S1x2048, .f32⟩
  | .hbm, ⟨17, _⟩ => ⟨S40960x2048, .f32⟩
  | .hbm, ⟨18, _⟩ => ⟨S40960x2048, .f32⟩
  | .hbm, ⟨19, _⟩ => ⟨S40960x16, .f32⟩
  | .local _ .vmem, ⟨0, _⟩ => ⟨S512x2048, .f32⟩
  | .local _ .vmem, ⟨1, _⟩ => ⟨S512x2048, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S2048x2048, .bf16⟩
  | .local _ .vmem, ⟨9, _⟩ => ⟨S1x2048, .f32⟩
  | .local _ .vmem, ⟨10, _⟩ => ⟨S2048x512, .bf16⟩
  | .local _ .vmem, ⟨11, _⟩ => ⟨S256x1024, .bf16⟩
  | .local _ .vmem, ⟨12, _⟩ => ⟨S256x1024, .bf16⟩
  | .local _ .vmem, ⟨13, _⟩ => ⟨S512x2048, .bf16⟩
  | .local _ .vmem, ⟨14, _⟩ => ⟨S1x2048, .f32⟩
  | .local _ .vmem, ⟨15, _⟩ => ⟨S2048x16, .bf16⟩
  | .local _ .vmem, ⟨16, _⟩ => ⟨S512x2048, .f32⟩
  | .local _ .vmem, ⟨17, _⟩ => ⟨S512x2048, .f32⟩
  | .local _ .vmem, ⟨18, _⟩ => ⟨S512x2048, .f32⟩
  | .local _ .vmem, ⟨19, _⟩ => ⟨S512x2048, .f32⟩
  | .local _ .vmem, ⟨20, _⟩ => ⟨S512x16, .f32⟩
  | .local _ .vmem, ⟨21, _⟩ => ⟨S512x16, .f32⟩
  | _, _ => ⟨S40960x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c16_i32 : BitVec 32 := 16#32
  let v0 : BitVec 1 := Scalar.cmpi .sge arg0 c16_i32
  let v1 : BitVec 32 := Scalar.extui v0
  let c0_i32 : BitVec 32 := 0#32
  let v2 : BitVec 32 := Scalar.addi c0_i32 v1
  let c48_i32 : BitVec 32 := 48#32
  let v3 : BitVec 1 := Scalar.cmpi .sge arg0 c48_i32
  let v4 : BitVec 32 := Scalar.extui v3
  let v5 : BitVec 32 := Scalar.addi v2 v4
  let c0_i32_0 : BitVec 32 := 0#32
  let c0_i32_1 : BitVec 32 := 0#32
  ![v5.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x16 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x16 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MixReferenceIdeal.lean ====
abbrev S40960x2048 : Shape := ⟨2, ![40960, 2048]⟩
abbrev S40960x512 : Shape := ⟨2, ![40960, 512]⟩
abbrev S40960x1024 : Shape := ⟨2, ![40960, 1024]⟩
abbrev S2048x2048 : Shape := ⟨2, ![2048, 2048]⟩
abbrev S2048 : Shape := ⟨1, ![2048]⟩
abbrev S2048x512 : Shape := ⟨2, ![2048, 512]⟩
abbrev S768x1024 : Shape := ⟨2, ![768, 1024]⟩
abbrev S512x2048 : Shape := ⟨2, ![512, 2048]⟩
abbrev S2048x16 : Shape := ⟨2, ![2048, 16]⟩
abbrev S8192x2048 : Shape := ⟨2, ![8192, 2048]⟩
abbrev S256x1024 : Shape := ⟨2, ![256, 1024]⟩
abbrev S1x8192x2048 : Shape := ⟨3, ![1, 8192, 2048]⟩
abbrev S_ : Shape := ⟨0, ![]⟩
abbrev S1x8192 : Shape := ⟨2, ![1, 8192]⟩
abbrev S1x8192x1 : Shape := ⟨3, ![1, 8192, 1]⟩
abbrev S1x1x2048 : Shape := ⟨3, ![1, 1, 2048]⟩
abbrev S1x256x1024 : Shape := ⟨3, ![1, 256, 1024]⟩
abbrev S1x8192x512 : Shape := ⟨3, ![1, 8192, 512]⟩
abbrev S1x8192x4x128 : Shape := ⟨4, ![1, 8192, 4, 128]⟩
abbrev S1x256x2x4x128 : Shape := ⟨5, ![1, 256, 2, 4, 128]⟩
abbrev S1x256x1x4x128 : Shape := ⟨5, ![1, 256, 1, 4, 128]⟩
abbrev S1x256x4x128 : Shape := ⟨4, ![1, 256, 4, 128]⟩
abbrev S1x4x8192x256 : Shape := ⟨4, ![1, 4, 8192, 256]⟩
abbrev S1x4x8192 : Shape := ⟨3, ![1, 4, 8192]⟩
abbrev S1x4x8192x1 : Shape := ⟨4, ![1, 4, 8192, 1]⟩
abbrev S1x4x128x8192 : Shape := ⟨4, ![1, 4, 128, 8192]⟩
abbrev S8192x16 : Shape := ⟨2, ![8192, 16]⟩
abbrev S8192 : Shape := ⟨1, ![8192]⟩
abbrev S8192x1 : Shape := ⟨2, ![8192, 1]⟩
abbrev S32768x2048 : Shape := ⟨2, ![32768, 2048]⟩
abbrev S512x1024 : Shape := ⟨2, ![512, 1024]⟩
abbrev S2x16384x2048 : Shape := ⟨3, ![2, 16384, 2048]⟩
abbrev S2x16384 : Shape := ⟨2, ![2, 16384]⟩
abbrev S2x16384x1 : Shape := ⟨3, ![2, 16384, 1]⟩
abbrev S2x256x1024 : Shape := ⟨3, ![2, 256, 1024]⟩
abbrev S2x16384x512 : Shape := ⟨3, ![2, 16384, 512]⟩
abbrev S2x16384x4x128 : Shape := ⟨4, ![2, 16384, 4, 128]⟩
abbrev S2x256x2x4x128 : Shape := ⟨5, ![2, 256, 2, 4, 128]⟩
abbrev S2x256x1x4x128 : Shape := ⟨5, ![2, 256, 1, 4, 128]⟩
abbrev S2x256x4x128 : Shape := ⟨4, ![2, 256, 4, 128]⟩
abbrev S2x4x16384x256 : Shape := ⟨4, ![2, 4, 16384, 256]⟩
abbrev S2x4x16384 : Shape := ⟨3, ![2, 4, 16384]⟩
abbrev S2x4x16384x1 : Shape := ⟨4, ![2, 4, 16384, 1]⟩
abbrev S2x4x128x16384 : Shape := ⟨4, ![2, 4, 128, 16384]⟩
abbrev S32768x16 : Shape := ⟨2, ![32768, 16]⟩
abbrev S32768 : Shape := ⟨1, ![32768]⟩
abbrev S32768x1 : Shape := ⟨2, ![32768, 1]⟩
abbrev S40960x16 : Shape := ⟨2, ![40960, 16]⟩

abbrev nBuf : Space → Nat
  | .hbm => 191
  | .vmem => 0
  | .smem => 0
  | _ => 0

abbrev hbmTy0_0 (i : Nat) : BufTy := match i % 128 with
  | 0 => ⟨S40960x2048, .f32⟩
  | 1 => ⟨S40960x512, .bf16⟩
  | 2 => ⟨S40960x512, .bf16⟩
  | 3 => ⟨S40960x1024, .bf16⟩
  | 4 => ⟨S2048x2048, .f32⟩
  | 5 => ⟨S2048, .f32⟩
  | 6 => ⟨S2048x512, .f32⟩
  | 7 => ⟨S768x1024, .bf16⟩
  | 8 => ⟨S512x2048, .f32⟩
  | 9 => ⟨S2048, .f32⟩
  | 10 => ⟨S2048x16, .f32⟩
  | 11 => ⟨S40960x2048, .bf16⟩
  | 12 => ⟨S40960x2048, .f32⟩
  | 13 => ⟨S768x1024, .f32⟩
  | 14 => ⟨S8192x2048, .f32⟩
  | 15 => ⟨S8192x2048, .f32⟩
  | 16 => ⟨S256x1024, .f32⟩
  | 17 => ⟨S1x8192x2048, .f32⟩
  | 18 => ⟨S1x8192x2048, .f32⟩
  | 19 => ⟨S1x8192x2048, .f32⟩
  | 20 => ⟨S1x8192x2048, .f32⟩
  | 21 => ⟨S1x8192x2048, .f32⟩
  | 22 => ⟨S_, .f32⟩
  | 23 => ⟨S1x8192, .f32⟩
  | 24 => ⟨S1x8192x1, .f32⟩
  | 25 => ⟨S_, .f32⟩
  | 26 => ⟨S1x8192x1, .f32⟩
  | 27 => ⟨S1x8192x1, .f32⟩
  | 28 => ⟨S_, .f32⟩
  | 29 => ⟨S1x8192x1, .f32⟩
  | 30 => ⟨S1x8192x1, .f32⟩
  | 31 => ⟨S1x8192x1, .f32⟩
  | 32 => ⟨S1x8192x2048, .f32⟩
  | 33 => ⟨S1x8192x2048, .f32⟩
  | 34 => ⟨S1x1x2048, .f32⟩
  | 35 => ⟨S1x8192x2048, .f32⟩
  | 36 => ⟨S1x8192x2048, .f32⟩
  | 37 => ⟨S1x256x1024, .f32⟩
  | 38 => ⟨S1x8192x512, .f32⟩
  | 39 => ⟨S1x8192x4x128, .f32⟩
  | 40 => ⟨S1x256x2x4x128, .f32⟩
  | 41 => ⟨S1x256x1x4x128, .f32⟩
  | 42 => ⟨S1x256x4x128, .f32⟩
  | 43 => ⟨S1x256x1x4x128, .f32⟩
  | 44 => ⟨S1x256x4x128, .f32⟩
  | 45 => ⟨S1x4x8192x256, .f32⟩
  | 46 => ⟨S_, .f32⟩
  | 47 => ⟨S1x4x8192x256, .f32⟩
  | 48 => ⟨S1x4x8192x256, .f32⟩
  | 49 => ⟨S_, .f32⟩
  | 50 => ⟨S1x4x8192, .f32⟩
  | 51 => ⟨S_, .f32⟩
  | 52 => ⟨S1x4x8192, .f32⟩
  | 53 => ⟨S1x4x8192, .f32⟩
  | 54 => ⟨S1x4x8192x1, .f32⟩
  | 55 => ⟨S1x4x8192x256, .f32⟩
  | 56 => ⟨S1x4x8192x256, .f32⟩
  | 57 => ⟨S1x4x8192x256, .f32⟩
  | 58 => ⟨S_, .f32⟩
  | 59 => ⟨S1x4x8192, .f32⟩
  | 60 => ⟨S1x4x8192x1, .f32⟩
  | 61 => ⟨S1x4x8192x256, .f32⟩
  | 62 => ⟨S1x4x8192x256, .f32⟩
  | 63 => ⟨S1x4x128x8192, .f32⟩
  | 64 => ⟨S1x8192x4x128, .f32⟩
  | 65 => ⟨S1x8192x512, .f32⟩
  | 66 => ⟨S1x8192x2048, .f32⟩
  | 67 => ⟨S1x8192x2048, .f32⟩
  | 68 => ⟨S1x8192x2048, .f32⟩
  | 69 => ⟨S_, .f32⟩
  | 70 => ⟨S1x8192, .f32⟩
  | 71 => ⟨S1x8192x1, .f32⟩
  | 72 => ⟨S_, .f32⟩
  | 73 => ⟨S1x8192x1, .f32⟩
  | 74 => ⟨S1x8192x1, .f32⟩
  | 75 => ⟨S_, .f32⟩
  | 76 => ⟨S1x8192x1, .f32⟩
  | 77 => ⟨S1x8192x1, .f32⟩
  | 78 => ⟨S1x8192x1, .f32⟩
  | 79 => ⟨S1x8192x2048, .f32⟩
  | 80 => ⟨S1x8192x2048, .f32⟩
  | 81 => ⟨S1x1x2048, .f32⟩
  | 82 => ⟨S1x8192x2048, .f32⟩
  | 83 => ⟨S1x8192x2048, .f32⟩
  | 84 => ⟨S8192x2048, .f32⟩
  | 85 => ⟨S8192x2048, .f32⟩
  | 86 => ⟨S8192x16, .f32⟩
  | 87 => ⟨S_, .f32⟩
  | 88 => ⟨S8192, .f32⟩
  | 89 => ⟨S_, .f32⟩
  | 90 => ⟨S8192, .f32⟩
  | 91 => ⟨S8192, .f32⟩
  | 92 => ⟨S8192x1, .f32⟩
  | 93 => ⟨S8192x16, .f32⟩
  | 94 => ⟨S8192x16, .f32⟩
  | 95 => ⟨S8192x16, .f32⟩
  | 96 => ⟨S_, .f32⟩
  | 97 => ⟨S8192, .f32⟩
  | 98 => ⟨S8192x1, .f32⟩
  | 99 => ⟨S8192x16, .f32⟩
  | 100 => ⟨S8192x16, .f32⟩
  | 101 => ⟨S32768x2048, .f32⟩
  | 102 => ⟨S32768x2048, .f32⟩
  | 103 => ⟨S512x1024, .f32⟩
  | 104 => ⟨S2x16384x2048, .f32⟩
  | 105 => ⟨S2x16384x2048, .f32⟩
  | 106 => ⟨S2x16384x2048, .f32⟩
  | 107 => ⟨S2x16384x2048, .f32⟩
  | 108 => ⟨S2x16384x2048, .f32⟩
  | 109 => ⟨S_, .f32⟩
  | 110 => ⟨S2x16384, .f32⟩
  | 111 => ⟨S2x16384x1, .f32⟩
  | 112 => ⟨S_, .f32⟩
  | 113 => ⟨S2x16384x1, .f32⟩
  | 114 => ⟨S2x16384x1, .f32⟩
  | 115 => ⟨S_, .f32⟩
  | 116 => ⟨S2x16384x1, .f32⟩
  | 117 => ⟨S2x16384x1, .f32⟩
  | 118 => ⟨S2x16384x1, .f32⟩
  | 119 => ⟨S2x16384x2048, .f32⟩
  | 120 => ⟨S2x16384x2048, .f32⟩
  | 121 => ⟨S1x1x2048, .f32⟩
  | 122 => ⟨S2x16384x2048, .f32⟩
  | 123 => ⟨S2x16384x2048, .f32⟩
  | 124 => ⟨S2x256x1024, .f32⟩
  | 125 => ⟨S2x16384x512, .f32⟩
  | 126 => ⟨S2x16384x4x128, .f32⟩
  | 127 => ⟨S2x256x2x4x128, .f32⟩
  | _ => ⟨S40960x2048, .f32⟩

abbrev hbmTy0_1 (i : Nat) : BufTy := match i % 128 with
  | 0 => ⟨S2x256x1x4x128, .f32⟩
  | 1 => ⟨S2x256x4x128, .f32⟩
  | 2 => ⟨S2x256x1x4x128, .f32⟩
  | 3 => ⟨S2x256x4x128, .f32⟩
  | 4 => ⟨S2x4x16384x256, .f32⟩
  | 5 => ⟨S_, .f32⟩
  | 6 => ⟨S2x4x16384x256, .f32⟩
  | 7 => ⟨S2x4x16384x256, .f32⟩
  | 8 => ⟨S_, .f32⟩
  | 9 => ⟨S2x4x16384, .f32⟩
  | 10 => ⟨S_, .f32⟩
  | 11 => ⟨S2x4x16384, .f32⟩
  | 12 => ⟨S2x4x16384, .f32⟩
  | 13 => ⟨S2x4x16384x1, .f32⟩
  | 14 => ⟨S2x4x16384x256, .f32⟩
  | 15 => ⟨S2x4x16384x256, .f32⟩
  | 16 => ⟨S2x4x16384x256, .f32⟩
  | 17 => ⟨S_, .f32⟩
  | 18 => ⟨S2x4x16384, .f32⟩
  | 19 => ⟨S2x4x16384x1, .f32⟩
  | 20 => ⟨S2x4x16384x256, .f32⟩
  | 21 => ⟨S2x4x16384x256, .f32⟩
  | 22 => ⟨S2x4x128x16384, .f32⟩
  | 23 => ⟨S2x16384x4x128, .f32⟩
  | 24 => ⟨S2x16384x512, .f32⟩
  | 25 => ⟨S2x16384x2048, .f32⟩
  | 26 => ⟨S2x16384x2048, .f32⟩
  | 27 => ⟨S2x16384x2048, .f32⟩
  | 28 => ⟨S_, .f32⟩
  | 29 => ⟨S2x16384, .f32⟩
  | 30 => ⟨S2x16384x1, .f32⟩
  | 31 => ⟨S_, .f32⟩
  | 32 => ⟨S2x16384x1, .f32⟩
  | 33 => ⟨S2x16384x1, .f32⟩
  | 34 => ⟨S_, .f32⟩
  | 35 => ⟨S2x16384x1, .f32⟩
  | 36 => ⟨S2x16384x1, .f32⟩
  | 37 => ⟨S2x16384x1, .f32⟩
  | 38 => ⟨S2x16384x2048, .f32⟩
  | 39 => ⟨S2x16384x2048, .f32⟩
  | 40 => ⟨S1x1x2048, .f32⟩
  | 41 => ⟨S2x16384x2048, .f32⟩
  | 42 => ⟨S2x16384x2048, .f32⟩
  | 43 => ⟨S32768x2048, .f32⟩
  | 44 => ⟨S32768x2048, .f32⟩
  | 45 => ⟨S32768x16, .f32⟩
  | 46 => ⟨S_, .f32⟩
  | 47 => ⟨S32768, .f32⟩
  | 48 => ⟨S_, .f32⟩
  | 49 => ⟨S32768, .f32⟩
  | 50 => ⟨S32768, .f32⟩
  | 51 => ⟨S32768x1, .f32⟩
  | 52 => ⟨S32768x16, .f32⟩
  | 53 => ⟨S32768x16, .f32⟩
  | 54 => ⟨S32768x16, .f32⟩
  | 55 => ⟨S_, .f32⟩
  | 56 => ⟨S32768, .f32⟩
  | 57 => ⟨S32768x1, .f32⟩
  | 58 => ⟨S32768x16, .f32⟩
  | 59 => ⟨S32768x16, .f32⟩
  | 60 => ⟨S40960x2048, .f32⟩
  | 61 => ⟨S40960x2048, .f32⟩
  | 62 => ⟨S40960x16, .f32⟩
  | _ => ⟨S40960x2048, .f32⟩

abbrev hbmTy (i : Nat) : BufTy := match i / 128 with
  | 0 => hbmTy0_0 i
  | 1 => hbmTy0_1 i
  | _ => ⟨S40960x2048, .f32⟩

abbrev bufTy : (tb : Table) → Fin (tcTables nBuf tb) → BufTy
  | .hbm, ⟨i, _⟩ => hbmTy i
  | _, _ => ⟨S40960x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_2 : Ref sig .tc := ⟨.hbm, 46, rfl⟩
abbrev main_v32 : Ref sig .tc := ⟨.hbm, 47, rfl⟩
abbrev main_v33 : Ref sig .tc := ⟨.hbm, 48, rfl⟩
abbrev main_cst_3 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_5 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_6 : Ref sig .tc := ⟨.hbm, 69, rfl⟩
abbrev main_v51 : Ref sig .tc := ⟨.hbm, 70, rfl⟩
abbrev main_v52 : Ref sig .tc := ⟨.hbm, 71, rfl⟩
abbrev main_cst_7 : Ref sig .tc := ⟨.hbm, 72, rfl⟩
abbrev main_v53 : Ref sig .tc := ⟨.hbm, 73, rfl⟩
abbrev main_v54 : Ref sig .tc := ⟨.hbm, 74, rfl⟩
abbrev main_cst_8 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_9 : Ref sig .tc := ⟨.hbm, 87, rfl⟩
abbrev main_v66 : Ref sig .tc := ⟨.hbm, 88, rfl⟩
abbrev main_cst_10 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_11 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_12 : Ref sig .tc := ⟨.hbm, 109, rfl⟩
abbrev main_v85 : Ref sig .tc := ⟨.hbm, 110, rfl⟩
abbrev main_v86 : Ref sig .tc := ⟨.hbm, 111, rfl⟩
abbrev main_cst_13 : Ref sig .tc := ⟨.hbm, 112, rfl⟩
abbrev main_v87 : Ref sig .tc := ⟨.hbm, 113, rfl⟩
abbrev main_v88 : Ref sig .tc := ⟨.hbm, 114, rfl⟩
abbrev main_cst_14 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_cst_15 : Ref sig .tc := ⟨.hbm, 133, rfl⟩
abbrev main_v106 : Ref sig .tc := ⟨.hbm, 134, rfl⟩
abbrev main_v107 : Ref sig .tc := ⟨.hbm, 135, rfl⟩
abbrev main_cst_16 : Ref sig .tc := ⟨.hbm, 136, rfl⟩
abbrev main_v108 : Ref sig .tc := ⟨.hbm, 137, rfl⟩
abbrev main_cst_17 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_cst_18 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_cst_19 : Ref sig .tc := ⟨.hbm, 156, rfl⟩
abbrev main_v125 : Ref sig .tc := ⟨.hbm, 157, rfl⟩
abbrev main_v126 : Ref sig .tc := ⟨.hbm, 158, rfl⟩
abbrev main_cst_20 : Ref sig .tc := ⟨.hbm, 159, rfl⟩
abbrev main_v127 : Ref sig .tc := ⟨.hbm, 160, rfl⟩
abbrev main_v128 : Ref sig .tc := ⟨.hbm, 161, rfl⟩
abbrev main_cst_21 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_cst_22 : Ref sig .tc := ⟨.hbm, 174, rfl⟩
abbrev main_v140 : Ref sig .tc := ⟨.hbm, 175, rfl⟩
abbrev main_cst_23 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_cst_24 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩

abbrev nD : Nat := 1
abbrev τ : Topo := Topo.v7x

variable {F : FTy → Type} [FloatOps F]
-- ==== Memory.lean ====
abbrev S768x2048 : Shape := ⟨2, ![768, 2048]⟩
abbrev S2048 : Shape := ⟨1, ![2048]⟩
abbrev S2048x1024 : Shape := ⟨2, ![2048, 1024]⟩
abbrev S1x2048 : Shape := ⟨2, ![1, 2048]⟩
abbrev S768x1024 : Shape := ⟨2, ![768, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 6
  | .vmem => 6
  | .smem => 0
  | _ => 0

abbrev bufTy : (tb : Table) → Fin (tcTables nBuf tb) → BufTy
  | .hbm, ⟨0, _⟩ => ⟨S768x2048, .f32⟩
  | .hbm, ⟨1, _⟩ => ⟨S2048, .f32⟩
  | .hbm, ⟨2, _⟩ => ⟨S2048x1024, .f32⟩
  | .hbm, ⟨3, _⟩ => ⟨S2048x1024, .bf16⟩
  | .hbm, ⟨4, _⟩ => ⟨S1x2048, .f32⟩
  | .hbm, ⟨5, _⟩ => ⟨S768x1024, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x1024, .bf16⟩
  | .local _ .vmem, ⟨4, _⟩ => ⟨S256x1024, .bf16⟩
  | .local _ .vmem, ⟨5, _⟩ => ⟨S256x1024, .bf16⟩
  | _, _ => ⟨S768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MemoryReferenceIdeal.lean ====
abbrev S768x2048 : Shape := ⟨2, ![768, 2048]⟩
abbrev S2048 : Shape := ⟨1, ![2048]⟩
abbrev S2048x1024 : Shape := ⟨2, ![2048, 1024]⟩
abbrev S_ : Shape := ⟨0, ![]⟩
abbrev S768 : Shape := ⟨1, ![768]⟩
abbrev S768x1 : Shape := ⟨2, ![768, 1]⟩
abbrev S1x2048 : Shape := ⟨2, ![1, 2048]⟩
abbrev S768x1024 : Shape := ⟨2, ![768, 1024]⟩

abbrev nBuf : Space → Nat
  | .hbm => 21
  | .vmem => 0
  | .smem => 0
  | _ => 0

abbrev bufTy : (tb : Table) → Fin (tcTables nBuf tb) → BufTy
  | .hbm, ⟨0, _⟩ => ⟨S768x2048, .f32⟩
  | .hbm, ⟨1, _⟩ => ⟨S2048, .f32⟩
  | .hbm, ⟨2, _⟩ => ⟨S2048x1024, .f32⟩
  | .hbm, ⟨3, _⟩ => ⟨S768x2048, .f32⟩
  | .hbm, ⟨4, _⟩ => ⟨S_, .f32⟩
  | .hbm, ⟨5, _⟩ => ⟨S768, .f32⟩
  | .hbm, ⟨6, _⟩ => ⟨S768x1, .f32⟩
  | .hbm, ⟨7, _⟩ => ⟨S_, .f32⟩
  | .hbm, ⟨8, _⟩ => ⟨S768x1, .f32⟩
  | .hbm, ⟨9, _⟩ => ⟨S768x1, .f32⟩
  | .hbm, ⟨10, _⟩ => ⟨S_, .f32⟩
  | .hbm, ⟨11, _⟩ => ⟨S768x1, .f32⟩
  | .hbm, ⟨12, _⟩ => ⟨S768x1, .f32⟩
  | .hbm, ⟨13, _⟩ => ⟨S768x1, .f32⟩
  | .hbm, ⟨14, _⟩ => ⟨S768x2048, .f32⟩
  | .hbm, ⟨15, _⟩ => ⟨S768x2048, .f32⟩
  | .hbm, ⟨16, _⟩ => ⟨S1x2048, .f32⟩
  | .hbm, ⟨17, _⟩ => ⟨S768x2048, .f32⟩
  | .hbm, ⟨18, _⟩ => ⟨S768x2048, .f32⟩
  | .hbm, ⟨19, _⟩ => ⟨S768x1024, .f32⟩
  | .hbm, ⟨20, _⟩ => ⟨S768x1024, .bf16⟩
  | _, _ => ⟨S768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Na.lean ====
abbrev S40960x3584 : Shape := ⟨2, ![40960, 3584]⟩
abbrev S4x15x31 : Shape := ⟨3, ![4, 15, 31]⟩
abbrev S64x64 : Shape := ⟨2, ![64, 64]⟩
abbrev S4x64x128 : Shape := ⟨3, ![4, 64, 128]⟩
abbrev S_ : Shape := ⟨0, ![]⟩
abbrev S64x64x1 : Shape := ⟨3, ![64, 64, 1]⟩
abbrev S4x15x64x64 : Shape := ⟨4, ![4, 15, 64, 64]⟩
abbrev S1x1x64x64 : Shape := ⟨4, ![1, 1, 64, 64]⟩
abbrev S4x14x64x64 : Shape := ⟨4, ![4, 14, 64, 64]⟩
abbrev S4x14x64x128 : Shape := ⟨4, ![4, 14, 64, 128]⟩
abbrev S40960x512 : Shape := ⟨2, ![40960, 512]⟩
abbrev S256x512 : Shape := ⟨2, ![256, 512]⟩
abbrev S256x128 : Shape := ⟨2, ![256, 128]⟩
abbrev S768x128 : Shape := ⟨2, ![768, 128]⟩
abbrev S256x768 : Shape := ⟨2, ![256, 768]⟩
abbrev S64x128 : Shape := ⟨2, ![64, 128]⟩
abbrev S1x1x64x128 : Shape := ⟨4, ![1, 1, 64, 128]⟩
abbrev S1x64x128 : Shape := ⟨3, ![1, 64, 128]⟩
abbrev S64x768 : Shape := ⟨2, ![64, 768]⟩
abbrev S64 : Shape := ⟨1, ![64]⟩
abbrev S64x1 : Shape := ⟨2, ![64, 1]⟩

abbrev nBuf : Space → Nat
  | .hbm => 22
  | .vmem => 18
  | .smem => 0
  | _ => 0

abbrev bufTy : (tb : Table) → Fin (tcTables nBuf tb) → BufTy
  | .hbm, ⟨0, _⟩ => ⟨S40960x3584, .bf16⟩
  | .hbm, ⟨1, _⟩ => ⟨S4x15x31, .f32⟩
  | .hbm, ⟨2, _⟩ => ⟨S64x64, .i32⟩
  | .hbm, ⟨3, _⟩ => ⟨S64x64, .i1⟩
  | .hbm, ⟨4, _⟩ => ⟨S64x64, .i1⟩
  | .hbm, ⟨5, _⟩ => ⟨S4x64x128, .f32⟩
  | .hbm, ⟨6, _⟩ => ⟨S_, .i32⟩
  | .hbm, ⟨7, _⟩ => ⟨S64x64, .i32⟩
  | .hbm, ⟨8, _⟩ => ⟨S64x64, .i32⟩
  | .hbm, ⟨9, _⟩ => ⟨S64x64, .i32⟩
  | .hbm, ⟨10, _⟩ => ⟨S64x64x1, .i32⟩
  | .hbm, ⟨11, _⟩ => ⟨S4x15x64x64, .f32⟩
  | .hbm, ⟨12, _⟩ => ⟨S1x1x64x64, .i1⟩
  | .hbm, ⟨13, _⟩ => ⟨S_, .f32⟩
  | .hbm, ⟨14, _⟩ => ⟨S_, .f32⟩
  | .hbm, ⟨15, _⟩ => ⟨S4x15x64x64, .i1⟩
  | .hbm, ⟨16, _⟩ => ⟨S4x15x64x64, .f32⟩
  | .hbm, ⟨17, _⟩ => ⟨S4x15x64x64, .f32⟩
  | .hbm, ⟨18, _⟩ => ⟨S4x14x64x64, .f32⟩
  | .hbm, ⟨19, _⟩ => ⟨S4x14x64x64, .f32⟩
  | .hbm, ⟨20, _⟩ => ⟨S4x14x64x128, .f32⟩
  | .hbm, ⟨21, _⟩ => ⟨S40960x512, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S4x14x64x128, .f32⟩
  | .local _ .vmem, ⟨15, _⟩ => ⟨S4x64x128, .f32⟩
  | .local _ .vmem, ⟨16, _⟩ => ⟨S256x512, .bf16⟩
  | .local _ .vmem, ⟨17, _⟩ => ⟨S256x512, .bf16⟩
  | _, _ => ⟨S40960x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_cst : Ref sig .tc := ⟨.hbm, 5, rfl⟩
abbrev main_c_2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_3 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![160], ![false]⟩

def k0_off1 (i : grid0.Coords) (c0_i32_18 : BitVec 32) (c3_i32 : BitVec 32) (c3_i32_21 : BitVec 32) (c4_i32_23 : BitVec 32) (c4_i32_25 : BitVec 32) : Fin 3 → Nat :=
  let c7_i32 : BitVec 32 := 7#32
  let c4_i32_17 : BitVec 32 := 4#32
  let arg0 : BitVec 32 := BitVec.ofNat 32 (i 0).val
  let c96_i32 : BitVec 32 := 96#32
  let v2 : BitVec 1 := Scalar.cmpi .sge arg0 c96_i32
  let c96_i32_1 : BitVec 32 := 96#32
  let c32_i32 : BitVec 32 := 32#32
  let v0 : BitVec 1 := Scalar.cmpi .sge arg0 c32_i32
  let c32_i32_0 : BitVec 32 := 32#32
  let c0_i32 : BitVec 32 := 0#32
  let v1 : BitVec 32 := Scalar.select v0 c32_i32_0 c0_i32
  let v3 : BitVec 32 := Scalar.select v2 c96_i32_1 v1
  let v18 : BitVec 32 := Scalar.subi arg0 v3
  let v19 : BitVec 32 := Scalar.muli c4_i32_17 v18
  let v20 : BitVec 32 := Scalar.addi v19 c0_i32_18
  let c4_i32 : BitVec 32 := 4#32
  let c31_i32 : BitVec 32 := 31#32
  let v6 : BitVec 1 := Scalar.cmpi .sle arg0 c31_i32
  let c31_i32_3 : BitVec 32 := 31#32
  let c95_i32 : BitVec 32 := 95#32
  let v4 : BitVec 1 := Scalar.cmpi .sle arg0 c95_i32
  let c95_i32_2 : BitVec 32 := 95#32
  let c159_i32 : BitVec 32 := 159#32
  let v5 : BitVec 32 := Scalar.select v4 c95_i32_2 c159_i32
  let v7 : BitVec 32 := Scalar.select v6 c31_i32_3 v5
  let v8 : BitVec 32 := Scalar.subi v7 v3
  let c1_i32 : BitVec 32 := 1#32
  let v9 : BitVec 32 := Scalar.addi v8 c1_i32
  let v10 : BitVec 32 := Scalar.muli c4_i32 v9
  let c8_i32 : BitVec 32 := 8#32
  let v22 : BitVec 32 := Scalar.subi v10 c8_i32
  let c0_i32_20 : BitVec 32 := 0#32
  let c4_i32_19 : BitVec 32 := 4#32
  let v21 : BitVec 32 := Scalar.subi v20 c4_i32_19
  let v23 : BitVec 32 := Scalar.maxsi c0_i32_20 v21
  let v24 : BitVec 32 := Scalar.minsi v22 v23
  let v25 : BitVec 32 := Scalar.subi v20 v24
  let v26 : BitVec 32 := Scalar.subi c7_i32 v25
  let v27 : BitVec 1 := Scalar.cmpi .sle v26 c3_i32
  let c15_i32 : BitVec 32 := 15#32
  let v28 : BitVec 32 := Scalar.subi c15_i32 v25
  let v29 : BitVec 1 := Scalar.cmpi .sgt v28 c3_i32_21
  let v30 : BitVec 1 := Scalar.andi v27 v29
  let v31 : BitVec 32 := Scalar.extui v30
  let c2_i32 : BitVec 32 := 2#32
  let c7_i32_22 : BitVec 32 := 7#32
  let v32 : BitVec 32 := Scalar.subi c7_i32_22 v25
  let v33 : BitVec 1 := Scalar.cmpi .sle v32 c4_i32_23
  let c15_i32_24 : BitVec 32 := 15#32
  let v34 : BitVec 32 := Scalar.subi c15_i32_24 v25
  let v35 : BitVec 1 := Scalar.cmpi .sgt v34 c4_i32_25
  let v36 : BitVec 1 := Scalar.andi v33 v35
  let v37 : BitVec 32 := Scalar.extui v36
  let v38 : BitVec 32 := Scalar.muli c2_i32 v37
  let v39 : BitVec 32 := Scalar.addi v31 v38
  let v402 : Index := Scalar.indexCast v39
  let c0_244 : Index := 0#32
  let c0_245 : Index := 0#32
  ![v402.toNat, 0, 0]
def k0_off1_at (r : Fin 24) : BitVec 32 × BitVec 32 × BitVec 32 × BitVec 32 × BitVec 32 :=
  if r.val < 12 then
    if r.val < 6 then
      if r.val < 3 then
        if r.val < 1 then
          (0#32, 3#32, 3#32, 4#32, 4#32)
        else
          if r.val < 2 then
            (0#32, 5#32, 5#32, 6#32, 6#32)
          else
            (0#32, 7#32, 7#32, 8#32, 8#32)
      else
        if r.val < 4 then
          (0#32, 9#32, 9#32, 10#32, 10#32)
        else
          if r.val < 5 then
            (0#32, 11#32, 11#32, 12#32, 12#32)
          else
            (0#32, 13#32, 13#32, 14#32, 14#32)
    else
      if r.val < 9 then
        if r.val < 7 then
          (1#32, 2#32, 2#32, 3#32, 3#32)
        else
          if r.val < 8 then
            (1#32, 4#32, 4#32, 5#32, 5#32)
          else
            (1#32, 6#32, 6#32, 7#32, 7#32)
      else
        if r.val < 10 then
          (1#32, 8#32, 8#32, 9#32, 9#32)
        else
          if r.val < 11 then
            (1#32, 10#32, 10#32, 11#32, 11#32)
          else
            (1#32, 12#32, 12#32, 13#32, 13#32)
  else
    if r.val < 18 then
      if r.val < 15 then
        if r.val < 13 then
          (2#32, 1#32, 1#32, 2#32, 2#32)
        else
          if r.val < 14 then
            (2#32, 3#32, 3#32, 4#32, 4#32)
          else
            (2#32, 5#32, 5#32, 6#32, 6#32)
      else
        if r.val < 16 then
          (2#32, 7#32, 7#32, 8#32, 8#32)
        else
          if r.val < 17 then
            (2#32, 9#32, 9#32, 10#32, 10#32)
          else
            (2#32, 11#32, 11#32, 12#32, 12#32)
    else
      if r.val < 21 then
        if r.val < 19 then
          (3#32, 0#32, 0#32, 1#32, 1#32)
        else
          if r.val < 20 then
            (3#32, 2#32, 2#32, 3#32, 3#32)
          else
            (3#32, 4#32, 4#32, 5#32, 5#32)
      else
        if r.val < 22 then
          (3#32, 6#32, 6#32, 7#32, 7#32)
        else
          if r.val < 23 then
            (3#32, 8#32, 8#32, 9#32, 9#32)
          else
            (3#32, 10#32, 10#32, 11#32, 11#32)
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c32_i32 : BitVec 32 := 32#32
  let v1 : BitVec 1 := Scalar.cmpi .sge arg0 c32_i32
  let c32_i32_0 : BitVec 32 := 32#32
  let c0_i32 : BitVec 32 := 0#32
  let v2 : BitVec 32 := Scalar.select v1 c32_i32_0 c0_i32
  let c96_i32 : BitVec 32 := 96#32
  let v3 : BitVec 1 := Scalar.cmpi .sge arg0 c96_i32
  let c96_i32_1 : BitVec 32 := 96#32
  let v4 : BitVec 32 := Scalar.select v3 c96_i32_1 v2
  let v5 : BitVec 32 := Scalar.maxsi v0 v4
  let c1_i32_2 : BitVec 32 := 1#32
  let c0_i32_3 : BitVec 32 := 0#32
  ![v5.toNat, c1_i32_2.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c95_i32 : BitVec 32 := 95#32
  let v1 : BitVec 1 := Scalar.cmpi .sle arg0 c95_i32
  let c95_i32_0 : BitVec 32 := 95#32
  let c159_i32 : BitVec 32 := 159#32
  let v2 : BitVec 32 := Scalar.select v1 c95_i32_0 c159_i32
  let c31_i32 : BitVec 32 := 31#32
  let v3 : BitVec 1 := Scalar.cmpi .sle arg0 c31_i32
  let c31_i32_1 : BitVec 32 := 31#32
  let v4 : BitVec 32 := Scalar.select v3 c31_i32_1 v2
  let v5 : BitVec 32 := Scalar.minsi v0 v4
  let c1_i32_2 : BitVec 32 := 1#32
  let c0_i32 : BitVec 32 := 0#32
  ![v5.toNat, c1_i32_2.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c32_i32 : BitVec 32 := 32#32
  let v1 : BitVec 1 := Scalar.cmpi .sge arg0 c32_i32
  let c32_i32_0 : BitVec 32 := 32#32
  let c0_i32 : BitVec 32 := 0#32
  let v2 : BitVec 32 := Scalar.select v1 c32_i32_0 c0_i32
  let c96_i32 : BitVec 32 := 96#32
  let v3 : BitVec 1 := Scalar.cmpi .sge arg0 c96_i32
  let c96_i32_1 : BitVec 32 := 96#32
  let v4 : BitVec 32 := Scalar.select v3 c96_i32_1 v2
  let v5 : BitVec 32 := Scalar.maxsi v0 v4
  let c2_i32 : BitVec 32 := 2#32
  let c0_i32_2 : BitVec 32 := 0#32
  ![v5.toNat, c2_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c95_i32 : BitVec 32 := 95#32
  let v1 : BitVec 1 := Scalar.cmpi .sle arg0 c95_i32
  let c95_i32_0 : BitVec 32 := 95#32
  let c159_i32 : BitVec 32 := 159#32
  let v2 : BitVec 32 := Scalar.select v1 c95_i32_0 c159_i32
  let c31_i32 : BitVec 32 := 31#32
  let v3 : BitVec 1 := Scalar.cmpi .sle arg0 c31_i32
  let c31_i32_1 : BitVec 32 := 31#32
  let v4 : BitVec 32 := Scalar.select v3 c31_i32_1 v2
  let v5 : BitVec 32 := Scalar.minsi v0 v4
  let c2_i32 : BitVec 32 := 2#32
  let c0_i32 : BitVec 32 := 0#32
  ![v5.toNat, c2_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x14x64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== NaReferenceIdeal.lean ====
abbrev S40960x3584 : Shape := ⟨2, ![40960, 3584]⟩
abbrev S4x15x31 : Shape := ⟨3, ![4, 15, 31]⟩
abbrev S8192x3584 : Shape := ⟨2, ![8192, 3584]⟩
abbrev S1x8192x3584 : Shape := ⟨3, ![1, 8192, 3584]⟩
abbrev S1x8192x512 : Shape := ⟨3, ![1, 8192, 512]⟩
abbrev S1x8192x4x128 : Shape := ⟨4, ![1, 8192, 4, 128]⟩
abbrev S1x128x64x4x128 : Shape := ⟨5, ![1, 128, 64, 4, 128]⟩
abbrev S128 : Shape := ⟨1, ![128]⟩
abbrev S_ : Shape := ⟨0, ![]⟩
abbrev S128x1 : Shape := ⟨2, ![128, 1]⟩
abbrev S8 : Shape := ⟨1, ![8]⟩
abbrev S1x8 : Shape := ⟨2, ![1, 8]⟩
abbrev S128x8 : Shape := ⟨2, ![128, 8]⟩
abbrev S128x8x1 : Shape := ⟨3, ![128, 8, 1]⟩
abbrev S1x128x8x64x4x128 : Shape := ⟨6, ![1, 128, 8, 64, 4, 128]⟩
abbrev S1x128x4x64x8x64 : Shape := ⟨6, ![1, 128, 4, 64, 8, 64]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S4x128x8x31 : Shape := ⟨4, ![4, 128, 8, 31]⟩
abbrev S64x64x1 : Shape := ⟨3, ![64, 64, 1]⟩
abbrev S4x128x8x64x64 : Shape := ⟨5, ![4, 128, 8, 64, 64]⟩
abbrev S128x4x64x8x64 : Shape := ⟨5, ![128, 4, 64, 8, 64]⟩
abbrev S1x1x1x64x1x64 : Shape := ⟨6, ![1, 1, 1, 64, 1, 64]⟩
abbrev S1x128x4x64 : Shape := ⟨4, ![1, 128, 4, 64]⟩
abbrev S1x128x4x64x1x1 : Shape := ⟨6, ![1, 128, 4, 64, 1, 1]⟩
abbrev S1x128x4x128x64 : Shape := ⟨5, ![1, 128, 4, 128, 64]⟩
abbrev S8192x512 : Shape := ⟨2, ![8192, 512]⟩
abbrev S32768x3584 : Shape := ⟨2, ![32768, 3584]⟩
abbrev S2x16384x3584 : Shape := ⟨3, ![2, 16384, 3584]⟩
abbrev S2x16384x512 : Shape := ⟨3, ![2, 16384, 512]⟩
abbrev S2x16384x4x128 : Shape := ⟨4, ![2, 16384, 4, 128]⟩
abbrev S2x256x64x4x128 : Shape := ⟨5, ![2, 256, 64, 4, 128]⟩
abbrev S256 : Shape := ⟨1, ![256]⟩
abbrev S256x1 : Shape := ⟨2, ![256, 1]⟩
abbrev S256x8 : Shape := ⟨2, ![256, 8]⟩
abbrev S256x8x1 : Shape := ⟨3, ![256, 8, 1]⟩
abbrev S2x256x8x64x4x128 : Shape := ⟨6, ![2, 256, 8, 64, 4, 128]⟩
abbrev S2x256x4x64x8x64 : Shape := ⟨6, ![2, 256, 4, 64, 8, 64]⟩
abbrev S4x256x8x31 : Shape := ⟨4, ![4, 256, 8, 31]⟩
abbrev S4x256x8x64x64 : Shape := ⟨5, ![4, 256, 8, 64, 64]⟩
abbrev S256x4x64x8x64 : Shape := ⟨5, ![256, 4, 64, 8, 64]⟩
abbrev S1x256x4x64x8x64 : Shape := ⟨6, ![1, 256, 4, 64, 8, 64]⟩
abbrev S2x256x4x64 : Shape := ⟨4, ![2, 256, 4, 64]⟩
abbrev S2x256x4x64x1x1 : Shape := ⟨6, ![2, 256, 4, 64, 1, 1]⟩
abbrev S2x256x4x128x64 : Shape := ⟨5, ![2, 256, 4, 128, 64]⟩
abbrev S32768x512 : Shape := ⟨2, ![32768, 512]⟩
abbrev S40960x512 : Shape := ⟨2, ![40960, 512]⟩

abbrev nBuf : Space → Nat
  | .hbm => 306
  | .vmem => 0
  | .smem => 0
  | _ => 0

abbrev hbmTy0_0 (i : Nat) : BufTy := match i % 128 with
  | 0 => ⟨S40960x3584, .bf16⟩
  | 1 => ⟨S4x15x31, .f32⟩
  | 2 => ⟨S40960x3584, .f32⟩
  | 3 => ⟨S8192x3584, .f32⟩
  | 4 => ⟨S1x8192x3584, .f32⟩
  | 5 => ⟨S1x8192x512, .f32⟩
  | 6 => ⟨S1x8192x512, .f32⟩
  | 7 => ⟨S1x8192x512, .f32⟩
  | 8 => ⟨S1x8192x4x128, .f32⟩
  | 9 => ⟨S1x8192x4x128, .f32⟩
  | 10 => ⟨S1x8192x4x128, .f32⟩
  | 11 => ⟨S1x128x64x4x128, .f32⟩
  | 12 => ⟨S1x128x64x4x128, .f32⟩
  | 13 => ⟨S1x128x64x4x128, .f32⟩
  | 14 => ⟨S128, .i32⟩
  | 15 => ⟨S_, .i32⟩
  | 16 => ⟨S128, .i32⟩
  | 17 => ⟨S128, .i32⟩
  | 18 => ⟨S_, .i32⟩
  | 19 => ⟨S_, .i32⟩
  | 20 => ⟨S_, .i32⟩
  | 21 => ⟨S128, .i32⟩
  | 22 => ⟨S128, .i32⟩
  | 23 => ⟨S_, .i32⟩
  | 24 => ⟨S128, .i32⟩
  | 25 => ⟨S128, .i32⟩
  | 26 => ⟨S128x1, .i32⟩
  | 27 => ⟨S8, .i32⟩
  | 28 => ⟨S1x8, .i32⟩
  | 29 => ⟨S128x8, .i32⟩
  | 30 => ⟨S128x8, .i32⟩
  | 31 => ⟨S128x8, .i32⟩
  | 32 => ⟨S_, .i32⟩
  | 33 => ⟨S128x8, .i32⟩
  | 34 => ⟨S128x8, .i1⟩
  | 35 => ⟨S_, .i32⟩
  | 36 => ⟨S128x8, .i32⟩
  | 37 => ⟨S128x8, .i32⟩
  | 38 => ⟨S128x8, .i32⟩
  | 39 => ⟨S128x8x1, .i32⟩
  | 40 => ⟨S1x128x8x64x4x128, .f32⟩
  | 41 => ⟨S_, .i32⟩
  | 42 => ⟨S128x8, .i32⟩
  | 43 => ⟨S128x8, .i1⟩
  | 44 => ⟨S_, .i32⟩
  | 45 => ⟨S128x8, .i32⟩
  | 46 => ⟨S128x8, .i32⟩
  | 47 => ⟨S128x8, .i32⟩
  | 48 => ⟨S128x8x1, .i32⟩
  | 49 => ⟨S1x128x8x64x4x128, .f32⟩
  | 50 => ⟨S1x128x4x64x8x64, .f32⟩
  | 51 => ⟨S_, .f32⟩
  | 52 => ⟨S1x128x4x64x8x64, .f32⟩
  | 53 => ⟨S1x128x4x64x8x64, .f32⟩
  | 54 => ⟨S64, .i32⟩
  | 55 => ⟨S_, .i32⟩
  | 56 => ⟨S64, .i32⟩
  | 57 => ⟨S64, .i32⟩
  | 58 => ⟨S_, .i32⟩
  | 59 => ⟨S_, .i32⟩
  | 60 => ⟨S_, .i32⟩
  | 61 => ⟨S64, .i32⟩
  | 62 => ⟨S64, .i32⟩
  | 63 => ⟨S_, .i32⟩
  | 64 => ⟨S64, .i32⟩
  | 65 => ⟨S64, .i32⟩
  | 66 => ⟨S1x64, .i32⟩
  | 67 => ⟨S64x1, .i32⟩
  | 68 => ⟨S64x64, .i32⟩
  | 69 => ⟨S64x64, .i32⟩
  | 70 => ⟨S64x64, .i1⟩
  | 71 => ⟨S1x64, .i32⟩
  | 72 => ⟨S64x1, .i32⟩
  | 73 => ⟨S_, .i32⟩
  | 74 => ⟨S64x1, .i32⟩
  | 75 => ⟨S64x1, .i32⟩
  | 76 => ⟨S64x64, .i32⟩
  | 77 => ⟨S64x64, .i32⟩
  | 78 => ⟨S64x64, .i1⟩
  | 79 => ⟨S64x64, .i1⟩
  | 80 => ⟨S1x64, .i32⟩
  | 81 => ⟨S64x1, .i32⟩
  | 82 => ⟨S64x64, .i32⟩
  | 83 => ⟨S64x64, .i32⟩
  | 84 => ⟨S64x64, .i32⟩
  | 85 => ⟨S_, .i32⟩
  | 86 => ⟨S_, .i32⟩
  | 87 => ⟨S_, .i32⟩
  | 88 => ⟨S64x64, .i32⟩
  | 89 => ⟨S64x64, .i32⟩
  | 90 => ⟨S_, .i32⟩
  | 91 => ⟨S64x64, .i32⟩
  | 92 => ⟨S64x64, .i32⟩
  | 93 => ⟨S_, .i32⟩
  | 94 => ⟨S64x64, .i32⟩
  | 95 => ⟨S64x64, .i32⟩
  | 96 => ⟨S_, .i32⟩
  | 97 => ⟨S64x64, .i32⟩
  | 98 => ⟨S64x64, .i32⟩
  | 99 => ⟨S128x1, .i32⟩
  | 100 => ⟨S128x8, .i32⟩
  | 101 => ⟨S128x8, .i32⟩
  | 102 => ⟨S_, .i32⟩
  | 103 => ⟨S128x8, .i32⟩
  | 104 => ⟨S128x8, .i32⟩
  | 105 => ⟨S_, .i32⟩
  | 106 => ⟨S128x8, .i32⟩
  | 107 => ⟨S128x8, .i32⟩
  | 108 => ⟨S_, .i32⟩
  | 109 => ⟨S128x8, .i32⟩
  | 110 => ⟨S128x8, .i1⟩
  | 111 => ⟨S_, .i32⟩
  | 112 => ⟨S128x8, .i32⟩
  | 113 => ⟨S128x8, .i32⟩
  | 114 => ⟨S128x8, .i32⟩
  | 115 => ⟨S128x8x1, .i32⟩
  | 116 => ⟨S4x128x8x31, .f32⟩
  | 117 => ⟨S_, .i32⟩
  | 118 => ⟨S64x64, .i32⟩
  | 119 => ⟨S64x64, .i1⟩
  | 120 => ⟨S_, .i32⟩
  | 121 => ⟨S64x64, .i32⟩
  | 122 => ⟨S64x64, .i32⟩
  | 123 => ⟨S64x64, .i32⟩
  | 124 => ⟨S64x64x1, .i32⟩
  | 125 => ⟨S4x128x8x64x64, .f32⟩
  | 126 => ⟨S128x4x64x8x64, .f32⟩
  | 127 => ⟨S1x1x1x64x1x64, .i1⟩
  | _ => ⟨S40960x3584, .bf16⟩

abbrev hbmTy0_1 (i : Nat) : BufTy := match i % 128 with
  | 0 => ⟨S1x128x4x64x8x64, .f32⟩
  | 1 => ⟨S1x128x4x64x8x64, .f32⟩
  | 2 => ⟨S_, .f32⟩
  | 3 => ⟨S_, .f32⟩
  | 4 => ⟨S1x128x4x64x8x64, .i1⟩
  | 5 => ⟨S1x128x4x64x8x64, .f32⟩
  | 6 => ⟨S1x128x4x64x8x64, .f32⟩
  | 7 => ⟨S_, .f32⟩
  | 8 => ⟨S1x128x4x64, .f32⟩
  | 9 => ⟨S_, .f32⟩
  | 10 => ⟨S1x128x4x64, .f32⟩
  | 11 => ⟨S1x128x4x64, .f32⟩
  | 12 => ⟨S1x128x4x64x1x1, .f32⟩
  | 13 => ⟨S1x128x4x64x8x64, .f32⟩
  | 14 => ⟨S1x128x4x64x8x64, .f32⟩
  | 15 => ⟨S1x128x4x64x8x64, .f32⟩
  | 16 => ⟨S_, .f32⟩
  | 17 => ⟨S1x128x4x64, .f32⟩
  | 18 => ⟨S1x128x4x64x1x1, .f32⟩
  | 19 => ⟨S1x128x4x64x8x64, .f32⟩
  | 20 => ⟨S1x128x4x64x8x64, .f32⟩
  | 21 => ⟨S1x128x4x128x64, .f32⟩
  | 22 => ⟨S1x128x64x4x128, .f32⟩
  | 23 => ⟨S1x8192x4x128, .f32⟩
  | 24 => ⟨S8192x512, .f32⟩
  | 25 => ⟨S32768x3584, .f32⟩
  | 26 => ⟨S2x16384x3584, .f32⟩
  | 27 => ⟨S2x16384x512, .f32⟩
  | 28 => ⟨S2x16384x512, .f32⟩
  | 29 => ⟨S2x16384x512, .f32⟩
  | 30 => ⟨S2x16384x4x128, .f32⟩
  | 31 => ⟨S2x16384x4x128, .f32⟩
  | 32 => ⟨S2x16384x4x128, .f32⟩
  | 33 => ⟨S2x256x64x4x128, .f32⟩
  | 34 => ⟨S2x256x64x4x128, .f32⟩
  | 35 => ⟨S2x256x64x4x128, .f32⟩
  | 36 => ⟨S256, .i32⟩
  | 37 => ⟨S_, .i32⟩
  | 38 => ⟨S256, .i32⟩
  | 39 => ⟨S256, .i32⟩
  | 40 => ⟨S_, .i32⟩
  | 41 => ⟨S_, .i32⟩
  | 42 => ⟨S_, .i32⟩
  | 43 => ⟨S256, .i32⟩
  | 44 => ⟨S256, .i32⟩
  | 45 => ⟨S_, .i32⟩
  | 46 => ⟨S256, .i32⟩
  | 47 => ⟨S256, .i32⟩
  | 48 => ⟨S256x1, .i32⟩
  | 49 => ⟨S8, .i32⟩
  | 50 => ⟨S1x8, .i32⟩
  | 51 => ⟨S256x8, .i32⟩
  | 52 => ⟨S256x8, .i32⟩
  | 53 => ⟨S256x8, .i32⟩
  | 54 => ⟨S_, .i32⟩
  | 55 => ⟨S256x8, .i32⟩
  | 56 => ⟨S256x8, .i1⟩
  | 57 => ⟨S_, .i32⟩
  | 58 => ⟨S256x8, .i32⟩
  | 59 => ⟨S256x8, .i32⟩
  | 60 => ⟨S256x8, .i32⟩
  | 61 => ⟨S256x8x1, .i32⟩
  | 62 => ⟨S2x256x8x64x4x128, .f32⟩
  | 63 => ⟨S_, .i32⟩
  | 64 => ⟨S256x8, .i32⟩
  | 65 => ⟨S256x8, .i1⟩
  | 66 => ⟨S_, .i32⟩
  | 67 => ⟨S256x8, .i32⟩
  | 68 => ⟨S256x8, .i32⟩
  | 69 => ⟨S256x8, .i32⟩
  | 70 => ⟨S256x8x1, .i32⟩
  | 71 => ⟨S2x256x8x64x4x128, .f32⟩
  | 72 => ⟨S2x256x4x64x8x64, .f32⟩
  | 73 => ⟨S_, .f32⟩
  | 74 => ⟨S2x256x4x64x8x64, .f32⟩
  | 75 => ⟨S2x256x4x64x8x64, .f32⟩
  | 76 => ⟨S64, .i32⟩
  | 77 => ⟨S_, .i32⟩
  | 78 => ⟨S64, .i32⟩
  | 79 => ⟨S64, .i32⟩
  | 80 => ⟨S_, .i32⟩
  | 81 => ⟨S_, .i32⟩
  | 82 => ⟨S_, .i32⟩
  | 83 => ⟨S64, .i32⟩
  | 84 => ⟨S64, .i32⟩
  | 85 => ⟨S_, .i32⟩
  | 86 => ⟨S64, .i32⟩
  | 87 => ⟨S64, .i32⟩
  | 88 => ⟨S1x64, .i32⟩
  | 89 => ⟨S64x1, .i32⟩
  | 90 => ⟨S64x64, .i32⟩
  | 91 => ⟨S64x64, .i32⟩
  | 92 => ⟨S64x64, .i1⟩
  | 93 => ⟨S1x64, .i32⟩
  | 94 => ⟨S64x1, .i32⟩
  | 95 => ⟨S_, .i32⟩
  | 96 => ⟨S64x1, .i32⟩
  | 97 => ⟨S64x1, .i32⟩
  | 98 => ⟨S64x64, .i32⟩
  | 99 => ⟨S64x64, .i32⟩
  | 100 => ⟨S64x64, .i1⟩
  | 101 => ⟨S64x64, .i1⟩
  | 102 => ⟨S1x64, .i32⟩
  | 103 => ⟨S64x1, .i32⟩
  | 104 => ⟨S64x64, .i32⟩
  | 105 => ⟨S64x64, .i32⟩
  | 106 => ⟨S64x64, .i32⟩
  | 107 => ⟨S_, .i32⟩
  | 108 => ⟨S_, .i32⟩
  | 109 => ⟨S_, .i32⟩
  | 110 => ⟨S64x64, .i32⟩
  | 111 => ⟨S64x64, .i32⟩
  | 112 => ⟨S_, .i32⟩
  | 113 => ⟨S64x64, .i32⟩
  | 114 => ⟨S64x64, .i32⟩
  | 115 => ⟨S_, .i32⟩
  | 116 => ⟨S64x64, .i32⟩
  | 117 => ⟨S64x64, .i32⟩
  | 118 => ⟨S_, .i32⟩
  | 119 => ⟨S64x64, .i32⟩
  | 120 => ⟨S64x64, .i32⟩
  | 121 => ⟨S256x1, .i32⟩
  | 122 => ⟨S256x8, .i32⟩
  | 123 => ⟨S256x8, .i32⟩
  | 124 => ⟨S_, .i32⟩
  | 125 => ⟨S256x8, .i32⟩
  | 126 => ⟨S256x8, .i32⟩
  | 127 => ⟨S_, .i32⟩
  | _ => ⟨S40960x3584, .bf16⟩

abbrev hbmTy0_2 (i : Nat) : BufTy := match i % 128 with
  | 0 => ⟨S256x8, .i32⟩
  | 1 => ⟨S256x8, .i32⟩
  | 2 => ⟨S_, .i32⟩
  | 3 => ⟨S256x8, .i32⟩
  | 4 => ⟨S256x8, .i1⟩
  | 5 => ⟨S_, .i32⟩
  | 6 => ⟨S256x8, .i32⟩
  | 7 => ⟨S256x8, .i32⟩
  | 8 => ⟨S256x8, .i32⟩
  | 9 => ⟨S256x8x1, .i32⟩
  | 10 => ⟨S4x256x8x31, .f32⟩
  | 11 => ⟨S_, .i32⟩
  | 12 => ⟨S64x64, .i32⟩
  | 13 => ⟨S64x64, .i1⟩
  | 14 => ⟨S_, .i32⟩
  | 15 => ⟨S64x64, .i32⟩
  | 16 => ⟨S64x64, .i32⟩
  | 17 => ⟨S64x64, .i32⟩
  | 18 => ⟨S64x64x1, .i32⟩
  | 19 => ⟨S4x256x8x64x64, .f32⟩
  | 20 => ⟨S256x4x64x8x64, .f32⟩
  | 21 => ⟨S1x1x1x64x1x64, .i1⟩
  | 22 => ⟨S1x256x4x64x8x64, .f32⟩
  | 23 => ⟨S2x256x4x64x8x64, .f32⟩
  | 24 => ⟨S2x256x4x64x8x64, .f32⟩
  | 25 => ⟨S_, .f32⟩
  | 26 => ⟨S_, .f32⟩
  | 27 => ⟨S2x256x4x64x8x64, .i1⟩
  | 28 => ⟨S2x256x4x64x8x64, .f32⟩
  | 29 => ⟨S2x256x4x64x8x64, .f32⟩
  | 30 => ⟨S_, .f32⟩
  | 31 => ⟨S2x256x4x64, .f32⟩
  | 32 => ⟨S_, .f32⟩
  | 33 => ⟨S2x256x4x64, .f32⟩
  | 34 => ⟨S2x256x4x64, .f32⟩
  | 35 => ⟨S2x256x4x64x1x1, .f32⟩
  | 36 => ⟨S2x256x4x64x8x64, .f32⟩
  | 37 => ⟨S2x256x4x64x8x64, .f32⟩
  | 38 => ⟨S2x256x4x64x8x64, .f32⟩
  | 39 => ⟨S_, .f32⟩
  | 40 => ⟨S2x256x4x64, .f32⟩
  | 41 => ⟨S2x256x4x64x1x1, .f32⟩
  | 42 => ⟨S2x256x4x64x8x64, .f32⟩
  | 43 => ⟨S2x256x4x64x8x64, .f32⟩
  | 44 => ⟨S2x256x4x128x64, .f32⟩
  | 45 => ⟨S2x256x64x4x128, .f32⟩
  | 46 => ⟨S2x16384x4x128, .f32⟩
  | 47 => ⟨S32768x512, .f32⟩
  | 48 => ⟨S40960x512, .f32⟩
  | 49 => ⟨S40960x512, .bf16⟩
  | _ => ⟨S40960x3584, .bf16⟩

abbrev hbmTy (i : Nat) : BufTy := match i / 128 with
  | 0 => hbmTy0_0 i
  | 1 => hbmTy0_1 i
  | 2 => hbmTy0_2 i
  | _ => ⟨S40960x3584, .bf16⟩

abbrev bufTy : (tb : Table) → Fin (tcTables nBuf tb) → BufTy
  | .hbm, ⟨i, _⟩ => hbmTy i
  | _, _ => ⟨S40960x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_c : Ref sig .tc := ⟨.hbm, 15, rfl⟩
abbrev main_v13 : Ref sig .tc := ⟨.hbm, 16, rfl⟩
abbrev main_v14 : Ref sig .tc := ⟨.hbm, 17, rfl⟩
abbrev main_c_0 : Ref sig .tc := ⟨.hbm, 18, rfl⟩
abbrev main_c_1 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_2 : Ref sig .tc := ⟨.hbm, 32, rfl⟩
abbrev main_v22 : Ref sig .tc := ⟨.hbm, 33, rfl⟩
abbrev main_v23 : Ref sig .tc := ⟨.hbm, 34, rfl⟩
abbrev main_c_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_6 : Ref sig .tc := ⟨.hbm, 55, rfl⟩
abbrev main_v40 : Ref sig .tc := ⟨.hbm, 56, rfl⟩
abbrev main_v41 : Ref sig .tc := ⟨.hbm, 57, rfl⟩
abbrev main_c_7 : Ref sig .tc := ⟨.hbm, 58, rfl⟩
abbrev main_c_8 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_9 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_10 : Ref sig .tc := ⟨.hbm, 85, rfl⟩
abbrev main_c_11 : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_v61 : Ref sig .tc := ⟨.hbm, 92, rfl⟩
abbrev main_c_12 : Ref sig .tc := ⟨.hbm, 93, rfl⟩
abbrev main_v62 : Ref sig .tc := ⟨.hbm, 94, rfl⟩
abbrev main_v63 : Ref sig .tc := ⟨.hbm, 95, rfl⟩
abbrev main_c_13 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_c_14 : Ref sig .tc := ⟨.hbm, 102, rfl⟩
abbrev main_v69 : Ref sig .tc := ⟨.hbm, 103, rfl⟩
abbrev main_v70 : Ref sig .tc := ⟨.hbm, 104, rfl⟩
abbrev main_c_15 : Ref sig .tc := ⟨.hbm, 105, rfl⟩
abbrev main_v71 : Ref sig .tc := ⟨.hbm, 106, rfl⟩
abbrev main_v72 : Ref sig .tc := ⟨.hbm, 107, rfl⟩
abbrev main_c_16 : Ref sig .tc := ⟨.hbm, 108, rfl⟩
abbrev main_v73 : Ref sig .tc := ⟨.hbm, 109, rfl⟩
abbrev main_v74 : Ref sig .tc := ⟨.hbm, 110, rfl⟩
abbrev main_c_17 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_c_18 : Ref sig .tc := ⟨.hbm, 117, rfl⟩
abbrev main_v80 : Ref sig .tc := ⟨.hbm, 118, rfl⟩
abbrev main_v81 : Ref sig .tc := ⟨.hbm, 119, rfl⟩
abbrev main_c_19 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_20 : Ref sig .tc := ⟨.hbm, 130, rfl⟩
abbrev main_call3_v0 : Ref sig .tc := ⟨.hbm, 131, rfl⟩
abbrev main_call3_v1 : Ref sig .tc := ⟨.hbm, 132, rfl⟩
abbrev main_call3_v2 : Ref sig .tc := ⟨.hbm, 133, rfl⟩
abbrev main_v91 : Ref sig .tc := ⟨.hbm, 134, rfl⟩
abbrev main_cst_21 : Ref sig .tc := ⟨.hbm, 135, rfl⟩
abbrev main_v92 : Ref sig .tc := ⟨.hbm, 136, rfl⟩
abbrev main_cst_22 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_cst_23 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_c_24 : Ref sig .tc := ⟨.hbm, 165, rfl⟩
abbrev main_v119 : Ref sig .tc := ⟨.hbm, 166, rfl⟩
abbrev main_v120 : Ref sig .tc := ⟨.hbm, 167, rfl⟩
abbrev main_c_25 : Ref sig .tc := ⟨.hbm, 168, rfl⟩
abbrev main_c_26 : Ref sig .tc := ⟨.hbm, 169, rfl⟩
abbrev main_call4_v0 : Ref sig .tc := ⟨.hbm, 170, rfl⟩
abbrev main_call4_v1 : Ref sig .tc := ⟨.hbm, 171, rfl⟩
abbrev main_call4_v2 : Ref sig .tc := ⟨.hbm, 172, rfl⟩
abbrev main_call4_v3 : Ref sig .tc := ⟨.hbm, 173, rfl⟩
abbrev main_call4_v4 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_c_27 : Ref sig .tc := ⟨.hbm, 182, rfl⟩
abbrev main_v128 : Ref sig .tc := ⟨.hbm, 183, rfl⟩
abbrev main_v129 : Ref sig .tc := ⟨.hbm, 184, rfl⟩
abbrev main_c_28 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_c_29 : Ref sig .tc := ⟨.hbm, 191, rfl⟩
abbrev main_v135 : Ref sig .tc := ⟨.hbm, 192, rfl⟩
abbrev main_v136 : Ref sig .tc := ⟨.hbm, 193, rfl⟩
abbrev main_c_30 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_cst_31 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_c_32 : Ref sig .tc := ⟨.hbm, 205, rfl⟩
abbrev main_v146 : Ref sig .tc := ⟨.hbm, 206, rfl⟩
abbrev main_v147 : Ref sig .tc := ⟨.hbm, 207, rfl⟩
abbrev main_c_33 : Ref sig .tc := ⟨.hbm, 208, rfl⟩
abbrev main_c_34 : Ref sig .tc := ⟨.hbm, 209, rfl⟩
abbrev main_call5_v0 : Ref sig .tc := ⟨.hbm, 210, rfl⟩
abbrev main_call5_v1 : Ref sig .tc := ⟨.hbm, 211, rfl⟩
abbrev main_call5_v2 : Ref sig .tc := ⟨.hbm, 212, rfl⟩
abbrev main_call5_v3 : Ref sig .tc := ⟨.hbm, 213, rfl⟩
abbrev main_call5_v4 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_c_35 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_v161 : Ref sig .tc := ⟨.hbm, 229, rfl⟩
abbrev main_v162 : Ref sig .tc := ⟨.hbm, 230, rfl⟩
abbrev main_v163 : Ref sig .tc := ⟨.hbm, 231, rfl⟩
abbrev main_v164 : Ref sig .tc := ⟨.hbm, 232, rfl⟩
abbrev main_v165 : Ref sig .tc := ⟨.hbm, 233, rfl⟩
abbrev main_v166 : Ref sig .tc := ⟨.hbm, 234, rfl⟩
abbrev main_c_36 : Ref sig .tc := ⟨.hbm, 235, rfl⟩
abbrev main_c_37 : Ref sig .tc := ⟨.hbm, 236, rfl⟩
abbrev main_call6_v0 : Ref sig .tc := ⟨.hbm, 237, rfl⟩
abbrev main_call6_v1 : Ref sig .tc := ⟨.hbm, 238, rfl⟩
abbrev main_call6_v2 : Ref sig .tc := ⟨.hbm, 239, rfl⟩
abbrev main_call6_v3 : Ref sig .tc := ⟨.hbm, 240, rfl⟩
abbrev main_call6_v4 : Ref sig .tc := ⟨.hbm, 241, rfl⟩
abbrev main_v167 : Ref sig .tc := ⟨.hbm, 242, rfl⟩
abbrev main_c_38 : Ref sig .tc := ⟨.hbm, 243, rfl⟩
abbrev main_v168 : Ref sig .tc := ⟨.hbm, 244, rfl⟩
abbrev main_v169 : Ref sig .tc := ⟨.hbm, 245, rfl⟩
abbrev main_c_39 : Ref sig .tc := ⟨.hbm, 246, rfl⟩
abbrev main_v170 : Ref sig .tc := ⟨.hbm, 247, rfl⟩
abbrev main_v171 : Ref sig .tc := ⟨.hbm, 248, rfl⟩
abbrev main_v172 : Ref sig .tc := ⟨.hbm, 249, rfl⟩
abbrev main_v173 : Ref sig .tc := ⟨.hbm, 250, rfl⟩
abbrev main_v174 : Ref sig .tc := ⟨.hbm, 251, rfl⟩
abbrev main_c_40 : Ref sig .tc := ⟨.hbm, 252, rfl⟩
abbrev main_v175 : Ref sig .tc := ⟨.hbm, 253, rfl⟩
abbrev main_v176 : Ref sig .tc := ⟨.hbm, 254, rfl⟩
abbrev main_c_41 : Ref sig .tc := ⟨.hbm, 255, rfl⟩
abbrev main_v177 : Ref sig .tc := ⟨.hbm, 256, rfl⟩
abbrev main_v178 : Ref sig .tc := ⟨.hbm, 257, rfl⟩
abbrev main_c_42 : Ref sig .tc := ⟨.hbm, 258, rfl⟩
abbrev main_v179 : Ref sig .tc := ⟨.hbm, 259, rfl⟩
abbrev main_v180 : Ref sig .tc := ⟨.hbm, 260, rfl⟩
abbrev main_c_43 : Ref sig .tc := ⟨.hbm, 261, rfl⟩
abbrev main_v181 : Ref sig .tc := ⟨.hbm, 262, rfl⟩
abbrev main_v182 : Ref sig .tc := ⟨.hbm, 263, rfl⟩
abbrev main_v183 : Ref sig .tc := ⟨.hbm, 264, rfl⟩
abbrev main_v184 : Ref sig .tc := ⟨.hbm, 265, rfl⟩
abbrev main_v185 : Ref sig .tc := ⟨.hbm, 266, rfl⟩
abbrev main_c_44 : Ref sig .tc := ⟨.hbm, 267, rfl⟩
abbrev main_v186 : Ref sig .tc := ⟨.hbm, 268, rfl⟩
abbrev main_v187 : Ref sig .tc := ⟨.hbm, 269, rfl⟩
abbrev main_c_45 : Ref sig .tc := ⟨.hbm, 270, rfl⟩
abbrev main_v188 : Ref sig .tc := ⟨.hbm, 271, rfl⟩
abbrev main_v189 : Ref sig .tc := ⟨.hbm, 272, rfl⟩
abbrev main_v190 : Ref sig .tc := ⟨.hbm, 273, rfl⟩
abbrev main_v191 : Ref sig .tc := ⟨.hbm, 274, rfl⟩
abbrev main_v192 : Ref sig .tc := ⟨.hbm, 275, rfl⟩
abbrev main_v193 : Ref sig .tc := ⟨.hbm, 276, rfl⟩
abbrev main_v194 : Ref sig .tc := ⟨.hbm, 277, rfl⟩
abbrev main_v195 : Ref sig .tc := ⟨.hbm, 278, rfl⟩
abbrev main_v196 : Ref sig .tc := ⟨.hbm, 279, rfl⟩
abbrev main_v197 : Ref sig .tc := ⟨.hbm, 280, rfl⟩
abbrev main_cst_46 : Ref sig .tc := ⟨.hbm, 281, rfl⟩
abbrev main_call7_v0 : Ref sig .tc := ⟨.hbm, 282, rfl⟩
abbrev main_call7_v1 : Ref sig .tc := ⟨.hbm, 283, rfl⟩
abbrev main_call7_v2 : Ref sig .tc := ⟨.hbm, 284, rfl⟩
abbrev main_v198 : Ref sig .tc := ⟨.hbm, 285, rfl⟩
abbrev main_cst_47 : Ref sig .tc := ⟨.hbm, 286, rfl⟩
abbrev main_v199 : Ref sig .tc := ⟨.hbm, 287, rfl⟩
abbrev main_cst_48 : Ref sig .tc := ⟨.hbm, 288, rfl⟩
abbrev main_v200 : Ref sig .tc := ⟨.hbm, 289, rfl⟩
abbrev main_v201 : Ref sig .tc := ⟨.hbm, 290, rfl⟩
abbrev main_v202 : Ref sig .tc := ⟨.hbm, 291, rfl⟩
abbrev main_v203 : Ref sig .tc := ⟨.hbm, 292, rfl⟩
abbrev main_v204 : Ref sig .tc := ⟨.hbm, 293, rfl⟩
abbrev main_v205 : Ref sig .tc := ⟨.hbm, 294, rfl⟩
abbrev main_cst_49 : Ref sig .tc := ⟨.hbm, 295, rfl⟩
abbrev main_v206 : Ref sig .tc := ⟨.hbm, 296, rfl⟩
abbrev main_v207 : Ref sig .tc := ⟨.hbm, 297, rfl⟩
abbrev main_v208 : Ref sig .tc := ⟨.hbm, 298, rfl⟩
abbrev main_v209 : Ref sig .tc := ⟨.hbm, 299, rfl⟩
abbrev main_v210 : Ref sig .tc := ⟨.hbm, 300, rfl⟩
abbrev main_v211 : Ref sig .tc := ⟨.hbm, 301, rfl⟩
abbrev main_v212 : Ref sig .tc := ⟨.hbm, 302, rfl⟩
abbrev main_v213 : Ref sig .tc := ⟨.hbm, 303, rfl⟩
abbrev main_v214 : Ref sig .tc := ⟨.hbm, 304, rfl⟩
abbrev main_v215 : Ref sig .tc := ⟨.hbm, 305, rfl⟩

abbrev nD : Nat := 1
abbrev τ : Topo := Topo.v7x

variable {F : FTy → Type} [FloatOps F]
-- ==== Proof.Norm.lean ====
/- The root-mean-square norm of one row of the residual stream, on the extended reals. -/
module

public import Idealize.ShloMosaic.Lib.Pointwise

@[expose] public section

set_option maxRecDepth 16384

noncomputable section

namespace Cert.Norm

open Idealize.ShloMosaic

/-- Entry `d` of a row of 2048 numbers after the norm: the entry over the root of the row's mean square plus the small
constant, times the gain. -/
def rms (x g : Fin 2048 → EReal) (d : Fin 2048) : EReal :=
  x d * Ideal.rsqrt (Ideal.div (∑ k : Fin 2048, x k * x k) (Ideal.ofBits .f32 0x45000000#32) + Ideal.ofBits .f32 0x358637BD#32) * g d

/-- The pattern of minus infinity is the bottom element. -/
theorem negInf : Ideal.ofBits .f32 0xFF800000#32 = ⊥ := by simp [Ideal.ofBits, Ideal.ieee]

end Cert.Norm

end
-- ==== Proof.SwaRow.lean ====
/- Windowed attention of one block of queries, on the extended reals: the scores of a window of three blocks of keys, masked
   outside the window's band and outside the sequence, the softmax with a sink, and the weighted sum of the values. -/
module

public import Idealize.ShloMosaic.Lib.Pointwise

@[expose] public section

set_option maxRecDepth 16384

noncomputable section

namespace Cert.SwaRow

open Idealize.ShloMosaic

/-! ## The distance of a key from a query -/

/-- The distance word of window column `j` from query row `a`. -/
def gap (a : Fin 128) (j : Fin 384) : BitVec 32 :=
  IntOp.absi (IntOp.subi (IntOp.subi (BitVec.ofNat 32 j.val) 128#32) (BitVec.ofNat 32 a.val))

/-- Column `j` is at most 128 positions from row `a`. -/
def Near (a : Fin 128) (j : Fin 384) : Prop := a.val ≤ j.val ∧ j.val ≤ a.val + 256

/-- A small number's word is the number. -/
theorem toInt_small (n : ℕ) (h : n < 2147483648) : (BitVec.ofNat 32 n).toInt = n := by
  have e : (BitVec.ofNat 32 n).toNat = n := by
    rw [BitVec.toNat_ofNat]
    exact Nat.mod_eq_of_lt (by omega)
  rw [BitVec.toInt_eq_toNat_cond, e, if_pos (by omega)]

/-- The distance word, as a number. -/
theorem gap_toInt (a : Fin 128) (j : Fin 384) : (gap a j).toInt = |(j.val : ℤ) - 128 - a.val| := by
  have ha := a.isLt
  have hj := j.isLt
  have e : (IntOp.subi (IntOp.subi (BitVec.ofNat 32 j.val) 128#32) (BitVec.ofNat 32 a.val)).toInt = (j.val : ℤ) - 128 - a.val := by
    simp only [IntOp.subi, BitVec.toInt_sub, toInt_small j.val (by omega), toInt_small a.val (by omega),
      show (128#32 : BitVec 32).toInt = 128 from rfl]
    simp only [Int.bmod_def]
    omega
  unfold gap IntOp.absi
  by_cases h : (j.val : ℤ) - 128 - a.val < 0
  · rw [if_pos (by rw [BitVec.msb_eq_toInt, e]; exact decide_eq_true h), BitVec.toInt_neg, e, abs_of_neg h]
    simp only [Int.bmod_def]
    omega
  · rw [if_neg (by rw [BitVec.msb_eq_toInt, e]; simpa using h), e, abs_of_nonneg (by omega)]

/-- The band, as the compare of distance words has it. -/
theorem near_word (a : Fin 128) (j : Fin 384) : IntOp.cmpi .sle (gap a j) 128#32 = 1#1 ↔ Near a j := by
  have ha := a.isLt
  have hj := j.isLt
  have h : ((gap a j).sle 128#32 = true) ↔ Near a j := by
    rw [BitVec.sle_iff_toInt_le, gap_toInt]
    unfold Near
    rw [show (128#32 : BitVec 32).toInt = 128 from rfl, abs_le]
    omega
  rw [← h]
  show BitVec.ofBool ((gap a j).sle 128#32) = 1#1 ↔ _
  generalize (gap a j).sle 128#32 = b
  revert b
  decide

/-- The signed compares of words, as compares of numbers. -/
theorem sle_iff (x y : BitVec 32) : IntOp.cmpi .sle x y = 1#1 ↔ x.toInt ≤ y.toInt := by
  rw [← BitVec.sle_iff_toInt_le]
  show BitVec.ofBool (x.sle y) = 1#1 ↔ _
  generalize x.sle y = b
  revert b
  decide

/-- The signed compares of words, as compares of numbers. -/
theorem sge_iff (x y : BitVec 32) : IntOp.cmpi .sge x y = 1#1 ↔ y.toInt ≤ x.toInt := by
  rw [← BitVec.sle_iff_toInt_le]
  show BitVec.ofBool (y.sle x) = 1#1 ↔ _
  generalize y.sle x = b
  revert b
  decide

/-- The signed compares of words, as compares of numbers. -/
theorem slt_iff (x y : BitVec 32) : IntOp.cmpi .slt x y = 1#1 ↔ x.toInt < y.toInt := by
  rw [← BitVec.slt_iff_toInt_lt]
  show BitVec.ofBool (x.slt y) = 1#1 ↔ _
  generalize x.slt y = b
  revert b
  decide

/-- A conjunction of bits. -/
theorem andi_iff (x y : BitVec 1) : IntOp.andi x y = 1#1 ↔ x = 1#1 ∧ y = 1#1 := by
  revert x y
  decide

/-- A disjunction of bits. -/
theorem ori_iff (x y : BitVec 1) : IntOp.ori x y = 1#1 ↔ x = 1#1 ∨ y = 1#1 := by
  revert x y
  decide

/-- The position word of column `j` in block `t` of a sequence, as a number. -/
theorem place_toInt (t j : ℕ) (ht : t < 128) (hj : j < 384) :
    (IntOp.addi (IntOp.subi (IntOp.muli (BitVec.ofNat 32 t) 128#32) 128#32) (BitVec.ofNat 32 j)).toInt = (t : ℤ) * 128 - 128 + j := by
  simp only [IntOp.subi, IntOp.addi, IntOp.muli, BitVec.toInt_sub, BitVec.toInt_add, BitVec.toInt_mul, toInt_small t (by omega),
    toInt_small j (by omega), show (128#32 : BitVec 32).toInt = 128 from rfl]
  simp only [Int.bmod_def]
  omega

/-! ## The bias -/

/-- The slope of query head `n`. -/
def slope (n : ℕ) : EReal :=
  Ideal.exp (Ideal.ofBits .f32 1060205080#32 * -(1 + FloatOps.sitofp (F := Ideal) .f32 (BitVec.ofNat 32 n)))

/-- The bias of head `n` at row `a` and column `j`. -/
def bias (n : ℕ) (a : Fin 128) (j : Fin 384) : EReal := slope n * FloatOps.sitofp (F := Ideal) .f32 (gap a j)

/-- An exponential isn't negative. -/
theorem exp_nonneg (x : EReal) : 0 ≤ Ideal.exp x := by
  induction x with
  | bot => exact le_refl _
  | top => exact le_top
  | coe r => exact EReal.coe_nonneg.2 (Real.exp_pos r).le

/-! ## The attention of one row -/

/-- The softmax of the scores `s` with the sink `sk`, weighting the values `v`. -/
def attend (s : Fin 384 → EReal) (sk : EReal) (v : Fin 384 → EReal) : EReal :=
  ∑ j : Fin 384, Ideal.div (Ideal.exp (s j - max (Finset.univ.fold max ⊥ s) sk))
    ((∑ k : Fin 384, Ideal.exp (s k - max (Finset.univ.fold max ⊥ s) sk)) + Ideal.exp (sk - max (Finset.univ.fold max ⊥ s) sk)) * v j

/-- A sum with a summand −∞ is −∞. -/
theorem sum_bot {n : ℕ} (f : Fin n → EReal) (i : Fin n) (h : f i = ⊥) : ∑ j, f j = ⊥ := by
  rw [← Finset.add_sum_erase Finset.univ f (Finset.mem_univ i), h, EReal.bot_add]

/-- A sum of numbers that aren't negative with a summand +∞ is +∞. -/
theorem sum_top {n : ℕ} (f : Fin n → EReal) (i : Fin n) (h : f i = ⊤) (hf : ∀ j, 0 ≤ f j) : ∑ j, f j = ⊤ := by
  rw [← Finset.add_sum_erase Finset.univ f (Finset.mem_univ i), h]
  exact EReal.top_add_of_ne_bot (lt_of_lt_of_le EReal.bot_lt_zero (Finset.sum_nonneg fun j _ => hf j)).ne'

/-- Sums of infinities and zeros agree where each summand is the other's, or the other's is zero and it is another of the
other's summands. -/
theorem sum_same {n : ℕ} (f g : Fin n → EReal) (hg : ∀ j, g j = ⊥ ∨ g j = 0 ∨ g j = ⊤)
    (h : ∀ j, f j = g j ∨ (g j = 0 ∧ ∃ i, f j = g i)) : ∑ j, f j = ∑ j, g j := by
  have hfg : ∀ j, ∃ i, f j = g i := fun j => (h j).elim (fun e => ⟨j, e⟩) fun e => e.2
  by_cases hb : ∃ i, g i = ⊥
  · obtain ⟨i, hi⟩ := hb
    rw [sum_bot g i hi]
    refine sum_bot f i ?_
    rcases h i with e | e
    · rw [e, hi]
    · exact absurd (hi.symm.trans e.1) EReal.bot_ne_zero
  · have hn : ∀ j, 0 ≤ g j := fun j => by
      rcases hg j with e | e | e
      · exact absurd ⟨j, e⟩ hb
      · exact e.ge
      · rw [e]
        exact le_top
    have hf : ∀ j, 0 ≤ f j := fun j => by
      obtain ⟨i, e⟩ := hfg j
      rw [e]
      exact hn i
    by_cases ht : ∃ i, g i = ⊤
    · obtain ⟨i, hi⟩ := ht
      rw [sum_top g i hi hn]
      refine sum_top f i ?_ hf
      rcases h i with e | e
      · rw [e, hi]
      · exact absurd (hi.symm.trans e.1) EReal.top_ne_zero
    · have hz : ∀ j, g j = 0 := fun j => by
        rcases hg j with e | e | e
        · exact absurd ⟨j, e⟩ hb
        · exact e
        · exact absurd ⟨j, e⟩ ht
      rw [Finset.sum_eq_zero fun j _ => hz j]
      refine Finset.sum_eq_zero fun j _ => ?_
      obtain ⟨i, e⟩ := hfg j
      rw [e, hz i]

/-- −∞ times a number is an infinity or zero. -/
theorem bot_times (x : EReal) : (⊥ : EReal) * x = ⊥ ∨ (⊥ : EReal) * x = 0 ∨ (⊥ : EReal) * x = ⊤ := by
  rcases lt_trichotomy x 0 with e | e | e
  · exact Or.inr (Or.inr (EReal.bot_mul_of_neg e))
  · exact Or.inr (Or.inl (by rw [e, mul_zero]))
  · exact Or.inl (EReal.bot_mul_of_pos e)

/-- A value whose score is −∞ can be zero in place of a copy of another value: off the degenerate rows it doesn't count, and
on them, whose weights are all −∞, a copy changes nothing. -/
theorem attend_same (s : Fin 384 → EReal) (sk : EReal) (v w : Fin 384 → EReal)
    (h : ∀ j, v j = w j ∨ (s j = ⊥ ∧ w j = 0 ∧ ∃ i, v j = w i)) : attend s sk v = attend s sk w := by
  unfold attend
  generalize max (Finset.univ.fold max ⊥ s) sk = M
  by_cases hden : (∑ k : Fin 384, Ideal.exp (s k - M)) + Ideal.exp (sk - M) = 0
  · have h0 : (∑ k : Fin 384, Ideal.exp (s k - M)) = 0 :=
      le_antisymm (hden ▸ le_add_of_nonneg_right (exp_nonneg _)) (Finset.sum_nonneg fun k _ => exp_nonneg _)
    have he : ∀ j, Ideal.exp (s j - M) = 0 := fun j =>
      (Finset.sum_eq_zero_iff_of_nonneg fun k _ => exp_nonneg _).1 h0 j (Finset.mem_univ j)
    have hd : Ideal.div 0 0 = ⊥ := by
      unfold Ideal.div
      rw [if_pos rfl, if_neg (lt_irrefl _)]
    rw [hden]
    simp only [he, hd]
    refine sum_same _ _ (fun j => bot_times _) fun j => ?_
    rcases h j with e | ⟨_, e, i, ei⟩
    · exact Or.inl (by rw [e])
    · exact Or.inr ⟨by rw [e, mul_zero], i, by rw [ei]⟩
  · refine Finset.sum_congr rfl fun j _ => ?_
    rcases h j with e | ⟨e, _⟩
    · rw [e]
    · have e0 : Ideal.exp (s j - M) = 0 := by
        rw [e, sub_eq_add_neg, EReal.bot_add]
        rfl
      rw [e0]
      unfold Ideal.div
      rw [if_neg hden, zero_mul, zero_mul, zero_mul]

/-! ## The layer's attention -/

/-- Column `j` of block `T`'s window lies in the block's own sequence. -/
def Inside (T : Fin 320) (j : Fin 384) : Prop :=
  ¬((T.val = 0 ∨ T.val = 64 ∨ T.val = 192) ∧ j.val < 128) ∧ ¬((T.val = 63 ∨ T.val = 191 ∨ T.val = 319) ∧ 256 ≤ j.val)

instance (a : Fin 128) (j : Fin 384) : Decidable (Near a j) := by unfold Near; infer_instance
instance (T : Fin 320) (j : Fin 384) : Decidable (Inside T j) := by unfold Inside; infer_instance

/-- The row that column `j` of block `T`'s window reads. -/
def source (T : Fin 320) (j : Fin 384) : Fin 40960 := ⟨min (T.val * 128 + j.val - 128) 40959, by omega⟩

/-- The scale of the scores. -/
def scale : EReal := Ideal.ofBits .f32 1035273459#32

variable (z : Fin 40960 → Fin 3584 → EReal) (sink : Fin 8 → EReal)

/-- The product of the query of row `a`, head `4g + h`, with the key of column `j`. -/
def dot (T : Fin 320) (g : Fin 2) (h : Fin 4) (a : Fin 128) (j : Fin 384) : EReal :=
  ∑ d : Fin 128, z ⟨T.val * 128 + a.val, by omega⟩ ⟨2048 + (g.val * 512 + h.val * 128 + d.val), by omega⟩
    * z (source T j) ⟨3072 + (g.val * 128 + d.val), by omega⟩

/-- The masked score. -/
def score (T : Fin 320) (g : Fin 2) (h : Fin 4) (a : Fin 128) (j : Fin 384) : EReal :=
  if Near a j ∧ Inside T j then dot z T g h a j * scale - bias (g.val * 4 + h.val) a j else ⊥

/-- The value of column `j`, zero outside the sequence. -/
def value (T : Fin 320) (g : Fin 2) (d : Fin 128) (j : Fin 384) : EReal :=
  if Inside T j then z (source T j) ⟨3328 + (g.val * 128 + d.val), by omega⟩ else 0

/-- The attention of row `a`, head `4g + h`, channel `d`. -/
def attended (T : Fin 320) (g : Fin 2) (h : Fin 4) (a : Fin 128) (d : Fin 128) : EReal :=
  attend (score z T g h a) (sink ⟨g.val * 4 + h.val, by omega⟩) (value z T g d)

/-- The attention's results by row and column. -/
def entry (z : Fin 40960 → Fin 3584 → EReal) (sink : Fin 8 → EReal) (r : Fin 40960) (k : Fin 1024) : EReal :=
  attended z sink ⟨r.val / 128, by omega⟩ ⟨k.val / 512, by omega⟩ ⟨k.val / 128 % 4, by omega⟩ ⟨r.val % 128, by omega⟩ ⟨k.val % 128, by omega⟩

/-- Where the values are the layer's inside the sequence, and copies of the block's own rows outside, so is the attention. -/
theorem attended_eq (T : Fin 320) (g : Fin 2) (h : Fin 4) (a d : Fin 128) (v : Fin 384 → EReal)
    (hv : ∀ j, Inside T j → v j = z (source T j) ⟨3328 + (g.val * 128 + d.val), by omega⟩)
    (hc : ∀ j, ¬Inside T j → v j = v ⟨128 + j.val % 128, by omega⟩) :
    attend (score z T g h a) (sink ⟨g.val * 4 + h.val, by omega⟩) v = attended z sink T g h a d := by
  refine attend_same _ _ _ _ fun j => ?_
  by_cases hj : Inside T j
  · refine Or.inl ?_
    unfold value
    rw [if_pos hj, hv j hj]
  · refine Or.inr ⟨if_neg fun e => hj e.2, if_neg hj, ⟨128 + j.val % 128, by omega⟩, ?_⟩
    have hi : Inside T ⟨128 + j.val % 128, by omega⟩ := by
      unfold Inside
      dsimp only
      omega
    unfold value
    rw [if_pos hi, hc j hj, hv _ hi]

end Cert.SwaRow

end
-- ==== Proof.SwaPayload.lean ====
/- The windowed attention's payloads, read at an index. -/
module

public import proofs.«01_k».proof.Proof.Norm
public import proofs.«01_k».proof.Proof.SwaRow
public import proofs.«01_k».proof.Proof.Gen.SwaIdeal.Value
public import Idealize.ShloMosaic.Lib.Pipeline.ValueKit
public import Idealize.ShloMosaic.Lib.Pointwise

@[expose] public section

set_option maxRecDepth 16384

noncomputable section

namespace Cert.SwaIdeal.Row

open Cert.SwaIdeal.Gen Cert.SwaRow
open Idealize.ShloMosaic Idealize.ShloMosaic.TcCoe

/-! ## Blocks put together -/

/-- Column `k` of row `j` of three blocks one under another. -/
def under (x0 x1 x2 : FVec Ideal S128x256 .bf16) (j : Fin 384) (k : Fin 256) : EReal :=
  if h : j.val < 128 then x0 (ix2 ⟨j.val, h⟩ k) else if h' : j.val - 128 < 128 then x1 (ix2 ⟨j.val - 128, h'⟩ k)
  else x2 (ix2 ⟨j.val - 128 - 128, by omega⟩ k)

/-- The queries of the first value head's four query heads, one under another. -/
theorem stack0 (x : FVec Ideal S128x1024 .bf16) (h : Fin 4) (a d : Fin 128) :
    concatenate S512x128 0 [⟨S128x128, extractStridedSlice S128x128 ![0, 0] x slices_S128x1024_o0_0_S128x128⟩, ⟨S128x128, extractStridedSlice S128x128 ![0, 128] x slices_S128x1024_o0_128_S128x128⟩, ⟨S128x128, extractStridedSlice S128x128 ![0, 256] x slices_S128x1024_o0_256_S128x128⟩, ⟨S128x128, extractStridedSlice S128x128 ![0, 384] x slices_S128x1024_o0_384_S128x128⟩] concatenates_S128x128_S128x128_S128x128_S128x128_S512x128_d0 (ix2 (⟨h.val * 128 + a.val, by omega⟩ : Fin 512) d)
      = x (ix2 a (⟨0 + (h.val * 128 + d.val), by omega⟩ : Fin 1024)) := by
  pointwise
  split_ifs
  all_goals
    refine congrArg x (congrArg₂ ix2 (Fin.ext ?_) (Fin.ext ?_)) <;> dsimp only <;> omega

/-- The queries of the second value head's four query heads, one under another. -/
theorem stack1 (x : FVec Ideal S128x1024 .bf16) (h : Fin 4) (a d : Fin 128) :
    concatenate S512x128 0 [⟨S128x128, extractStridedSlice S128x128 ![0, 512] x slices_S128x1024_o0_512_S128x128⟩, ⟨S128x128, extractStridedSlice S128x128 ![0, 640] x slices_S128x1024_o0_640_S128x128⟩, ⟨S128x128, extractStridedSlice S128x128 ![0, 768] x slices_S128x1024_o0_768_S128x128⟩, ⟨S128x128, extractStridedSlice S128x128 ![0, 896] x slices_S128x1024_o0_896_S128x128⟩] concatenates_S128x128_S128x128_S128x128_S128x128_S512x128_d0 (ix2 (⟨h.val * 128 + a.val, by omega⟩ : Fin 512) d)
      = x (ix2 a (⟨512 + (h.val * 128 + d.val), by omega⟩ : Fin 1024)) := by
  pointwise
  split_ifs
  all_goals
    refine congrArg x (congrArg₂ ix2 (Fin.ext ?_) (Fin.ext ?_)) <;> dsimp only <;> omega

/-- Three blocks of the first head, one under another. -/
theorem three0 (x0 x1 x2 : FVec Ideal S128x256 .bf16) (j : Fin 384) (d : Fin 128) :
    concatenate S384x128 0 [⟨S128x128, extractStridedSlice S128x128 ![0, 0] x0 slices_S128x256_o0_0_S128x128⟩, ⟨S128x128, extractStridedSlice S128x128 ![0, 0] x1 slices_S128x256_o0_0_S128x128⟩, ⟨S128x128, extractStridedSlice S128x128 ![0, 0] x2 slices_S128x256_o0_0_S128x128⟩] concatenates_S128x128_S128x128_S128x128_S384x128_d0 (ix2 j d) = under x0 x1 x2 j (⟨0 + d.val, by omega⟩ : Fin 256) := by
  pointwise [under]

/-- Three blocks of the second head, one under another. -/
theorem three1 (x0 x1 x2 : FVec Ideal S128x256 .bf16) (j : Fin 384) (d : Fin 128) :
    concatenate S384x128 0 [⟨S128x128, extractStridedSlice S128x128 ![0, 128] x0 slices_S128x256_o0_128_S128x128⟩, ⟨S128x128, extractStridedSlice S128x128 ![0, 128] x1 slices_S128x256_o0_128_S128x128⟩, ⟨S128x128, extractStridedSlice S128x128 ![0, 128] x2 slices_S128x256_o0_128_S128x128⟩] concatenates_S128x128_S128x128_S128x128_S384x128_d0 (ix2 j d) = under x0 x1 x2 j (⟨128 + d.val, by omega⟩ : Fin 256) := by
  pointwise [under]

/-- The eight heads' results, side by side. -/
theorem tiles (y0 y1 : FVec Ideal S512x128 .bf16) (a : Fin 128) (k : Fin 1024) :
    concatenate S128x1024 1 [⟨S128x128, extractStridedSlice S128x128 ![0, 0] y0 slices_S512x128_o0_0_S128x128⟩, ⟨S128x128, extractStridedSlice S128x128 ![128, 0] y0 slices_S512x128_o128_0_S128x128⟩, ⟨S128x128, extractStridedSlice S128x128 ![256, 0] y0 slices_S512x128_o256_0_S128x128⟩, ⟨S128x128, extractStridedSlice S128x128 ![384, 0] y0 slices_S512x128_o384_0_S128x128⟩, ⟨S128x128, extractStridedSlice S128x128 ![0, 0] y1 slices_S512x128_o0_0_S128x128⟩, ⟨S128x128, extractStridedSlice S128x128 ![128, 0] y1 slices_S512x128_o128_0_S128x128⟩, ⟨S128x128, extractStridedSlice S128x128 ![256, 0] y1 slices_S512x128_o256_0_S128x128⟩, ⟨S128x128, extractStridedSlice S128x128 ![384, 0] y1 slices_S512x128_o384_0_S128x128⟩] concatenates_S128x128_S128x128_S128x128_S128x128_S128x128_S128x128_S128x128_S128x128_S128x1024_d1 (ix2 a k)
      = (if k.val / 512 = 0 then y0 else y1) (ix2 (⟨k.val / 128 % 4 * 128 + a.val, by omega⟩ : Fin 512) (⟨k.val % 128, by omega⟩ : Fin 128)) := by
  pointwise
  split_ifs
  all_goals first
    | (rw [if_pos (show k.val / 512 = 0 by omega)]; refine congrArg y0 (congrArg₂ ix2 (Fin.ext ?_) (Fin.ext ?_)) <;> first | omega | (dsimp only; omega))
    | (rw [if_neg (show ¬k.val / 512 = 0 by omega)]; refine congrArg y1 (congrArg₂ ix2 (Fin.ext ?_) (Fin.ext ?_)) <;> first | omega | (dsimp only; omega))

/-! ## The softmax -/

/-- The masked columns of a block at the sequence's edge. -/
def Edge (v4 v9 : BitVec 1) (j : Fin 384) : Prop := (v4 = 1#1 ∧ j.val < 128) ∨ (v9 = 1#1 ∧ 256 ≤ j.val)

open Classical in
/-- The masked scores. -/
theorem masked (v4 v9 : BitVec 1) (s : FVec Ideal S512x384 .f32) (p : Vec Ideal S1x512x384 .f32) (r : Fin 512) (j : Fin 384) :
    (select (ori (andi (broadcast S512x384 v4) (cmpi .slt (iota .tc S512x384 32 [1] iota_S512x384_d1_w32) (broadcast S512x384 128#32))) (andi (broadcast S512x384 v9) (cmpi .sge (iota .tc S512x384 32 [1] iota_S512x384_d1_w32) (broadcast S512x384 256#32)))) (broadcast S512x384 (Named.named κ "mask" 0xF149F2CA#32)) (subf s (shapeCast S512x384 p shapeCasts_S1x512x384_S512x384))) (ix2 r j) = if Edge v4 v9 j then (⊥ : EReal) else s (ix2 r j) - p (ix3 0 r j) := by
  pointwise
  have hj := j.isLt
  have e : IntOp.ori (IntOp.andi v4 (IntOp.cmpi .slt (BitVec.ofNat 32 j.val) 128#32)) (IntOp.andi v9 (IntOp.cmpi .sge (BitVec.ofNat 32 j.val) 256#32)) = 1#1 ↔ Edge v4 v9 j := by
    rw [ori_iff, andi_iff, andi_iff, slt_iff, sge_iff, toInt_small j.val (by omega), show (128#32 : BitVec 32).toInt = 128 from rfl,
      show (256#32 : BitVec 32).toInt = 256 from rfl]
    exact or_congr (and_congr Iff.rfl (by omega)) (and_congr Iff.rfl (by omega))
  by_cases h : Edge v4 v9 j
  · exact (if_pos (e.2 h)).trans (if_pos h).symm
  · exact (if_neg fun q => h (e.1 q)).trans (if_neg h).symm

/-- The greatest score of a row. -/
theorem greatest (s : FVec Ideal S512x384 .f32) (r : Fin 512) :
    (multiReduction .maximumf [1] S512 s 0xFF800000#32 reduces_S512x384_S512 (.inl rfl) rfl : FVec Ideal S512 .f32) (ix1 r) = Finset.univ.fold max ⊥ fun j : Fin 384 => s (ix2 r j) := by
  refine Eq.trans (b := Finset.univ.fold max (FloatOps.ofBits .f32 0xFF800000#32) fun j : Fin 384 => s (ix2 r j)) ?_
    (congrArg (fun y => Finset.univ.fold max y fun j : Fin 384 => s (ix2 r j)) Cert.Norm.negInf)
  pointwise

/-- The greater of a maximum and the sink. -/
theorem raised (top : FVec Ideal S512 .f32) (sk : Vec Ideal S1x512x1 .f32) (r : Fin 512) :
    (maximumf (shapeCast S512x1 top shapeCasts_S512_S512x1) (shapeCast S512x1 sk shapeCasts_S1x512x1_S512x1) : FVec Ideal S512x1 .f32) (ix2 r 0) = max (top (ix1 r)) (sk (ix3 0 r 0)) := by
  pointwise

/-- The softmax's numerators. -/
theorem numerators (s : FVec Ideal S512x384 .f32) (top : FVec Ideal S512x1 .f32) (r : Fin 512) (j : Fin 384) :
    (exp (subf s (broadcastTo S512x384 top broadcasts_S512x1_S512x384)) : FVec Ideal S512x384 .f32) (ix2 r j) = Ideal.exp (s (ix2 r j) - top (ix2 r 0)) := by
  pointwise

/-- The weighted sum of the values. -/
theorem weighted (e : FVec Ideal S512x384 .f32) (top : FVec Ideal S512x1 .f32) (sk : Vec Ideal S1x512x1 .f32) (v : FVec Ideal S384x128 .bf16) (r : Fin 512) (d : Fin 128) :
    (truncf .bf16 (matmul dot_S512x384_S384x128_S512x128_1_0_0_1_n_n none (truncf .bf16 (divf e (broadcastTo S512x384 (addf (shapeCast S512x1 (multiReduction .add [1] S512 e 0x00000000#32 reduces_S512x384_S512 (.inl rfl) rfl) shapeCasts_S512_S512x1) (exp (subf (shapeCast S512x1 sk shapeCasts_S1x512x1_S512x1) top))) broadcasts_S512x1_S512x384)) bitsLt_bf16_f32) v (constant S512x128 .f32 0x00000000#32)) bitsLt_bf16_f32 : FVec Ideal S512x128 .bf16) (ix2 r d)
      = ∑ j : Fin 384, Ideal.div (e (ix2 r j)) ((∑ k : Fin 384, e (ix2 r k)) + Ideal.exp (sk (ix3 0 r 0) - top (ix2 r 0))) * v (ix2 j d) := by
  pointwise

/-- The softmax of any scores, against the values. -/
theorem soft (s : FVec Ideal S512x384 .f32) (sk : Vec Ideal S1x512x1 .f32) (v : FVec Ideal S384x128 .bf16) (r : Fin 512) (d : Fin 128) :
    (truncf .bf16 (matmul dot_S512x384_S384x128_S512x128_1_0_0_1_n_n none (truncf .bf16 (divf (exp (subf s (broadcastTo S512x384 (maximumf (shapeCast S512x1 (multiReduction .maximumf [1] S512 s 0xFF800000#32 reduces_S512x384_S512 (.inl rfl) rfl) shapeCasts_S512_S512x1) (shapeCast S512x1 sk shapeCasts_S1x512x1_S512x1)) broadcasts_S512x1_S512x384))) (broadcastTo S512x384 (addf (shapeCast S512x1 (multiReduction .add [1] S512 (exp (subf s (broadcastTo S512x384 (maximumf (shapeCast S512x1 (multiReduction .maximumf [1] S512 s 0xFF800000#32 reduces_S512x384_S512 (.inl rfl) rfl) shapeCasts_S512_S512x1) (shapeCast S512x1 sk shapeCasts_S1x512x1_S512x1)) broadcasts_S512x1_S512x384))) 0x00000000#32 reduces_S512x384_S512 (.inl rfl) rfl) shapeCasts_S512_S512x1) (exp (subf (shapeCast S512x1 sk shapeCasts_S1x512x1_S512x1) (maximumf (shapeCast S512x1 (multiReduction .maximumf [1] S512 s 0xFF800000#32 reduces_S512x384_S512 (.inl rfl) rfl) shapeCasts_S512_S512x1) (shapeCast S512x1 sk shapeCasts_S1x512x1_S512x1))))) broadcasts_S512x1_S512x384)) bitsLt_bf16_f32) v (constant S512x128 .f32 0x00000000#32)) bitsLt_bf16_f32 : FVec Ideal S512x128 .bf16) (ix2 r d)
      = attend (fun j => s (ix2 r j)) (sk (ix3 0 r 0)) (fun j => v (ix2 j d)) := by
  refine (weighted _ _ sk v r d).trans ?_
  have ht := (raised (multiReduction .maximumf [1] S512 s 0xFF800000#32 reduces_S512x384_S512 (.inl rfl) rfl) sk r).trans (congrArg (fun y => max y (sk (ix3 0 r 0))) (greatest s r))
  have hn : ∀ j : Fin 384, (exp (subf s (broadcastTo S512x384 (maximumf (shapeCast S512x1 (multiReduction .maximumf [1] S512 s 0xFF800000#32 reduces_S512x384_S512 (.inl rfl) rfl) shapeCasts_S512_S512x1) (shapeCast S512x1 sk shapeCasts_S1x512x1_S512x1)) broadcasts_S512x1_S512x384)) : FVec Ideal S512x384 .f32) (ix2 r j)
      = Ideal.exp (s (ix2 r j) - max (Finset.univ.fold max ⊥ fun j : Fin 384 => s (ix2 r j)) (sk (ix3 0 r 0))) := fun j =>
    (numerators s _ r j).trans (congrArg (fun y => Ideal.exp (s (ix2 r j) - y)) ht)
  refine Finset.sum_congr rfl fun j _ => ?_
  rw [ht, hn j, Finset.sum_congr rfl fun k _ => hn k]

open Classical in
/-- A value head's results. -/
theorem pay3_apply (v4 v9 : BitVec 1) (v : FVec Ideal S384x128 .bf16) (s : FVec Ideal S512x384 .f32) (p : Vec Ideal S1x512x384 .f32)
    (sk : Vec Ideal S1x512x1 .f32) (r : Fin 512) (d : Fin 128) :
    k0_pay3 (F := Ideal) v4 v9 v s p sk (ix2 r d)
      = attend (fun j => if Edge v4 v9 j then (⊥ : EReal) else s (ix2 r j) - p (ix3 0 r j)) (sk (ix3 0 r 0)) (fun j => v (ix2 j d)) := by
  unfold k0_pay3
  refine (soft _ sk v r d).trans ?_
  exact congrArg (fun f => attend f (sk (ix3 0 r 0)) (fun j => v (ix2 j d))) (funext fun j => masked v4 v9 s p r j)

/-! ## The block's results -/

/-- The scaled products of queries and keys. -/
theorem scaled (q : FVec Ideal S512x128 .bf16) (k : FVec Ideal S384x128 .bf16) (r : Fin 512) (j : Fin 384) :
    (mulf (matmul dot_S512x128_S384x128_S512x384_1_1_0_0_n_n none q k (constant S512x384 .f32 0x00000000#32)) (broadcast S512x384 (Scalar.ofBits .f32 0x3DB504F3#32)) : FVec Ideal S512x384 .f32) (ix2 r j)
      = (∑ d : Fin 128, q (ix2 r d) * k (ix2 j d)) * scale := by
  pointwise [scale]

section
variable (v4 v9 : BitVec 1) (x0 : Vec Ideal S128x1024 .bf16) (x1 x2 x3 x4 x5 x6 : Vec Ideal S128x256 .bf16)
  (x7 : Vec Ideal S2x512x384 .f32) (x8 : Vec Ideal S2x512x1 .f32)

open Classical in
/-- Head `h` of value head `g`, from the blocks. -/
def headOf (g : Fin 2) (h : Fin 4) (a d : Fin 128) : EReal :=
  attend (fun j => if Edge v4 v9 j then (⊥ : EReal)
      else (∑ e : Fin 128, x0 (ix2 a (⟨g.val * 512 + (h.val * 128 + e.val), by omega⟩ : Fin 1024)) * under x1 x2 x3 j (⟨g.val * 128 + e.val, by omega⟩ : Fin 256)) * scale
        - x7 (ix3 g (⟨h.val * 128 + a.val, by omega⟩ : Fin 512) j))
    (x8 (ix3 g (⟨h.val * 128 + a.val, by omega⟩ : Fin 512) 0)) (fun j => under x4 x5 x6 j (⟨g.val * 128 + d.val, by omega⟩ : Fin 256))

/-- The first value head's penalties. -/
theorem load7_0 (r : Fin 512) (j : Fin 384) : View.ld x7 (Rect.unit ![0, 0, 0] ![1, 512, 384] inb_S2x512x384_S1x512x384_0_0_0) (ix3 0 r j) = x7 (ix3 0 r j) := by
  pointwise

/-- The second value head's penalties. -/
theorem load7_1 (r : Fin 512) (j : Fin 384) : View.ld x7 (Rect.unit ![1, 0, 0] ![1, 512, 384] inb_S2x512x384_S1x512x384_1_0_0) (ix3 0 r j) = x7 (ix3 1 r j) := by
  pointwise

/-- The first value head's sinks. -/
theorem load8_0 (r : Fin 512) : View.ld x8 (Rect.unit ![0, 0, 0] ![1, 512, 1] inb_S2x512x1_S1x512x1_0_0_0) (ix3 0 r 0) = x8 (ix3 0 r 0) := by
  pointwise

/-- The second value head's sinks. -/
theorem load8_1 (r : Fin 512) : View.ld x8 (Rect.unit ![1, 0, 0] ![1, 512, 1] inb_S2x512x1_S1x512x1_1_0_0) (ix3 0 r 0) = x8 (ix3 1 r 0) := by
  pointwise

/-- The first value head. -/
theorem group0 (p : Vec Ideal S1x512x384 .f32) (sk : Vec Ideal S1x512x1 .f32) (h : Fin 4) (a d : Fin 128)
    (hp : ∀ j, p (ix3 0 (⟨h.val * 128 + a.val, by omega⟩ : Fin 512) j) = x7 (ix3 0 (⟨h.val * 128 + a.val, by omega⟩ : Fin 512) j))
    (hs : sk (ix3 0 (⟨h.val * 128 + a.val, by omega⟩ : Fin 512) 0) = x8 (ix3 0 (⟨h.val * 128 + a.val, by omega⟩ : Fin 512) 0)) :
    k0_pay3 (F := Ideal) v4 v9 (k0_pay1 x4 x5 x6) (k0_pay2 x0 x1 x2 x3) p sk (ix2 (⟨h.val * 128 + a.val, by omega⟩ : Fin 512) d)
      = headOf v4 v9 x0 x1 x2 x3 x4 x5 x6 x7 x8 0 h a d := by
  rw [pay3_apply, hs]
  unfold k0_pay1 k0_pay2
  simp only [scaled, stack0, three0, hp]
  rfl

/-- The second value head. -/
theorem group1 (p : Vec Ideal S1x512x384 .f32) (sk : Vec Ideal S1x512x1 .f32) (h : Fin 4) (a d : Fin 128)
    (hp : ∀ j, p (ix3 0 (⟨h.val * 128 + a.val, by omega⟩ : Fin 512) j) = x7 (ix3 1 (⟨h.val * 128 + a.val, by omega⟩ : Fin 512) j))
    (hs : sk (ix3 0 (⟨h.val * 128 + a.val, by omega⟩ : Fin 512) 0) = x8 (ix3 1 (⟨h.val * 128 + a.val, by omega⟩ : Fin 512) 0)) :
    k0_pay3 (F := Ideal) v4 v9 (concatenate S384x128 0 [⟨S128x128, k0_pay10 x4⟩, ⟨S128x128, k0_pay11 x5⟩, ⟨S128x128, extractStridedSlice S128x128 ![0, 128] x6 slices_S128x256_o0_128_S128x128⟩] concatenates_S128x128_S128x128_S128x128_S384x128_d0) (mulf (matmul dot_S512x128_S384x128_S512x384_1_1_0_0_n_n none (k0_pay8 x0) (k0_pay9 x1 x2 x3) (constant S512x384 .f32 0x00000000#32)) (broadcast S512x384 (Scalar.ofBits .f32 0x3DB504F3#32))) p sk (ix2 (⟨h.val * 128 + a.val, by omega⟩ : Fin 512) d)
      = headOf v4 v9 x0 x1 x2 x3 x4 x5 x6 x7 x8 1 h a d := by
  rw [pay3_apply, hs]
  unfold k0_pay8 k0_pay9 k0_pay10 k0_pay11
  simp only [scaled, stack1, three1, hp]
  rfl

/-- The block's results, the first value head's any array. -/
theorem outer (y0 : FVec Ideal S512x128 .bf16) (v74 : FVec Ideal S512x128 .bf16) (v78 : FVec Ideal S384x128 .bf16) (v79 v80 : FVec Ideal S128x128 .bf16)
    (p1 : Vec Ideal S1x512x384 .f32) (s1 : Vec Ideal S1x512x1 .f32) (a : Fin 128) (k : Fin 1024) :
    k0_pay12 (F := Ideal) v4 v9 x6 (extractStridedSlice S128x128 ![0, 0] y0 slices_S512x128_o0_0_S128x128) (extractStridedSlice S128x128 ![128, 0] y0 slices_S512x128_o128_0_S128x128) (extractStridedSlice S128x128 ![256, 0] y0 slices_S512x128_o256_0_S128x128) (extractStridedSlice S128x128 ![384, 0] y0 slices_S512x128_o384_0_S128x128) v74 v78 v79 v80 p1 s1 (ix2 a k)
      = (if k.val / 512 = 0 then y0 else k0_pay3 (F := Ideal) v4 v9 (concatenate S384x128 0 [⟨S128x128, v79⟩, ⟨S128x128, v80⟩, ⟨S128x128, extractStridedSlice S128x128 ![0, 128] x6 slices_S128x256_o0_128_S128x128⟩] concatenates_S128x128_S128x128_S128x128_S384x128_d0) (mulf (matmul dot_S512x128_S384x128_S512x384_1_1_0_0_n_n none v74 v78 (constant S512x384 .f32 0x00000000#32)) (broadcast S512x384 (Scalar.ofBits .f32 0x3DB504F3#32))) p1 s1)
        (ix2 (⟨k.val / 128 % 4 * 128 + a.val, by omega⟩ : Fin 512) (⟨k.val % 128, by omega⟩ : Fin 128)) := by
  dsimp only [k0_pay12, k0_pay3]
  exact tiles _ _ a k

/-- The block's results, the two value heads' apart. -/
theorem parts (p0 p1 : Vec Ideal S1x512x384 .f32) (s0 s1 : Vec Ideal S1x512x1 .f32) (a : Fin 128) (k : Fin 1024) :
    k0_pay12 (F := Ideal) v4 v9 x6 (k0_pay4 v4 v9 (k0_pay1 x4 x5 x6) (k0_pay2 x0 x1 x2 x3) p0 s0) (k0_pay5 v4 v9 (k0_pay1 x4 x5 x6) (k0_pay2 x0 x1 x2 x3) p0 s0) (k0_pay6 v4 v9 (k0_pay1 x4 x5 x6) (k0_pay2 x0 x1 x2 x3) p0 s0) (k0_pay7 v4 v9 (k0_pay1 x4 x5 x6) (k0_pay2 x0 x1 x2 x3) p0 s0) (k0_pay8 x0) (k0_pay9 x1 x2 x3) (k0_pay10 x4) (k0_pay11 x5) p1 s1 (ix2 a k)
      = (if k.val / 512 = 0 then k0_pay3 (F := Ideal) v4 v9 (k0_pay1 x4 x5 x6) (k0_pay2 x0 x1 x2 x3) p0 s0 else k0_pay3 (F := Ideal) v4 v9 (concatenate S384x128 0 [⟨S128x128, k0_pay10 x4⟩, ⟨S128x128, k0_pay11 x5⟩, ⟨S128x128, extractStridedSlice S128x128 ![0, 128] x6 slices_S128x256_o0_128_S128x128⟩] concatenates_S128x128_S128x128_S128x128_S384x128_d0) (mulf (matmul dot_S512x128_S384x128_S512x384_1_1_0_0_n_n none (k0_pay8 x0) (k0_pay9 x1 x2 x3) (constant S512x384 .f32 0x00000000#32)) (broadcast S512x384 (Scalar.ofBits .f32 0x3DB504F3#32))) p1 s1)
        (ix2 (⟨k.val / 128 % 4 * 128 + a.val, by omega⟩ : Fin 512) (⟨k.val % 128, by omega⟩ : Fin 128)) := by
  unfold k0_pay4 k0_pay5 k0_pay6 k0_pay7
  exact outer v4 v9 x6 (k0_pay3 (F := Ideal) v4 v9 (k0_pay1 x4 x5 x6) (k0_pay2 x0 x1 x2 x3) p0 s0) (k0_pay8 x0) (k0_pay9 x1 x2 x3) (k0_pay10 x4) (k0_pay11 x5) p1 s1 a k

/-- The block's results by row and column. -/
theorem whole (p0 p1 : Vec Ideal S1x512x384 .f32) (s0 s1 : Vec Ideal S1x512x1 .f32) (a : Fin 128) (k : Fin 1024)
    (hp0 : ∀ r j, p0 (ix3 0 r j) = x7 (ix3 0 r j)) (hp1 : ∀ r j, p1 (ix3 0 r j) = x7 (ix3 1 r j))
    (hs0 : ∀ r, s0 (ix3 0 r 0) = x8 (ix3 0 r 0)) (hs1 : ∀ r, s1 (ix3 0 r 0) = x8 (ix3 1 r 0)) :
    k0_pay12 (F := Ideal) v4 v9 x6 (k0_pay4 v4 v9 (k0_pay1 x4 x5 x6) (k0_pay2 x0 x1 x2 x3) p0 s0) (k0_pay5 v4 v9 (k0_pay1 x4 x5 x6) (k0_pay2 x0 x1 x2 x3) p0 s0) (k0_pay6 v4 v9 (k0_pay1 x4 x5 x6) (k0_pay2 x0 x1 x2 x3) p0 s0) (k0_pay7 v4 v9 (k0_pay1 x4 x5 x6) (k0_pay2 x0 x1 x2 x3) p0 s0) (k0_pay8 x0) (k0_pay9 x1 x2 x3) (k0_pay10 x4) (k0_pay11 x5) p1 s1 (ix2 a k)
      = headOf v4 v9 x0 x1 x2 x3 x4 x5 x6 x7 x8 ⟨k.val / 512, by omega⟩ ⟨k.val / 128 % 4, by omega⟩ a ⟨k.val % 128, by omega⟩ := by
  rw [parts]
  by_cases hk : k.val / 512 = 0
  · rw [if_pos hk]
    refine (group0 v4 v9 x0 x1 x2 x3 x4 x5 x6 x7 x8 p0 s0 ⟨k.val / 128 % 4, by omega⟩ a ⟨k.val % 128, by omega⟩ (hp0 _) (hs0 _)).trans ?_
    exact congrArg (fun g => headOf v4 v9 x0 x1 x2 x3 x4 x5 x6 x7 x8 g _ a _) (Fin.ext hk.symm)
  · rw [if_neg hk]
    refine (group1 v4 v9 x0 x1 x2 x3 x4 x5 x6 x7 x8 p1 s1 ⟨k.val / 128 % 4, by omega⟩ a ⟨k.val % 128, by omega⟩ (hp1 _) (hs1 _)).trans ?_
    exact congrArg (fun g => headOf v4 v9 x0 x1 x2 x3 x4 x5 x6 x7 x8 g _ a _) (Fin.ext (show 1 = k.val / 512 by omega))

end

end Cert.SwaIdeal.Row

end
-- ==== Proof.SwaTable.lean ====
/- The distance tables of the windowed attention, read. -/
module

public import proofs.«01_k».proof.SwaIdeal
public import proofs.«01_k».proof.Proof.SwaRow
public import Idealize.ShloMosaic.Lib.Pointwise

@[expose] public section

set_option maxRecDepth 16384

noncomputable section

namespace Cert.SwaIdeal.Table

open Idealize.ShloMosaic Cert.SwaRow

/-- The distance of window column `j` from row `a`. -/
def apart (a : Fin 128) (j : Fin 384) : Nat := (j.val - (a.val + 128)) + (a.val + 128 - j.val)

/-- The exponent field of a whole number's float32 pattern. -/
def exponent (n : Nat) : Nat := if n = 0 then 0 else 127 + n.log2

/-- The fraction field of a whole number's float32 pattern. -/
def fraction (n : Nat) : Nat := if n = 0 then 0 else (n - 2 ^ n.log2) * 2 ^ (23 - n.log2)

/-- The float32 pattern of a whole number. -/
def pattern (n : Nat) : BitVec 32 := BitVec.ofNat 32 (exponent n * 8388608 + fraction n)

/-- Entry `k` of segment `m` of the distance table: the segments are the thirds of the rows. -/
def expected (m : Nat) (k : Fin 128) : BitVec 32 := pattern ((m % 3 * 128 + k.val - (m / 3 + 128)) + (m / 3 + 128 - (m % 3 * 128 + k.val)))

/-- Entry `k` of segment `m` of the band table. -/
def expectedBand (m : Nat) (k : Fin 128) : BitVec 1 := if m / 3 ≤ m % 3 * 128 + k.val ∧ m % 3 * 128 + k.val ≤ m / 3 + 256 then 1#1 else 0#1

/-- Segment `m` of the distance table is as expected. -/
def Segment (m : Nat) : Prop := ∀ k : Fin 128, lit1t (m * 128 + k.val) = expected m k

/-- Segment `m` of the band table is as expected. -/
def SegmentBand (m : Nat) : Prop := ∀ k : Fin 128, lit0t (m * 128 + k.val) = expectedBand m k

/-- The first digit of an index of a segment. -/
theorem digit1 (m : Nat) (k : Fin 128) : (m * 128 + k.val) / 16384 = m / 128 := by omega

/-- The second digit. -/
theorem digit2 (m : Nat) (k : Fin 128) : (m * 128 + k.val) / 128 % 128 = m % 128 := by omega

/-- The last digit. -/
theorem digit3 (m : Nat) (k : Fin 128) : (m * 128 + k.val) % 128 = k.val % 128 := by omega

/-- A statement on the numbers from `a` up to `n`. -/
def Upto (P : Nat → Prop) (a n : Nat) : Prop := ∀ m, a ≤ m → m < n → P m

/-- One number more. -/
theorem more {P : Nat → Prop} {a n : Nat} (h : Upto P a n) (hn : P n) : Upto P a (n + 1) := by
  intro m h1 h2
  rcases Nat.lt_succ_iff_lt_or_eq.1 h2 with h3 | rfl
  · exact h m h1 h3
  · exact hn

/-- No number. -/
theorem start {P : Nat → Prop} (a : Nat) : Upto P a a := fun m h1 h2 => absurd h1 (Nat.not_le.2 h2)

/-- The distance table, opened at its first digit. -/
theorem open1 (m : Nat) (k : Fin 128) : lit1t (m * 128 + k.val) = match m / 128 with
    | 0 => lit1t1_0 (m * 128 + k.val)
    | 1 => lit1t1_1 (m * 128 + k.val)
    | 2 => lit1t1_2 (m * 128 + k.val)
    | _ => 0#32 := by
  rw [lit1t, digit1]
  rfl

/-- The band table, opened at its first digit. -/
theorem open0 (m : Nat) (k : Fin 128) : lit0t (m * 128 + k.val) = match m / 128 with
    | 0 => lit0t1_0 (m * 128 + k.val)
    | 1 => lit0t1_1 (m * 128 + k.val)
    | 2 => lit0t1_2 (m * 128 + k.val)
    | _ => 0#1 := by
  rw [lit0t, digit1]
  rfl

/-- A pattern's fields. -/
theorem fields : ∀ n : Fin 256, ((pattern n.val).extractLsb' 31 1 == 1#1) = false
    ∧ ((pattern n.val).extractLsb' 23 8).toNat = exponent n.val
    ∧ ((pattern n.val).extractLsb' 0 23).toNat = fraction n.val := by decide +kernel

/-- A nonzero number's significand. -/
theorem significand : ∀ n : Fin 256, n.val ≠ 0 → 2 ^ 23 + fraction n.val = n.val * 2 ^ (23 - n.val.log2) ∧ n.val.log2 ≤ 23
    ∧ exponent n.val = 127 + n.val.log2 ∧ exponent n.val ≠ 255 ∧ exponent n.val ≠ 0 := by decide +kernel

/-- A pattern denotes its number. -/
theorem pattern_value (n : Fin 256) : Ideal.ofBits .f32 (pattern n.val) = (((n.val : ℝ)) : EReal) := by
  obtain ⟨hs, he, hf⟩ := fields n
  show Ideal.ieee 8 23 (pattern n.val) = _
  unfold Ideal.ieee
  dsimp only
  rw [hs, he, hf]
  by_cases hn : n.val = 0
  · rw [hn]
    simp [exponent, fraction]
  · obtain ⟨h1, h2, h3, h4, h5⟩ := significand n hn
    rw [if_neg (by norm_num; exact h4), if_neg h5]
    refine congrArg _ ?_
    rw [show ((2 ^ 23 + fraction n.val : Nat) : ℝ) = (n.val : ℝ) * 2 ^ (23 - n.val.log2) by exact_mod_cast h1, h3]
    have e : ((127 + n.val.log2 : Nat) : Int) - (2 ^ (8 - 1) - 1) - (23 : Nat) = -((23 - n.val.log2 : Nat) : Int) := by
      push_cast [Nat.cast_sub h2]
      ring
    rw [e, zpow_neg, zpow_natCast]
    have hp : (2 : ℝ) ^ (23 - n.val.log2) ≠ 0 := by positivity
    simp only [Bool.false_eq_true, if_false, one_mul]
    field_simp

/-- The distance is the distance word's number. -/
theorem apart_gap (a : Fin 128) (j : Fin 384) : ((apart a j : Nat) : ℤ) = (gap a j).toInt := by
  rw [gap_toInt]
  unfold apart
  have ha := a.isLt
  have hj := j.isLt
  rcases le_total ((j.val : ℤ) - 128 - a.val) 0 with h | h
  · rw [abs_of_nonpos h]
    omega
  · rw [abs_of_nonneg h]
    omega

end Cert.SwaIdeal.Table

end
-- ==== Proof.SwaTable0.lean ====
/- Segments 0 to 63 of the distance and band tables of the windowed attention, read. -/
module

public import proofs.«01_k».proof.Proof.SwaTable

@[expose] public section

set_option maxRecDepth 16384

noncomputable section

namespace Cert.SwaIdeal.Table

/-- With segment 0. -/
theorem d0 : Upto Segment 0 1 := more (start 0) fun k => by
  rw [open1]; show lit1t1_0 _ = _; rw [lit1t1_0, digit2]; show lit1t0_0 _ = _; rw [lit1t0_0, digit3]
  exact (by decide +kernel : ∀ k : Fin 128, lit1t0_0 k.val = expected 0 k) k
/-- With segment 1. -/
theorem d1 : Upto Segment 0 2 := more d0 fun k => by
  rw [open1]; show lit1t1_0 _ = _; rw [lit1t1_0, digit2]; show lit1t0_1 _ = _; rw [lit1t0_1, digit3]
  exact (by decide +kernel : ∀ k : Fin 128, lit1t0_1 k.val = expected 1 k) k
/-- With segment 2. -/
theorem d2 : Upto Segment 0 3 := more d1 fun k => by
  rw [open1]; show lit1t1_0 _ = _; rw [lit1t1_0, digit2]; show lit1t0_2 _ = _; rw [lit1t0_2, digit3]
  exact (by decide +kernel : ∀ k : Fin 128, lit1t0_2 k.val = expected 2 k) k
/-- With segment 3. -/
theorem d3 : Upto Segment 0 4 := more d2 fun k => by
  rw [open1]; show lit1t1_0 _ = _; rw [lit1t1_0, digit2]; show lit1t0_3 _ = _; rw [lit1t0_3, digit3]
  exact (by decide +kernel : ∀ k : Fin 128, lit1t0_3 k.val = expected 3 k) k
/-- With segment 4. -/
theorem d4 : Upto Segment 0 5 := more d3 fun k => by
  rw [open1]; show lit1t1_0 _ = _; rw [lit1t1_0, digit2]; show lit1t0_4 _ = _; rw [lit1t0_4, digit3]
  exact (by decide +kernel : ∀ k : Fin 128, lit1t0_4 k.val = expected 4 k) k
/-- With segment 5. -/
theorem d5 : Upto Segment 0 6 := more d4 fun k => by
  rw [open1]; show lit1t1_0 _ = _; rw [lit1t1_0, digit2]; show lit1t0_5 _ = _; rw [lit1t0_5, digit3]
  exact (by decide +kernel : ∀ k : Fin 128, lit1t0_5 k.val = expected 5 k) k
/-- With segment 6. -/
theorem d6 : Upto Segment 0 7 := more d5 fun k => by
  rw [open1]; show lit1t1_0 _ = _; rw [lit1t1_0, digit2]; show lit1t0_6 _ = _; rw [lit1t0_6, digit3]
  exact (by decide +kernel : ∀ k : Fin 128, lit1t0_6 k.val = expected 6 k) k
/-- With segment 7. -/
theorem d7 : Upto Segment 0 8 := more d6 fun k => by
  rw [open1]; show lit1t1_0 _ = _; rw [lit1t1_0, digit2]; show lit1t0_7 _ = _; rw [lit1t0_7, digit3]
  exact (by decide +kernel : ∀ k : Fin 128, lit1t0_7 k.val = expected 7 k) k
/-- With segment 8. -/
theorem d8 : Upto Segment 0 9 := more d7 fun k => by
  rw [open1]; show lit1t1_0 _ = _; rw [lit1t1_0, digit2]; show lit1t0_8 _ = _; rw [lit1t0_8, digit3]
  exact (by decide +kernel : ∀ k : Fin 128, lit1t0_8 k.val = expected 8 k) k
/-- With segment 9. -/
theorem d9 : Upto Segment 0 10 := more d8 fun k => by
  rw [open1]; show lit1t1_0 _ = _; rw [lit1t1_0, digit2]; show lit1t0_9 _ = _; rw [lit1t0_9, digit3]
  exact (by decide +kernel : ∀ k : Fin 128, lit1t0_9 k.val = expected 9 k) k
/-- With segment 10. -/
theorem d10 : Upto Segment 0 11 := more d9 fun k => by
  rw [open1]; show lit1t1_0 _ = _; rw [lit1t1_0, digit2]; show lit1t0_10 _ = _; rw [lit1t0_10, digit3]
  exact (by decide +kernel : ∀ k : Fin 128, lit1t0_10 k.val = expected 10 k) k
/-- With segment 11. -/
theorem d11 : Upto Segment 0 12 := more d10 fun k => by
  rw [open1]; show lit1t1_0 _ = _; rw [lit1t1_0, digit2]; show lit1t0_11 _ = _; rw [lit1t0_11, digit3]
  exact (by decide +kernel : ∀ k : Fin 128, lit1t0_11 k.val = expected 11 k) k
/-- With segment 12. -/
theorem d12 : Upto Segment 0 13 := more d11 fun k => by
  rw [open1]; show lit1t1_0 _ = _; rw [lit1t1_0, digit2]; show lit1t0_12 _ = _; rw [lit1t0_12, digit3]
  exact (by decide +kernel : ∀ k : Fin 128, lit1t0_12 k.val = expected 12 k) k
/-- With segment 13. -/
theorem d13 : Upto Segment 0 14 := more d12 fun k => by
  rw [open1]; show lit1t1_0 _ = _; rw [lit1t1_0, digit2]; show lit1t0_13 _ = _; rw [lit1t0_13, digit3]
  exact (by decide +kernel : ∀ k : Fin 128, lit1t0_13 k.val = expected 13 k) k
/-- With segment 14. -/
theorem d14 : Upto Segment 0 15 := more d13 fun k => by
  rw [open1]; show lit1t1_0 _ = _; rw [lit1t1_0, digit2]; show lit1t0_14 _ = _; rw [lit1t0_14, digit3]
  exact (by decide +kernel : ∀ k : Fin 128, lit1t0_14 k.val = expected 14 k) k
/-- With segment 15. -/
theorem d15 : Upto Segment 0 16 := more d14 fun k => by
  rw [open1]; show lit1t1_0 _ = _; rw [lit1t1_0, digit2]; show lit1t0_15 _ = _; rw [lit1t0_15, digit3]
  exact (by decide +kernel : ∀ k : Fin 128, lit1t0_15 k.val = expected 15 k) k
/-- With segment 16. -/
theorem d16 : Upto Segment 0 17 := more d15 fun k => by
  rw [open1]; show lit1t1_0 _ = _; rw [lit1t1_0, digit2]; show lit1t0_16 _ = _; rw [lit1t0_16, digit3]
  exact (by decide +kernel : ∀ k : Fin 128, lit1t0_16 k.val = expected 16 k) k
/-- With segment 17. -/
theorem d17 : Upto Segment 0 18 := more d16 fun k => by
  rw [open1]; show lit1t1_0 _ = _; rw [lit1t1_0, digit2]; show lit1t0_17 _ = _; rw [lit1t0_17, digit3]
  exact (by decide +kernel : ∀ k : Fin 128, lit1t0_17 k.val = expected 17 k) k
/-- With segment 18. -/
theorem d18 : Upto Segment 0 19 := more d17 fun k => by
  rw [open1]; show lit1t1_0 _ = _; rw [lit1t1_0, digit2]; show lit1t0_18 _ = _; rw [lit1t0_18, digit3]
  exact (by decide +kernel : ∀ k : Fin 128, lit1t0_18 k.val = expected 18 k) k
/-- With segment 19. -/
theorem d19 : Upto Segment 0 20 := more d18 fun k => by
  rw [open1]; show lit1t1_0 _ = _; rw [lit1t1_0, digit2]; show lit1t0_19 _ = _; rw [lit1t0_19, digit3]
  exact (by decide +kernel : ∀ k : Fin 128, lit1t0_19 k.val = expected 19 k) k
/-- With segment 20. -/
theorem d20 : Upto Segment 0 21 := more d19 fun k => by
  rw [open1]; show lit1t1_0 _ = _; rw [lit1t1_0, digit2]; show lit1t0_20 _ = _; rw [lit1t0_20, digit3]
  exact (by decide +kernel : ∀ k : Fin 128, lit1t0_20 k.val = expected 20 k) k
/-- With segment 21. -/
theorem d21 : Upto Segment 0 22 := more d20 fun k => by
  rw [open1]; show lit1t1_0 _ = _; rw [lit1t1_0, digit2]; show lit1t0_21 _ = _; rw [lit1t0_21, digit3]
  exact (by decide +kernel : ∀ k : Fin 128, lit1t0_21 k.val = expected 21 k) k
/-- With segment 22. -/
theorem d22 : Upto Segment 0 23 := more d21 fun k => by
  rw [open1]; show lit1t1_0 _ = _; rw [lit1t1_0, digit2]; show lit1t0_22 _ = _; rw [lit1t0_22, digit3]
  exact (by decide +kernel : ∀ k : Fin 128, lit1t0_22 k.val = expected 22 k) k
/-- With segment 23. -/
theorem d23 : Upto Segment 0 24 := more d22 fun k => by
  rw [open1]; show lit1t1_0 _ = _; rw [lit1t1_0, digit2]; show lit1t0_23 _ = _; rw [lit1t0_23, digit3]
  exact (by decide +kernel : ∀ k : Fin 128, lit1t0_23 k.val = expected 23 k) k
/-- With segment 24. -/
theorem d24 : Upto Segment 0 25 := more d23 fun k => by
  rw [open1]; show lit1t1_0 _ = _; rw [lit1t1_0, digit2]; show lit1t0_24 _ = _; rw [lit1t0_24, digit3]
  exact (by decide +kernel : ∀ k : Fin 128, lit1t0_24 k.val = expected 24 k) k
/-- With segment 25. -/
theorem d25 : Upto Segment 0 26 := more d24 fun k => by
  rw [open1]; show lit1t1_0 _ = _; rw [lit1t1_0, digit2]; show lit1t0_25 _ = _; rw [lit1t0_25, digit3]
  exact (by decide +kernel : ∀ k : Fin 128, lit1t0_25 k.val = expected 25 k) k
/-- With segment 26. -/
theorem d26 : Upto Segment 0 27 := more d25 fun k => by
  rw [open1]; show lit1t1_0 _ = _; rw [lit1t1_0, digit2]; show lit1t0_26 _ = _; rw [lit1t0_26, digit3]
  exact (by decide +kernel : ∀ k : Fin 128, lit1t0_26 k.val = expected 26 k) k
/-- With segment 27. -/
theorem d27 : Upto Segment 0 28 := more d26 fun k => by
  rw [open1]; show lit1t1_0 _ = _; rw [lit1t1_0, digit2]; show lit1t0_27 _ = _; rw [lit1t0_27, digit3]
  exact (by decide +kernel : ∀ k : Fin 128, lit1t0_27 k.val = expected 27 k) k
/-- With segment 28. -/
theorem d28 : Upto Segment 0 29 := more d27 fun k => by
  rw [open1]; show lit1t1_0 _ = _; rw [lit1t1_0, digit2]; show lit1t0_28 _ = _; rw [lit1t0_28, digit3]
  exact (by decide +kernel : ∀ k : Fin 128, lit1t0_28 k.val = expected 28 k) k
/-- With segment 29. -/
theorem d29 : Upto Segment 0 30 := more d28 fun k => by
  rw [open1]; show lit1t1_0 _ = _; rw [lit1t1_0, digit2]; show lit1t0_29 _ = _; rw [lit1t0_29, digit3]
  exact (by decide +kernel : ∀ k : Fin 128, lit1t0_29 k.val = expected 29 k) k
/-- With segment 30. -/
theorem d30 : Upto Segment 0 31 := more d29 fun k => by
  rw [open1]; show lit1t1_0 _ = _; rw [lit1t1_0, digit2]; show lit1t0_30 _ = _; rw [lit1t0_30, digit3]
  exact (by decide +kernel : ∀ k : Fin 128, lit1t0_30 k.val = expected 30 k) k
/-- With segment 31. -/
theorem d31 : Upto Segment 0 32 := more d30 fun k => by
  rw [open1]; show lit1t1_0 _ = _; rw [lit1t1_0, digit2]; show lit1t0_31 _ = _; rw [lit1t0_31, digit3]
  exact (by decide +kernel : ∀ k : Fin 128, lit1t0_31 k.val = expected 31 k) k
/-- With segment 32. -/
theorem d32 : Upto Segment 0 33 := more d31 fun k => by
  rw [open1]; show lit1t1_0 _ = _; rw [lit1t1_0, digit2]; show lit1t0_32 _ = _; rw [lit1t0_32, digit3]
  exact (by decide +kernel : ∀ k : Fin 128, lit1t0_32 k.val = expected 32 k) k
/-- With segment 33. -/
theorem d33 : Upto Segment 0 34 := more d32 fun k => by
  rw [open1]; show lit1t1_0 _ = _; rw [lit1t1_0, digit2]; show lit1t0_33 _ = _; rw [lit1t0_33, digit3]
  exact (by decide +kernel : ∀ k : Fin 128, lit1t0_33 k.val = expected 33 k) k
/-- With segment 34. -/
theorem d34 : Upto Segment 0 35 := more d33 fun k => by
  rw [open1]; show lit1t1_0 _ = _; rw [lit1t1_0, digit2]; show lit1t0_34 _ = _; rw [lit1t0_34, digit3]
  exact (by decide +kernel : ∀ k : Fin 128, lit1t0_34 k.val = expected 34 k) k
/-- With segment 35. -/
theorem d35 : Upto Segment 0 36 := more d34 fun k => by
  rw [open1]; show lit1t1_0 _ = _; rw [lit1t1_0, digit2]; show lit1t0_35 _ = _; rw [lit1t0_35, digit3]
  exact (by decide +kernel : ∀ k : Fin 128, lit1t0_35 k.val = expected 35 k) k
/-- With segment 36. -/
theorem d36 : Upto Segment 0 37 := more d35 fun k => by
  rw [open1]; show lit1t1_0 _ = _; rw [lit1t1_0, digit2]; show lit1t0_36 _ = _; rw [lit1t0_36, digit3]
  exact (by decide +kernel : ∀ k : Fin 128, lit1t0_36 k.val = expected 36 k) k
/-- With segment 37. -/
theorem d37 : Upto Segment 0 38 := more d36 fun k => by
  rw [open1]; show lit1t1_0 _ = _; rw [lit1t1_0, digit2]; show lit1t0_37 _ = _; rw [lit1t0_37, digit3]
  exact (by decide +kernel : ∀ k : Fin 128, lit1t0_37 k.val = expected 37 k) k
/-- With segment 38. -/
theorem d38 : Upto Segment 0 39 := more d37 fun k => by
  rw [open1]; show lit1t1_0 _ = _; rw [lit1t1_0, digit2]; show lit1t0_38 _ = _; rw [lit1t0_38, digit3]
  exact (by decide +kernel : ∀ k : Fin 128, lit1t0_38 k.val = expected 38 k) k
/-- With segment 39. -/
theorem d39 : Upto Segment 0 40 := more d38 fun k => by
  rw [open1]; show lit1t1_0 _ = _; rw [lit1t1_0, digit2]; show lit1t0_39 _ = _; rw [lit1t0_39, digit3]
  exact (by decide +kernel : ∀ k : Fin 128, lit1t0_39 k.val = expected 39 k) k
/-- With segment 40. -/
theorem d40 : Upto Segment 0 41 := more d39 fun k => by
  rw [open1]; show lit1t1_0 _ = _; rw [lit1t1_0, digit2]; show lit1t0_40 _ = _; rw [lit1t0_40, digit3]
  exact (by decide +kernel : ∀ k : Fin 128, lit1t0_40 k.val = expected 40 k) k
/-- With segment 41. -/
theorem d41 : Upto Segment 0 42 := more d40 fun k => by
  rw [open1]; show lit1t1_0 _ = _; rw [lit1t1_0, digit2]; show lit1t0_41 _ = _; rw [lit1t0_41, digit3]
  exact (by decide +kernel : ∀ k : Fin 128, lit1t0_41 k.val = expected 41 k) k
/-- With segment 42. -/
theorem d42 : Upto Segment 0 43 := more d41 fun k => by
  rw [open1]; show lit1t1_0 _ = _; rw [lit1t1_0, digit2]; show lit1t0_42 _ = _; rw [lit1t0_42, digit3]
  exact (by decide +kernel : ∀ k : Fin 128, lit1t0_42 k.val = expected 42 k) k
/-- With segment 43. -/
theorem d43 : Upto Segment 0 44 := more d42 fun k => by
  rw [open1]; show lit1t1_0 _ = _; rw [lit1t1_0, digit2]; show lit1t0_43 _ = _; rw [lit1t0_43, digit3]
  exact (by decide +kernel : ∀ k : Fin 128, lit1t0_43 k.val = expected 43 k) k
/-- With segment 44. -/
theorem d44 : Upto Segment 0 45 := more d43 fun k => by
  rw [open1]; show lit1t1_0 _ = _; rw [lit1t1_0, digit2]; show lit1t0_44 _ = _; rw [lit1t0_44, digit3]
  exact (by decide +kernel : ∀ k : Fin 128, lit1t0_44 k.val = expected 44 k) k
/-- With segment 45. -/
theorem d45 : Upto Segment 0 46 := more d44 fun k => by
  rw [open1]; show lit1t1_0 _ = _; rw [lit1t1_0, digit2]; show lit1t0_45 _ = _; rw [lit1t0_45, digit3]
  exact (by decide +kernel : ∀ k : Fin 128, lit1t0_45 k.val = expected 45 k) k
/-- With segment 46. -/
theorem d46 : Upto Segment 0 47 := more d45 fun k => by
  rw [open1]; show lit1t1_0 _ = _; rw [lit1t1_0, digit2]; show lit1t0_46 _ = _; rw [lit1t0_46, digit3]
  exact (by decide +kernel : ∀ k : Fin 128, lit1t0_46 k.val = expected 46 k) k
/-- With segment 47. -/
theorem d47 : Upto Segment 0 48 := more d46 fun k => by
  rw [open1]; show lit1t1_0 _ = _; rw [lit1t1_0, digit2]; show lit1t0_47 _ = _; rw [lit1t0_47, digit3]
  exact (by decide +kernel : ∀ k : Fin 128, lit1t0_47 k.val = expected 47 k) k
/-- With segment 48. -/
theorem d48 : Upto Segment 0 49 := more d47 fun k => by
  rw [open1]; show lit1t1_0 _ = _; rw [lit1t1_0, digit2]; show lit1t0_48 _ = _; rw [lit1t0_48, digit3]
  exact (by decide +kernel : ∀ k : Fin 128, lit1t0_48 k.val = expected 48 k) k
/-- With segment 49. -/
theorem d49 : Upto Segment 0 50 := more d48 fun k => by
  rw [open1]; show lit1t1_0 _ = _; rw [lit1t1_0, digit2]; show lit1t0_49 _ = _; rw [lit1t0_49, digit3]
  exact (by decide +kernel : ∀ k : Fin 128, lit1t0_49 k.val = expected 49 k) k
/-- With segment 50. -/
theorem d50 : Upto Segment 0 51 := more d49 fun k => by
  rw [open1]; show lit1t1_0 _ = _; rw [lit1t1_0, digit2]; show lit1t0_50 _ = _; rw [lit1t0_50, digit3]
  exact (by decide +kernel : ∀ k : Fin 128, lit1t0_50 k.val = expected 50 k) k
/-- With segment 51. -/
theorem d51 : Upto Segment 0 52 := more d50 fun k => by
  rw [open1]; show lit1t1_0 _ = _; rw [lit1t1_0, digit2]; show lit1t0_51 _ = _; rw [lit1t0_51, digit3]
  exact (by decide +kernel : ∀ k : Fin 128, lit1t0_51 k.val = expected 51 k) k
/-- With segment 52. -/
theorem d52 : Upto Segment 0 53 := more d51 fun k => by
  rw [open1]; show lit1t1_0 _ = _; rw [lit1t1_0, digit2]; show lit1t0_52 _ = _; rw [lit1t0_52, digit3]
  exact (by decide +kernel : ∀ k : Fin 128, lit1t0_52 k.val = expected 52 k) k
/-- With segment 53. -/
theorem d53 : Upto Segment 0 54 := more d52 fun k => by
  rw [open1]; show lit1t1_0 _ = _; rw [lit1t1_0, digit2]; show lit1t0_53 _ = _; rw [lit1t0_53, digit3]
  exact (by decide +kernel : ∀ k : Fin 128, lit1t0_53 k.val = expected 53 k) k
/-- With segment 54. -/
theorem d54 : Upto Segment 0 55 := more d53 fun k => by
  rw [open1]; show lit1t1_0 _ = _; rw [lit1t1_0, digit2]; show lit1t0_54 _ = _; rw [lit1t0_54, digit3]
  exact (by decide +kernel : ∀ k : Fin 128, lit1t0_54 k.val = expected 54 k) k
/-- With segment 55. -/
theorem d55 : Upto Segment 0 56 := more d54 fun k => by
  rw [open1]; show lit1t1_0 _ = _; rw [lit1t1_0, digit2]; show lit1t0_55 _ = _; rw [lit1t0_55, digit3]
  exact (by decide +kernel : ∀ k : Fin 128, lit1t0_55 k.val = expected 55 k) k
/-- With segment 56. -/
theorem d56 : Upto Segment 0 57 := more d55 fun k => by
  rw [open1]; show lit1t1_0 _ = _; rw [lit1t1_0, digit2]; show lit1t0_56 _ = _; rw [lit1t0_56, digit3]
  exact (by decide +kernel : ∀ k : Fin 128, lit1t0_56 k.val = expected 56 k) k
/-- With segment 57. -/
theorem d57 : Upto Segment 0 58 := more d56 fun k => by
  rw [open1]; show lit1t1_0 _ = _; rw [lit1t1_0, digit2]; show lit1t0_57 _ = _; rw [lit1t0_57, digit3]
  exact (by decide +kernel : ∀ k : Fin 128, lit1t0_57 k.val = expected 57 k) k
/-- With segment 58. -/
theorem d58 : Upto Segment 0 59 := more d57 fun k => by
  rw [open1]; show lit1t1_0 _ = _; rw [lit1t1_0, digit2]; show lit1t0_58 _ = _; rw [lit1t0_58, digit3]
  exact (by decide +kernel : ∀ k : Fin 128, lit1t0_58 k.val = expected 58 k) k
/-- With segment 59. -/
theorem d59 : Upto Segment 0 60 := more d58 fun k => by
  rw [open1]; show lit1t1_0 _ = _; rw [lit1t1_0, digit2]; show lit1t0_59 _ = _; rw [lit1t0_59, digit3]
  exact (by decide +kernel : ∀ k : Fin 128, lit1t0_59 k.val = expected 59 k) k
/-- With segment 60. -/
theorem d60 : Upto Segment 0 61 := more d59 fun k => by
  rw [open1]; show lit1t1_0 _ = _; rw [lit1t1_0, digit2]; show lit1t0_60 _ = _; rw [lit1t0_60, digit3]
  exact (by decide +kernel : ∀ k : Fin 128, lit1t0_60 k.val = expected 60 k) k
/-- With segment 61. -/
theorem d61 : Upto Segment 0 62 := more d60 fun k => by
  rw [open1]; show lit1t1_0 _ = _; rw [lit1t1_0, digit2]; show lit1t0_61 _ = _; rw [lit1t0_61, digit3]
  exact (by decide +kernel : ∀ k : Fin 128, lit1t0_61 k.val = expected 61 k) k
/-- With segment 62. -/
theorem d62 : Upto Segment 0 63 := more d61 fun k => by
  rw [open1]; show lit1t1_0 _ = _; rw [lit1t1_0, digit2]; show lit1t0_62 _ = _; rw [lit1t0_62, digit3]
  exact (by decide +kernel : ∀ k : Fin 128, lit1t0_62 k.val = expected 62 k) k
/-- With segment 63. -/
theorem d63 : Upto Segment 0 64 := more d62 fun k => by
  rw [open1]; show lit1t1_0 _ = _; rw [lit1t1_0, digit2]; show lit1t0_63 _ = _; rw [lit1t0_63, digit3]
  exact (by decide +kernel : ∀ k : Fin 128, lit1t0_63 k.val = expected 63 k) k

/-- The distance table's segments from 0 to 63. -/
theorem distance0 : Upto Segment 0 64 := d63

/-- With segment 0. -/
theorem b0 : Upto SegmentBand 0 1 := more (start 0) fun k => by
  rw [open0]; show lit0t1_0 _ = _; rw [lit0t1_0, digit2]; show lit0t0_0 _ = _; rw [lit0t0_0, digit3]
  exact (by decide +kernel : ∀ k : Fin 128, lit0t0_0 k.val = expectedBand 0 k) k
/-- With segment 1. -/
theorem b1 : Upto SegmentBand 0 2 := more b0 fun k => by
  rw [open0]; show lit0t1_0 _ = _; rw [lit0t1_0, digit2]; show lit0t0_1 _ = _; rw [lit0t0_1, digit3]
  exact (by decide +kernel : ∀ k : Fin 128, lit0t0_1 k.val = expectedBand 1 k) k
/-- With segment 2. -/
theorem b2 : Upto SegmentBand 0 3 := more b1 fun k => by
  rw [open0]; show lit0t1_0 _ = _; rw [lit0t1_0, digit2]; show lit0t0_2 _ = _; rw [lit0t0_2, digit3]
  exact (by decide +kernel : ∀ k : Fin 128, lit0t0_2 k.val = expectedBand 2 k) k
/-- With segment 3. -/
theorem b3 : Upto SegmentBand 0 4 := more b2 fun k => by
  rw [open0]; show lit0t1_0 _ = _; rw [lit0t1_0, digit2]; show lit0t0_3 _ = _; rw [lit0t0_3, digit3]
  exact (by decide +kernel : ∀ k : Fin 128, lit0t0_3 k.val = expectedBand 3 k) k
/-- With segment 4. -/
theorem b4 : Upto SegmentBand 0 5 := more b3 fun k => by
  rw [open0]; show lit0t1_0 _ = _; rw [lit0t1_0, digit2]; show lit0t0_4 _ = _; rw [lit0t0_4, digit3]
  exact (by decide +kernel : ∀ k : Fin 128, lit0t0_4 k.val = expectedBand 4 k) k
/-- With segment 5. -/
theorem b5 : Upto SegmentBand 0 6 := more b4 fun k => by
  rw [open0]; show lit0t1_0 _ = _; rw [lit0t1_0, digit2]; show lit0t0_5 _ = _; rw [lit0t0_5, digit3]
  exact (by decide +kernel : ∀ k : Fin 128, lit0t0_5 k.val = expectedBand 5 k) k
/-- With segment 6. -/
theorem b6 : Upto SegmentBand 0 7 := more b5 fun k => by
  rw [open0]; show lit0t1_0 _ = _; rw [lit0t1_0, digit2]; show lit0t0_6 _ = _; rw [lit0t0_6, digit3]
  exact (by decide +kernel : ∀ k : Fin 128, lit0t0_6 k.val = expectedBand 6 k) k
/-- With segment 7. -/
theorem b7 : Upto SegmentBand 0 8 := more b6 fun k => by
  rw [open0]; show lit0t1_0 _ = _; rw [lit0t1_0, digit2]; show lit0t0_7 _ = _; rw [lit0t0_7, digit3]
  exact (by decide +kernel : ∀ k : Fin 128, lit0t0_7 k.val = expectedBand 7 k) k
/-- With segment 8. -/
theorem b8 : Upto SegmentBand 0 9 := more b7 fun k => by
  rw [open0]; show lit0t1_0 _ = _; rw [lit0t1_0, digit2]; show lit0t0_8 _ = _; rw [lit0t0_8, digit3]
  exact (by decide +kernel : ∀ k : Fin 128, lit0t0_8 k.val = expectedBand 8 k) k
/-- With segment 9. -/
theorem b9 : Upto SegmentBand 0 10 := more b8 fun k => by
  rw [open0]; show lit0t1_0 _ = _; rw [lit0t1_0, digit2]; show lit0t0_9 _ = _; rw [lit0t0_9, digit3]
  exact (by decide +kernel : ∀ k : Fin 128, lit0t0_9 k.val = expectedBand 9 k) k
/-- With segment 10. -/
theorem b10 : Upto SegmentBand 0 11 := more b9 fun k => by
  rw [open0]; show lit0t1_0 _ = _; rw [lit0t1_0, digit2]; show lit0t0_10 _ = _; rw [lit0t0_10, digit3]
  exact (by decide +kernel : ∀ k : Fin 128, lit0t0_10 k.val = expectedBand 10 k) k
/-- With segment 11. -/
theorem b11 : Upto SegmentBand 0 12 := more b10 fun k => by
  rw [open0]; show lit0t1_0 _ = _; rw [lit0t1_0, digit2]; show lit0t0_11 _ = _; rw [lit0t0_11, digit3]
  exact (by decide +kernel : ∀ k : Fin 128, lit0t0_11 k.val = expectedBand 11 k) k
/-- With segment 12. -/
theorem b12 : Upto SegmentBand 0 13 := more b11 fun k => by
  rw [open0]; show lit0t1_0 _ = _; rw [lit0t1_0, digit2]; show lit0t0_12 _ = _; rw [lit0t0_12, digit3]
  exact (by decide +kernel : ∀ k : Fin 128, lit0t0_12 k.val = expectedBand 12 k) k
/-- With segment 13. -/
theorem b13 : Upto SegmentBand 0 14 := more b12 fun k => by
  rw [open0]; show lit0t1_0 _ = _; rw [lit0t1_0, digit2]; show lit0t0_13 _ = _; rw [lit0t0_13, digit3]
  exact (by decide +kernel : ∀ k : Fin 128, lit0t0_13 k.val = expectedBand 13 k) k
/-- With segment 14. -/
theorem b14 : Upto SegmentBand 0 15 := more b13 fun k => by
  rw [open0]; show lit0t1_0 _ = _; rw [lit0t1_0, digit2]; show lit0t0_14 _ = _; rw [lit0t0_14, digit3]
  exact (by decide +kernel : ∀ k : Fin 128, lit0t0_14 k.val = expectedBand 14 k) k
/-- With segment 15. -/
theorem b15 : Upto SegmentBand 0 16 := more b14 fun k => by
  rw [open0]; show lit0t1_0 _ = _; rw [lit0t1_0, digit2]; show lit0t0_15 _ = _; rw [lit0t0_15, digit3]
  exact (by decide +kernel : ∀ k : Fin 128, lit0t0_15 k.val = expectedBand 15 k) k
/-- With segment 16. -/
theorem b16 : Upto SegmentBand 0 17 := more b15 fun k => by
  rw [open0]; show lit0t1_0 _ = _; rw [lit0t1_0, digit2]; show lit0t0_16 _ = _; rw [lit0t0_16, digit3]
  exact (by decide +kernel : ∀ k : Fin 128, lit0t0_16 k.val = expectedBand 16 k) k
/-- With segment 17. -/
theorem b17 : Upto SegmentBand 0 18 := more b16 fun k => by
  rw [open0]; show lit0t1_0 _ = _; rw [lit0t1_0, digit2]; show lit0t0_17 _ = _; rw [lit0t0_17, digit3]
  exact (by decide +kernel : ∀ k : Fin 128, lit0t0_17 k.val = expectedBand 17 k) k
/-- With segment 18. -/
theorem b18 : Upto SegmentBand 0 19 := more b17 fun k => by
  rw [open0]; show lit0t1_0 _ = _; rw [lit0t1_0, digit2]; show lit0t0_18 _ = _; rw [lit0t0_18, digit3]
  exact (by decide +kernel : ∀ k : Fin 128, lit0t0_18 k.val = expectedBand 18 k) k
/-- With segment 19. -/
theorem b19 : Upto SegmentBand 0 20 := more b18 fun k => by
  rw [open0]; show lit0t1_0 _ = _; rw [lit0t1_0, digit2]; show lit0t0_19 _ = _; rw [lit0t0_19, digit3]
  exact (by decide +kernel : ∀ k : Fin 128, lit0t0_19 k.val = expectedBand 19 k) k
/-- With segment 20. -/
theorem b20 : Upto SegmentBand 0 21 := more b19 fun k => by
  rw [open0]; show lit0t1_0 _ = _; rw [lit0t1_0, digit2]; show lit0t0_20 _ = _; rw [lit0t0_20, digit3]
  exact (by decide +kernel : ∀ k : Fin 128, lit0t0_20 k.val = expectedBand 20 k) k
/-- With segment 21. -/
theorem b21 : Upto SegmentBand 0 22 := more b20 fun k => by
  rw [open0]; show lit0t1_0 _ = _; rw [lit0t1_0, digit2]; show lit0t0_21 _ = _; rw [lit0t0_21, digit3]
  exact (by decide +kernel : ∀ k : Fin 128, lit0t0_21 k.val = expectedBand 21 k) k
/-- With segment 22. -/
theorem b22 : Upto SegmentBand 0 23 := more b21 fun k => by
  rw [open0]; show lit0t1_0 _ = _; rw [lit0t1_0, digit2]; show lit0t0_22 _ = _; rw [lit0t0_22, digit3]
  exact (by decide +kernel : ∀ k : Fin 128, lit0t0_22 k.val = expectedBand 22 k) k
/-- With segment 23. -/
theorem b23 : Upto SegmentBand 0 24 := more b22 fun k => by
  rw [open0]; show lit0t1_0 _ = _; rw [lit0t1_0, digit2]; show lit0t0_23 _ = _; rw [lit0t0_23, digit3]
  exact (by decide +kernel : ∀ k : Fin 128, lit0t0_23 k.val = expectedBand 23 k) k
/-- With segment 24. -/
theorem b24 : Upto SegmentBand 0 25 := more b23 fun k => by
  rw [open0]; show lit0t1_0 _ = _; rw [lit0t1_0, digit2]; show lit0t0_24 _ = _; rw [lit0t0_24, digit3]
  exact (by decide +kernel : ∀ k : Fin 128, lit0t0_24 k.val = expectedBand 24 k) k
/-- With segment 25. -/
theorem b25 : Upto SegmentBand 0 26 := more b24 fun k => by
  rw [open0]; show lit0t1_0 _ = _; rw [lit0t1_0, digit2]; show lit0t0_25 _ = _; rw [lit0t0_25, digit3]
  exact (by decide +kernel : ∀ k : Fin 128, lit0t0_25 k.val = expectedBand 25 k) k
/-- With segment 26. -/
theorem b26 : Upto SegmentBand 0 27 := more b25 fun k => by
  rw [open0]; show lit0t1_0 _ = _; rw [lit0t1_0, digit2]; show lit0t0_26 _ = _; rw [lit0t0_26, digit3]
  exact (by decide +kernel : ∀ k : Fin 128, lit0t0_26 k.val = expectedBand 26 k) k
/-- With segment 27. -/
theorem b27 : Upto SegmentBand 0 28 := more b26 fun k => by
  rw [open0]; show lit0t1_0 _ = _; rw [lit0t1_0, digit2]; show lit0t0_27 _ = _; rw [lit0t0_27, digit3]
  exact (by decide +kernel : ∀ k : Fin 128, lit0t0_27 k.val = expectedBand 27 k) k
/-- With segment 28. -/
theorem b28 : Upto SegmentBand 0 29 := more b27 fun k => by
  rw [open0]; show lit0t1_0 _ = _; rw [lit0t1_0, digit2]; show lit0t0_28 _ = _; rw [lit0t0_28, digit3]
  exact (by decide +kernel : ∀ k : Fin 128, lit0t0_28 k.val = expectedBand 28 k) k
/-- With segment 29. -/
theorem b29 : Upto SegmentBand 0 30 := more b28 fun k => by
  rw [open0]; show lit0t1_0 _ = _; rw [lit0t1_0, digit2]; show lit0t0_29 _ = _; rw [lit0t0_29, digit3]
  exact (by decide +kernel : ∀ k : Fin 128, lit0t0_29 k.val = expectedBand 29 k) k
/-- With segment 30. -/
theorem b30 : Upto SegmentBand 0 31 := more b29 fun k => by
  rw [open0]; show lit0t1_0 _ = _; rw [lit0t1_0, digit2]; show lit0t0_30 _ = _; rw [lit0t0_30, digit3]
  exact (by decide +kernel : ∀ k : Fin 128, lit0t0_30 k.val = expectedBand 30 k) k
/-- With segment 31. -/
theorem b31 : Upto SegmentBand 0 32 := more b30 fun k => by
  rw [open0]; show lit0t1_0 _ = _; rw [lit0t1_0, digit2]; show lit0t0_31 _ = _; rw [lit0t0_31, digit3]
  exact (by decide +kernel : ∀ k : Fin 128, lit0t0_31 k.val = expectedBand 31 k) k
/-- With segment 32. -/
theorem b32 : Upto SegmentBand 0 33 := more b31 fun k => by
  rw [open0]; show lit0t1_0 _ = _; rw [lit0t1_0, digit2]; show lit0t0_32 _ = _; rw [lit0t0_32, digit3]
  exact (by decide +kernel : ∀ k : Fin 128, lit0t0_32 k.val = expectedBand 32 k) k
/-- With segment 33. -/
theorem b33 : Upto SegmentBand 0 34 := more b32 fun k => by
  rw [open0]; show lit0t1_0 _ = _; rw [lit0t1_0, digit2]; show lit0t0_33 _ = _; rw [lit0t0_33, digit3]
  exact (by decide +kernel : ∀ k : Fin 128, lit0t0_33 k.val = expectedBand 33 k) k
/-- With segment 34. -/
theorem b34 : Upto SegmentBand 0 35 := more b33 fun k => by
  rw [open0]; show lit0t1_0 _ = _; rw [lit0t1_0, digit2]; show lit0t0_34 _ = _; rw [lit0t0_34, digit3]
  exact (by decide +kernel : ∀ k : Fin 128, lit0t0_34 k.val = expectedBand 34 k) k
/-- With segment 35. -/
theorem b35 : Upto SegmentBand 0 36 := more b34 fun k => by
  rw [open0]; show lit0t1_0 _ = _; rw [lit0t1_0, digit2]; show lit0t0_35 _ = _; rw [lit0t0_35, digit3]
  exact (by decide +kernel : ∀ k : Fin 128, lit0t0_35 k.val = expectedBand 35 k) k
/-- With segment 36. -/
theorem b36 : Upto SegmentBand 0 37 := more b35 fun k => by
  rw [open0]; show lit0t1_0 _ = _; rw [lit0t1_0, digit2]; show lit0t0_36 _ = _; rw [lit0t0_36, digit3]
  exact (by decide +kernel : ∀ k : Fin 128, lit0t0_36 k.val = expectedBand 36 k) k
/-- With segment 37. -/
theorem b37 : Upto SegmentBand 0 38 := more b36 fun k => by
  rw [open0]; show lit0t1_0 _ = _; rw [lit0t1_0, digit2]; show lit0t0_37 _ = _; rw [lit0t0_37, digit3]
  exact (by decide +kernel : ∀ k : Fin 128, lit0t0_37 k.val = expectedBand 37 k) k
/-- With segment 38. -/
theorem b38 : Upto SegmentBand 0 39 := more b37 fun k => by
  rw [open0]; show lit0t1_0 _ = _; rw [lit0t1_0, digit2]; show lit0t0_38 _ = _; rw [lit0t0_38, digit3]
  exact (by decide +kernel : ∀ k : Fin 128, lit0t0_38 k.val = expectedBand 38 k) k
/-- With segment 39. -/
theorem b39 : Upto SegmentBand 0 40 := more b38 fun k => by
  rw [open0]; show lit0t1_0 _ = _; rw [lit0t1_0, digit2]; show lit0t0_39 _ = _; rw [lit0t0_39, digit3]
  exact (by decide +kernel : ∀ k : Fin 128, lit0t0_39 k.val = expectedBand 39 k) k
/-- With segment 40. -/
theorem b40 : Upto SegmentBand 0 41 := more b39 fun k => by
  rw [open0]; show lit0t1_0 _ = _; rw [lit0t1_0, digit2]; show lit0t0_40 _ = _; rw [lit0t0_40, digit3]
  exact (by decide +kernel : ∀ k : Fin 128, lit0t0_40 k.val = expectedBand 40 k) k
/-- With segment 41. -/
theorem b41 : Upto SegmentBand 0 42 := more b40 fun k => by
  rw [open0]; show lit0t1_0 _ = _; rw [lit0t1_0, digit2]; show lit0t0_41 _ = _; rw [lit0t0_41, digit3]
  exact (by decide +kernel : ∀ k : Fin 128, lit0t0_41 k.val = expectedBand 41 k) k
/-- With segment 42. -/
theorem b42 : Upto SegmentBand 0 43 := more b41 fun k => by
  rw [open0]; show lit0t1_0 _ = _; rw [lit0t1_0, digit2]; show lit0t0_42 _ = _; rw [lit0t0_42, digit3]
  exact (by decide +kernel : ∀ k : Fin 128, lit0t0_42 k.val = expectedBand 42 k) k
/-- With segment 43. -/
theorem b43 : Upto SegmentBand 0 44 := more b42 fun k => by
  rw [open0]; show lit0t1_0 _ = _; rw [lit0t1_0, digit2]; show lit0t0_43 _ = _; rw [lit0t0_43, digit3]
  exact (by decide +kernel : ∀ k : Fin 128, lit0t0_43 k.val = expectedBand 43 k) k
/-- With segment 44. -/
theorem b44 : Upto SegmentBand 0 45 := more b43 fun k => by
  rw [open0]; show lit0t1_0 _ = _; rw [lit0t1_0, digit2]; show lit0t0_44 _ = _; rw [lit0t0_44, digit3]
  exact (by decide +kernel : ∀ k : Fin 128, lit0t0_44 k.val = expectedBand 44 k) k
/-- With segment 45. -/
theorem b45 : Upto SegmentBand 0 46 := more b44 fun k => by
  rw [open0]; show lit0t1_0 _ = _; rw [lit0t1_0, digit2]; show lit0t0_45 _ = _; rw [lit0t0_45, digit3]
  exact (by decide +kernel : ∀ k : Fin 128, lit0t0_45 k.val = expectedBand 45 k) k
/-- With segment 46. -/
theorem b46 : Upto SegmentBand 0 47 := more b45 fun k => by
  rw [open0]; show lit0t1_0 _ = _; rw [lit0t1_0, digit2]; show lit0t0_46 _ = _; rw [lit0t0_46, digit3]
  exact (by decide +kernel : ∀ k : Fin 128, lit0t0_46 k.val = expectedBand 46 k) k
/-- With segment 47. -/
theorem b47 : Upto SegmentBand 0 48 := more b46 fun k => by
  rw [open0]; show lit0t1_0 _ = _; rw [lit0t1_0, digit2]; show lit0t0_47 _ = _; rw [lit0t0_47, digit3]
  exact (by decide +kernel : ∀ k : Fin 128, lit0t0_47 k.val = expectedBand 47 k) k
/-- With segment 48. -/
theorem b48 : Upto SegmentBand 0 49 := more b47 fun k => by
  rw [open0]; show lit0t1_0 _ = _; rw [lit0t1_0, digit2]; show lit0t0_48 _ = _; rw [lit0t0_48, digit3]
  exact (by decide +kernel : ∀ k : Fin 128, lit0t0_48 k.val = expectedBand 48 k) k
/-- With segment 49. -/
theorem b49 : Upto SegmentBand 0 50 := more b48 fun k => by
  rw [open0]; show lit0t1_0 _ = _; rw [lit0t1_0, digit2]; show lit0t0_49 _ = _; rw [lit0t0_49, digit3]
  exact (by decide +kernel : ∀ k : Fin 128, lit0t0_49 k.val = expectedBand 49 k) k
/-- With segment 50. -/
theorem b50 : Upto SegmentBand 0 51 := more b49 fun k => by
  rw [open0]; show lit0t1_0 _ = _; rw [lit0t1_0, digit2]; show lit0t0_50 _ = _; rw [lit0t0_50, digit3]
  exact (by decide +kernel : ∀ k : Fin 128, lit0t0_50 k.val = expectedBand 50 k) k
/-- With segment 51. -/
theorem b51 : Upto SegmentBand 0 52 := more b50 fun k => by
  rw [open0]; show lit0t1_0 _ = _; rw [lit0t1_0, digit2]; show lit0t0_51 _ = _; rw [lit0t0_51, digit3]
  exact (by decide +kernel : ∀ k : Fin 128, lit0t0_51 k.val = expectedBand 51 k) k
/-- With segment 52. -/
theorem b52 : Upto SegmentBand 0 53 := more b51 fun k => by
  rw [open0]; show lit0t1_0 _ = _; rw [lit0t1_0, digit2]; show lit0t0_52 _ = _; rw [lit0t0_52, digit3]
  exact (by decide +kernel : ∀ k : Fin 128, lit0t0_52 k.val = expectedBand 52 k) k
/-- With segment 53. -/
theorem b53 : Upto SegmentBand 0 54 := more b52 fun k => by
  rw [open0]; show lit0t1_0 _ = _; rw [lit0t1_0, digit2]; show lit0t0_53 _ = _; rw [lit0t0_53, digit3]
  exact (by decide +kernel : ∀ k : Fin 128, lit0t0_53 k.val = expectedBand 53 k) k
/-- With segment 54. -/
theorem b54 : Upto SegmentBand 0 55 := more b53 fun k => by
  rw [open0]; show lit0t1_0 _ = _; rw [lit0t1_0, digit2]; show lit0t0_54 _ = _; rw [lit0t0_54, digit3]
  exact (by decide +kernel : ∀ k : Fin 128, lit0t0_54 k.val = expectedBand 54 k) k
/-- With segment 55. -/
theorem b55 : Upto SegmentBand 0 56 := more b54 fun k => by
  rw [open0]; show lit0t1_0 _ = _; rw [lit0t1_0, digit2]; show lit0t0_55 _ = _; rw [lit0t0_55, digit3]
  exact (by decide +kernel : ∀ k : Fin 128, lit0t0_55 k.val = expectedBand 55 k) k
/-- With segment 56. -/
theorem b56 : Upto SegmentBand 0 57 := more b55 fun k => by
  rw [open0]; show lit0t1_0 _ = _; rw [lit0t1_0, digit2]; show lit0t0_56 _ = _; rw [lit0t0_56, digit3]
  exact (by decide +kernel : ∀ k : Fin 128, lit0t0_56 k.val = expectedBand 56 k) k
/-- With segment 57. -/
theorem b57 : Upto SegmentBand 0 58 := more b56 fun k => by
  rw [open0]; show lit0t1_0 _ = _; rw [lit0t1_0, digit2]; show lit0t0_57 _ = _; rw [lit0t0_57, digit3]
  exact (by decide +kernel : ∀ k : Fin 128, lit0t0_57 k.val = expectedBand 57 k) k
/-- With segment 58. -/
theorem b58 : Upto SegmentBand 0 59 := more b57 fun k => by
  rw [open0]; show lit0t1_0 _ = _; rw [lit0t1_0, digit2]; show lit0t0_58 _ = _; rw [lit0t0_58, digit3]
  exact (by decide +kernel : ∀ k : Fin 128, lit0t0_58 k.val = expectedBand 58 k) k
/-- With segment 59. -/
theorem b59 : Upto SegmentBand 0 60 := more b58 fun k => by
  rw [open0]; show lit0t1_0 _ = _; rw [lit0t1_0, digit2]; show lit0t0_59 _ = _; rw [lit0t0_59, digit3]
  exact (by decide +kernel : ∀ k : Fin 128, lit0t0_59 k.val = expectedBand 59 k) k
/-- With segment 60. -/
theorem b60 : Upto SegmentBand 0 61 := more b59 fun k => by
  rw [open0]; show lit0t1_0 _ = _; rw [lit0t1_0, digit2]; show lit0t0_60 _ = _; rw [lit0t0_60, digit3]
  exact (by decide +kernel : ∀ k : Fin 128, lit0t0_60 k.val = expectedBand 60 k) k
/-- With segment 61. -/
theorem b61 : Upto SegmentBand 0 62 := more b60 fun k => by
  rw [open0]; show lit0t1_0 _ = _; rw [lit0t1_0, digit2]; show lit0t0_61 _ = _; rw [lit0t0_61, digit3]
  exact (by decide +kernel : ∀ k : Fin 128, lit0t0_61 k.val = expectedBand 61 k) k
/-- With segment 62. -/
theorem b62 : Upto SegmentBand 0 63 := more b61 fun k => by
  rw [open0]; show lit0t1_0 _ = _; rw [lit0t1_0, digit2]; show lit0t0_62 _ = _; rw [lit0t0_62, digit3]
  exact (by decide +kernel : ∀ k : Fin 128, lit0t0_62 k.val = expectedBand 62 k) k
/-- With segment 63. -/
theorem b63 : Upto SegmentBand 0 64 := more b62 fun k => by
  rw [open0]; show lit0t1_0 _ = _; rw [lit0t1_0, digit2]; show lit0t0_63 _ = _; rw [lit0t0_63, digit3]
  exact (by decide +kernel : ∀ k : Fin 128, lit0t0_63 k.val = expectedBand 63 k) k

/-- The band table's segments from 0 to 63. -/
theorem band0 : Upto SegmentBand 0 64 := b63

end Cert.SwaIdeal.Table

end
-- ==== Proof.SwaTable1.lean ====
/- Segments 64 to 127 of the distance and band tables of the windowed attention, read. -/
module

public import proofs.«01_k».proof.Proof.SwaTable

@[expose] public section

set_option maxRecDepth 16384

noncomputable section

namespace Cert.SwaIdeal.Table

/-- With segment 64. -/
theorem d64 : Upto Segment 64 65 := more (start 64) fun k => by
  rw [open1]; show lit1t1_0 _ = _; rw [lit1t1_0, digit2]; show lit1t0_64 _ = _; rw [lit1t0_64, digit3]
  exact (by decide +kernel : ∀ k : Fin 128, lit1t0_64 k.val = expected 64 k) k
/-- With segment 65. -/
theorem d65 : Upto Segment 64 66 := more d64 fun k => by
  rw [open1]; show lit1t1_0 _ = _; rw [lit1t1_0, digit2]; show lit1t0_65 _ = _; rw [lit1t0_65, digit3]
  exact (by decide +kernel : ∀ k : Fin 128, lit1t0_65 k.val = expected 65 k) k
/-- With segment 66. -/
theorem d66 : Upto Segment 64 67 := more d65 fun k => by
  rw [open1]; show lit1t1_0 _ = _; rw [lit1t1_0, digit2]; show lit1t0_66 _ = _; rw [lit1t0_66, digit3]
  exact (by decide +kernel : ∀ k : Fin 128, lit1t0_66 k.val = expected 66 k) k
/-- With segment 67. -/
theorem d67 : Upto Segment 64 68 := more d66 fun k => by
  rw [open1]; show lit1t1_0 _ = _; rw [lit1t1_0, digit2]; show lit1t0_67 _ = _; rw [lit1t0_67, digit3]
  exact (by decide +kernel : ∀ k : Fin 128, lit1t0_67 k.val = expected 67 k) k
/-- With segment 68. -/
theorem d68 : Upto Segment 64 69 := more d67 fun k => by
  rw [open1]; show lit1t1_0 _ = _; rw [lit1t1_0, digit2]; show lit1t0_68 _ = _; rw [lit1t0_68, digit3]
  exact (by decide +kernel : ∀ k : Fin 128, lit1t0_68 k.val = expected 68 k) k
/-- With segment 69. -/
theorem d69 : Upto Segment 64 70 := more d68 fun k => by
  rw [open1]; show lit1t1_0 _ = _; rw [lit1t1_0, digit2]; show lit1t0_69 _ = _; rw [lit1t0_69, digit3]
  exact (by decide +kernel : ∀ k : Fin 128, lit1t0_69 k.val = expected 69 k) k
/-- With segment 70. -/
theorem d70 : Upto Segment 64 71 := more d69 fun k => by
  rw [open1]; show lit1t1_0 _ = _; rw [lit1t1_0, digit2]; show lit1t0_70 _ = _; rw [lit1t0_70, digit3]
  exact (by decide +kernel : ∀ k : Fin 128, lit1t0_70 k.val = expected 70 k) k
/-- With segment 71. -/
theorem d71 : Upto Segment 64 72 := more d70 fun k => by
  rw [open1]; show lit1t1_0 _ = _; rw [lit1t1_0, digit2]; show lit1t0_71 _ = _; rw [lit1t0_71, digit3]
  exact (by decide +kernel : ∀ k : Fin 128, lit1t0_71 k.val = expected 71 k) k
/-- With segment 72. -/
theorem d72 : Upto Segment 64 73 := more d71 fun k => by
  rw [open1]; show lit1t1_0 _ = _; rw [lit1t1_0, digit2]; show lit1t0_72 _ = _; rw [lit1t0_72, digit3]
  exact (by decide +kernel : ∀ k : Fin 128, lit1t0_72 k.val = expected 72 k) k
/-- With segment 73. -/
theorem d73 : Upto Segment 64 74 := more d72 fun k => by
  rw [open1]; show lit1t1_0 _ = _; rw [lit1t1_0, digit2]; show lit1t0_73 _ = _; rw [lit1t0_73, digit3]
  exact (by decide +kernel : ∀ k : Fin 128, lit1t0_73 k.val = expected 73 k) k
/-- With segment 74. -/
theorem d74 : Upto Segment 64 75 := more d73 fun k => by
  rw [open1]; show lit1t1_0 _ = _; rw [lit1t1_0, digit2]; show lit1t0_74 _ = _; rw [lit1t0_74, digit3]
  exact (by decide +kernel : ∀ k : Fin 128, lit1t0_74 k.val = expected 74 k) k
/-- With segment 75. -/
theorem d75 : Upto Segment 64 76 := more d74 fun k => by
  rw [open1]; show lit1t1_0 _ = _; rw [lit1t1_0, digit2]; show lit1t0_75 _ = _; rw [lit1t0_75, digit3]
  exact (by decide +kernel : ∀ k : Fin 128, lit1t0_75 k.val = expected 75 k) k
/-- With segment 76. -/
theorem d76 : Upto Segment 64 77 := more d75 fun k => by
  rw [open1]; show lit1t1_0 _ = _; rw [lit1t1_0, digit2]; show lit1t0_76 _ = _; rw [lit1t0_76, digit3]
  exact (by decide +kernel : ∀ k : Fin 128, lit1t0_76 k.val = expected 76 k) k
/-- With segment 77. -/
theorem d77 : Upto Segment 64 78 := more d76 fun k => by
  rw [open1]; show lit1t1_0 _ = _; rw [lit1t1_0, digit2]; show lit1t0_77 _ = _; rw [lit1t0_77, digit3]
  exact (by decide +kernel : ∀ k : Fin 128, lit1t0_77 k.val = expected 77 k) k
/-- With segment 78. -/
theorem d78 : Upto Segment 64 79 := more d77 fun k => by
  rw [open1]; show lit1t1_0 _ = _; rw [lit1t1_0, digit2]; show lit1t0_78 _ = _; rw [lit1t0_78, digit3]
  exact (by decide +kernel : ∀ k : Fin 128, lit1t0_78 k.val = expected 78 k) k
/-- With segment 79. -/
theorem d79 : Upto Segment 64 80 := more d78 fun k => by
  rw [open1]; show lit1t1_0 _ = _; rw [lit1t1_0, digit2]; show lit1t0_79 _ = _; rw [lit1t0_79, digit3]
  exact (by decide +kernel : ∀ k : Fin 128, lit1t0_79 k.val = expected 79 k) k
/-- With segment 80. -/
theorem d80 : Upto Segment 64 81 := more d79 fun k => by
  rw [open1]; show lit1t1_0 _ = _; rw [lit1t1_0, digit2]; show lit1t0_80 _ = _; rw [lit1t0_80, digit3]
  exact (by decide +kernel : ∀ k : Fin 128, lit1t0_80 k.val = expected 80 k) k
/-- With segment 81. -/
theorem d81 : Upto Segment 64 82 := more d80 fun k => by
  rw [open1]; show lit1t1_0 _ = _; rw [lit1t1_0, digit2]; show lit1t0_81 _ = _; rw [lit1t0_81, digit3]
  exact (by decide +kernel : ∀ k : Fin 128, lit1t0_81 k.val = expected 81 k) k
/-- With segment 82. -/
theorem d82 : Upto Segment 64 83 := more d81 fun k => by
  rw [open1]; show lit1t1_0 _ = _; rw [lit1t1_0, digit2]; show lit1t0_82 _ = _; rw [lit1t0_82, digit3]
  exact (by decide +kernel : ∀ k : Fin 128, lit1t0_82 k.val = expected 82 k) k
/-- With segment 83. -/
theorem d83 : Upto Segment 64 84 := more d82 fun k => by
  rw [open1]; show lit1t1_0 _ = _; rw [lit1t1_0, digit2]; show lit1t0_83 _ = _; rw [lit1t0_83, digit3]
  exact (by decide +kernel : ∀ k : Fin 128, lit1t0_83 k.val = expected 83 k) k
/-- With segment 84. -/
theorem d84 : Upto Segment 64 85 := more d83 fun k => by
  rw [open1]; show lit1t1_0 _ = _; rw [lit1t1_0, digit2]; show lit1t0_84 _ = _; rw [lit1t0_84, digit3]
  exact (by decide +kernel : ∀ k : Fin 128, lit1t0_84 k.val = expected 84 k) k
/-- With segment 85. -/
theorem d85 : Upto Segment 64 86 := more d84 fun k => by
  rw [open1]; show lit1t1_0 _ = _; rw [lit1t1_0, digit2]; show lit1t0_85 _ = _; rw [lit1t0_85, digit3]
  exact (by decide +kernel : ∀ k : Fin 128, lit1t0_85 k.val = expected 85 k) k
/-- With segment 86. -/
theorem d86 : Upto Segment 64 87 := more d85 fun k => by
  rw [open1]; show lit1t1_0 _ = _; rw [lit1t1_0, digit2]; show lit1t0_86 _ = _; rw [lit1t0_86, digit3]
  exact (by decide +kernel : ∀ k : Fin 128, lit1t0_86 k.val = expected 86 k) k
/-- With segment 87. -/
theorem d87 : Upto Segment 64 88 := more d86 fun k => by
  rw [open1]; show lit1t1_0 _ = _; rw [lit1t1_0, digit2]; show lit1t0_87 _ = _; rw [lit1t0_87, digit3]
  exact (by decide +kernel : ∀ k : Fin 128, lit1t0_87 k.val = expected 87 k) k
/-- With segment 88. -/
theorem d88 : Upto Segment 64 89 := more d87 fun k => by
  rw [open1]; show lit1t1_0 _ = _; rw [lit1t1_0, digit2]; show lit1t0_88 _ = _; rw [lit1t0_88, digit3]
  exact (by decide +kernel : ∀ k : Fin 128, lit1t0_88 k.val = expected 88 k) k
/-- With segment 89. -/
theorem d89 : Upto Segment 64 90 := more d88 fun k => by
  rw [open1]; show lit1t1_0 _ = _; rw [lit1t1_0, digit2]; show lit1t0_89 _ = _; rw [lit1t0_89, digit3]
  exact (by decide +kernel : ∀ k : Fin 128, lit1t0_89 k.val = expected 89 k) k
/-- With segment 90. -/
theorem d90 : Upto Segment 64 91 := more d89 fun k => by
  rw [open1]; show lit1t1_0 _ = _; rw [lit1t1_0, digit2]; show lit1t0_90 _ = _; rw [lit1t0_90, digit3]
  exact (by decide +kernel : ∀ k : Fin 128, lit1t0_90 k.val = expected 90 k) k
/-- With segment 91. -/
theorem d91 : Upto Segment 64 92 := more d90 fun k => by
  rw [open1]; show lit1t1_0 _ = _; rw [lit1t1_0, digit2]; show lit1t0_91 _ = _; rw [lit1t0_91, digit3]
  exact (by decide +kernel : ∀ k : Fin 128, lit1t0_91 k.val = expected 91 k) k
/-- With segment 92. -/
theorem d92 : Upto Segment 64 93 := more d91 fun k => by
  rw [open1]; show lit1t1_0 _ = _; rw [lit1t1_0, digit2]; show lit1t0_92 _ = _; rw [lit1t0_92, digit3]
  exact (by decide +kernel : ∀ k : Fin 128, lit1t0_92 k.val = expected 92 k) k
/-- With segment 93. -/
theorem d93 : Upto Segment 64 94 := more d92 fun k => by
  rw [open1]; show lit1t1_0 _ = _; rw [lit1t1_0, digit2]; show lit1t0_93 _ = _; rw [lit1t0_93, digit3]
  exact (by decide +kernel : ∀ k : Fin 128, lit1t0_93 k.val = expected 93 k) k
/-- With segment 94. -/
theorem d94 : Upto Segment 64 95 := more d93 fun k => by
  rw [open1]; show lit1t1_0 _ = _; rw [lit1t1_0, digit2]; show lit1t0_94 _ = _; rw [lit1t0_94, digit3]
  exact (by decide +kernel : ∀ k : Fin 128, lit1t0_94 k.val = expected 94 k) k
/-- With segment 95. -/
theorem d95 : Upto Segment 64 96 := more d94 fun k => by
  rw [open1]; show lit1t1_0 _ = _; rw [lit1t1_0, digit2]; show lit1t0_95 _ = _; rw [lit1t0_95, digit3]
  exact (by decide +kernel : ∀ k : Fin 128, lit1t0_95 k.val = expected 95 k) k
/-- With segment 96. -/
theorem d96 : Upto Segment 64 97 := more d95 fun k => by
  rw [open1]; show lit1t1_0 _ = _; rw [lit1t1_0, digit2]; show lit1t0_96 _ = _; rw [lit1t0_96, digit3]
  exact (by decide +kernel : ∀ k : Fin 128, lit1t0_96 k.val = expected 96 k) k
/-- With segment 97. -/
theorem d97 : Upto Segment 64 98 := more d96 fun k => by
  rw [open1]; show lit1t1_0 _ = _; rw [lit1t1_0, digit2]; show lit1t0_97 _ = _; rw [lit1t0_97, digit3]
  exact (by decide +kernel : ∀ k : Fin 128, lit1t0_97 k.val = expected 97 k) k
/-- With segment 98. -/
theorem d98 : Upto Segment 64 99 := more d97 fun k => by
  rw [open1]; show lit1t1_0 _ = _; rw [lit1t1_0, digit2]; show lit1t0_98 _ = _; rw [lit1t0_98, digit3]
  exact (by decide +kernel : ∀ k : Fin 128, lit1t0_98 k.val = expected 98 k) k
/-- With segment 99. -/
theorem d99 : Upto Segment 64 100 := more d98 fun k => by
  rw [open1]; show lit1t1_0 _ = _; rw [lit1t1_0, digit2]; show lit1t0_99 _ = _; rw [lit1t0_99, digit3]
  exact (by decide +kernel : ∀ k : Fin 128, lit1t0_99 k.val = expected 99 k) k
/-- With segment 100. -/
theorem d100 : Upto Segment 64 101 := more d99 fun k => by
  rw [open1]; show lit1t1_0 _ = _; rw [lit1t1_0, digit2]; show lit1t0_100 _ = _; rw [lit1t0_100, digit3]
  exact (by decide +kernel : ∀ k : Fin 128, lit1t0_100 k.val = expected 100 k) k
/-- With segment 101. -/
theorem d101 : Upto Segment 64 102 := more d100 fun k => by
  rw [open1]; show lit1t1_0 _ = _; rw [lit1t1_0, digit2]; show lit1t0_101 _ = _; rw [lit1t0_101, digit3]
  exact (by decide +kernel : ∀ k : Fin 128, lit1t0_101 k.val = expected 101 k) k
/-- With segment 102. -/
theorem d102 : Upto Segment 64 103 := more d101 fun k => by
  rw [open1]; show lit1t1_0 _ = _; rw [lit1t1_0, digit2]; show lit1t0_102 _ = _; rw [lit1t0_102, digit3]
  exact (by decide +kernel : ∀ k : Fin 128, lit1t0_102 k.val = expected 102 k) k
/-- With segment 103. -/
theorem d103 : Upto Segment 64 104 := more d102 fun k => by
  rw [open1]; show lit1t1_0 _ = _; rw [lit1t1_0, digit2]; show lit1t0_103 _ = _; rw [lit1t0_103, digit3]
  exact (by decide +kernel : ∀ k : Fin 128, lit1t0_103 k.val = expected 103 k) k
/-- With segment 104. -/
theorem d104 : Upto Segment 64 105 := more d103 fun k => by
  rw [open1]; show lit1t1_0 _ = _; rw [lit1t1_0, digit2]; show lit1t0_104 _ = _; rw [lit1t0_104, digit3]
  exact (by decide +kernel : ∀ k : Fin 128, lit1t0_104 k.val = expected 104 k) k
/-- With segment 105. -/
theorem d105 : Upto Segment 64 106 := more d104 fun k => by
  rw [open1]; show lit1t1_0 _ = _; rw [lit1t1_0, digit2]; show lit1t0_105 _ = _; rw [lit1t0_105, digit3]
  exact (by decide +kernel : ∀ k : Fin 128, lit1t0_105 k.val = expected 105 k) k
/-- With segment 106. -/
theorem d106 : Upto Segment 64 107 := more d105 fun k => by
  rw [open1]; show lit1t1_0 _ = _; rw [lit1t1_0, digit2]; show lit1t0_106 _ = _; rw [lit1t0_106, digit3]
  exact (by decide +kernel : ∀ k : Fin 128, lit1t0_106 k.val = expected 106 k) k
/-- With segment 107. -/
theorem d107 : Upto Segment 64 108 := more d106 fun k => by
  rw [open1]; show lit1t1_0 _ = _; rw [lit1t1_0, digit2]; show lit1t0_107 _ = _; rw [lit1t0_107, digit3]
  exact (by decide +kernel : ∀ k : Fin 128, lit1t0_107 k.val = expected 107 k) k
/-- With segment 108. -/
theorem d108 : Upto Segment 64 109 := more d107 fun k => by
  rw [open1]; show lit1t1_0 _ = _; rw [lit1t1_0, digit2]; show lit1t0_108 _ = _; rw [lit1t0_108, digit3]
  exact (by decide +kernel : ∀ k : Fin 128, lit1t0_108 k.val = expected 108 k) k
/-- With segment 109. -/
theorem d109 : Upto Segment 64 110 := more d108 fun k => by
  rw [open1]; show lit1t1_0 _ = _; rw [lit1t1_0, digit2]; show lit1t0_109 _ = _; rw [lit1t0_109, digit3]
  exact (by decide +kernel : ∀ k : Fin 128, lit1t0_109 k.val = expected 109 k) k
/-- With segment 110. -/
theorem d110 : Upto Segment 64 111 := more d109 fun k => by
  rw [open1]; show lit1t1_0 _ = _; rw [lit1t1_0, digit2]; show lit1t0_110 _ = _; rw [lit1t0_110, digit3]
  exact (by decide +kernel : ∀ k : Fin 128, lit1t0_110 k.val = expected 110 k) k
/-- With segment 111. -/
theorem d111 : Upto Segment 64 112 := more d110 fun k => by
  rw [open1]; show lit1t1_0 _ = _; rw [lit1t1_0, digit2]; show lit1t0_111 _ = _; rw [lit1t0_111, digit3]
  exact (by decide +kernel : ∀ k : Fin 128, lit1t0_111 k.val = expected 111 k) k
/-- With segment 112. -/
theorem d112 : Upto Segment 64 113 := more d111 fun k => by
  rw [open1]; show lit1t1_0 _ = _; rw [lit1t1_0, digit2]; show lit1t0_112 _ = _; rw [lit1t0_112, digit3]
  exact (by decide +kernel : ∀ k : Fin 128, lit1t0_112 k.val = expected 112 k) k
/-- With segment 113. -/
theorem d113 : Upto Segment 64 114 := more d112 fun k => by
  rw [open1]; show lit1t1_0 _ = _; rw [lit1t1_0, digit2]; show lit1t0_113 _ = _; rw [lit1t0_113, digit3]
  exact (by decide +kernel : ∀ k : Fin 128, lit1t0_113 k.val = expected 113 k) k
/-- With segment 114. -/
theorem d114 : Upto Segment 64 115 := more d113 fun k => by
  rw [open1]; show lit1t1_0 _ = _; rw [lit1t1_0, digit2]; show lit1t0_114 _ = _; rw [lit1t0_114, digit3]
  exact (by decide +kernel : ∀ k : Fin 128, lit1t0_114 k.val = expected 114 k) k
/-- With segment 115. -/
theorem d115 : Upto Segment 64 116 := more d114 fun k => by
  rw [open1]; show lit1t1_0 _ = _; rw [lit1t1_0, digit2]; show lit1t0_115 _ = _; rw [lit1t0_115, digit3]
  exact (by decide +kernel : ∀ k : Fin 128, lit1t0_115 k.val = expected 115 k) k
/-- With segment 116. -/
theorem d116 : Upto Segment 64 117 := more d115 fun k => by
  rw [open1]; show lit1t1_0 _ = _; rw [lit1t1_0, digit2]; show lit1t0_116 _ = _; rw [lit1t0_116, digit3]
  exact (by decide +kernel : ∀ k : Fin 128, lit1t0_116 k.val = expected 116 k) k
/-- With segment 117. -/
theorem d117 : Upto Segment 64 118 := more d116 fun k => by
  rw [open1]; show lit1t1_0 _ = _; rw [lit1t1_0, digit2]; show lit1t0_117 _ = _; rw [lit1t0_117, digit3]
  exact (by decide +kernel : ∀ k : Fin 128, lit1t0_117 k.val = expected 117 k) k
/-- With segment 118. -/
theorem d118 : Upto Segment 64 119 := more d117 fun k => by
  rw [open1]; show lit1t1_0 _ = _; rw [lit1t1_0, digit2]; show lit1t0_118 _ = _; rw [lit1t0_118, digit3]
  exact (by decide +kernel : ∀ k : Fin 128, lit1t0_118 k.val = expected 118 k) k
/-- With segment 119. -/
theorem d119 : Upto Segment 64 120 := more d118 fun k => by
  rw [open1]; show lit1t1_0 _ = _; rw [lit1t1_0, digit2]; show lit1t0_119 _ = _; rw [lit1t0_119, digit3]
  exact (by decide +kernel : ∀ k : Fin 128, lit1t0_119 k.val = expected 119 k) k
/-- With segment 120. -/
theorem d120 : Upto Segment 64 121 := more d119 fun k => by
  rw [open1]; show lit1t1_0 _ = _; rw [lit1t1_0, digit2]; show lit1t0_120 _ = _; rw [lit1t0_120, digit3]
  exact (by decide +kernel : ∀ k : Fin 128, lit1t0_120 k.val = expected 120 k) k
/-- With segment 121. -/
theorem d121 : Upto Segment 64 122 := more d120 fun k => by
  rw [open1]; show lit1t1_0 _ = _; rw [lit1t1_0, digit2]; show lit1t0_121 _ = _; rw [lit1t0_121, digit3]
  exact (by decide +kernel : ∀ k : Fin 128, lit1t0_121 k.val = expected 121 k) k
/-- With segment 122. -/
theorem d122 : Upto Segment 64 123 := more d121 fun k => by
  rw [open1]; show lit1t1_0 _ = _; rw [lit1t1_0, digit2]; show lit1t0_122 _ = _; rw [lit1t0_122, digit3]
  exact (by decide +kernel : ∀ k : Fin 128, lit1t0_122 k.val = expected 122 k) k
/-- With segment 123. -/
theorem d123 : Upto Segment 64 124 := more d122 fun k => by
  rw [open1]; show lit1t1_0 _ = _; rw [lit1t1_0, digit2]; show lit1t0_123 _ = _; rw [lit1t0_123, digit3]
  exact (by decide +kernel : ∀ k : Fin 128, lit1t0_123 k.val = expected 123 k) k
/-- With segment 124. -/
theorem d124 : Upto Segment 64 125 := more d123 fun k => by
  rw [open1]; show lit1t1_0 _ = _; rw [lit1t1_0, digit2]; show lit1t0_124 _ = _; rw [lit1t0_124, digit3]
  exact (by decide +kernel : ∀ k : Fin 128, lit1t0_124 k.val = expected 124 k) k
/-- With segment 125. -/
theorem d125 : Upto Segment 64 126 := more d124 fun k => by
  rw [open1]; show lit1t1_0 _ = _; rw [lit1t1_0, digit2]; show lit1t0_125 _ = _; rw [lit1t0_125, digit3]
  exact (by decide +kernel : ∀ k : Fin 128, lit1t0_125 k.val = expected 125 k) k
/-- With segment 126. -/
theorem d126 : Upto Segment 64 127 := more d125 fun k => by
  rw [open1]; show lit1t1_0 _ = _; rw [lit1t1_0, digit2]; show lit1t0_126 _ = _; rw [lit1t0_126, digit3]
  exact (by decide +kernel : ∀ k : Fin 128, lit1t0_126 k.val = expected 126 k) k
/-- With segment 127. -/
theorem d127 : Upto Segment 64 128 := more d126 fun k => by
  rw [open1]; show lit1t1_0 _ = _; rw [lit1t1_0, digit2]; show lit1t0_127 _ = _; rw [lit1t0_127, digit3]
  exact (by decide +kernel : ∀ k : Fin 128, lit1t0_127 k.val = expected 127 k) k

/-- The distance table's segments from 64 to 127. -/
theorem distance1 : Upto Segment 64 128 := d127

/-- With segment 64. -/
theorem b64 : Upto SegmentBand 64 65 := more (start 64) fun k => by
  rw [open0]; show lit0t1_0 _ = _; rw [lit0t1_0, digit2]; show lit0t0_64 _ = _; rw [lit0t0_64, digit3]
  exact (by decide +kernel : ∀ k : Fin 128, lit0t0_64 k.val = expectedBand 64 k) k
/-- With segment 65. -/
theorem b65 : Upto SegmentBand 64 66 := more b64 fun k => by
  rw [open0]; show lit0t1_0 _ = _; rw [lit0t1_0, digit2]; show lit0t0_65 _ = _; rw [lit0t0_65, digit3]
  exact (by decide +kernel : ∀ k : Fin 128, lit0t0_65 k.val = expectedBand 65 k) k
/-- With segment 66. -/
theorem b66 : Upto SegmentBand 64 67 := more b65 fun k => by
  rw [open0]; show lit0t1_0 _ = _; rw [lit0t1_0, digit2]; show lit0t0_66 _ = _; rw [lit0t0_66, digit3]
  exact (by decide +kernel : ∀ k : Fin 128, lit0t0_66 k.val = expectedBand 66 k) k
/-- With segment 67. -/
theorem b67 : Upto SegmentBand 64 68 := more b66 fun k => by
  rw [open0]; show lit0t1_0 _ = _; rw [lit0t1_0, digit2]; show lit0t0_67 _ = _; rw [lit0t0_67, digit3]
  exact (by decide +kernel : ∀ k : Fin 128, lit0t0_67 k.val = expectedBand 67 k) k
/-- With segment 68. -/
theorem b68 : Upto SegmentBand 64 69 := more b67 fun k => by
  rw [open0]; show lit0t1_0 _ = _; rw [lit0t1_0, digit2]; show lit0t0_68 _ = _; rw [lit0t0_68, digit3]
  exact (by decide +kernel : ∀ k : Fin 128, lit0t0_68 k.val = expectedBand 68 k) k
/-- With segment 69. -/
theorem b69 : Upto SegmentBand 64 70 := more b68 fun k => by
  rw [open0]; show lit0t1_0 _ = _; rw [lit0t1_0, digit2]; show lit0t0_69 _ = _; rw [lit0t0_69, digit3]
  exact (by decide +kernel : ∀ k : Fin 128, lit0t0_69 k.val = expectedBand 69 k) k
/-- With segment 70. -/
theorem b70 : Upto SegmentBand 64 71 := more b69 fun k => by
  rw [open0]; show lit0t1_0 _ = _; rw [lit0t1_0, digit2]; show lit0t0_70 _ = _; rw [lit0t0_70, digit3]
  exact (by decide +kernel : ∀ k : Fin 128, lit0t0_70 k.val = expectedBand 70 k) k
/-- With segment 71. -/
theorem b71 : Upto SegmentBand 64 72 := more b70 fun k => by
  rw [open0]; show lit0t1_0 _ = _; rw [lit0t1_0, digit2]; show lit0t0_71 _ = _; rw [lit0t0_71, digit3]
  exact (by decide +kernel : ∀ k : Fin 128, lit0t0_71 k.val = expectedBand 71 k) k
/-- With segment 72. -/
theorem b72 : Upto SegmentBand 64 73 := more b71 fun k => by
  rw [open0]; show lit0t1_0 _ = _; rw [lit0t1_0, digit2]; show lit0t0_72 _ = _; rw [lit0t0_72, digit3]
  exact (by decide +kernel : ∀ k : Fin 128, lit0t0_72 k.val = expectedBand 72 k) k
/-- With segment 73. -/
theorem b73 : Upto SegmentBand 64 74 := more b72 fun k => by
  rw [open0]; show lit0t1_0 _ = _; rw [lit0t1_0, digit2]; show lit0t0_73 _ = _; rw [lit0t0_73, digit3]
  exact (by decide +kernel : ∀ k : Fin 128, lit0t0_73 k.val = expectedBand 73 k) k
/-- With segment 74. -/
theorem b74 : Upto SegmentBand 64 75 := more b73 fun k => by
  rw [open0]; show lit0t1_0 _ = _; rw [lit0t1_0, digit2]; show lit0t0_74 _ = _; rw [lit0t0_74, digit3]
  exact (by decide +kernel : ∀ k : Fin 128, lit0t0_74 k.val = expectedBand 74 k) k
/-- With segment 75. -/
theorem b75 : Upto SegmentBand 64 76 := more b74 fun k => by
  rw [open0]; show lit0t1_0 _ = _; rw [lit0t1_0, digit2]; show lit0t0_75 _ = _; rw [lit0t0_75, digit3]
  exact (by decide +kernel : ∀ k : Fin 128, lit0t0_75 k.val = expectedBand 75 k) k
/-- With segment 76. -/
theorem b76 : Upto SegmentBand 64 77 := more b75 fun k => by
  rw [open0]; show lit0t1_0 _ = _; rw [lit0t1_0, digit2]; show lit0t0_76 _ = _; rw [lit0t0_76, digit3]
  exact (by decide +kernel : ∀ k : Fin 128, lit0t0_76 k.val = expectedBand 76 k) k
/-- With segment 77. -/
theorem b77 : Upto SegmentBand 64 78 := more b76 fun k => by
  rw [open0]; show lit0t1_0 _ = _; rw [lit0t1_0, digit2]; show lit0t0_77 _ = _; rw [lit0t0_77, digit3]
  exact (by decide +kernel : ∀ k : Fin 128, lit0t0_77 k.val = expectedBand 77 k) k
/-- With segment 78. -/
theorem b78 : Upto SegmentBand 64 79 := more b77 fun k => by
  rw [open0]; show lit0t1_0 _ = _; rw [lit0t1_0, digit2]; show lit0t0_78 _ = _; rw [lit0t0_78, digit3]
  exact (by decide +kernel : ∀ k : Fin 128, lit0t0_78 k.val = expectedBand 78 k) k
/-- With segment 79. -/
theorem b79 : Upto SegmentBand 64 80 := more b78 fun k => by
  rw [open0]; show lit0t1_0 _ = _; rw [lit0t1_0, digit2]; show lit0t0_79 _ = _; rw [lit0t0_79, digit3]
  exact (by decide +kernel : ∀ k : Fin 128, lit0t0_79 k.val = expectedBand 79 k) k
/-- With segment 80. -/
theorem b80 : Upto SegmentBand 64 81 := more b79 fun k => by
  rw [open0]; show lit0t1_0 _ = _; rw [lit0t1_0, digit2]; show lit0t0_80 _ = _; rw [lit0t0_80, digit3]
  exact (by decide +kernel : ∀ k : Fin 128, lit0t0_80 k.val = expectedBand 80 k) k
/-- With segment 81. -/
theorem b81 : Upto SegmentBand 64 82 := more b80 fun k => by
  rw [open0]; show lit0t1_0 _ = _; rw [lit0t1_0, digit2]; show lit0t0_81 _ = _; rw [lit0t0_81, digit3]
  exact (by decide +kernel : ∀ k : Fin 128, lit0t0_81 k.val = expectedBand 81 k) k
/-- With segment 82. -/
theorem b82 : Upto SegmentBand 64 83 := more b81 fun k => by
  rw [open0]; show lit0t1_0 _ = _; rw [lit0t1_0, digit2]; show lit0t0_82 _ = _; rw [lit0t0_82, digit3]
  exact (by decide +kernel : ∀ k : Fin 128, lit0t0_82 k.val = expectedBand 82 k) k
/-- With segment 83. -/
theorem b83 : Upto SegmentBand 64 84 := more b82 fun k => by
  rw [open0]; show lit0t1_0 _ = _; rw [lit0t1_0, digit2]; show lit0t0_83 _ = _; rw [lit0t0_83, digit3]
  exact (by decide +kernel : ∀ k : Fin 128, lit0t0_83 k.val = expectedBand 83 k) k
/-- With segment 84. -/
theorem b84 : Upto SegmentBand 64 85 := more b83 fun k => by
  rw [open0]; show lit0t1_0 _ = _; rw [lit0t1_0, digit2]; show lit0t0_84 _ = _; rw [lit0t0_84, digit3]
  exact (by decide +kernel : ∀ k : Fin 128, lit0t0_84 k.val = expectedBand 84 k) k
/-- With segment 85. -/
theorem b85 : Upto SegmentBand 64 86 := more b84 fun k => by
  rw [open0]; show lit0t1_0 _ = _; rw [lit0t1_0, digit2]; show lit0t0_85 _ = _; rw [lit0t0_85, digit3]
  exact (by decide +kernel : ∀ k : Fin 128, lit0t0_85 k.val = expectedBand 85 k) k
/-- With segment 86. -/
theorem b86 : Upto SegmentBand 64 87 := more b85 fun k => by
  rw [open0]; show lit0t1_0 _ = _; rw [lit0t1_0, digit2]; show lit0t0_86 _ = _; rw [lit0t0_86, digit3]
  exact (by decide +kernel : ∀ k : Fin 128, lit0t0_86 k.val = expectedBand 86 k) k
/-- With segment 87. -/
theorem b87 : Upto SegmentBand 64 88 := more b86 fun k => by
  rw [open0]; show lit0t1_0 _ = _; rw [lit0t1_0, digit2]; show lit0t0_87 _ = _; rw [lit0t0_87, digit3]
  exact (by decide +kernel : ∀ k : Fin 128, lit0t0_87 k.val = expectedBand 87 k) k
/-- With segment 88. -/
theorem b88 : Upto SegmentBand 64 89 := more b87 fun k => by
  rw [open0]; show lit0t1_0 _ = _; rw [lit0t1_0, digit2]; show lit0t0_88 _ = _; rw [lit0t0_88, digit3]
  exact (by decide +kernel : ∀ k : Fin 128, lit0t0_88 k.val = expectedBand 88 k) k
/-- With segment 89. -/
theorem b89 : Upto SegmentBand 64 90 := more b88 fun k => by
  rw [open0]; show lit0t1_0 _ = _; rw [lit0t1_0, digit2]; show lit0t0_89 _ = _; rw [lit0t0_89, digit3]
  exact (by decide +kernel : ∀ k : Fin 128, lit0t0_89 k.val = expectedBand 89 k) k
/-- With segment 90. -/
theorem b90 : Upto SegmentBand 64 91 := more b89 fun k => by
  rw [open0]; show lit0t1_0 _ = _; rw [lit0t1_0, digit2]; show lit0t0_90 _ = _; rw [lit0t0_90, digit3]
  exact (by decide +kernel : ∀ k : Fin 128, lit0t0_90 k.val = expectedBand 90 k) k
/-- With segment 91. -/
theorem b91 : Upto SegmentBand 64 92 := more b90 fun k => by
  rw [open0]; show lit0t1_0 _ = _; rw [lit0t1_0, digit2]; show lit0t0_91 _ = _; rw [lit0t0_91, digit3]
  exact (by decide +kernel : ∀ k : Fin 128, lit0t0_91 k.val = expectedBand 91 k) k
/-- With segment 92. -/
theorem b92 : Upto SegmentBand 64 93 := more b91 fun k => by
  rw [open0]; show lit0t1_0 _ = _; rw [lit0t1_0, digit2]; show lit0t0_92 _ = _; rw [lit0t0_92, digit3]
  exact (by decide +kernel : ∀ k : Fin 128, lit0t0_92 k.val = expectedBand 92 k) k
/-- With segment 93. -/
theorem b93 : Upto SegmentBand 64 94 := more b92 fun k => by
  rw [open0]; show lit0t1_0 _ = _; rw [lit0t1_0, digit2]; show lit0t0_93 _ = _; rw [lit0t0_93, digit3]
  exact (by decide +kernel : ∀ k : Fin 128, lit0t0_93 k.val = expectedBand 93 k) k
/-- With segment 94. -/
theorem b94 : Upto SegmentBand 64 95 := more b93 fun k => by
  rw [open0]; show lit0t1_0 _ = _; rw [lit0t1_0, digit2]; show lit0t0_94 _ = _; rw [lit0t0_94, digit3]
  exact (by decide +kernel : ∀ k : Fin 128, lit0t0_94 k.val = expectedBand 94 k) k
/-- With segment 95. -/
theorem b95 : Upto SegmentBand 64 96 := more b94 fun k => by
  rw [open0]; show lit0t1_0 _ = _; rw [lit0t1_0, digit2]; show lit0t0_95 _ = _; rw [lit0t0_95, digit3]
  exact (by decide +kernel : ∀ k : Fin 128, lit0t0_95 k.val = expectedBand 95 k) k
/-- With segment 96. -/
theorem b96 : Upto SegmentBand 64 97 := more b95 fun k => by
  rw [open0]; show lit0t1_0 _ = _; rw [lit0t1_0, digit2]; show lit0t0_96 _ = _; rw [lit0t0_96, digit3]
  exact (by decide +kernel : ∀ k : Fin 128, lit0t0_96 k.val = expectedBand 96 k) k
/-- With segment 97. -/
theorem b97 : Upto SegmentBand 64 98 := more b96 fun k => by
  rw [open0]; show lit0t1_0 _ = _; rw [lit0t1_0, digit2]; show lit0t0_97 _ = _; rw [lit0t0_97, digit3]
  exact (by decide +kernel : ∀ k : Fin 128, lit0t0_97 k.val = expectedBand 97 k) k
/-- With segment 98. -/
theorem b98 : Upto SegmentBand 64 99 := more b97 fun k => by
  rw [open0]; show lit0t1_0 _ = _; rw [lit0t1_0, digit2]; show lit0t0_98 _ = _; rw [lit0t0_98, digit3]
  exact (by decide +kernel : ∀ k : Fin 128, lit0t0_98 k.val = expectedBand 98 k) k
/-- With segment 99. -/
theorem b99 : Upto SegmentBand 64 100 := more b98 fun k => by
  rw [open0]; show lit0t1_0 _ = _; rw [lit0t1_0, digit2]; show lit0t0_99 _ = _; rw [lit0t0_99, digit3]
  exact (by decide +kernel : ∀ k : Fin 128, lit0t0_99 k.val = expectedBand 99 k) k
/-- With segment 100. -/
theorem b100 : Upto SegmentBand 64 101 := more b99 fun k => by
  rw [open0]; show lit0t1_0 _ = _; rw [lit0t1_0, digit2]; show lit0t0_100 _ = _; rw [lit0t0_100, digit3]
  exact (by decide +kernel : ∀ k : Fin 128, lit0t0_100 k.val = expectedBand 100 k) k
/-- With segment 101. -/
theorem b101 : Upto SegmentBand 64 102 := more b100 fun k => by
  rw [open0]; show lit0t1_0 _ = _; rw [lit0t1_0, digit2]; show lit0t0_101 _ = _; rw [lit0t0_101, digit3]
  exact (by decide +kernel : ∀ k : Fin 128, lit0t0_101 k.val = expectedBand 101 k) k
/-- With segment 102. -/
theorem b102 : Upto SegmentBand 64 103 := more b101 fun k => by
  rw [open0]; show lit0t1_0 _ = _; rw [lit0t1_0, digit2]; show lit0t0_102 _ = _; rw [lit0t0_102, digit3]
  exact (by decide +kernel : ∀ k : Fin 128, lit0t0_102 k.val = expectedBand 102 k) k
/-- With segment 103. -/
theorem b103 : Upto SegmentBand 64 104 := more b102 fun k => by
  rw [open0]; show lit0t1_0 _ = _; rw [lit0t1_0, digit2]; show lit0t0_103 _ = _; rw [lit0t0_103, digit3]
  exact (by decide +kernel : ∀ k : Fin 128, lit0t0_103 k.val = expectedBand 103 k) k
/-- With segment 104. -/
theorem b104 : Upto SegmentBand 64 105 := more b103 fun k => by
  rw [open0]; show lit0t1_0 _ = _; rw [lit0t1_0, digit2]; show lit0t0_104 _ = _; rw [lit0t0_104, digit3]
  exact (by decide +kernel : ∀ k : Fin 128, lit0t0_104 k.val = expectedBand 104 k) k
/-- With segment 105. -/
theorem b105 : Upto SegmentBand 64 106 := more b104 fun k => by
  rw [open0]; show lit0t1_0 _ = _; rw [lit0t1_0, digit2]; show lit0t0_105 _ = _; rw [lit0t0_105, digit3]
  exact (by decide +kernel : ∀ k : Fin 128, lit0t0_105 k.val = expectedBand 105 k) k
/-- With segment 106. -/
theorem b106 : Upto SegmentBand 64 107 := more b105 fun k => by
  rw [open0]; show lit0t1_0 _ = _; rw [lit0t1_0, digit2]; show lit0t0_106 _ = _; rw [lit0t0_106, digit3]
  exact (by decide +kernel : ∀ k : Fin 128, lit0t0_106 k.val = expectedBand 106 k) k
/-- With segment 107. -/
theorem b107 : Upto SegmentBand 64 108 := more b106 fun k => by
  rw [open0]; show lit0t1_0 _ = _; rw [lit0t1_0, digit2]; show lit0t0_107 _ = _; rw [lit0t0_107, digit3]
  exact (by decide +kernel : ∀ k : Fin 128, lit0t0_107 k.val = expectedBand 107 k) k
/-- With segment 108. -/
theorem b108 : Upto SegmentBand 64 109 := more b107 fun k => by
  rw [open0]; show lit0t1_0 _ = _; rw [lit0t1_0, digit2]; show lit0t0_108 _ = _; rw [lit0t0_108, digit3]
  exact (by decide +kernel : ∀ k : Fin 128, lit0t0_108 k.val = expectedBand 108 k) k
/-- With segment 109. -/
theorem b109 : Upto SegmentBand 64 110 := more b108 fun k => by
  rw [open0]; show lit0t1_0 _ = _; rw [lit0t1_0, digit2]; show lit0t0_109 _ = _; rw [lit0t0_109, digit3]
  exact (by decide +kernel : ∀ k : Fin 128, lit0t0_109 k.val = expectedBand 109 k) k
/-- With segment 110. -/
theorem b110 : Upto SegmentBand 64 111 := more b109 fun k => by
  rw [open0]; show lit0t1_0 _ = _; rw [lit0t1_0, digit2]; show lit0t0_110 _ = _; rw [lit0t0_110, digit3]
  exact (by decide +kernel : ∀ k : Fin 128, lit0t0_110 k.val = expectedBand 110 k) k
/-- With segment 111. -/
theorem b111 : Upto SegmentBand 64 112 := more b110 fun k => by
  rw [open0]; show lit0t1_0 _ = _; rw [lit0t1_0, digit2]; show lit0t0_111 _ = _; rw [lit0t0_111, digit3]
  exact (by decide +kernel : ∀ k : Fin 128, lit0t0_111 k.val = expectedBand 111 k) k
/-- With segment 112. -/
theorem b112 : Upto SegmentBand 64 113 := more b111 fun k => by
  rw [open0]; show lit0t1_0 _ = _; rw [lit0t1_0, digit2]; show lit0t0_112 _ = _; rw [lit0t0_112, digit3]
  exact (by decide +kernel : ∀ k : Fin 128, lit0t0_112 k.val = expectedBand 112 k) k
/-- With segment 113. -/
theorem b113 : Upto SegmentBand 64 114 := more b112 fun k => by
  rw [open0]; show lit0t1_0 _ = _; rw [lit0t1_0, digit2]; show lit0t0_113 _ = _; rw [lit0t0_113, digit3]
  exact (by decide +kernel : ∀ k : Fin 128, lit0t0_113 k.val = expectedBand 113 k) k
/-- With segment 114. -/
theorem b114 : Upto SegmentBand 64 115 := more b113 fun k => by
  rw [open0]; show lit0t1_0 _ = _; rw [lit0t1_0, digit2]; show lit0t0_114 _ = _; rw [lit0t0_114, digit3]
  exact (by decide +kernel : ∀ k : Fin 128, lit0t0_114 k.val = expectedBand 114 k) k
/-- With segment 115. -/
theorem b115 : Upto SegmentBand 64 116 := more b114 fun k => by
  rw [open0]; show lit0t1_0 _ = _; rw [lit0t1_0, digit2]; show lit0t0_115 _ = _; rw [lit0t0_115, digit3]
  exact (by decide +kernel : ∀ k : Fin 128, lit0t0_115 k.val = expectedBand 115 k) k
/-- With segment 116. -/
theorem b116 : Upto SegmentBand 64 117 := more b115 fun k => by
  rw [open0]; show lit0t1_0 _ = _; rw [lit0t1_0, digit2]; show lit0t0_116 _ = _; rw [lit0t0_116, digit3]
  exact (by decide +kernel : ∀ k : Fin 128, lit0t0_116 k.val = expectedBand 116 k) k
/-- With segment 117. -/
theorem b117 : Upto SegmentBand 64 118 := more b116 fun k => by
  rw [open0]; show lit0t1_0 _ = _; rw [lit0t1_0, digit2]; show lit0t0_117 _ = _; rw [lit0t0_117, digit3]
  exact (by decide +kernel : ∀ k : Fin 128, lit0t0_117 k.val = expectedBand 117 k) k
/-- With segment 118. -/
theorem b118 : Upto SegmentBand 64 119 := more b117 fun k => by
  rw [open0]; show lit0t1_0 _ = _; rw [lit0t1_0, digit2]; show lit0t0_118 _ = _; rw [lit0t0_118, digit3]
  exact (by decide +kernel : ∀ k : Fin 128, lit0t0_118 k.val = expectedBand 118 k) k
/-- With segment 119. -/
theorem b119 : Upto SegmentBand 64 120 := more b118 fun k => by
  rw [open0]; show lit0t1_0 _ = _; rw [lit0t1_0, digit2]; show lit0t0_119 _ = _; rw [lit0t0_119, digit3]
  exact (by decide +kernel : ∀ k : Fin 128, lit0t0_119 k.val = expectedBand 119 k) k
/-- With segment 120. -/
theorem b120 : Upto SegmentBand 64 121 := more b119 fun k => by
  rw [open0]; show lit0t1_0 _ = _; rw [lit0t1_0, digit2]; show lit0t0_120 _ = _; rw [lit0t0_120, digit3]
  exact (by decide +kernel : ∀ k : Fin 128, lit0t0_120 k.val = expectedBand 120 k) k
/-- With segment 121. -/
theorem b121 : Upto SegmentBand 64 122 := more b120 fun k => by
  rw [open0]; show lit0t1_0 _ = _; rw [lit0t1_0, digit2]; show lit0t0_121 _ = _; rw [lit0t0_121, digit3]
  exact (by decide +kernel : ∀ k : Fin 128, lit0t0_121 k.val = expectedBand 121 k) k
/-- With segment 122. -/
theorem b122 : Upto SegmentBand 64 123 := more b121 fun k => by
  rw [open0]; show lit0t1_0 _ = _; rw [lit0t1_0, digit2]; show lit0t0_122 _ = _; rw [lit0t0_122, digit3]
  exact (by decide +kernel : ∀ k : Fin 128, lit0t0_122 k.val = expectedBand 122 k) k
/-- With segment 123. -/
theorem b123 : Upto SegmentBand 64 124 := more b122 fun k => by
  rw [open0]; show lit0t1_0 _ = _; rw [lit0t1_0, digit2]; show lit0t0_123 _ = _; rw [lit0t0_123, digit3]
  exact (by decide +kernel : ∀ k : Fin 128, lit0t0_123 k.val = expectedBand 123 k) k
/-- With segment 124. -/
theorem b124 : Upto SegmentBand 64 125 := more b123 fun k => by
  rw [open0]; show lit0t1_0 _ = _; rw [lit0t1_0, digit2]; show lit0t0_124 _ = _; rw [lit0t0_124, digit3]
  exact (by decide +kernel : ∀ k : Fin 128, lit0t0_124 k.val = expectedBand 124 k) k
/-- With segment 125. -/
theorem b125 : Upto SegmentBand 64 126 := more b124 fun k => by
  rw [open0]; show lit0t1_0 _ = _; rw [lit0t1_0, digit2]; show lit0t0_125 _ = _; rw [lit0t0_125, digit3]
  exact (by decide +kernel : ∀ k : Fin 128, lit0t0_125 k.val = expectedBand 125 k) k
/-- With segment 126. -/
theorem b126 : Upto SegmentBand 64 127 := more b125 fun k => by
  rw [open0]; show lit0t1_0 _ = _; rw [lit0t1_0, digit2]; show lit0t0_126 _ = _; rw [lit0t0_126, digit3]
  exact (by decide +kernel : ∀ k : Fin 128, lit0t0_126 k.val = expectedBand 126 k) k
/-- With segment 127. -/
theorem b127 : Upto SegmentBand 64 128 := more b126 fun k => by
  rw [open0]; show lit0t1_0 _ = _; rw [lit0t1_0, digit2]; show lit0t0_127 _ = _; rw [lit0t0_127, digit3]
  exact (by decide +kernel : ∀ k : Fin 128, lit0t0_127 k.val = expectedBand 127 k) k

/-- The band table's segments from 64 to 127. -/
theorem band1 : Upto SegmentBand 64 128 := b127

end Cert.SwaIdeal.Table

end
-- ==== Proof.SwaTable2.lean ====
/- Segments 128 to 191 of the distance and band tables of the windowed attention, read. -/
module

public import proofs.«01_k».proof.Proof.SwaTable

@[expose] public section

set_option maxRecDepth 16384

noncomputable section

namespace Cert.SwaIdeal.Table

/-- With segment 128. -/
theorem d128 : Upto Segment 128 129 := more (start 128) fun k => by
  rw [open1]; show lit1t1_1 _ = _; rw [lit1t1_1, digit2]; show lit1t0_128 _ = _; rw [lit1t0_128, digit3]
  exact (by decide +kernel : ∀ k : Fin 128, lit1t0_128 k.val = expected 128 k) k
/-- With segment 129. -/
theorem d129 : Upto Segment 128 130 := more d128 fun k => by
  rw [open1]; show lit1t1_1 _ = _; rw [lit1t1_1, digit2]; show lit1t0_129 _ = _; rw [lit1t0_129, digit3]
  exact (by decide +kernel : ∀ k : Fin 128, lit1t0_129 k.val = expected 129 k) k
/-- With segment 130. -/
theorem d130 : Upto Segment 128 131 := more d129 fun k => by
  rw [open1]; show lit1t1_1 _ = _; rw [lit1t1_1, digit2]; show lit1t0_130 _ = _; rw [lit1t0_130, digit3]
  exact (by decide +kernel : ∀ k : Fin 128, lit1t0_130 k.val = expected 130 k) k
/-- With segment 131. -/
theorem d131 : Upto Segment 128 132 := more d130 fun k => by
  rw [open1]; show lit1t1_1 _ = _; rw [lit1t1_1, digit2]; show lit1t0_131 _ = _; rw [lit1t0_131, digit3]
  exact (by decide +kernel : ∀ k : Fin 128, lit1t0_131 k.val = expected 131 k) k
/-- With segment 132. -/
theorem d132 : Upto Segment 128 133 := more d131 fun k => by
  rw [open1]; show lit1t1_1 _ = _; rw [lit1t1_1, digit2]; show lit1t0_132 _ = _; rw [lit1t0_132, digit3]
  exact (by decide +kernel : ∀ k : Fin 128, lit1t0_132 k.val = expected 132 k) k
/-- With segment 133. -/
theorem d133 : Upto Segment 128 134 := more d132 fun k => by
  rw [open1]; show lit1t1_1 _ = _; rw [lit1t1_1, digit2]; show lit1t0_133 _ = _; rw [lit1t0_133, digit3]
  exact (by decide +kernel : ∀ k : Fin 128, lit1t0_133 k.val = expected 133 k) k
/-- With segment 134. -/
theorem d134 : Upto Segment 128 135 := more d133 fun k => by
  rw [open1]; show lit1t1_1 _ = _; rw [lit1t1_1, digit2]; show lit1t0_134 _ = _; rw [lit1t0_134, digit3]
  exact (by decide +kernel : ∀ k : Fin 128, lit1t0_134 k.val = expected 134 k) k
/-- With segment 135. -/
theorem d135 : Upto Segment 128 136 := more d134 fun k => by
  rw [open1]; show lit1t1_1 _ = _; rw [lit1t1_1, digit2]; show lit1t0_135 _ = _; rw [lit1t0_135, digit3]
  exact (by decide +kernel : ∀ k : Fin 128, lit1t0_135 k.val = expected 135 k) k
/-- With segment 136. -/
theorem d136 : Upto Segment 128 137 := more d135 fun k => by
  rw [open1]; show lit1t1_1 _ = _; rw [lit1t1_1, digit2]; show lit1t0_136 _ = _; rw [lit1t0_136, digit3]
  exact (by decide +kernel : ∀ k : Fin 128, lit1t0_136 k.val = expected 136 k) k
/-- With segment 137. -/
theorem d137 : Upto Segment 128 138 := more d136 fun k => by
  rw [open1]; show lit1t1_1 _ = _; rw [lit1t1_1, digit2]; show lit1t0_137 _ = _; rw [lit1t0_137, digit3]
  exact (by decide +kernel : ∀ k : Fin 128, lit1t0_137 k.val = expected 137 k) k
/-- With segment 138. -/
theorem d138 : Upto Segment 128 139 := more d137 fun k => by
  rw [open1]; show lit1t1_1 _ = _; rw [lit1t1_1, digit2]; show lit1t0_138 _ = _; rw [lit1t0_138, digit3]
  exact (by decide +kernel : ∀ k : Fin 128, lit1t0_138 k.val = expected 138 k) k
/-- With segment 139. -/
theorem d139 : Upto Segment 128 140 := more d138 fun k => by
  rw [open1]; show lit1t1_1 _ = _; rw [lit1t1_1, digit2]; show lit1t0_139 _ = _; rw [lit1t0_139, digit3]
  exact (by decide +kernel : ∀ k : Fin 128, lit1t0_139 k.val = expected 139 k) k
/-- With segment 140. -/
theorem d140 : Upto Segment 128 141 := more d139 fun k => by
  rw [open1]; show lit1t1_1 _ = _; rw [lit1t1_1, digit2]; show lit1t0_140 _ = _; rw [lit1t0_140, digit3]
  exact (by decide +kernel : ∀ k : Fin 128, lit1t0_140 k.val = expected 140 k) k
/-- With segment 141. -/
theorem d141 : Upto Segment 128 142 := more d140 fun k => by
  rw [open1]; show lit1t1_1 _ = _; rw [lit1t1_1, digit2]; show lit1t0_141 _ = _; rw [lit1t0_141, digit3]
  exact (by decide +kernel : ∀ k : Fin 128, lit1t0_141 k.val = expected 141 k) k
/-- With segment 142. -/
theorem d142 : Upto Segment 128 143 := more d141 fun k => by
  rw [open1]; show lit1t1_1 _ = _; rw [lit1t1_1, digit2]; show lit1t0_142 _ = _; rw [lit1t0_142, digit3]
  exact (by decide +kernel : ∀ k : Fin 128, lit1t0_142 k.val = expected 142 k) k
/-- With segment 143. -/
theorem d143 : Upto Segment 128 144 := more d142 fun k => by
  rw [open1]; show lit1t1_1 _ = _; rw [lit1t1_1, digit2]; show lit1t0_143 _ = _; rw [lit1t0_143, digit3]
  exact (by decide +kernel : ∀ k : Fin 128, lit1t0_143 k.val = expected 143 k) k
/-- With segment 144. -/
theorem d144 : Upto Segment 128 145 := more d143 fun k => by
  rw [open1]; show lit1t1_1 _ = _; rw [lit1t1_1, digit2]; show lit1t0_144 _ = _; rw [lit1t0_144, digit3]
  exact (by decide +kernel : ∀ k : Fin 128, lit1t0_144 k.val = expected 144 k) k
/-- With segment 145. -/
theorem d145 : Upto Segment 128 146 := more d144 fun k => by
  rw [open1]; show lit1t1_1 _ = _; rw [lit1t1_1, digit2]; show lit1t0_145 _ = _; rw [lit1t0_145, digit3]
  exact (by decide +kernel : ∀ k : Fin 128, lit1t0_145 k.val = expected 145 k) k
/-- With segment 146. -/
theorem d146 : Upto Segment 128 147 := more d145 fun k => by
  rw [open1]; show lit1t1_1 _ = _; rw [lit1t1_1, digit2]; show lit1t0_146 _ = _; rw [lit1t0_146, digit3]
  exact (by decide +kernel : ∀ k : Fin 128, lit1t0_146 k.val = expected 146 k) k
/-- With segment 147. -/
theorem d147 : Upto Segment 128 148 := more d146 fun k => by
  rw [open1]; show lit1t1_1 _ = _; rw [lit1t1_1, digit2]; show lit1t0_147 _ = _; rw [lit1t0_147, digit3]
  exact (by decide +kernel : ∀ k : Fin 128, lit1t0_147 k.val = expected 147 k) k
/-- With segment 148. -/
theorem d148 : Upto Segment 128 149 := more d147 fun k => by
  rw [open1]; show lit1t1_1 _ = _; rw [lit1t1_1, digit2]; show lit1t0_148 _ = _; rw [lit1t0_148, digit3]
  exact (by decide +kernel : ∀ k : Fin 128, lit1t0_148 k.val = expected 148 k) k
/-- With segment 149. -/
theorem d149 : Upto Segment 128 150 := more d148 fun k => by
  rw [open1]; show lit1t1_1 _ = _; rw [lit1t1_1, digit2]; show lit1t0_149 _ = _; rw [lit1t0_149, digit3]
  exact (by decide +kernel : ∀ k : Fin 128, lit1t0_149 k.val = expected 149 k) k
/-- With segment 150. -/
theorem d150 : Upto Segment 128 151 := more d149 fun k => by
  rw [open1]; show lit1t1_1 _ = _; rw [lit1t1_1, digit2]; show lit1t0_150 _ = _; rw [lit1t0_150, digit3]
  exact (by decide +kernel : ∀ k : Fin 128, lit1t0_150 k.val = expected 150 k) k
/-- With segment 151. -/
theorem d151 : Upto Segment 128 152 := more d150 fun k => by
  rw [open1]; show lit1t1_1 _ = _; rw [lit1t1_1, digit2]; show lit1t0_151 _ = _; rw [lit1t0_151, digit3]
  exact (by decide +kernel : ∀ k : Fin 128, lit1t0_151 k.val = expected 151 k) k
/-- With segment 152. -/
theorem d152 : Upto Segment 128 153 := more d151 fun k => by
  rw [open1]; show lit1t1_1 _ = _; rw [lit1t1_1, digit2]; show lit1t0_152 _ = _; rw [lit1t0_152, digit3]
  exact (by decide +kernel : ∀ k : Fin 128, lit1t0_152 k.val = expected 152 k) k
/-- With segment 153. -/
theorem d153 : Upto Segment 128 154 := more d152 fun k => by
  rw [open1]; show lit1t1_1 _ = _; rw [lit1t1_1, digit2]; show lit1t0_153 _ = _; rw [lit1t0_153, digit3]
  exact (by decide +kernel : ∀ k : Fin 128, lit1t0_153 k.val = expected 153 k) k
/-- With segment 154. -/
theorem d154 : Upto Segment 128 155 := more d153 fun k => by
  rw [open1]; show lit1t1_1 _ = _; rw [lit1t1_1, digit2]; show lit1t0_154 _ = _; rw [lit1t0_154, digit3]
  exact (by decide +kernel : ∀ k : Fin 128, lit1t0_154 k.val = expected 154 k) k
/-- With segment 155. -/
theorem d155 : Upto Segment 128 156 := more d154 fun k => by
  rw [open1]; show lit1t1_1 _ = _; rw [lit1t1_1, digit2]; show lit1t0_155 _ = _; rw [lit1t0_155, digit3]
  exact (by decide +kernel : ∀ k : Fin 128, lit1t0_155 k.val = expected 155 k) k
/-- With segment 156. -/
theorem d156 : Upto Segment 128 157 := more d155 fun k => by
  rw [open1]; show lit1t1_1 _ = _; rw [lit1t1_1, digit2]; show lit1t0_156 _ = _; rw [lit1t0_156, digit3]
  exact (by decide +kernel : ∀ k : Fin 128, lit1t0_156 k.val = expected 156 k) k
/-- With segment 157. -/
theorem d157 : Upto Segment 128 158 := more d156 fun k => by
  rw [open1]; show lit1t1_1 _ = _; rw [lit1t1_1, digit2]; show lit1t0_157 _ = _; rw [lit1t0_157, digit3]
  exact (by decide +kernel : ∀ k : Fin 128, lit1t0_157 k.val = expected 157 k) k
/-- With segment 158. -/
theorem d158 : Upto Segment 128 159 := more d157 fun k => by
  rw [open1]; show lit1t1_1 _ = _; rw [lit1t1_1, digit2]; show lit1t0_158 _ = _; rw [lit1t0_158, digit3]
  exact (by decide +kernel : ∀ k : Fin 128, lit1t0_158 k.val = expected 158 k) k
/-- With segment 159. -/
theorem d159 : Upto Segment 128 160 := more d158 fun k => by
  rw [open1]; show lit1t1_1 _ = _; rw [lit1t1_1, digit2]; show lit1t0_159 _ = _; rw [lit1t0_159, digit3]
  exact (by decide +kernel : ∀ k : Fin 128, lit1t0_159 k.val = expected 159 k) k
/-- With segment 160. -/
theorem d160 : Upto Segment 128 161 := more d159 fun k => by
  rw [open1]; show lit1t1_1 _ = _; rw [lit1t1_1, digit2]; show lit1t0_160 _ = _; rw [lit1t0_160, digit3]
  exact (by decide +kernel : ∀ k : Fin 128, lit1t0_160 k.val = expected 160 k) k
/-- With segment 161. -/
theorem d161 : Upto Segment 128 162 := more d160 fun k => by
  rw [open1]; show lit1t1_1 _ = _; rw [lit1t1_1, digit2]; show lit1t0_161 _ = _; rw [lit1t0_161, digit3]
  exact (by decide +kernel : ∀ k : Fin 128, lit1t0_161 k.val = expected 161 k) k
/-- With segment 162. -/
theorem d162 : Upto Segment 128 163 := more d161 fun k => by
  rw [open1]; show lit1t1_1 _ = _; rw [lit1t1_1, digit2]; show lit1t0_162 _ = _; rw [lit1t0_162, digit3]
  exact (by decide +kernel : ∀ k : Fin 128, lit1t0_162 k.val = expected 162 k) k
/-- With segment 163. -/
theorem d163 : Upto Segment 128 164 := more d162 fun k => by
  rw [open1]; show lit1t1_1 _ = _; rw [lit1t1_1, digit2]; show lit1t0_163 _ = _; rw [lit1t0_163, digit3]
  exact (by decide +kernel : ∀ k : Fin 128, lit1t0_163 k.val = expected 163 k) k
/-- With segment 164. -/
theorem d164 : Upto Segment 128 165 := more d163 fun k => by
  rw [open1]; show lit1t1_1 _ = _; rw [lit1t1_1, digit2]; show lit1t0_164 _ = _; rw [lit1t0_164, digit3]
  exact (by decide +kernel : ∀ k : Fin 128, lit1t0_164 k.val = expected 164 k) k
/-- With segment 165. -/
theorem d165 : Upto Segment 128 166 := more d164 fun k => by
  rw [open1]; show lit1t1_1 _ = _; rw [lit1t1_1, digit2]; show lit1t0_165 _ = _; rw [lit1t0_165, digit3]
  exact (by decide +kernel : ∀ k : Fin 128, lit1t0_165 k.val = expected 165 k) k
/-- With segment 166. -/
theorem d166 : Upto Segment 128 167 := more d165 fun k => by
  rw [open1]; show lit1t1_1 _ = _; rw [lit1t1_1, digit2]; show lit1t0_166 _ = _; rw [lit1t0_166, digit3]
  exact (by decide +kernel : ∀ k : Fin 128, lit1t0_166 k.val = expected 166 k) k
/-- With segment 167. -/
theorem d167 : Upto Segment 128 168 := more d166 fun k => by
  rw [open1]; show lit1t1_1 _ = _; rw [lit1t1_1, digit2]; show lit1t0_167 _ = _; rw [lit1t0_167, digit3]
  exact (by decide +kernel : ∀ k : Fin 128, lit1t0_167 k.val = expected 167 k) k
/-- With segment 168. -/
theorem d168 : Upto Segment 128 169 := more d167 fun k => by
  rw [open1]; show lit1t1_1 _ = _; rw [lit1t1_1, digit2]; show lit1t0_168 _ = _; rw [lit1t0_168, digit3]
  exact (by decide +kernel : ∀ k : Fin 128, lit1t0_168 k.val = expected 168 k) k
/-- With segment 169. -/
theorem d169 : Upto Segment 128 170 := more d168 fun k => by
  rw [open1]; show lit1t1_1 _ = _; rw [lit1t1_1, digit2]; show lit1t0_169 _ = _; rw [lit1t0_169, digit3]
  exact (by decide +kernel : ∀ k : Fin 128, lit1t0_169 k.val = expected 169 k) k
/-- With segment 170. -/
theorem d170 : Upto Segment 128 171 := more d169 fun k => by
  rw [open1]; show lit1t1_1 _ = _; rw [lit1t1_1, digit2]; show lit1t0_170 _ = _; rw [lit1t0_170, digit3]
  exact (by decide +kernel : ∀ k : Fin 128, lit1t0_170 k.val = expected 170 k) k
/-- With segment 171. -/
theorem d171 : Upto Segment 128 172 := more d170 fun k => by
  rw [open1]; show lit1t1_1 _ = _; rw [lit1t1_1, digit2]; show lit1t0_171 _ = _; rw [lit1t0_171, digit3]
  exact (by decide +kernel : ∀ k : Fin 128, lit1t0_171 k.val = expected 171 k) k
/-- With segment 172. -/
theorem d172 : Upto Segment 128 173 := more d171 fun k => by
  rw [open1]; show lit1t1_1 _ = _; rw [lit1t1_1, digit2]; show lit1t0_172 _ = _; rw [lit1t0_172, digit3]
  exact (by decide +kernel : ∀ k : Fin 128, lit1t0_172 k.val = expected 172 k) k
/-- With segment 173. -/
theorem d173 : Upto Segment 128 174 := more d172 fun k => by
  rw [open1]; show lit1t1_1 _ = _; rw [lit1t1_1, digit2]; show lit1t0_173 _ = _; rw [lit1t0_173, digit3]
  exact (by decide +kernel : ∀ k : Fin 128, lit1t0_173 k.val = expected 173 k) k
/-- With segment 174. -/
theorem d174 : Upto Segment 128 175 := more d173 fun k => by
  rw [open1]; show lit1t1_1 _ = _; rw [lit1t1_1, digit2]; show lit1t0_174 _ = _; rw [lit1t0_174, digit3]
  exact (by decide +kernel : ∀ k : Fin 128, lit1t0_174 k.val = expected 174 k) k
/-- With segment 175. -/
theorem d175 : Upto Segment 128 176 := more d174 fun k => by
  rw [open1]; show lit1t1_1 _ = _; rw [lit1t1_1, digit2]; show lit1t0_175 _ = _; rw [lit1t0_175, digit3]
  exact (by decide +kernel : ∀ k : Fin 128, lit1t0_175 k.val = expected 175 k) k
/-- With segment 176. -/
theorem d176 : Upto Segment 128 177 := more d175 fun k => by
  rw [open1]; show lit1t1_1 _ = _; rw [lit1t1_1, digit2]; show lit1t0_176 _ = _; rw [lit1t0_176, digit3]
  exact (by decide +kernel : ∀ k : Fin 128, lit1t0_176 k.val = expected 176 k) k
/-- With segment 177. -/
theorem d177 : Upto Segment 128 178 := more d176 fun k => by
  rw [open1]; show lit1t1_1 _ = _; rw [lit1t1_1, digit2]; show lit1t0_177 _ = _; rw [lit1t0_177, digit3]
  exact (by decide +kernel : ∀ k : Fin 128, lit1t0_177 k.val = expected 177 k) k
/-- With segment 178. -/
theorem d178 : Upto Segment 128 179 := more d177 fun k => by
  rw [open1]; show lit1t1_1 _ = _; rw [lit1t1_1, digit2]; show lit1t0_178 _ = _; rw [lit1t0_178, digit3]
  exact (by decide +kernel : ∀ k : Fin 128, lit1t0_178 k.val = expected 178 k) k
/-- With segment 179. -/
theorem d179 : Upto Segment 128 180 := more d178 fun k => by
  rw [open1]; show lit1t1_1 _ = _; rw [lit1t1_1, digit2]; show lit1t0_179 _ = _; rw [lit1t0_179, digit3]
  exact (by decide +kernel : ∀ k : Fin 128, lit1t0_179 k.val = expected 179 k) k
/-- With segment 180. -/
theorem d180 : Upto Segment 128 181 := more d179 fun k => by
  rw [open1]; show lit1t1_1 _ = _; rw [lit1t1_1, digit2]; show lit1t0_180 _ = _; rw [lit1t0_180, digit3]
  exact (by decide +kernel : ∀ k : Fin 128, lit1t0_180 k.val = expected 180 k) k
/-- With segment 181. -/
theorem d181 : Upto Segment 128 182 := more d180 fun k => by
  rw [open1]; show lit1t1_1 _ = _; rw [lit1t1_1, digit2]; show lit1t0_181 _ = _; rw [lit1t0_181, digit3]
  exact (by decide +kernel : ∀ k : Fin 128, lit1t0_181 k.val = expected 181 k) k
/-- With segment 182. -/
theorem d182 : Upto Segment 128 183 := more d181 fun k => by
  rw [open1]; show lit1t1_1 _ = _; rw [lit1t1_1, digit2]; show lit1t0_182 _ = _; rw [lit1t0_182, digit3]
  exact (by decide +kernel : ∀ k : Fin 128, lit1t0_182 k.val = expected 182 k) k
/-- With segment 183. -/
theorem d183 : Upto Segment 128 184 := more d182 fun k => by
  rw [open1]; show lit1t1_1 _ = _; rw [lit1t1_1, digit2]; show lit1t0_183 _ = _; rw [lit1t0_183, digit3]
  exact (by decide +kernel : ∀ k : Fin 128, lit1t0_183 k.val = expected 183 k) k
/-- With segment 184. -/
theorem d184 : Upto Segment 128 185 := more d183 fun k => by
  rw [open1]; show lit1t1_1 _ = _; rw [lit1t1_1, digit2]; show lit1t0_184 _ = _; rw [lit1t0_184, digit3]
  exact (by decide +kernel : ∀ k : Fin 128, lit1t0_184 k.val = expected 184 k) k
/-- With segment 185. -/
theorem d185 : Upto Segment 128 186 := more d184 fun k => by
  rw [open1]; show lit1t1_1 _ = _; rw [lit1t1_1, digit2]; show lit1t0_185 _ = _; rw [lit1t0_185, digit3]
  exact (by decide +kernel : ∀ k : Fin 128, lit1t0_185 k.val = expected 185 k) k
/-- With segment 186. -/
theorem d186 : Upto Segment 128 187 := more d185 fun k => by
  rw [open1]; show lit1t1_1 _ = _; rw [lit1t1_1, digit2]; show lit1t0_186 _ = _; rw [lit1t0_186, digit3]
  exact (by decide +kernel : ∀ k : Fin 128, lit1t0_186 k.val = expected 186 k) k
/-- With segment 187. -/
theorem d187 : Upto Segment 128 188 := more d186 fun k => by
  rw [open1]; show lit1t1_1 _ = _; rw [lit1t1_1, digit2]; show lit1t0_187 _ = _; rw [lit1t0_187, digit3]
  exact (by decide +kernel : ∀ k : Fin 128, lit1t0_187 k.val = expected 187 k) k
/-- With segment 188. -/
theorem d188 : Upto Segment 128 189 := more d187 fun k => by
  rw [open1]; show lit1t1_1 _ = _; rw [lit1t1_1, digit2]; show lit1t0_188 _ = _; rw [lit1t0_188, digit3]
  exact (by decide +kernel : ∀ k : Fin 128, lit1t0_188 k.val = expected 188 k) k
/-- With segment 189. -/
theorem d189 : Upto Segment 128 190 := more d188 fun k => by
  rw [open1]; show lit1t1_1 _ = _; rw [lit1t1_1, digit2]; show lit1t0_189 _ = _; rw [lit1t0_189, digit3]
  exact (by decide +kernel : ∀ k : Fin 128, lit1t0_189 k.val = expected 189 k) k
/-- With segment 190. -/
theorem d190 : Upto Segment 128 191 := more d189 fun k => by
  rw [open1]; show lit1t1_1 _ = _; rw [lit1t1_1, digit2]; show lit1t0_190 _ = _; rw [lit1t0_190, digit3]
  exact (by decide +kernel : ∀ k : Fin 128, lit1t0_190 k.val = expected 190 k) k
/-- With segment 191. -/
theorem d191 : Upto Segment 128 192 := more d190 fun k => by
  rw [open1]; show lit1t1_1 _ = _; rw [lit1t1_1, digit2]; show lit1t0_191 _ = _; rw [lit1t0_191, digit3]
  exact (by decide +kernel : ∀ k : Fin 128, lit1t0_191 k.val = expected 191 k) k

/-- The distance table's segments from 128 to 191. -/
theorem distance2 : Upto Segment 128 192 := d191

/-- With segment 128. -/
theorem b128 : Upto SegmentBand 128 129 := more (start 128) fun k => by
  rw [open0]; show lit0t1_1 _ = _; rw [lit0t1_1, digit2]; show lit0t0_128 _ = _; rw [lit0t0_128, digit3]
  exact (by decide +kernel : ∀ k : Fin 128, lit0t0_128 k.val = expectedBand 128 k) k
/-- With segment 129. -/
theorem b129 : Upto SegmentBand 128 130 := more b128 fun k => by
  rw [open0]; show lit0t1_1 _ = _; rw [lit0t1_1, digit2]; show lit0t0_129 _ = _; rw [lit0t0_129, digit3]
  exact (by decide +kernel : ∀ k : Fin 128, lit0t0_129 k.val = expectedBand 129 k) k
/-- With segment 130. -/
theorem b130 : Upto SegmentBand 128 131 := more b129 fun k => by
  rw [open0]; show lit0t1_1 _ = _; rw [lit0t1_1, digit2]; show lit0t0_130 _ = _; rw [lit0t0_130, digit3]
  exact (by decide +kernel : ∀ k : Fin 128, lit0t0_130 k.val = expectedBand 130 k) k
/-- With segment 131. -/
theorem b131 : Upto SegmentBand 128 132 := more b130 fun k => by
  rw [open0]; show lit0t1_1 _ = _; rw [lit0t1_1, digit2]; show lit0t0_131 _ = _; rw [lit0t0_131, digit3]
  exact (by decide +kernel : ∀ k : Fin 128, lit0t0_131 k.val = expectedBand 131 k) k
/-- With segment 132. -/
theorem b132 : Upto SegmentBand 128 133 := more b131 fun k => by
  rw [open0]; show lit0t1_1 _ = _; rw [lit0t1_1, digit2]; show lit0t0_132 _ = _; rw [lit0t0_132, digit3]
  exact (by decide +kernel : ∀ k : Fin 128, lit0t0_132 k.val = expectedBand 132 k) k
/-- With segment 133. -/
theorem b133 : Upto SegmentBand 128 134 := more b132 fun k => by
  rw [open0]; show lit0t1_1 _ = _; rw [lit0t1_1, digit2]; show lit0t0_133 _ = _; rw [lit0t0_133, digit3]
  exact (by decide +kernel : ∀ k : Fin 128, lit0t0_133 k.val = expectedBand 133 k) k
/-- With segment 134. -/
theorem b134 : Upto SegmentBand 128 135 := more b133 fun k => by
  rw [open0]; show lit0t1_1 _ = _; rw [lit0t1_1, digit2]; show lit0t0_134 _ = _; rw [lit0t0_134, digit3]
  exact (by decide +kernel : ∀ k : Fin 128, lit0t0_134 k.val = expectedBand 134 k) k
/-- With segment 135. -/
theorem b135 : Upto SegmentBand 128 136 := more b134 fun k => by
  rw [open0]; show lit0t1_1 _ = _; rw [lit0t1_1, digit2]; show lit0t0_135 _ = _; rw [lit0t0_135, digit3]
  exact (by decide +kernel : ∀ k : Fin 128, lit0t0_135 k.val = expectedBand 135 k) k
/-- With segment 136. -/
theorem b136 : Upto SegmentBand 128 137 := more b135 fun k => by
  rw [open0]; show lit0t1_1 _ = _; rw [lit0t1_1, digit2]; show lit0t0_136 _ = _; rw [lit0t0_136, digit3]
  exact (by decide +kernel : ∀ k : Fin 128, lit0t0_136 k.val = expectedBand 136 k) k
/-- With segment 137. -/
theorem b137 : Upto SegmentBand 128 138 := more b136 fun k => by
  rw [open0]; show lit0t1_1 _ = _; rw [lit0t1_1, digit2]; show lit0t0_137 _ = _; rw [lit0t0_137, digit3]
  exact (by decide +kernel : ∀ k : Fin 128, lit0t0_137 k.val = expectedBand 137 k) k
/-- With segment 138. -/
theorem b138 : Upto SegmentBand 128 139 := more b137 fun k => by
  rw [open0]; show lit0t1_1 _ = _; rw [lit0t1_1, digit2]; show lit0t0_138 _ = _; rw [lit0t0_138, digit3]
  exact (by decide +kernel : ∀ k : Fin 128, lit0t0_138 k.val = expectedBand 138 k) k
/-- With segment 139. -/
theorem b139 : Upto SegmentBand 128 140 := more b138 fun k => by
  rw [open0]; show lit0t1_1 _ = _; rw [lit0t1_1, digit2]; show lit0t0_139 _ = _; rw [lit0t0_139, digit3]
  exact (by decide +kernel : ∀ k : Fin 128, lit0t0_139 k.val = expectedBand 139 k) k
/-- With segment 140. -/
theorem b140 : Upto SegmentBand 128 141 := more b139 fun k => by
  rw [open0]; show lit0t1_1 _ = _; rw [lit0t1_1, digit2]; show lit0t0_140 _ = _; rw [lit0t0_140, digit3]
  exact (by decide +kernel : ∀ k : Fin 128, lit0t0_140 k.val = expectedBand 140 k) k
/-- With segment 141. -/
theorem b141 : Upto SegmentBand 128 142 := more b140 fun k => by
  rw [open0]; show lit0t1_1 _ = _; rw [lit0t1_1, digit2]; show lit0t0_141 _ = _; rw [lit0t0_141, digit3]
  exact (by decide +kernel : ∀ k : Fin 128, lit0t0_141 k.val = expectedBand 141 k) k
/-- With segment 142. -/
theorem b142 : Upto SegmentBand 128 143 := more b141 fun k => by
  rw [open0]; show lit0t1_1 _ = _; rw [lit0t1_1, digit2]; show lit0t0_142 _ = _; rw [lit0t0_142, digit3]
  exact (by decide +kernel : ∀ k : Fin 128, lit0t0_142 k.val = expectedBand 142 k) k
/-- With segment 143. -/
theorem b143 : Upto SegmentBand 128 144 := more b142 fun k => by
  rw [open0]; show lit0t1_1 _ = _; rw [lit0t1_1, digit2]; show lit0t0_143 _ = _; rw [lit0t0_143, digit3]
  exact (by decide +kernel : ∀ k : Fin 128, lit0t0_143 k.val = expectedBand 143 k) k
/-- With segment 144. -/
theorem b144 : Upto SegmentBand 128 145 := more b143 fun k => by
  rw [open0]; show lit0t1_1 _ = _; rw [lit0t1_1, digit2]; show lit0t0_144 _ = _; rw [lit0t0_144, digit3]
  exact (by decide +kernel : ∀ k : Fin 128, lit0t0_144 k.val = expectedBand 144 k) k
/-- With segment 145. -/
theorem b145 : Upto SegmentBand 128 146 := more b144 fun k => by
  rw [open0]; show lit0t1_1 _ = _; rw [lit0t1_1, digit2]; show lit0t0_145 _ = _; rw [lit0t0_145, digit3]
  exact (by decide +kernel : ∀ k : Fin 128, lit0t0_145 k.val = expectedBand 145 k) k
/-- With segment 146. -/
theorem b146 : Upto SegmentBand 128 147 := more b145 fun k => by
  rw [open0]; show lit0t1_1 _ = _; rw [lit0t1_1, digit2]; show lit0t0_146 _ = _; rw [lit0t0_146, digit3]
  exact (by decide +kernel : ∀ k : Fin 128, lit0t0_146 k.val = expectedBand 146 k) k
/-- With segment 147. -/
theorem b147 : Upto SegmentBand 128 148 := more b146 fun k => by
  rw [open0]; show lit0t1_1 _ = _; rw [lit0t1_1, digit2]; show lit0t0_147 _ = _; rw [lit0t0_147, digit3]
  exact (by decide +kernel : ∀ k : Fin 128, lit0t0_147 k.val = expectedBand 147 k) k
/-- With segment 148. -/
theorem b148 : Upto SegmentBand 128 149 := more b147 fun k => by
  rw [open0]; show lit0t1_1 _ = _; rw [lit0t1_1, digit2]; show lit0t0_148 _ = _; rw [lit0t0_148, digit3]
  exact (by decide +kernel : ∀ k : Fin 128, lit0t0_148 k.val = expectedBand 148 k) k
/-- With segment 149. -/
theorem b149 : Upto SegmentBand 128 150 := more b148 fun k => by
  rw [open0]; show lit0t1_1 _ = _; rw [lit0t1_1, digit2]; show lit0t0_149 _ = _; rw [lit0t0_149, digit3]
  exact (by decide +kernel : ∀ k : Fin 128, lit0t0_149 k.val = expectedBand 149 k) k
/-- With segment 150. -/
theorem b150 : Upto SegmentBand 128 151 := more b149 fun k => by
  rw [open0]; show lit0t1_1 _ = _; rw [lit0t1_1, digit2]; show lit0t0_150 _ = _; rw [lit0t0_150, digit3]
  exact (by decide +kernel : ∀ k : Fin 128, lit0t0_150 k.val = expectedBand 150 k) k
/-- With segment 151. -/
theorem b151 : Upto SegmentBand 128 152 := more b150 fun k => by
  rw [open0]; show lit0t1_1 _ = _; rw [lit0t1_1, digit2]; show lit0t0_151 _ = _; rw [lit0t0_151, digit3]
  exact (by decide +kernel : ∀ k : Fin 128, lit0t0_151 k.val = expectedBand 151 k) k
/-- With segment 152. -/
theorem b152 : Upto SegmentBand 128 153 := more b151 fun k => by
  rw [open0]; show lit0t1_1 _ = _; rw [lit0t1_1, digit2]; show lit0t0_152 _ = _; rw [lit0t0_152, digit3]
  exact (by decide +kernel : ∀ k : Fin 128, lit0t0_152 k.val = expectedBand 152 k) k
/-- With segment 153. -/
theorem b153 : Upto SegmentBand 128 154 := more b152 fun k => by
  rw [open0]; show lit0t1_1 _ = _; rw [lit0t1_1, digit2]; show lit0t0_153 _ = _; rw [lit0t0_153, digit3]
  exact (by decide +kernel : ∀ k : Fin 128, lit0t0_153 k.val = expectedBand 153 k) k
/-- With segment 154. -/
theorem b154 : Upto SegmentBand 128 155 := more b153 fun k => by
  rw [open0]; show lit0t1_1 _ = _; rw [lit0t1_1, digit2]; show lit0t0_154 _ = _; rw [lit0t0_154, digit3]
  exact (by decide +kernel : ∀ k : Fin 128, lit0t0_154 k.val = expectedBand 154 k) k
/-- With segment 155. -/
theorem b155 : Upto SegmentBand 128 156 := more b154 fun k => by
  rw [open0]; show lit0t1_1 _ = _; rw [lit0t1_1, digit2]; show lit0t0_155 _ = _; rw [lit0t0_155, digit3]
  exact (by decide +kernel : ∀ k : Fin 128, lit0t0_155 k.val = expectedBand 155 k) k
/-- With segment 156. -/
theorem b156 : Upto SegmentBand 128 157 := more b155 fun k => by
  rw [open0]; show lit0t1_1 _ = _; rw [lit0t1_1, digit2]; show lit0t0_156 _ = _; rw [lit0t0_156, digit3]
  exact (by decide +kernel : ∀ k : Fin 128, lit0t0_156 k.val = expectedBand 156 k) k
/-- With segment 157. -/
theorem b157 : Upto SegmentBand 128 158 := more b156 fun k => by
  rw [open0]; show lit0t1_1 _ = _; rw [lit0t1_1, digit2]; show lit0t0_157 _ = _; rw [lit0t0_157, digit3]
  exact (by decide +kernel : ∀ k : Fin 128, lit0t0_157 k.val = expectedBand 157 k) k
/-- With segment 158. -/
theorem b158 : Upto SegmentBand 128 159 := more b157 fun k => by
  rw [open0]; show lit0t1_1 _ = _; rw [lit0t1_1, digit2]; show lit0t0_158 _ = _; rw [lit0t0_158, digit3]
  exact (by decide +kernel : ∀ k : Fin 128, lit0t0_158 k.val = expectedBand 158 k) k
/-- With segment 159. -/
theorem b159 : Upto SegmentBand 128 160 := more b158 fun k => by
  rw [open0]; show lit0t1_1 _ = _; rw [lit0t1_1, digit2]; show lit0t0_159 _ = _; rw [lit0t0_159, digit3]
  exact (by decide +kernel : ∀ k : Fin 128, lit0t0_159 k.val = expectedBand 159 k) k
/-- With segment 160. -/
theorem b160 : Upto SegmentBand 128 161 := more b159 fun k => by
  rw [open0]; show lit0t1_1 _ = _; rw [lit0t1_1, digit2]; show lit0t0_160 _ = _; rw [lit0t0_160, digit3]
  exact (by decide +kernel : ∀ k : Fin 128, lit0t0_160 k.val = expectedBand 160 k) k
/-- With segment 161. -/
theorem b161 : Upto SegmentBand 128 162 := more b160 fun k => by
  rw [open0]; show lit0t1_1 _ = _; rw [lit0t1_1, digit2]; show lit0t0_161 _ = _; rw [lit0t0_161, digit3]
  exact (by decide +kernel : ∀ k : Fin 128, lit0t0_161 k.val = expectedBand 161 k) k
/-- With segment 162. -/
theorem b162 : Upto SegmentBand 128 163 := more b161 fun k => by
  rw [open0]; show lit0t1_1 _ = _; rw [lit0t1_1, digit2]; show lit0t0_162 _ = _; rw [lit0t0_162, digit3]
  exact (by decide +kernel : ∀ k : Fin 128, lit0t0_162 k.val = expectedBand 162 k) k
/-- With segment 163. -/
theorem b163 : Upto SegmentBand 128 164 := more b162 fun k => by
  rw [open0]; show lit0t1_1 _ = _; rw [lit0t1_1, digit2]; show lit0t0_163 _ = _; rw [lit0t0_163, digit3]
  exact (by decide +kernel : ∀ k : Fin 128, lit0t0_163 k.val = expectedBand 163 k) k
/-- With segment 164. -/
theorem b164 : Upto SegmentBand 128 165 := more b163 fun k => by
  rw [open0]; show lit0t1_1 _ = _; rw [lit0t1_1, digit2]; show lit0t0_164 _ = _; rw [lit0t0_164, digit3]
  exact (by decide +kernel : ∀ k : Fin 128, lit0t0_164 k.val = expectedBand 164 k) k
/-- With segment 165. -/
theorem b165 : Upto SegmentBand 128 166 := more b164 fun k => by
  rw [open0]; show lit0t1_1 _ = _; rw [lit0t1_1, digit2]; show lit0t0_165 _ = _; rw [lit0t0_165, digit3]
  exact (by decide +kernel : ∀ k : Fin 128, lit0t0_165 k.val = expectedBand 165 k) k
/-- With segment 166. -/
theorem b166 : Upto SegmentBand 128 167 := more b165 fun k => by
  rw [open0]; show lit0t1_1 _ = _; rw [lit0t1_1, digit2]; show lit0t0_166 _ = _; rw [lit0t0_166, digit3]
  exact (by decide +kernel : ∀ k : Fin 128, lit0t0_166 k.val = expectedBand 166 k) k
/-- With segment 167. -/
theorem b167 : Upto SegmentBand 128 168 := more b166 fun k => by
  rw [open0]; show lit0t1_1 _ = _; rw [lit0t1_1, digit2]; show lit0t0_167 _ = _; rw [lit0t0_167, digit3]
  exact (by decide +kernel : ∀ k : Fin 128, lit0t0_167 k.val = expectedBand 167 k) k
/-- With segment 168. -/
theorem b168 : Upto SegmentBand 128 169 := more b167 fun k => by
  rw [open0]; show lit0t1_1 _ = _; rw [lit0t1_1, digit2]; show lit0t0_168 _ = _; rw [lit0t0_168, digit3]
  exact (by decide +kernel : ∀ k : Fin 128, lit0t0_168 k.val = expectedBand 168 k) k
/-- With segment 169. -/
theorem b169 : Upto SegmentBand 128 170 := more b168 fun k => by
  rw [open0]; show lit0t1_1 _ = _; rw [lit0t1_1, digit2]; show lit0t0_169 _ = _; rw [lit0t0_169, digit3]
  exact (by decide +kernel : ∀ k : Fin 128, lit0t0_169 k.val = expectedBand 169 k) k
/-- With segment 170. -/
theorem b170 : Upto SegmentBand 128 171 := more b169 fun k => by
  rw [open0]; show lit0t1_1 _ = _; rw [lit0t1_1, digit2]; show lit0t0_170 _ = _; rw [lit0t0_170, digit3]
  exact (by decide +kernel : ∀ k : Fin 128, lit0t0_170 k.val = expectedBand 170 k) k
/-- With segment 171. -/
theorem b171 : Upto SegmentBand 128 172 := more b170 fun k => by
  rw [open0]; show lit0t1_1 _ = _; rw [lit0t1_1, digit2]; show lit0t0_171 _ = _; rw [lit0t0_171, digit3]
  exact (by decide +kernel : ∀ k : Fin 128, lit0t0_171 k.val = expectedBand 171 k) k
/-- With segment 172. -/
theorem b172 : Upto SegmentBand 128 173 := more b171 fun k => by
  rw [open0]; show lit0t1_1 _ = _; rw [lit0t1_1, digit2]; show lit0t0_172 _ = _; rw [lit0t0_172, digit3]
  exact (by decide +kernel : ∀ k : Fin 128, lit0t0_172 k.val = expectedBand 172 k) k
/-- With segment 173. -/
theorem b173 : Upto SegmentBand 128 174 := more b172 fun k => by
  rw [open0]; show lit0t1_1 _ = _; rw [lit0t1_1, digit2]; show lit0t0_173 _ = _; rw [lit0t0_173, digit3]
  exact (by decide +kernel : ∀ k : Fin 128, lit0t0_173 k.val = expectedBand 173 k) k
/-- With segment 174. -/
theorem b174 : Upto SegmentBand 128 175 := more b173 fun k => by
  rw [open0]; show lit0t1_1 _ = _; rw [lit0t1_1, digit2]; show lit0t0_174 _ = _; rw [lit0t0_174, digit3]
  exact (by decide +kernel : ∀ k : Fin 128, lit0t0_174 k.val = expectedBand 174 k) k
/-- With segment 175. -/
theorem b175 : Upto SegmentBand 128 176 := more b174 fun k => by
  rw [open0]; show lit0t1_1 _ = _; rw [lit0t1_1, digit2]; show lit0t0_175 _ = _; rw [lit0t0_175, digit3]
  exact (by decide +kernel : ∀ k : Fin 128, lit0t0_175 k.val = expectedBand 175 k) k
/-- With segment 176. -/
theorem b176 : Upto SegmentBand 128 177 := more b175 fun k => by
  rw [open0]; show lit0t1_1 _ = _; rw [lit0t1_1, digit2]; show lit0t0_176 _ = _; rw [lit0t0_176, digit3]
  exact (by decide +kernel : ∀ k : Fin 128, lit0t0_176 k.val = expectedBand 176 k) k
/-- With segment 177. -/
theorem b177 : Upto SegmentBand 128 178 := more b176 fun k => by
  rw [open0]; show lit0t1_1 _ = _; rw [lit0t1_1, digit2]; show lit0t0_177 _ = _; rw [lit0t0_177, digit3]
  exact (by decide +kernel : ∀ k : Fin 128, lit0t0_177 k.val = expectedBand 177 k) k
/-- With segment 178. -/
theorem b178 : Upto SegmentBand 128 179 := more b177 fun k => by
  rw [open0]; show lit0t1_1 _ = _; rw [lit0t1_1, digit2]; show lit0t0_178 _ = _; rw [lit0t0_178, digit3]
  exact (by decide +kernel : ∀ k : Fin 128, lit0t0_178 k.val = expectedBand 178 k) k
/-- With segment 179. -/
theorem b179 : Upto SegmentBand 128 180 := more b178 fun k => by
  rw [open0]; show lit0t1_1 _ = _; rw [lit0t1_1, digit2]; show lit0t0_179 _ = _; rw [lit0t0_179, digit3]
  exact (by decide +kernel : ∀ k : Fin 128, lit0t0_179 k.val = expectedBand 179 k) k
/-- With segment 180. -/
theorem b180 : Upto SegmentBand 128 181 := more b179 fun k => by
  rw [open0]; show lit0t1_1 _ = _; rw [lit0t1_1, digit2]; show lit0t0_180 _ = _; rw [lit0t0_180, digit3]
  exact (by decide +kernel : ∀ k : Fin 128, lit0t0_180 k.val = expectedBand 180 k) k
/-- With segment 181. -/
theorem b181 : Upto SegmentBand 128 182 := more b180 fun k => by
  rw [open0]; show lit0t1_1 _ = _; rw [lit0t1_1, digit2]; show lit0t0_181 _ = _; rw [lit0t0_181, digit3]
  exact (by decide +kernel : ∀ k : Fin 128, lit0t0_181 k.val = expectedBand 181 k) k
/-- With segment 182. -/
theorem b182 : Upto SegmentBand 128 183 := more b181 fun k => by
  rw [open0]; show lit0t1_1 _ = _; rw [lit0t1_1, digit2]; show lit0t0_182 _ = _; rw [lit0t0_182, digit3]
  exact (by decide +kernel : ∀ k : Fin 128, lit0t0_182 k.val = expectedBand 182 k) k
/-- With segment 183. -/
theorem b183 : Upto SegmentBand 128 184 := more b182 fun k => by
  rw [open0]; show lit0t1_1 _ = _; rw [lit0t1_1, digit2]; show lit0t0_183 _ = _; rw [lit0t0_183, digit3]
  exact (by decide +kernel : ∀ k : Fin 128, lit0t0_183 k.val = expectedBand 183 k) k
/-- With segment 184. -/
theorem b184 : Upto SegmentBand 128 185 := more b183 fun k => by
  rw [open0]; show lit0t1_1 _ = _; rw [lit0t1_1, digit2]; show lit0t0_184 _ = _; rw [lit0t0_184, digit3]
  exact (by decide +kernel : ∀ k : Fin 128, lit0t0_184 k.val = expectedBand 184 k) k
/-- With segment 185. -/
theorem b185 : Upto SegmentBand 128 186 := more b184 fun k => by
  rw [open0]; show lit0t1_1 _ = _; rw [lit0t1_1, digit2]; show lit0t0_185 _ = _; rw [lit0t0_185, digit3]
  exact (by decide +kernel : ∀ k : Fin 128, lit0t0_185 k.val = expectedBand 185 k) k
/-- With segment 186. -/
theorem b186 : Upto SegmentBand 128 187 := more b185 fun k => by
  rw [open0]; show lit0t1_1 _ = _; rw [lit0t1_1, digit2]; show lit0t0_186 _ = _; rw [lit0t0_186, digit3]
  exact (by decide +kernel : ∀ k : Fin 128, lit0t0_186 k.val = expectedBand 186 k) k
/-- With segment 187. -/
theorem b187 : Upto SegmentBand 128 188 := more b186 fun k => by
  rw [open0]; show lit0t1_1 _ = _; rw [lit0t1_1, digit2]; show lit0t0_187 _ = _; rw [lit0t0_187, digit3]
  exact (by decide +kernel : ∀ k : Fin 128, lit0t0_187 k.val = expectedBand 187 k) k
/-- With segment 188. -/
theorem b188 : Upto SegmentBand 128 189 := more b187 fun k => by
  rw [open0]; show lit0t1_1 _ = _; rw [lit0t1_1, digit2]; show lit0t0_188 _ = _; rw [lit0t0_188, digit3]
  exact (by decide +kernel : ∀ k : Fin 128, lit0t0_188 k.val = expectedBand 188 k) k
/-- With segment 189. -/
theorem b189 : Upto SegmentBand 128 190 := more b188 fun k => by
  rw [open0]; show lit0t1_1 _ = _; rw [lit0t1_1, digit2]; show lit0t0_189 _ = _; rw [lit0t0_189, digit3]
  exact (by decide +kernel : ∀ k : Fin 128, lit0t0_189 k.val = expectedBand 189 k) k
/-- With segment 190. -/
theorem b190 : Upto SegmentBand 128 191 := more b189 fun k => by
  rw [open0]; show lit0t1_1 _ = _; rw [lit0t1_1, digit2]; show lit0t0_190 _ = _; rw [lit0t0_190, digit3]
  exact (by decide +kernel : ∀ k : Fin 128, lit0t0_190 k.val = expectedBand 190 k) k
/-- With segment 191. -/
theorem b191 : Upto SegmentBand 128 192 := more b190 fun k => by
  rw [open0]; show lit0t1_1 _ = _; rw [lit0t1_1, digit2]; show lit0t0_191 _ = _; rw [lit0t0_191, digit3]
  exact (by decide +kernel : ∀ k : Fin 128, lit0t0_191 k.val = expectedBand 191 k) k

/-- The band table's segments from 128 to 191. -/
theorem band2 : Upto SegmentBand 128 192 := b191

end Cert.SwaIdeal.Table

end
-- ==== Proof.SwaTable3.lean ====
/- Segments 192 to 255 of the distance and band tables of the windowed attention, read. -/
module

public import proofs.«01_k».proof.Proof.SwaTable

@[expose] public section

set_option maxRecDepth 16384

noncomputable section

namespace Cert.SwaIdeal.Table

/-- With segment 192. -/
theorem d192 : Upto Segment 192 193 := more (start 192) fun k => by
  rw [open1]; show lit1t1_1 _ = _; rw [lit1t1_1, digit2]; show lit1t0_192 _ = _; rw [lit1t0_192, digit3]
  exact (by decide +kernel : ∀ k : Fin 128, lit1t0_192 k.val = expected 192 k) k
/-- With segment 193. -/
theorem d193 : Upto Segment 192 194 := more d192 fun k => by
  rw [open1]; show lit1t1_1 _ = _; rw [lit1t1_1, digit2]; show lit1t0_193 _ = _; rw [lit1t0_193, digit3]
  exact (by decide +kernel : ∀ k : Fin 128, lit1t0_193 k.val = expected 193 k) k
/-- With segment 194. -/
theorem d194 : Upto Segment 192 195 := more d193 fun k => by
  rw [open1]; show lit1t1_1 _ = _; rw [lit1t1_1, digit2]; show lit1t0_194 _ = _; rw [lit1t0_194, digit3]
  exact (by decide +kernel : ∀ k : Fin 128, lit1t0_194 k.val = expected 194 k) k
/-- With segment 195. -/
theorem d195 : Upto Segment 192 196 := more d194 fun k => by
  rw [open1]; show lit1t1_1 _ = _; rw [lit1t1_1, digit2]; show lit1t0_195 _ = _; rw [lit1t0_195, digit3]
  exact (by decide +kernel : ∀ k : Fin 128, lit1t0_195 k.val = expected 195 k) k
/-- With segment 196. -/
theorem d196 : Upto Segment 192 197 := more d195 fun k => by
  rw [open1]; show lit1t1_1 _ = _; rw [lit1t1_1, digit2]; show lit1t0_196 _ = _; rw [lit1t0_196, digit3]
  exact (by decide +kernel : ∀ k : Fin 128, lit1t0_196 k.val = expected 196 k) k
/-- With segment 197. -/
theorem d197 : Upto Segment 192 198 := more d196 fun k => by
  rw [open1]; show lit1t1_1 _ = _; rw [lit1t1_1, digit2]; show lit1t0_197 _ = _; rw [lit1t0_197, digit3]
  exact (by decide +kernel : ∀ k : Fin 128, lit1t0_197 k.val = expected 197 k) k
/-- With segment 198. -/
theorem d198 : Upto Segment 192 199 := more d197 fun k => by
  rw [open1]; show lit1t1_1 _ = _; rw [lit1t1_1, digit2]; show lit1t0_198 _ = _; rw [lit1t0_198, digit3]
  exact (by decide +kernel : ∀ k : Fin 128, lit1t0_198 k.val = expected 198 k) k
/-- With segment 199. -/
theorem d199 : Upto Segment 192 200 := more d198 fun k => by
  rw [open1]; show lit1t1_1 _ = _; rw [lit1t1_1, digit2]; show lit1t0_199 _ = _; rw [lit1t0_199, digit3]
  exact (by decide +kernel : ∀ k : Fin 128, lit1t0_199 k.val = expected 199 k) k
/-- With segment 200. -/
theorem d200 : Upto Segment 192 201 := more d199 fun k => by
  rw [open1]; show lit1t1_1 _ = _; rw [lit1t1_1, digit2]; show lit1t0_200 _ = _; rw [lit1t0_200, digit3]
  exact (by decide +kernel : ∀ k : Fin 128, lit1t0_200 k.val = expected 200 k) k
/-- With segment 201. -/
theorem d201 : Upto Segment 192 202 := more d200 fun k => by
  rw [open1]; show lit1t1_1 _ = _; rw [lit1t1_1, digit2]; show lit1t0_201 _ = _; rw [lit1t0_201, digit3]
  exact (by decide +kernel : ∀ k : Fin 128, lit1t0_201 k.val = expected 201 k) k
/-- With segment 202. -/
theorem d202 : Upto Segment 192 203 := more d201 fun k => by
  rw [open1]; show lit1t1_1 _ = _; rw [lit1t1_1, digit2]; show lit1t0_202 _ = _; rw [lit1t0_202, digit3]
  exact (by decide +kernel : ∀ k : Fin 128, lit1t0_202 k.val = expected 202 k) k
/-- With segment 203. -/
theorem d203 : Upto Segment 192 204 := more d202 fun k => by
  rw [open1]; show lit1t1_1 _ = _; rw [lit1t1_1, digit2]; show lit1t0_203 _ = _; rw [lit1t0_203, digit3]
  exact (by decide +kernel : ∀ k : Fin 128, lit1t0_203 k.val = expected 203 k) k
/-- With segment 204. -/
theorem d204 : Upto Segment 192 205 := more d203 fun k => by
  rw [open1]; show lit1t1_1 _ = _; rw [lit1t1_1, digit2]; show lit1t0_204 _ = _; rw [lit1t0_204, digit3]
  exact (by decide +kernel : ∀ k : Fin 128, lit1t0_204 k.val = expected 204 k) k
/-- With segment 205. -/
theorem d205 : Upto Segment 192 206 := more d204 fun k => by
  rw [open1]; show lit1t1_1 _ = _; rw [lit1t1_1, digit2]; show lit1t0_205 _ = _; rw [lit1t0_205, digit3]
  exact (by decide +kernel : ∀ k : Fin 128, lit1t0_205 k.val = expected 205 k) k
/-- With segment 206. -/
theorem d206 : Upto Segment 192 207 := more d205 fun k => by
  rw [open1]; show lit1t1_1 _ = _; rw [lit1t1_1, digit2]; show lit1t0_206 _ = _; rw [lit1t0_206, digit3]
  exact (by decide +kernel : ∀ k : Fin 128, lit1t0_206 k.val = expected 206 k) k
/-- With segment 207. -/
theorem d207 : Upto Segment 192 208 := more d206 fun k => by
  rw [open1]; show lit1t1_1 _ = _; rw [lit1t1_1, digit2]; show lit1t0_207 _ = _; rw [lit1t0_207, digit3]
  exact (by decide +kernel : ∀ k : Fin 128, lit1t0_207 k.val = expected 207 k) k
/-- With segment 208. -/
theorem d208 : Upto Segment 192 209 := more d207 fun k => by
  rw [open1]; show lit1t1_1 _ = _; rw [lit1t1_1, digit2]; show lit1t0_208 _ = _; rw [lit1t0_208, digit3]
  exact (by decide +kernel : ∀ k : Fin 128, lit1t0_208 k.val = expected 208 k) k
/-- With segment 209. -/
theorem d209 : Upto Segment 192 210 := more d208 fun k => by
  rw [open1]; show lit1t1_1 _ = _; rw [lit1t1_1, digit2]; show lit1t0_209 _ = _; rw [lit1t0_209, digit3]
  exact (by decide +kernel : ∀ k : Fin 128, lit1t0_209 k.val = expected 209 k) k
/-- With segment 210. -/
theorem d210 : Upto Segment 192 211 := more d209 fun k => by
  rw [open1]; show lit1t1_1 _ = _; rw [lit1t1_1, digit2]; show lit1t0_210 _ = _; rw [lit1t0_210, digit3]
  exact (by decide +kernel : ∀ k : Fin 128, lit1t0_210 k.val = expected 210 k) k
/-- With segment 211. -/
theorem d211 : Upto Segment 192 212 := more d210 fun k => by
  rw [open1]; show lit1t1_1 _ = _; rw [lit1t1_1, digit2]; show lit1t0_211 _ = _; rw [lit1t0_211, digit3]
  exact (by decide +kernel : ∀ k : Fin 128, lit1t0_211 k.val = expected 211 k) k
/-- With segment 212. -/
theorem d212 : Upto Segment 192 213 := more d211 fun k => by
  rw [open1]; show lit1t1_1 _ = _; rw [lit1t1_1, digit2]; show lit1t0_212 _ = _; rw [lit1t0_212, digit3]
  exact (by decide +kernel : ∀ k : Fin 128, lit1t0_212 k.val = expected 212 k) k
/-- With segment 213. -/
theorem d213 : Upto Segment 192 214 := more d212 fun k => by
  rw [open1]; show lit1t1_1 _ = _; rw [lit1t1_1, digit2]; show lit1t0_213 _ = _; rw [lit1t0_213, digit3]
  exact (by decide +kernel : ∀ k : Fin 128, lit1t0_213 k.val = expected 213 k) k
/-- With segment 214. -/
theorem d214 : Upto Segment 192 215 := more d213 fun k => by
  rw [open1]; show lit1t1_1 _ = _; rw [lit1t1_1, digit2]; show lit1t0_214 _ = _; rw [lit1t0_214, digit3]
  exact (by decide +kernel : ∀ k : Fin 128, lit1t0_214 k.val = expected 214 k) k
/-- With segment 215. -/
theorem d215 : Upto Segment 192 216 := more d214 fun k => by
  rw [open1]; show lit1t1_1 _ = _; rw [lit1t1_1, digit2]; show lit1t0_215 _ = _; rw [lit1t0_215, digit3]
  exact (by decide +kernel : ∀ k : Fin 128, lit1t0_215 k.val = expected 215 k) k
/-- With segment 216. -/
theorem d216 : Upto Segment 192 217 := more d215 fun k => by
  rw [open1]; show lit1t1_1 _ = _; rw [lit1t1_1, digit2]; show lit1t0_216 _ = _; rw [lit1t0_216, digit3]
  exact (by decide +kernel : ∀ k : Fin 128, lit1t0_216 k.val = expected 216 k) k
/-- With segment 217. -/
theorem d217 : Upto Segment 192 218 := more d216 fun k => by
  rw [open1]; show lit1t1_1 _ = _; rw [lit1t1_1, digit2]; show lit1t0_217 _ = _; rw [lit1t0_217, digit3]
  exact (by decide +kernel : ∀ k : Fin 128, lit1t0_217 k.val = expected 217 k) k
/-- With segment 218. -/
theorem d218 : Upto Segment 192 219 := more d217 fun k => by
  rw [open1]; show lit1t1_1 _ = _; rw [lit1t1_1, digit2]; show lit1t0_218 _ = _; rw [lit1t0_218, digit3]
  exact (by decide +kernel : ∀ k : Fin 128, lit1t0_218 k.val = expected 218 k) k
/-- With segment 219. -/
theorem d219 : Upto Segment 192 220 := more d218 fun k => by
  rw [open1]; show lit1t1_1 _ = _; rw [lit1t1_1, digit2]; show lit1t0_219 _ = _; rw [lit1t0_219, digit3]
  exact (by decide +kernel : ∀ k : Fin 128, lit1t0_219 k.val = expected 219 k) k
/-- With segment 220. -/
theorem d220 : Upto Segment 192 221 := more d219 fun k => by
  rw [open1]; show lit1t1_1 _ = _; rw [lit1t1_1, digit2]; show lit1t0_220 _ = _; rw [lit1t0_220, digit3]
  exact (by decide +kernel : ∀ k : Fin 128, lit1t0_220 k.val = expected 220 k) k
/-- With segment 221. -/
theorem d221 : Upto Segment 192 222 := more d220 fun k => by
  rw [open1]; show lit1t1_1 _ = _; rw [lit1t1_1, digit2]; show lit1t0_221 _ = _; rw [lit1t0_221, digit3]
  exact (by decide +kernel : ∀ k : Fin 128, lit1t0_221 k.val = expected 221 k) k
/-- With segment 222. -/
theorem d222 : Upto Segment 192 223 := more d221 fun k => by
  rw [open1]; show lit1t1_1 _ = _; rw [lit1t1_1, digit2]; show lit1t0_222 _ = _; rw [lit1t0_222, digit3]
  exact (by decide +kernel : ∀ k : Fin 128, lit1t0_222 k.val = expected 222 k) k
/-- With segment 223. -/
theorem d223 : Upto Segment 192 224 := more d222 fun k => by
  rw [open1]; show lit1t1_1 _ = _; rw [lit1t1_1, digit2]; show lit1t0_223 _ = _; rw [lit1t0_223, digit3]
  exact (by decide +kernel : ∀ k : Fin 128, lit1t0_223 k.val = expected 223 k) k
/-- With segment 224. -/
theorem d224 : Upto Segment 192 225 := more d223 fun k => by
  rw [open1]; show lit1t1_1 _ = _; rw [lit1t1_1, digit2]; show lit1t0_224 _ = _; rw [lit1t0_224, digit3]
  exact (by decide +kernel : ∀ k : Fin 128, lit1t0_224 k.val = expected 224 k) k
/-- With segment 225. -/
theorem d225 : Upto Segment 192 226 := more d224 fun k => by
  rw [open1]; show lit1t1_1 _ = _; rw [lit1t1_1, digit2]; show lit1t0_225 _ = _; rw [lit1t0_225, digit3]
  exact (by decide +kernel : ∀ k : Fin 128, lit1t0_225 k.val = expected 225 k) k
/-- With segment 226. -/
theorem d226 : Upto Segment 192 227 := more d225 fun k => by
  rw [open1]; show lit1t1_1 _ = _; rw [lit1t1_1, digit2]; show lit1t0_226 _ = _; rw [lit1t0_226, digit3]
  exact (by decide +kernel : ∀ k : Fin 128, lit1t0_226 k.val = expected 226 k) k
/-- With segment 227. -/
theorem d227 : Upto Segment 192 228 := more d226 fun k => by
  rw [open1]; show lit1t1_1 _ = _; rw [lit1t1_1, digit2]; show lit1t0_227 _ = _; rw [lit1t0_227, digit3]
  exact (by decide +kernel : ∀ k : Fin 128, lit1t0_227 k.val = expected 227 k) k
/-- With segment 228. -/
theorem d228 : Upto Segment 192 229 := more d227 fun k => by
  rw [open1]; show lit1t1_1 _ = _; rw [lit1t1_1, digit2]; show lit1t0_228 _ = _; rw [lit1t0_228, digit3]
  exact (by decide +kernel : ∀ k : Fin 128, lit1t0_228 k.val = expected 228 k) k
/-- With segment 229. -/
theorem d229 : Upto Segment 192 230 := more d228 fun k => by
  rw [open1]; show lit1t1_1 _ = _; rw [lit1t1_1, digit2]; show lit1t0_229 _ = _; rw [lit1t0_229, digit3]
  exact (by decide +kernel : ∀ k : Fin 128, lit1t0_229 k.val = expected 229 k) k
/-- With segment 230. -/
theorem d230 : Upto Segment 192 231 := more d229 fun k => by
  rw [open1]; show lit1t1_1 _ = _; rw [lit1t1_1, digit2]; show lit1t0_230 _ = _; rw [lit1t0_230, digit3]
  exact (by decide +kernel : ∀ k : Fin 128, lit1t0_230 k.val = expected 230 k) k
/-- With segment 231. -/
theorem d231 : Upto Segment 192 232 := more d230 fun k => by
  rw [open1]; show lit1t1_1 _ = _; rw [lit1t1_1, digit2]; show lit1t0_231 _ = _; rw [lit1t0_231, digit3]
  exact (by decide +kernel : ∀ k : Fin 128, lit1t0_231 k.val = expected 231 k) k
/-- With segment 232. -/
theorem d232 : Upto Segment 192 233 := more d231 fun k => by
  rw [open1]; show lit1t1_1 _ = _; rw [lit1t1_1, digit2]; show lit1t0_232 _ = _; rw [lit1t0_232, digit3]
  exact (by decide +kernel : ∀ k : Fin 128, lit1t0_232 k.val = expected 232 k) k
/-- With segment 233. -/
theorem d233 : Upto Segment 192 234 := more d232 fun k => by
  rw [open1]; show lit1t1_1 _ = _; rw [lit1t1_1, digit2]; show lit1t0_233 _ = _; rw [lit1t0_233, digit3]
  exact (by decide +kernel : ∀ k : Fin 128, lit1t0_233 k.val = expected 233 k) k
/-- With segment 234. -/
theorem d234 : Upto Segment 192 235 := more d233 fun k => by
  rw [open1]; show lit1t1_1 _ = _; rw [lit1t1_1, digit2]; show lit1t0_234 _ = _; rw [lit1t0_234, digit3]
  exact (by decide +kernel : ∀ k : Fin 128, lit1t0_234 k.val = expected 234 k) k
/-- With segment 235. -/
theorem d235 : Upto Segment 192 236 := more d234 fun k => by
  rw [open1]; show lit1t1_1 _ = _; rw [lit1t1_1, digit2]; show lit1t0_235 _ = _; rw [lit1t0_235, digit3]
  exact (by decide +kernel : ∀ k : Fin 128, lit1t0_235 k.val = expected 235 k) k
/-- With segment 236. -/
theorem d236 : Upto Segment 192 237 := more d235 fun k => by
  rw [open1]; show lit1t1_1 _ = _; rw [lit1t1_1, digit2]; show lit1t0_236 _ = _; rw [lit1t0_236, digit3]
  exact (by decide +kernel : ∀ k : Fin 128, lit1t0_236 k.val = expected 236 k) k
/-- With segment 237. -/
theorem d237 : Upto Segment 192 238 := more d236 fun k => by
  rw [open1]; show lit1t1_1 _ = _; rw [lit1t1_1, digit2]; show lit1t0_237 _ = _; rw [lit1t0_237, digit3]
  exact (by decide +kernel : ∀ k : Fin 128, lit1t0_237 k.val = expected 237 k) k
/-- With segment 238. -/
theorem d238 : Upto Segment 192 239 := more d237 fun k => by
  rw [open1]; show lit1t1_1 _ = _; rw [lit1t1_1, digit2]; show lit1t0_238 _ = _; rw [lit1t0_238, digit3]
  exact (by decide +kernel : ∀ k : Fin 128, lit1t0_238 k.val = expected 238 k) k
/-- With segment 239. -/
theorem d239 : Upto Segment 192 240 := more d238 fun k => by
  rw [open1]; show lit1t1_1 _ = _; rw [lit1t1_1, digit2]; show lit1t0_239 _ = _; rw [lit1t0_239, digit3]
  exact (by decide +kernel : ∀ k : Fin 128, lit1t0_239 k.val = expected 239 k) k
/-- With segment 240. -/
theorem d240 : Upto Segment 192 241 := more d239 fun k => by
  rw [open1]; show lit1t1_1 _ = _; rw [lit1t1_1, digit2]; show lit1t0_240 _ = _; rw [lit1t0_240, digit3]
  exact (by decide +kernel : ∀ k : Fin 128, lit1t0_240 k.val = expected 240 k) k
/-- With segment 241. -/
theorem d241 : Upto Segment 192 242 := more d240 fun k => by
  rw [open1]; show lit1t1_1 _ = _; rw [lit1t1_1, digit2]; show lit1t0_241 _ = _; rw [lit1t0_241, digit3]
  exact (by decide +kernel : ∀ k : Fin 128, lit1t0_241 k.val = expected 241 k) k
/-- With segment 242. -/
theorem d242 : Upto Segment 192 243 := more d241 fun k => by
  rw [open1]; show lit1t1_1 _ = _; rw [lit1t1_1, digit2]; show lit1t0_242 _ = _; rw [lit1t0_242, digit3]
  exact (by decide +kernel : ∀ k : Fin 128, lit1t0_242 k.val = expected 242 k) k
/-- With segment 243. -/
theorem d243 : Upto Segment 192 244 := more d242 fun k => by
  rw [open1]; show lit1t1_1 _ = _; rw [lit1t1_1, digit2]; show lit1t0_243 _ = _; rw [lit1t0_243, digit3]
  exact (by decide +kernel : ∀ k : Fin 128, lit1t0_243 k.val = expected 243 k) k
/-- With segment 244. -/
theorem d244 : Upto Segment 192 245 := more d243 fun k => by
  rw [open1]; show lit1t1_1 _ = _; rw [lit1t1_1, digit2]; show lit1t0_244 _ = _; rw [lit1t0_244, digit3]
  exact (by decide +kernel : ∀ k : Fin 128, lit1t0_244 k.val = expected 244 k) k
/-- With segment 245. -/
theorem d245 : Upto Segment 192 246 := more d244 fun k => by
  rw [open1]; show lit1t1_1 _ = _; rw [lit1t1_1, digit2]; show lit1t0_245 _ = _; rw [lit1t0_245, digit3]
  exact (by decide +kernel : ∀ k : Fin 128, lit1t0_245 k.val = expected 245 k) k
/-- With segment 246. -/
theorem d246 : Upto Segment 192 247 := more d245 fun k => by
  rw [open1]; show lit1t1_1 _ = _; rw [lit1t1_1, digit2]; show lit1t0_246 _ = _; rw [lit1t0_246, digit3]
  exact (by decide +kernel : ∀ k : Fin 128, lit1t0_246 k.val = expected 246 k) k
/-- With segment 247. -/
theorem d247 : Upto Segment 192 248 := more d246 fun k => by
  rw [open1]; show lit1t1_1 _ = _; rw [lit1t1_1, digit2]; show lit1t0_247 _ = _; rw [lit1t0_247, digit3]
  exact (by decide +kernel : ∀ k : Fin 128, lit1t0_247 k.val = expected 247 k) k
/-- With segment 248. -/
theorem d248 : Upto Segment 192 249 := more d247 fun k => by
  rw [open1]; show lit1t1_1 _ = _; rw [lit1t1_1, digit2]; show lit1t0_248 _ = _; rw [lit1t0_248, digit3]
  exact (by decide +kernel : ∀ k : Fin 128, lit1t0_248 k.val = expected 248 k) k
/-- With segment 249. -/
theorem d249 : Upto Segment 192 250 := more d248 fun k => by
  rw [open1]; show lit1t1_1 _ = _; rw [lit1t1_1, digit2]; show lit1t0_249 _ = _; rw [lit1t0_249, digit3]
  exact (by decide +kernel : ∀ k : Fin 128, lit1t0_249 k.val = expected 249 k) k
/-- With segment 250. -/
theorem d250 : Upto Segment 192 251 := more d249 fun k => by
  rw [open1]; show lit1t1_1 _ = _; rw [lit1t1_1, digit2]; show lit1t0_250 _ = _; rw [lit1t0_250, digit3]
  exact (by decide +kernel : ∀ k : Fin 128, lit1t0_250 k.val = expected 250 k) k
/-- With segment 251. -/
theorem d251 : Upto Segment 192 252 := more d250 fun k => by
  rw [open1]; show lit1t1_1 _ = _; rw [lit1t1_1, digit2]; show lit1t0_251 _ = _; rw [lit1t0_251, digit3]
  exact (by decide +kernel : ∀ k : Fin 128, lit1t0_251 k.val = expected 251 k) k
/-- With segment 252. -/
theorem d252 : Upto Segment 192 253 := more d251 fun k => by
  rw [open1]; show lit1t1_1 _ = _; rw [lit1t1_1, digit2]; show lit1t0_252 _ = _; rw [lit1t0_252, digit3]
  exact (by decide +kernel : ∀ k : Fin 128, lit1t0_252 k.val = expected 252 k) k
/-- With segment 253. -/
theorem d253 : Upto Segment 192 254 := more d252 fun k => by
  rw [open1]; show lit1t1_1 _ = _; rw [lit1t1_1, digit2]; show lit1t0_253 _ = _; rw [lit1t0_253, digit3]
  exact (by decide +kernel : ∀ k : Fin 128, lit1t0_253 k.val = expected 253 k) k
/-- With segment 254. -/
theorem d254 : Upto Segment 192 255 := more d253 fun k => by
  rw [open1]; show lit1t1_1 _ = _; rw [lit1t1_1, digit2]; show lit1t0_254 _ = _; rw [lit1t0_254, digit3]
  exact (by decide +kernel : ∀ k : Fin 128, lit1t0_254 k.val = expected 254 k) k
/-- With segment 255. -/
theorem d255 : Upto Segment 192 256 := more d254 fun k => by
  rw [open1]; show lit1t1_1 _ = _; rw [lit1t1_1, digit2]; show lit1t0_255 _ = _; rw [lit1t0_255, digit3]
  exact (by decide +kernel : ∀ k : Fin 128, lit1t0_255 k.val = expected 255 k) k

/-- The distance table's segments from 192 to 255. -/
theorem distance3 : Upto Segment 192 256 := d255

/-- With segment 192. -/
theorem b192 : Upto SegmentBand 192 193 := more (start 192) fun k => by
  rw [open0]; show lit0t1_1 _ = _; rw [lit0t1_1, digit2]; show lit0t0_192 _ = _; rw [lit0t0_192, digit3]
  exact (by decide +kernel : ∀ k : Fin 128, lit0t0_192 k.val = expectedBand 192 k) k
/-- With segment 193. -/
theorem b193 : Upto SegmentBand 192 194 := more b192 fun k => by
  rw [open0]; show lit0t1_1 _ = _; rw [lit0t1_1, digit2]; show lit0t0_193 _ = _; rw [lit0t0_193, digit3]
  exact (by decide +kernel : ∀ k : Fin 128, lit0t0_193 k.val = expectedBand 193 k) k
/-- With segment 194. -/
theorem b194 : Upto SegmentBand 192 195 := more b193 fun k => by
  rw [open0]; show lit0t1_1 _ = _; rw [lit0t1_1, digit2]; show lit0t0_194 _ = _; rw [lit0t0_194, digit3]
  exact (by decide +kernel : ∀ k : Fin 128, lit0t0_194 k.val = expectedBand 194 k) k
/-- With segment 195. -/
theorem b195 : Upto SegmentBand 192 196 := more b194 fun k => by
  rw [open0]; show lit0t1_1 _ = _; rw [lit0t1_1, digit2]; show lit0t0_195 _ = _; rw [lit0t0_195, digit3]
  exact (by decide +kernel : ∀ k : Fin 128, lit0t0_195 k.val = expectedBand 195 k) k
/-- With segment 196. -/
theorem b196 : Upto SegmentBand 192 197 := more b195 fun k => by
  rw [open0]; show lit0t1_1 _ = _; rw [lit0t1_1, digit2]; show lit0t0_196 _ = _; rw [lit0t0_196, digit3]
  exact (by decide +kernel : ∀ k : Fin 128, lit0t0_196 k.val = expectedBand 196 k) k
/-- With segment 197. -/
theorem b197 : Upto SegmentBand 192 198 := more b196 fun k => by
  rw [open0]; show lit0t1_1 _ = _; rw [lit0t1_1, digit2]; show lit0t0_197 _ = _; rw [lit0t0_197, digit3]
  exact (by decide +kernel : ∀ k : Fin 128, lit0t0_197 k.val = expectedBand 197 k) k
/-- With segment 198. -/
theorem b198 : Upto SegmentBand 192 199 := more b197 fun k => by
  rw [open0]; show lit0t1_1 _ = _; rw [lit0t1_1, digit2]; show lit0t0_198 _ = _; rw [lit0t0_198, digit3]
  exact (by decide +kernel : ∀ k : Fin 128, lit0t0_198 k.val = expectedBand 198 k) k
/-- With segment 199. -/
theorem b199 : Upto SegmentBand 192 200 := more b198 fun k => by
  rw [open0]; show lit0t1_1 _ = _; rw [lit0t1_1, digit2]; show lit0t0_199 _ = _; rw [lit0t0_199, digit3]
  exact (by decide +kernel : ∀ k : Fin 128, lit0t0_199 k.val = expectedBand 199 k) k
/-- With segment 200. -/
theorem b200 : Upto SegmentBand 192 201 := more b199 fun k => by
  rw [open0]; show lit0t1_1 _ = _; rw [lit0t1_1, digit2]; show lit0t0_200 _ = _; rw [lit0t0_200, digit3]
  exact (by decide +kernel : ∀ k : Fin 128, lit0t0_200 k.val = expectedBand 200 k) k
/-- With segment 201. -/
theorem b201 : Upto SegmentBand 192 202 := more b200 fun k => by
  rw [open0]; show lit0t1_1 _ = _; rw [lit0t1_1, digit2]; show lit0t0_201 _ = _; rw [lit0t0_201, digit3]
  exact (by decide +kernel : ∀ k : Fin 128, lit0t0_201 k.val = expectedBand 201 k) k
/-- With segment 202. -/
theorem b202 : Upto SegmentBand 192 203 := more b201 fun k => by
  rw [open0]; show lit0t1_1 _ = _; rw [lit0t1_1, digit2]; show lit0t0_202 _ = _; rw [lit0t0_202, digit3]
  exact (by decide +kernel : ∀ k : Fin 128, lit0t0_202 k.val = expectedBand 202 k) k
/-- With segment 203. -/
theorem b203 : Upto SegmentBand 192 204 := more b202 fun k => by
  rw [open0]; show lit0t1_1 _ = _; rw [lit0t1_1, digit2]; show lit0t0_203 _ = _; rw [lit0t0_203, digit3]
  exact (by decide +kernel : ∀ k : Fin 128, lit0t0_203 k.val = expectedBand 203 k) k
/-- With segment 204. -/
theorem b204 : Upto SegmentBand 192 205 := more b203 fun k => by
  rw [open0]; show lit0t1_1 _ = _; rw [lit0t1_1, digit2]; show lit0t0_204 _ = _; rw [lit0t0_204, digit3]
  exact (by decide +kernel : ∀ k : Fin 128, lit0t0_204 k.val = expectedBand 204 k) k
/-- With segment 205. -/
theorem b205 : Upto SegmentBand 192 206 := more b204 fun k => by
  rw [open0]; show lit0t1_1 _ = _; rw [lit0t1_1, digit2]; show lit0t0_205 _ = _; rw [lit0t0_205, digit3]
  exact (by decide +kernel : ∀ k : Fin 128, lit0t0_205 k.val = expectedBand 205 k) k
/-- With segment 206. -/
theorem b206 : Upto SegmentBand 192 207 := more b205 fun k => by
  rw [open0]; show lit0t1_1 _ = _; rw [lit0t1_1, digit2]; show lit0t0_206 _ = _; rw [lit0t0_206, digit3]
  exact (by decide +kernel : ∀ k : Fin 128, lit0t0_206 k.val = expectedBand 206 k) k
/-- With segment 207. -/
theorem b207 : Upto SegmentBand 192 208 := more b206 fun k => by
  rw [open0]; show lit0t1_1 _ = _; rw [lit0t1_1, digit2]; show lit0t0_207 _ = _; rw [lit0t0_207, digit3]
  exact (by decide +kernel : ∀ k : Fin 128, lit0t0_207 k.val = expectedBand 207 k) k
/-- With segment 208. -/
theorem b208 : Upto SegmentBand 192 209 := more b207 fun k => by
  rw [open0]; show lit0t1_1 _ = _; rw [lit0t1_1, digit2]; show lit0t0_208 _ = _; rw [lit0t0_208, digit3]
  exact (by decide +kernel : ∀ k : Fin 128, lit0t0_208 k.val = expectedBand 208 k) k
/-- With segment 209. -/
theorem b209 : Upto SegmentBand 192 210 := more b208 fun k => by
  rw [open0]; show lit0t1_1 _ = _; rw [lit0t1_1, digit2]; show lit0t0_209 _ = _; rw [lit0t0_209, digit3]
  exact (by decide +kernel : ∀ k : Fin 128, lit0t0_209 k.val = expectedBand 209 k) k
/-- With segment 210. -/
theorem b210 : Upto SegmentBand 192 211 := more b209 fun k => by
  rw [open0]; show lit0t1_1 _ = _; rw [lit0t1_1, digit2]; show lit0t0_210 _ = _; rw [lit0t0_210, digit3]
  exact (by decide +kernel : ∀ k : Fin 128, lit0t0_210 k.val = expectedBand 210 k) k
/-- With segment 211. -/
theorem b211 : Upto SegmentBand 192 212 := more b210 fun k => by
  rw [open0]; show lit0t1_1 _ = _; rw [lit0t1_1, digit2]; show lit0t0_211 _ = _; rw [lit0t0_211, digit3]
  exact (by decide +kernel : ∀ k : Fin 128, lit0t0_211 k.val = expectedBand 211 k) k
/-- With segment 212. -/
theorem b212 : Upto SegmentBand 192 213 := more b211 fun k => by
  rw [open0]; show lit0t1_1 _ = _; rw [lit0t1_1, digit2]; show lit0t0_212 _ = _; rw [lit0t0_212, digit3]
  exact (by decide +kernel : ∀ k : Fin 128, lit0t0_212 k.val = expectedBand 212 k) k
/-- With segment 213. -/
theorem b213 : Upto SegmentBand 192 214 := more b212 fun k => by
  rw [open0]; show lit0t1_1 _ = _; rw [lit0t1_1, digit2]; show lit0t0_213 _ = _; rw [lit0t0_213, digit3]
  exact (by decide +kernel : ∀ k : Fin 128, lit0t0_213 k.val = expectedBand 213 k) k
/-- With segment 214. -/
theorem b214 : Upto SegmentBand 192 215 := more b213 fun k => by
  rw [open0]; show lit0t1_1 _ = _; rw [lit0t1_1, digit2]; show lit0t0_214 _ = _; rw [lit0t0_214, digit3]
  exact (by decide +kernel : ∀ k : Fin 128, lit0t0_214 k.val = expectedBand 214 k) k
/-- With segment 215. -/
theorem b215 : Upto SegmentBand 192 216 := more b214 fun k => by
  rw [open0]; show lit0t1_1 _ = _; rw [lit0t1_1, digit2]; show lit0t0_215 _ = _; rw [lit0t0_215, digit3]
  exact (by decide +kernel : ∀ k : Fin 128, lit0t0_215 k.val = expectedBand 215 k) k
/-- With segment 216. -/
theorem b216 : Upto SegmentBand 192 217 := more b215 fun k => by
  rw [open0]; show lit0t1_1 _ = _; rw [lit0t1_1, digit2]; show lit0t0_216 _ = _; rw [lit0t0_216, digit3]
  exact (by decide +kernel : ∀ k : Fin 128, lit0t0_216 k.val = expectedBand 216 k) k
/-- With segment 217. -/
theorem b217 : Upto SegmentBand 192 218 := more b216 fun k => by
  rw [open0]; show lit0t1_1 _ = _; rw [lit0t1_1, digit2]; show lit0t0_217 _ = _; rw [lit0t0_217, digit3]
  exact (by decide +kernel : ∀ k : Fin 128, lit0t0_217 k.val = expectedBand 217 k) k
/-- With segment 218. -/
theorem b218 : Upto SegmentBand 192 219 := more b217 fun k => by
  rw [open0]; show lit0t1_1 _ = _; rw [lit0t1_1, digit2]; show lit0t0_218 _ = _; rw [lit0t0_218, digit3]
  exact (by decide +kernel : ∀ k : Fin 128, lit0t0_218 k.val = expectedBand 218 k) k
/-- With segment 219. -/
theorem b219 : Upto SegmentBand 192 220 := more b218 fun k => by
  rw [open0]; show lit0t1_1 _ = _; rw [lit0t1_1, digit2]; show lit0t0_219 _ = _; rw [lit0t0_219, digit3]
  exact (by decide +kernel : ∀ k : Fin 128, lit0t0_219 k.val = expectedBand 219 k) k
/-- With segment 220. -/
theorem b220 : Upto SegmentBand 192 221 := more b219 fun k => by
  rw [open0]; show lit0t1_1 _ = _; rw [lit0t1_1, digit2]; show lit0t0_220 _ = _; rw [lit0t0_220, digit3]
  exact (by decide +kernel : ∀ k : Fin 128, lit0t0_220 k.val = expectedBand 220 k) k
/-- With segment 221. -/
theorem b221 : Upto SegmentBand 192 222 := more b220 fun k => by
  rw [open0]; show lit0t1_1 _ = _; rw [lit0t1_1, digit2]; show lit0t0_221 _ = _; rw [lit0t0_221, digit3]
  exact (by decide +kernel : ∀ k : Fin 128, lit0t0_221 k.val = expectedBand 221 k) k
/-- With segment 222. -/
theorem b222 : Upto SegmentBand 192 223 := more b221 fun k => by
  rw [open0]; show lit0t1_1 _ = _; rw [lit0t1_1, digit2]; show lit0t0_222 _ = _; rw [lit0t0_222, digit3]
  exact (by decide +kernel : ∀ k : Fin 128, lit0t0_222 k.val = expectedBand 222 k) k
/-- With segment 223. -/
theorem b223 : Upto SegmentBand 192 224 := more b222 fun k => by
  rw [open0]; show lit0t1_1 _ = _; rw [lit0t1_1, digit2]; show lit0t0_223 _ = _; rw [lit0t0_223, digit3]
  exact (by decide +kernel : ∀ k : Fin 128, lit0t0_223 k.val = expectedBand 223 k) k
/-- With segment 224. -/
theorem b224 : Upto SegmentBand 192 225 := more b223 fun k => by
  rw [open0]; show lit0t1_1 _ = _; rw [lit0t1_1, digit2]; show lit0t0_224 _ = _; rw [lit0t0_224, digit3]
  exact (by decide +kernel : ∀ k : Fin 128, lit0t0_224 k.val = expectedBand 224 k) k
/-- With segment 225. -/
theorem b225 : Upto SegmentBand 192 226 := more b224 fun k => by
  rw [open0]; show lit0t1_1 _ = _; rw [lit0t1_1, digit2]; show lit0t0_225 _ = _; rw [lit0t0_225, digit3]
  exact (by decide +kernel : ∀ k : Fin 128, lit0t0_225 k.val = expectedBand 225 k) k
/-- With segment 226. -/
theorem b226 : Upto SegmentBand 192 227 := more b225 fun k => by
  rw [open0]; show lit0t1_1 _ = _; rw [lit0t1_1, digit2]; show lit0t0_226 _ = _; rw [lit0t0_226, digit3]
  exact (by decide +kernel : ∀ k : Fin 128, lit0t0_226 k.val = expectedBand 226 k) k
/-- With segment 227. -/
theorem b227 : Upto SegmentBand 192 228 := more b226 fun k => by
  rw [open0]; show lit0t1_1 _ = _; rw [lit0t1_1, digit2]; show lit0t0_227 _ = _; rw [lit0t0_227, digit3]
  exact (by decide +kernel : ∀ k : Fin 128, lit0t0_227 k.val = expectedBand 227 k) k
/-- With segment 228. -/
theorem b228 : Upto SegmentBand 192 229 := more b227 fun k => by
  rw [open0]; show lit0t1_1 _ = _; rw [lit0t1_1, digit2]; show lit0t0_228 _ = _; rw [lit0t0_228, digit3]
  exact (by decide +kernel : ∀ k : Fin 128, lit0t0_228 k.val = expectedBand 228 k) k
/-- With segment 229. -/
theorem b229 : Upto SegmentBand 192 230 := more b228 fun k => by
  rw [open0]; show lit0t1_1 _ = _; rw [lit0t1_1, digit2]; show lit0t0_229 _ = _; rw [lit0t0_229, digit3]
  exact (by decide +kernel : ∀ k : Fin 128, lit0t0_229 k.val = expectedBand 229 k) k
/-- With segment 230. -/
theorem b230 : Upto SegmentBand 192 231 := more b229 fun k => by
  rw [open0]; show lit0t1_1 _ = _; rw [lit0t1_1, digit2]; show lit0t0_230 _ = _; rw [lit0t0_230, digit3]
  exact (by decide +kernel : ∀ k : Fin 128, lit0t0_230 k.val = expectedBand 230 k) k
/-- With segment 231. -/
theorem b231 : Upto SegmentBand 192 232 := more b230 fun k => by
  rw [open0]; show lit0t1_1 _ = _; rw [lit0t1_1, digit2]; show lit0t0_231 _ = _; rw [lit0t0_231, digit3]
  exact (by decide +kernel : ∀ k : Fin 128, lit0t0_231 k.val = expectedBand 231 k) k
/-- With segment 232. -/
theorem b232 : Upto SegmentBand 192 233 := more b231 fun k => by
  rw [open0]; show lit0t1_1 _ = _; rw [lit0t1_1, digit2]; show lit0t0_232 _ = _; rw [lit0t0_232, digit3]
  exact (by decide +kernel : ∀ k : Fin 128, lit0t0_232 k.val = expectedBand 232 k) k
/-- With segment 233. -/
theorem b233 : Upto SegmentBand 192 234 := more b232 fun k => by
  rw [open0]; show lit0t1_1 _ = _; rw [lit0t1_1, digit2]; show lit0t0_233 _ = _; rw [lit0t0_233, digit3]
  exact (by decide +kernel : ∀ k : Fin 128, lit0t0_233 k.val = expectedBand 233 k) k
/-- With segment 234. -/
theorem b234 : Upto SegmentBand 192 235 := more b233 fun k => by
  rw [open0]; show lit0t1_1 _ = _; rw [lit0t1_1, digit2]; show lit0t0_234 _ = _; rw [lit0t0_234, digit3]
  exact (by decide +kernel : ∀ k : Fin 128, lit0t0_234 k.val = expectedBand 234 k) k
/-- With segment 235. -/
theorem b235 : Upto SegmentBand 192 236 := more b234 fun k => by
  rw [open0]; show lit0t1_1 _ = _; rw [lit0t1_1, digit2]; show lit0t0_235 _ = _; rw [lit0t0_235, digit3]
  exact (by decide +kernel : ∀ k : Fin 128, lit0t0_235 k.val = expectedBand 235 k) k
/-- With segment 236. -/
theorem b236 : Upto SegmentBand 192 237 := more b235 fun k => by
  rw [open0]; show lit0t1_1 _ = _; rw [lit0t1_1, digit2]; show lit0t0_236 _ = _; rw [lit0t0_236, digit3]
  exact (by decide +kernel : ∀ k : Fin 128, lit0t0_236 k.val = expectedBand 236 k) k
/-- With segment 237. -/
theorem b237 : Upto SegmentBand 192 238 := more b236 fun k => by
  rw [open0]; show lit0t1_1 _ = _; rw [lit0t1_1, digit2]; show lit0t0_237 _ = _; rw [lit0t0_237, digit3]
  exact (by decide +kernel : ∀ k : Fin 128, lit0t0_237 k.val = expectedBand 237 k) k
/-- With segment 238. -/
theorem b238 : Upto SegmentBand 192 239 := more b237 fun k => by
  rw [open0]; show lit0t1_1 _ = _; rw [lit0t1_1, digit2]; show lit0t0_238 _ = _; rw [lit0t0_238, digit3]
  exact (by decide +kernel : ∀ k : Fin 128, lit0t0_238 k.val = expectedBand 238 k) k
/-- With segment 239. -/
theorem b239 : Upto SegmentBand 192 240 := more b238 fun k => by
  rw [open0]; show lit0t1_1 _ = _; rw [lit0t1_1, digit2]; show lit0t0_239 _ = _; rw [lit0t0_239, digit3]
  exact (by decide +kernel : ∀ k : Fin 128, lit0t0_239 k.val = expectedBand 239 k) k
/-- With segment 240. -/
theorem b240 : Upto SegmentBand 192 241 := more b239 fun k => by
  rw [open0]; show lit0t1_1 _ = _; rw [lit0t1_1, digit2]; show lit0t0_240 _ = _; rw [lit0t0_240, digit3]
  exact (by decide +kernel : ∀ k : Fin 128, lit0t0_240 k.val = expectedBand 240 k) k
/-- With segment 241. -/
theorem b241 : Upto SegmentBand 192 242 := more b240 fun k => by
  rw [open0]; show lit0t1_1 _ = _; rw [lit0t1_1, digit2]; show lit0t0_241 _ = _; rw [lit0t0_241, digit3]
  exact (by decide +kernel : ∀ k : Fin 128, lit0t0_241 k.val = expectedBand 241 k) k
/-- With segment 242. -/
theorem b242 : Upto SegmentBand 192 243 := more b241 fun k => by
  rw [open0]; show lit0t1_1 _ = _; rw [lit0t1_1, digit2]; show lit0t0_242 _ = _; rw [lit0t0_242, digit3]
  exact (by decide +kernel : ∀ k : Fin 128, lit0t0_242 k.val = expectedBand 242 k) k
/-- With segment 243. -/
theorem b243 : Upto SegmentBand 192 244 := more b242 fun k => by
  rw [open0]; show lit0t1_1 _ = _; rw [lit0t1_1, digit2]; show lit0t0_243 _ = _; rw [lit0t0_243, digit3]
  exact (by decide +kernel : ∀ k : Fin 128, lit0t0_243 k.val = expectedBand 243 k) k
/-- With segment 244. -/
theorem b244 : Upto SegmentBand 192 245 := more b243 fun k => by
  rw [open0]; show lit0t1_1 _ = _; rw [lit0t1_1, digit2]; show lit0t0_244 _ = _; rw [lit0t0_244, digit3]
  exact (by decide +kernel : ∀ k : Fin 128, lit0t0_244 k.val = expectedBand 244 k) k
/-- With segment 245. -/
theorem b245 : Upto SegmentBand 192 246 := more b244 fun k => by
  rw [open0]; show lit0t1_1 _ = _; rw [lit0t1_1, digit2]; show lit0t0_245 _ = _; rw [lit0t0_245, digit3]
  exact (by decide +kernel : ∀ k : Fin 128, lit0t0_245 k.val = expectedBand 245 k) k
/-- With segment 246. -/
theorem b246 : Upto SegmentBand 192 247 := more b245 fun k => by
  rw [open0]; show lit0t1_1 _ = _; rw [lit0t1_1, digit2]; show lit0t0_246 _ = _; rw [lit0t0_246, digit3]
  exact (by decide +kernel : ∀ k : Fin 128, lit0t0_246 k.val = expectedBand 246 k) k
/-- With segment 247. -/
theorem b247 : Upto SegmentBand 192 248 := more b246 fun k => by
  rw [open0]; show lit0t1_1 _ = _; rw [lit0t1_1, digit2]; show lit0t0_247 _ = _; rw [lit0t0_247, digit3]
  exact (by decide +kernel : ∀ k : Fin 128, lit0t0_247 k.val = expectedBand 247 k) k
/-- With segment 248. -/
theorem b248 : Upto SegmentBand 192 249 := more b247 fun k => by
  rw [open0]; show lit0t1_1 _ = _; rw [lit0t1_1, digit2]; show lit0t0_248 _ = _; rw [lit0t0_248, digit3]
  exact (by decide +kernel : ∀ k : Fin 128, lit0t0_248 k.val = expectedBand 248 k) k
/-- With segment 249. -/
theorem b249 : Upto SegmentBand 192 250 := more b248 fun k => by
  rw [open0]; show lit0t1_1 _ = _; rw [lit0t1_1, digit2]; show lit0t0_249 _ = _; rw [lit0t0_249, digit3]
  exact (by decide +kernel : ∀ k : Fin 128, lit0t0_249 k.val = expectedBand 249 k) k
/-- With segment 250. -/
theorem b250 : Upto SegmentBand 192 251 := more b249 fun k => by
  rw [open0]; show lit0t1_1 _ = _; rw [lit0t1_1, digit2]; show lit0t0_250 _ = _; rw [lit0t0_250, digit3]
  exact (by decide +kernel : ∀ k : Fin 128, lit0t0_250 k.val = expectedBand 250 k) k
/-- With segment 251. -/
theorem b251 : Upto SegmentBand 192 252 := more b250 fun k => by
  rw [open0]; show lit0t1_1 _ = _; rw [lit0t1_1, digit2]; show lit0t0_251 _ = _; rw [lit0t0_251, digit3]
  exact (by decide +kernel : ∀ k : Fin 128, lit0t0_251 k.val = expectedBand 251 k) k
/-- With segment 252. -/
theorem b252 : Upto SegmentBand 192 253 := more b251 fun k => by
  rw [open0]; show lit0t1_1 _ = _; rw [lit0t1_1, digit2]; show lit0t0_252 _ = _; rw [lit0t0_252, digit3]
  exact (by decide +kernel : ∀ k : Fin 128, lit0t0_252 k.val = expectedBand 252 k) k
/-- With segment 253. -/
theorem b253 : Upto SegmentBand 192 254 := more b252 fun k => by
  rw [open0]; show lit0t1_1 _ = _; rw [lit0t1_1, digit2]; show lit0t0_253 _ = _; rw [lit0t0_253, digit3]
  exact (by decide +kernel : ∀ k : Fin 128, lit0t0_253 k.val = expectedBand 253 k) k
/-- With segment 254. -/
theorem b254 : Upto SegmentBand 192 255 := more b253 fun k => by
  rw [open0]; show lit0t1_1 _ = _; rw [lit0t1_1, digit2]; show lit0t0_254 _ = _; rw [lit0t0_254, digit3]
  exact (by decide +kernel : ∀ k : Fin 128, lit0t0_254 k.val = expectedBand 254 k) k
/-- With segment 255. -/
theorem b255 : Upto SegmentBand 192 256 := more b254 fun k => by
  rw [open0]; show lit0t1_1 _ = _; rw [lit0t1_1, digit2]; show lit0t0_255 _ = _; rw [lit0t0_255, digit3]
  exact (by decide +kernel : ∀ k : Fin 128, lit0t0_255 k.val = expectedBand 255 k) k

/-- The band table's segments from 192 to 255. -/
theorem band3 : Upto SegmentBand 192 256 := b255

end Cert.SwaIdeal.Table

end
-- ==== Proof.SwaTable4.lean ====
/- Segments 256 to 319 of the distance and band tables of the windowed attention, read. -/
module

public import proofs.«01_k».proof.Proof.SwaTable

@[expose] public section

set_option maxRecDepth 16384

noncomputable section

namespace Cert.SwaIdeal.Table

/-- With segment 256. -/
theorem d256 : Upto Segment 256 257 := more (start 256) fun k => by
  rw [open1]; show lit1t1_2 _ = _; rw [lit1t1_2, digit2]; show lit1t0_256 _ = _; rw [lit1t0_256, digit3]
  exact (by decide +kernel : ∀ k : Fin 128, lit1t0_256 k.val = expected 256 k) k
/-- With segment 257. -/
theorem d257 : Upto Segment 256 258 := more d256 fun k => by
  rw [open1]; show lit1t1_2 _ = _; rw [lit1t1_2, digit2]; show lit1t0_257 _ = _; rw [lit1t0_257, digit3]
  exact (by decide +kernel : ∀ k : Fin 128, lit1t0_257 k.val = expected 257 k) k
/-- With segment 258. -/
theorem d258 : Upto Segment 256 259 := more d257 fun k => by
  rw [open1]; show lit1t1_2 _ = _; rw [lit1t1_2, digit2]; show lit1t0_258 _ = _; rw [lit1t0_258, digit3]
  exact (by decide +kernel : ∀ k : Fin 128, lit1t0_258 k.val = expected 258 k) k
/-- With segment 259. -/
theorem d259 : Upto Segment 256 260 := more d258 fun k => by
  rw [open1]; show lit1t1_2 _ = _; rw [lit1t1_2, digit2]; show lit1t0_259 _ = _; rw [lit1t0_259, digit3]
  exact (by decide +kernel : ∀ k : Fin 128, lit1t0_259 k.val = expected 259 k) k
/-- With segment 260. -/
theorem d260 : Upto Segment 256 261 := more d259 fun k => by
  rw [open1]; show lit1t1_2 _ = _; rw [lit1t1_2, digit2]; show lit1t0_260 _ = _; rw [lit1t0_260, digit3]
  exact (by decide +kernel : ∀ k : Fin 128, lit1t0_260 k.val = expected 260 k) k
/-- With segment 261. -/
theorem d261 : Upto Segment 256 262 := more d260 fun k => by
  rw [open1]; show lit1t1_2 _ = _; rw [lit1t1_2, digit2]; show lit1t0_261 _ = _; rw [lit1t0_261, digit3]
  exact (by decide +kernel : ∀ k : Fin 128, lit1t0_261 k.val = expected 261 k) k
/-- With segment 262. -/
theorem d262 : Upto Segment 256 263 := more d261 fun k => by
  rw [open1]; show lit1t1_2 _ = _; rw [lit1t1_2, digit2]; show lit1t0_262 _ = _; rw [lit1t0_262, digit3]
  exact (by decide +kernel : ∀ k : Fin 128, lit1t0_262 k.val = expected 262 k) k
/-- With segment 263. -/
theorem d263 : Upto Segment 256 264 := more d262 fun k => by
  rw [open1]; show lit1t1_2 _ = _; rw [lit1t1_2, digit2]; show lit1t0_263 _ = _; rw [lit1t0_263, digit3]
  exact (by decide +kernel : ∀ k : Fin 128, lit1t0_263 k.val = expected 263 k) k
/-- With segment 264. -/
theorem d264 : Upto Segment 256 265 := more d263 fun k => by
  rw [open1]; show lit1t1_2 _ = _; rw [lit1t1_2, digit2]; show lit1t0_264 _ = _; rw [lit1t0_264, digit3]
  exact (by decide +kernel : ∀ k : Fin 128, lit1t0_264 k.val = expected 264 k) k
/-- With segment 265. -/
theorem d265 : Upto Segment 256 266 := more d264 fun k => by
  rw [open1]; show lit1t1_2 _ = _; rw [lit1t1_2, digit2]; show lit1t0_265 _ = _; rw [lit1t0_265, digit3]
  exact (by decide +kernel : ∀ k : Fin 128, lit1t0_265 k.val = expected 265 k) k
/-- With segment 266. -/
theorem d266 : Upto Segment 256 267 := more d265 fun k => by
  rw [open1]; show lit1t1_2 _ = _; rw [lit1t1_2, digit2]; show lit1t0_266 _ = _; rw [lit1t0_266, digit3]
  exact (by decide +kernel : ∀ k : Fin 128, lit1t0_266 k.val = expected 266 k) k
/-- With segment 267. -/
theorem d267 : Upto Segment 256 268 := more d266 fun k => by
  rw [open1]; show lit1t1_2 _ = _; rw [lit1t1_2, digit2]; show lit1t0_267 _ = _; rw [lit1t0_267, digit3]
  exact (by decide +kernel : ∀ k : Fin 128, lit1t0_267 k.val = expected 267 k) k
/-- With segment 268. -/
theorem d268 : Upto Segment 256 269 := more d267 fun k => by
  rw [open1]; show lit1t1_2 _ = _; rw [lit1t1_2, digit2]; show lit1t0_268 _ = _; rw [lit1t0_268, digit3]
  exact (by decide +kernel : ∀ k : Fin 128, lit1t0_268 k.val = expected 268 k) k
/-- With segment 269. -/
theorem d269 : Upto Segment 256 270 := more d268 fun k => by
  rw [open1]; show lit1t1_2 _ = _; rw [lit1t1_2, digit2]; show lit1t0_269 _ = _; rw [lit1t0_269, digit3]
  exact (by decide +kernel : ∀ k : Fin 128, lit1t0_269 k.val = expected 269 k) k
/-- With segment 270. -/
theorem d270 : Upto Segment 256 271 := more d269 fun k => by
  rw [open1]; show lit1t1_2 _ = _; rw [lit1t1_2, digit2]; show lit1t0_270 _ = _; rw [lit1t0_270, digit3]
  exact (by decide +kernel : ∀ k : Fin 128, lit1t0_270 k.val = expected 270 k) k
/-- With segment 271. -/
theorem d271 : Upto Segment 256 272 := more d270 fun k => by
  rw [open1]; show lit1t1_2 _ = _; rw [lit1t1_2, digit2]; show lit1t0_271 _ = _; rw [lit1t0_271, digit3]
  exact (by decide +kernel : ∀ k : Fin 128, lit1t0_271 k.val = expected 271 k) k
/-- With segment 272. -/
theorem d272 : Upto Segment 256 273 := more d271 fun k => by
  rw [open1]; show lit1t1_2 _ = _; rw [lit1t1_2, digit2]; show lit1t0_272 _ = _; rw [lit1t0_272, digit3]
  exact (by decide +kernel : ∀ k : Fin 128, lit1t0_272 k.val = expected 272 k) k
/-- With segment 273. -/
theorem d273 : Upto Segment 256 274 := more d272 fun k => by
  rw [open1]; show lit1t1_2 _ = _; rw [lit1t1_2, digit2]; show lit1t0_273 _ = _; rw [lit1t0_273, digit3]
  exact (by decide +kernel : ∀ k : Fin 128, lit1t0_273 k.val = expected 273 k) k
/-- With segment 274. -/
theorem d274 : Upto Segment 256 275 := more d273 fun k => by
  rw [open1]; show lit1t1_2 _ = _; rw [lit1t1_2, digit2]; show lit1t0_274 _ = _; rw [lit1t0_274, digit3]
  exact (by decide +kernel : ∀ k : Fin 128, lit1t0_274 k.val = expected 274 k) k
/-- With segment 275. -/
theorem d275 : Upto Segment 256 276 := more d274 fun k => by
  rw [open1]; show lit1t1_2 _ = _; rw [lit1t1_2, digit2]; show lit1t0_275 _ = _; rw [lit1t0_275, digit3]
  exact (by decide +kernel : ∀ k : Fin 128, lit1t0_275 k.val = expected 275 k) k
/-- With segment 276. -/
theorem d276 : Upto Segment 256 277 := more d275 fun k => by
  rw [open1]; show lit1t1_2 _ = _; rw [lit1t1_2, digit2]; show lit1t0_276 _ = _; rw [lit1t0_276, digit3]
  exact (by decide +kernel : ∀ k : Fin 128, lit1t0_276 k.val = expected 276 k) k
/-- With segment 277. -/
theorem d277 : Upto Segment 256 278 := more d276 fun k => by
  rw [open1]; show lit1t1_2 _ = _; rw [lit1t1_2, digit2]; show lit1t0_277 _ = _; rw [lit1t0_277, digit3]
  exact (by decide +kernel : ∀ k : Fin 128, lit1t0_277 k.val = expected 277 k) k
/-- With segment 278. -/
theorem d278 : Upto Segment 256 279 := more d277 fun k => by
  rw [open1]; show lit1t1_2 _ = _; rw [lit1t1_2, digit2]; show lit1t0_278 _ = _; rw [lit1t0_278, digit3]
  exact (by decide +kernel : ∀ k : Fin 128, lit1t0_278 k.val = expected 278 k) k
/-- With segment 279. -/
theorem d279 : Upto Segment 256 280 := more d278 fun k => by
  rw [open1]; show lit1t1_2 _ = _; rw [lit1t1_2, digit2]; show lit1t0_279 _ = _; rw [lit1t0_279, digit3]
  exact (by decide +kernel : ∀ k : Fin 128, lit1t0_279 k.val = expected 279 k) k
/-- With segment 280. -/
theorem d280 : Upto Segment 256 281 := more d279 fun k => by
  rw [open1]; show lit1t1_2 _ = _; rw [lit1t1_2, digit2]; show lit1t0_280 _ = _; rw [lit1t0_280, digit3]
  exact (by decide +kernel : ∀ k : Fin 128, lit1t0_280 k.val = expected 280 k) k
/-- With segment 281. -/
theorem d281 : Upto Segment 256 282 := more d280 fun k => by
  rw [open1]; show lit1t1_2 _ = _; rw [lit1t1_2, digit2]; show lit1t0_281 _ = _; rw [lit1t0_281, digit3]
  exact (by decide +kernel : ∀ k : Fin 128, lit1t0_281 k.val = expected 281 k) k
/-- With segment 282. -/
theorem d282 : Upto Segment 256 283 := more d281 fun k => by
  rw [open1]; show lit1t1_2 _ = _; rw [lit1t1_2, digit2]; show lit1t0_282 _ = _; rw [lit1t0_282, digit3]
  exact (by decide +kernel : ∀ k : Fin 128, lit1t0_282 k.val = expected 282 k) k
/-- With segment 283. -/
theorem d283 : Upto Segment 256 284 := more d282 fun k => by
  rw [open1]; show lit1t1_2 _ = _; rw [lit1t1_2, digit2]; show lit1t0_283 _ = _; rw [lit1t0_283, digit3]
  exact (by decide +kernel : ∀ k : Fin 128, lit1t0_283 k.val = expected 283 k) k
/-- With segment 284. -/
theorem d284 : Upto Segment 256 285 := more d283 fun k => by
  rw [open1]; show lit1t1_2 _ = _; rw [lit1t1_2, digit2]; show lit1t0_284 _ = _; rw [lit1t0_284, digit3]
  exact (by decide +kernel : ∀ k : Fin 128, lit1t0_284 k.val = expected 284 k) k
/-- With segment 285. -/
theorem d285 : Upto Segment 256 286 := more d284 fun k => by
  rw [open1]; show lit1t1_2 _ = _; rw [lit1t1_2, digit2]; show lit1t0_285 _ = _; rw [lit1t0_285, digit3]
  exact (by decide +kernel : ∀ k : Fin 128, lit1t0_285 k.val = expected 285 k) k
/-- With segment 286. -/
theorem d286 : Upto Segment 256 287 := more d285 fun k => by
  rw [open1]; show lit1t1_2 _ = _; rw [lit1t1_2, digit2]; show lit1t0_286 _ = _; rw [lit1t0_286, digit3]
  exact (by decide +kernel : ∀ k : Fin 128, lit1t0_286 k.val = expected 286 k) k
/-- With segment 287. -/
theorem d287 : Upto Segment 256 288 := more d286 fun k => by
  rw [open1]; show lit1t1_2 _ = _; rw [lit1t1_2, digit2]; show lit1t0_287 _ = _; rw [lit1t0_287, digit3]
  exact (by decide +kernel : ∀ k : Fin 128, lit1t0_287 k.val = expected 287 k) k
/-- With segment 288. -/
theorem d288 : Upto Segment 256 289 := more d287 fun k => by
  rw [open1]; show lit1t1_2 _ = _; rw [lit1t1_2, digit2]; show lit1t0_288 _ = _; rw [lit1t0_288, digit3]
  exact (by decide +kernel : ∀ k : Fin 128, lit1t0_288 k.val = expected 288 k) k
/-- With segment 289. -/
theorem d289 : Upto Segment 256 290 := more d288 fun k => by
  rw [open1]; show lit1t1_2 _ = _; rw [lit1t1_2, digit2]; show lit1t0_289 _ = _; rw [lit1t0_289, digit3]
  exact (by decide +kernel : ∀ k : Fin 128, lit1t0_289 k.val = expected 289 k) k
/-- With segment 290. -/
theorem d290 : Upto Segment 256 291 := more d289 fun k => by
  rw [open1]; show lit1t1_2 _ = _; rw [lit1t1_2, digit2]; show lit1t0_290 _ = _; rw [lit1t0_290, digit3]
  exact (by decide +kernel : ∀ k : Fin 128, lit1t0_290 k.val = expected 290 k) k
/-- With segment 291. -/
theorem d291 : Upto Segment 256 292 := more d290 fun k => by
  rw [open1]; show lit1t1_2 _ = _; rw [lit1t1_2, digit2]; show lit1t0_291 _ = _; rw [lit1t0_291, digit3]
  exact (by decide +kernel : ∀ k : Fin 128, lit1t0_291 k.val = expected 291 k) k
/-- With segment 292. -/
theorem d292 : Upto Segment 256 293 := more d291 fun k => by
  rw [open1]; show lit1t1_2 _ = _; rw [lit1t1_2, digit2]; show lit1t0_292 _ = _; rw [lit1t0_292, digit3]
  exact (by decide +kernel : ∀ k : Fin 128, lit1t0_292 k.val = expected 292 k) k
/-- With segment 293. -/
theorem d293 : Upto Segment 256 294 := more d292 fun k => by
  rw [open1]; show lit1t1_2 _ = _; rw [lit1t1_2, digit2]; show lit1t0_293 _ = _; rw [lit1t0_293, digit3]
  exact (by decide +kernel : ∀ k : Fin 128, lit1t0_293 k.val = expected 293 k) k
/-- With segment 294. -/
theorem d294 : Upto Segment 256 295 := more d293 fun k => by
  rw [open1]; show lit1t1_2 _ = _; rw [lit1t1_2, digit2]; show lit1t0_294 _ = _; rw [lit1t0_294, digit3]
  exact (by decide +kernel : ∀ k : Fin 128, lit1t0_294 k.val = expected 294 k) k
/-- With segment 295. -/
theorem d295 : Upto Segment 256 296 := more d294 fun k => by
  rw [open1]; show lit1t1_2 _ = _; rw [lit1t1_2, digit2]; show lit1t0_295 _ = _; rw [lit1t0_295, digit3]
  exact (by decide +kernel : ∀ k : Fin 128, lit1t0_295 k.val = expected 295 k) k
/-- With segment 296. -/
theorem d296 : Upto Segment 256 297 := more d295 fun k => by
  rw [open1]; show lit1t1_2 _ = _; rw [lit1t1_2, digit2]; show lit1t0_296 _ = _; rw [lit1t0_296, digit3]
  exact (by decide +kernel : ∀ k : Fin 128, lit1t0_296 k.val = expected 296 k) k
/-- With segment 297. -/
theorem d297 : Upto Segment 256 298 := more d296 fun k => by
  rw [open1]; show lit1t1_2 _ = _; rw [lit1t1_2, digit2]; show lit1t0_297 _ = _; rw [lit1t0_297, digit3]
  exact (by decide +kernel : ∀ k : Fin 128, lit1t0_297 k.val = expected 297 k) k
/-- With segment 298. -/
theorem d298 : Upto Segment 256 299 := more d297 fun k => by
  rw [open1]; show lit1t1_2 _ = _; rw [lit1t1_2, digit2]; show lit1t0_298 _ = _; rw [lit1t0_298, digit3]
  exact (by decide +kernel : ∀ k : Fin 128, lit1t0_298 k.val = expected 298 k) k
/-- With segment 299. -/
theorem d299 : Upto Segment 256 300 := more d298 fun k => by
  rw [open1]; show lit1t1_2 _ = _; rw [lit1t1_2, digit2]; show lit1t0_299 _ = _; rw [lit1t0_299, digit3]
  exact (by decide +kernel : ∀ k : Fin 128, lit1t0_299 k.val = expected 299 k) k
/-- With segment 300. -/
theorem d300 : Upto Segment 256 301 := more d299 fun k => by
  rw [open1]; show lit1t1_2 _ = _; rw [lit1t1_2, digit2]; show lit1t0_300 _ = _; rw [lit1t0_300, digit3]
  exact (by decide +kernel : ∀ k : Fin 128, lit1t0_300 k.val = expected 300 k) k
/-- With segment 301. -/
theorem d301 : Upto Segment 256 302 := more d300 fun k => by
  rw [open1]; show lit1t1_2 _ = _; rw [lit1t1_2, digit2]; show lit1t0_301 _ = _; rw [lit1t0_301, digit3]
  exact (by decide +kernel : ∀ k : Fin 128, lit1t0_301 k.val = expected 301 k) k
/-- With segment 302. -/
theorem d302 : Upto Segment 256 303 := more d301 fun k => by
  rw [open1]; show lit1t1_2 _ = _; rw [lit1t1_2, digit2]; show lit1t0_302 _ = _; rw [lit1t0_302, digit3]
  exact (by decide +kernel : ∀ k : Fin 128, lit1t0_302 k.val = expected 302 k) k
/-- With segment 303. -/
theorem d303 : Upto Segment 256 304 := more d302 fun k => by
  rw [open1]; show lit1t1_2 _ = _; rw [lit1t1_2, digit2]; show lit1t0_303 _ = _; rw [lit1t0_303, digit3]
  exact (by decide +kernel : ∀ k : Fin 128, lit1t0_303 k.val = expected 303 k) k
/-- With segment 304. -/
theorem d304 : Upto Segment 256 305 := more d303 fun k => by
  rw [open1]; show lit1t1_2 _ = _; rw [lit1t1_2, digit2]; show lit1t0_304 _ = _; rw [lit1t0_304, digit3]
  exact (by decide +kernel : ∀ k : Fin 128, lit1t0_304 k.val = expected 304 k) k
/-- With segment 305. -/
theorem d305 : Upto Segment 256 306 := more d304 fun k => by
  rw [open1]; show lit1t1_2 _ = _; rw [lit1t1_2, digit2]; show lit1t0_305 _ = _; rw [lit1t0_305, digit3]
  exact (by decide +kernel : ∀ k : Fin 128, lit1t0_305 k.val = expected 305 k) k
/-- With segment 306. -/
theorem d306 : Upto Segment 256 307 := more d305 fun k => by
  rw [open1]; show lit1t1_2 _ = _; rw [lit1t1_2, digit2]; show lit1t0_306 _ = _; rw [lit1t0_306, digit3]
  exact (by decide +kernel : ∀ k : Fin 128, lit1t0_306 k.val = expected 306 k) k
/-- With segment 307. -/
theorem d307 : Upto Segment 256 308 := more d306 fun k => by
  rw [open1]; show lit1t1_2 _ = _; rw [lit1t1_2, digit2]; show lit1t0_307 _ = _; rw [lit1t0_307, digit3]
  exact (by decide +kernel : ∀ k : Fin 128, lit1t0_307 k.val = expected 307 k) k
/-- With segment 308. -/
theorem d308 : Upto Segment 256 309 := more d307 fun k => by
  rw [open1]; show lit1t1_2 _ = _; rw [lit1t1_2, digit2]; show lit1t0_308 _ = _; rw [lit1t0_308, digit3]
  exact (by decide +kernel : ∀ k : Fin 128, lit1t0_308 k.val = expected 308 k) k
/-- With segment 309. -/
theorem d309 : Upto Segment 256 310 := more d308 fun k => by
  rw [open1]; show lit1t1_2 _ = _; rw [lit1t1_2, digit2]; show lit1t0_309 _ = _; rw [lit1t0_309, digit3]
  exact (by decide +kernel : ∀ k : Fin 128, lit1t0_309 k.val = expected 309 k) k
/-- With segment 310. -/
theorem d310 : Upto Segment 256 311 := more d309 fun k => by
  rw [open1]; show lit1t1_2 _ = _; rw [lit1t1_2, digit2]; show lit1t0_310 _ = _; rw [lit1t0_310, digit3]
  exact (by decide +kernel : ∀ k : Fin 128, lit1t0_310 k.val = expected 310 k) k
/-- With segment 311. -/
theorem d311 : Upto Segment 256 312 := more d310 fun k => by
  rw [open1]; show lit1t1_2 _ = _; rw [lit1t1_2, digit2]; show lit1t0_311 _ = _; rw [lit1t0_311, digit3]
  exact (by decide +kernel : ∀ k : Fin 128, lit1t0_311 k.val = expected 311 k) k
/-- With segment 312. -/
theorem d312 : Upto Segment 256 313 := more d311 fun k => by
  rw [open1]; show lit1t1_2 _ = _; rw [lit1t1_2, digit2]; show lit1t0_312 _ = _; rw [lit1t0_312, digit3]
  exact (by decide +kernel : ∀ k : Fin 128, lit1t0_312 k.val = expected 312 k) k
/-- With segment 313. -/
theorem d313 : Upto Segment 256 314 := more d312 fun k => by
  rw [open1]; show lit1t1_2 _ = _; rw [lit1t1_2, digit2]; show lit1t0_313 _ = _; rw [lit1t0_313, digit3]
  exact (by decide +kernel : ∀ k : Fin 128, lit1t0_313 k.val = expected 313 k) k
/-- With segment 314. -/
theorem d314 : Upto Segment 256 315 := more d313 fun k => by
  rw [open1]; show lit1t1_2 _ = _; rw [lit1t1_2, digit2]; show lit1t0_314 _ = _; rw [lit1t0_314, digit3]
  exact (by decide +kernel : ∀ k : Fin 128, lit1t0_314 k.val = expected 314 k) k
/-- With segment 315. -/
theorem d315 : Upto Segment 256 316 := more d314 fun k => by
  rw [open1]; show lit1t1_2 _ = _; rw [lit1t1_2, digit2]; show lit1t0_315 _ = _; rw [lit1t0_315, digit3]
  exact (by decide +kernel : ∀ k : Fin 128, lit1t0_315 k.val = expected 315 k) k
/-- With segment 316. -/
theorem d316 : Upto Segment 256 317 := more d315 fun k => by
  rw [open1]; show lit1t1_2 _ = _; rw [lit1t1_2, digit2]; show lit1t0_316 _ = _; rw [lit1t0_316, digit3]
  exact (by decide +kernel : ∀ k : Fin 128, lit1t0_316 k.val = expected 316 k) k
/-- With segment 317. -/
theorem d317 : Upto Segment 256 318 := more d316 fun k => by
  rw [open1]; show lit1t1_2 _ = _; rw [lit1t1_2, digit2]; show lit1t0_317 _ = _; rw [lit1t0_317, digit3]
  exact (by decide +kernel : ∀ k : Fin 128, lit1t0_317 k.val = expected 317 k) k
/-- With segment 318. -/
theorem d318 : Upto Segment 256 319 := more d317 fun k => by
  rw [open1]; show lit1t1_2 _ = _; rw [lit1t1_2, digit2]; show lit1t0_318 _ = _; rw [lit1t0_318, digit3]
  exact (by decide +kernel : ∀ k : Fin 128, lit1t0_318 k.val = expected 318 k) k
/-- With segment 319. -/
theorem d319 : Upto Segment 256 320 := more d318 fun k => by
  rw [open1]; show lit1t1_2 _ = _; rw [lit1t1_2, digit2]; show lit1t0_319 _ = _; rw [lit1t0_319, digit3]
  exact (by decide +kernel : ∀ k : Fin 128, lit1t0_319 k.val = expected 319 k) k

/-- The distance table's segments from 256 to 319. -/
theorem distance4 : Upto Segment 256 320 := d319

/-- With segment 256. -/
theorem b256 : Upto SegmentBand 256 257 := more (start 256) fun k => by
  rw [open0]; show lit0t1_2 _ = _; rw [lit0t1_2, digit2]; show lit0t0_256 _ = _; rw [lit0t0_256, digit3]
  exact (by decide +kernel : ∀ k : Fin 128, lit0t0_256 k.val = expectedBand 256 k) k
/-- With segment 257. -/
theorem b257 : Upto SegmentBand 256 258 := more b256 fun k => by
  rw [open0]; show lit0t1_2 _ = _; rw [lit0t1_2, digit2]; show lit0t0_257 _ = _; rw [lit0t0_257, digit3]
  exact (by decide +kernel : ∀ k : Fin 128, lit0t0_257 k.val = expectedBand 257 k) k
/-- With segment 258. -/
theorem b258 : Upto SegmentBand 256 259 := more b257 fun k => by
  rw [open0]; show lit0t1_2 _ = _; rw [lit0t1_2, digit2]; show lit0t0_258 _ = _; rw [lit0t0_258, digit3]
  exact (by decide +kernel : ∀ k : Fin 128, lit0t0_258 k.val = expectedBand 258 k) k
/-- With segment 259. -/
theorem b259 : Upto SegmentBand 256 260 := more b258 fun k => by
  rw [open0]; show lit0t1_2 _ = _; rw [lit0t1_2, digit2]; show lit0t0_259 _ = _; rw [lit0t0_259, digit3]
  exact (by decide +kernel : ∀ k : Fin 128, lit0t0_259 k.val = expectedBand 259 k) k
/-- With segment 260. -/
theorem b260 : Upto SegmentBand 256 261 := more b259 fun k => by
  rw [open0]; show lit0t1_2 _ = _; rw [lit0t1_2, digit2]; show lit0t0_260 _ = _; rw [lit0t0_260, digit3]
  exact (by decide +kernel : ∀ k : Fin 128, lit0t0_260 k.val = expectedBand 260 k) k
/-- With segment 261. -/
theorem b261 : Upto SegmentBand 256 262 := more b260 fun k => by
  rw [open0]; show lit0t1_2 _ = _; rw [lit0t1_2, digit2]; show lit0t0_261 _ = _; rw [lit0t0_261, digit3]
  exact (by decide +kernel : ∀ k : Fin 128, lit0t0_261 k.val = expectedBand 261 k) k
/-- With segment 262. -/
theorem b262 : Upto SegmentBand 256 263 := more b261 fun k => by
  rw [open0]; show lit0t1_2 _ = _; rw [lit0t1_2, digit2]; show lit0t0_262 _ = _; rw [lit0t0_262, digit3]
  exact (by decide +kernel : ∀ k : Fin 128, lit0t0_262 k.val = expectedBand 262 k) k
/-- With segment 263. -/
theorem b263 : Upto SegmentBand 256 264 := more b262 fun k => by
  rw [open0]; show lit0t1_2 _ = _; rw [lit0t1_2, digit2]; show lit0t0_263 _ = _; rw [lit0t0_263, digit3]
  exact (by decide +kernel : ∀ k : Fin 128, lit0t0_263 k.val = expectedBand 263 k) k
/-- With segment 264. -/
theorem b264 : Upto SegmentBand 256 265 := more b263 fun k => by
  rw [open0]; show lit0t1_2 _ = _; rw [lit0t1_2, digit2]; show lit0t0_264 _ = _; rw [lit0t0_264, digit3]
  exact (by decide +kernel : ∀ k : Fin 128, lit0t0_264 k.val = expectedBand 264 k) k
/-- With segment 265. -/
theorem b265 : Upto SegmentBand 256 266 := more b264 fun k => by
  rw [open0]; show lit0t1_2 _ = _; rw [lit0t1_2, digit2]; show lit0t0_265 _ = _; rw [lit0t0_265, digit3]
  exact (by decide +kernel : ∀ k : Fin 128, lit0t0_265 k.val = expectedBand 265 k) k
/-- With segment 266. -/
theorem b266 : Upto SegmentBand 256 267 := more b265 fun k => by
  rw [open0]; show lit0t1_2 _ = _; rw [lit0t1_2, digit2]; show lit0t0_266 _ = _; rw [lit0t0_266, digit3]
  exact (by decide +kernel : ∀ k : Fin 128, lit0t0_266 k.val = expectedBand 266 k) k
/-- With segment 267. -/
theorem b267 : Upto SegmentBand 256 268 := more b266 fun k => by
  rw [open0]; show lit0t1_2 _ = _; rw [lit0t1_2, digit2]; show lit0t0_267 _ = _; rw [lit0t0_267, digit3]
  exact (by decide +kernel : ∀ k : Fin 128, lit0t0_267 k.val = expectedBand 267 k) k
/-- With segment 268. -/
theorem b268 : Upto SegmentBand 256 269 := more b267 fun k => by
  rw [open0]; show lit0t1_2 _ = _; rw [lit0t1_2, digit2]; show lit0t0_268 _ = _; rw [lit0t0_268, digit3]
  exact (by decide +kernel : ∀ k : Fin 128, lit0t0_268 k.val = expectedBand 268 k) k
/-- With segment 269. -/
theorem b269 : Upto SegmentBand 256 270 := more b268 fun k => by
  rw [open0]; show lit0t1_2 _ = _; rw [lit0t1_2, digit2]; show lit0t0_269 _ = _; rw [lit0t0_269, digit3]
  exact (by decide +kernel : ∀ k : Fin 128, lit0t0_269 k.val = expectedBand 269 k) k
/-- With segment 270. -/
theorem b270 : Upto SegmentBand 256 271 := more b269 fun k => by
  rw [open0]; show lit0t1_2 _ = _; rw [lit0t1_2, digit2]; show lit0t0_270 _ = _; rw [lit0t0_270, digit3]
  exact (by decide +kernel : ∀ k : Fin 128, lit0t0_270 k.val = expectedBand 270 k) k
/-- With segment 271. -/
theorem b271 : Upto SegmentBand 256 272 := more b270 fun k => by
  rw [open0]; show lit0t1_2 _ = _; rw [lit0t1_2, digit2]; show lit0t0_271 _ = _; rw [lit0t0_271, digit3]
  exact (by decide +kernel : ∀ k : Fin 128, lit0t0_271 k.val = expectedBand 271 k) k
/-- With segment 272. -/
theorem b272 : Upto SegmentBand 256 273 := more b271 fun k => by
  rw [open0]; show lit0t1_2 _ = _; rw [lit0t1_2, digit2]; show lit0t0_272 _ = _; rw [lit0t0_272, digit3]
  exact (by decide +kernel : ∀ k : Fin 128, lit0t0_272 k.val = expectedBand 272 k) k
/-- With segment 273. -/
theorem b273 : Upto SegmentBand 256 274 := more b272 fun k => by
  rw [open0]; show lit0t1_2 _ = _; rw [lit0t1_2, digit2]; show lit0t0_273 _ = _; rw [lit0t0_273, digit3]
  exact (by decide +kernel : ∀ k : Fin 128, lit0t0_273 k.val = expectedBand 273 k) k
/-- With segment 274. -/
theorem b274 : Upto SegmentBand 256 275 := more b273 fun k => by
  rw [open0]; show lit0t1_2 _ = _; rw [lit0t1_2, digit2]; show lit0t0_274 _ = _; rw [lit0t0_274, digit3]
  exact (by decide +kernel : ∀ k : Fin 128, lit0t0_274 k.val = expectedBand 274 k) k
/-- With segment 275. -/
theorem b275 : Upto SegmentBand 256 276 := more b274 fun k => by
  rw [open0]; show lit0t1_2 _ = _; rw [lit0t1_2, digit2]; show lit0t0_275 _ = _; rw [lit0t0_275, digit3]
  exact (by decide +kernel : ∀ k : Fin 128, lit0t0_275 k.val = expectedBand 275 k) k
/-- With segment 276. -/
theorem b276 : Upto SegmentBand 256 277 := more b275 fun k => by
  rw [open0]; show lit0t1_2 _ = _; rw [lit0t1_2, digit2]; show lit0t0_276 _ = _; rw [lit0t0_276, digit3]
  exact (by decide +kernel : ∀ k : Fin 128, lit0t0_276 k.val = expectedBand 276 k) k
/-- With segment 277. -/
theorem b277 : Upto SegmentBand 256 278 := more b276 fun k => by
  rw [open0]; show lit0t1_2 _ = _; rw [lit0t1_2, digit2]; show lit0t0_277 _ = _; rw [lit0t0_277, digit3]
  exact (by decide +kernel : ∀ k : Fin 128, lit0t0_277 k.val = expectedBand 277 k) k
/-- With segment 278. -/
theorem b278 : Upto SegmentBand 256 279 := more b277 fun k => by
  rw [open0]; show lit0t1_2 _ = _; rw [lit0t1_2, digit2]; show lit0t0_278 _ = _; rw [lit0t0_278, digit3]
  exact (by decide +kernel : ∀ k : Fin 128, lit0t0_278 k.val = expectedBand 278 k) k
/-- With segment 279. -/
theorem b279 : Upto SegmentBand 256 280 := more b278 fun k => by
  rw [open0]; show lit0t1_2 _ = _; rw [lit0t1_2, digit2]; show lit0t0_279 _ = _; rw [lit0t0_279, digit3]
  exact (by decide +kernel : ∀ k : Fin 128, lit0t0_279 k.val = expectedBand 279 k) k
/-- With segment 280. -/
theorem b280 : Upto SegmentBand 256 281 := more b279 fun k => by
  rw [open0]; show lit0t1_2 _ = _; rw [lit0t1_2, digit2]; show lit0t0_280 _ = _; rw [lit0t0_280, digit3]
  exact (by decide +kernel : ∀ k : Fin 128, lit0t0_280 k.val = expectedBand 280 k) k
/-- With segment 281. -/
theorem b281 : Upto SegmentBand 256 282 := more b280 fun k => by
  rw [open0]; show lit0t1_2 _ = _; rw [lit0t1_2, digit2]; show lit0t0_281 _ = _; rw [lit0t0_281, digit3]
  exact (by decide +kernel : ∀ k : Fin 128, lit0t0_281 k.val = expectedBand 281 k) k
/-- With segment 282. -/
theorem b282 : Upto SegmentBand 256 283 := more b281 fun k => by
  rw [open0]; show lit0t1_2 _ = _; rw [lit0t1_2, digit2]; show lit0t0_282 _ = _; rw [lit0t0_282, digit3]
  exact (by decide +kernel : ∀ k : Fin 128, lit0t0_282 k.val = expectedBand 282 k) k
/-- With segment 283. -/
theorem b283 : Upto SegmentBand 256 284 := more b282 fun k => by
  rw [open0]; show lit0t1_2 _ = _; rw [lit0t1_2, digit2]; show lit0t0_283 _ = _; rw [lit0t0_283, digit3]
  exact (by decide +kernel : ∀ k : Fin 128, lit0t0_283 k.val = expectedBand 283 k) k
/-- With segment 284. -/
theorem b284 : Upto SegmentBand 256 285 := more b283 fun k => by
  rw [open0]; show lit0t1_2 _ = _; rw [lit0t1_2, digit2]; show lit0t0_284 _ = _; rw [lit0t0_284, digit3]
  exact (by decide +kernel : ∀ k : Fin 128, lit0t0_284 k.val = expectedBand 284 k) k
/-- With segment 285. -/
theorem b285 : Upto SegmentBand 256 286 := more b284 fun k => by
  rw [open0]; show lit0t1_2 _ = _; rw [lit0t1_2, digit2]; show lit0t0_285 _ = _; rw [lit0t0_285, digit3]
  exact (by decide +kernel : ∀ k : Fin 128, lit0t0_285 k.val = expectedBand 285 k) k
/-- With segment 286. -/
theorem b286 : Upto SegmentBand 256 287 := more b285 fun k => by
  rw [open0]; show lit0t1_2 _ = _; rw [lit0t1_2, digit2]; show lit0t0_286 _ = _; rw [lit0t0_286, digit3]
  exact (by decide +kernel : ∀ k : Fin 128, lit0t0_286 k.val = expectedBand 286 k) k
/-- With segment 287. -/
theorem b287 : Upto SegmentBand 256 288 := more b286 fun k => by
  rw [open0]; show lit0t1_2 _ = _; rw [lit0t1_2, digit2]; show lit0t0_287 _ = _; rw [lit0t0_287, digit3]
  exact (by decide +kernel : ∀ k : Fin 128, lit0t0_287 k.val = expectedBand 287 k) k
/-- With segment 288. -/
theorem b288 : Upto SegmentBand 256 289 := more b287 fun k => by
  rw [open0]; show lit0t1_2 _ = _; rw [lit0t1_2, digit2]; show lit0t0_288 _ = _; rw [lit0t0_288, digit3]
  exact (by decide +kernel : ∀ k : Fin 128, lit0t0_288 k.val = expectedBand 288 k) k
/-- With segment 289. -/
theorem b289 : Upto SegmentBand 256 290 := more b288 fun k => by
  rw [open0]; show lit0t1_2 _ = _; rw [lit0t1_2, digit2]; show lit0t0_289 _ = _; rw [lit0t0_289, digit3]
  exact (by decide +kernel : ∀ k : Fin 128, lit0t0_289 k.val = expectedBand 289 k) k
/-- With segment 290. -/
theorem b290 : Upto SegmentBand 256 291 := more b289 fun k => by
  rw [open0]; show lit0t1_2 _ = _; rw [lit0t1_2, digit2]; show lit0t0_290 _ = _; rw [lit0t0_290, digit3]
  exact (by decide +kernel : ∀ k : Fin 128, lit0t0_290 k.val = expectedBand 290 k) k
/-- With segment 291. -/
theorem b291 : Upto SegmentBand 256 292 := more b290 fun k => by
  rw [open0]; show lit0t1_2 _ = _; rw [lit0t1_2, digit2]; show lit0t0_291 _ = _; rw [lit0t0_291, digit3]
  exact (by decide +kernel : ∀ k : Fin 128, lit0t0_291 k.val = expectedBand 291 k) k
/-- With segment 292. -/
theorem b292 : Upto SegmentBand 256 293 := more b291 fun k => by
  rw [open0]; show lit0t1_2 _ = _; rw [lit0t1_2, digit2]; show lit0t0_292 _ = _; rw [lit0t0_292, digit3]
  exact (by decide +kernel : ∀ k : Fin 128, lit0t0_292 k.val = expectedBand 292 k) k
/-- With segment 293. -/
theorem b293 : Upto SegmentBand 256 294 := more b292 fun k => by
  rw [open0]; show lit0t1_2 _ = _; rw [lit0t1_2, digit2]; show lit0t0_293 _ = _; rw [lit0t0_293, digit3]
  exact (by decide +kernel : ∀ k : Fin 128, lit0t0_293 k.val = expectedBand 293 k) k
/-- With segment 294. -/
theorem b294 : Upto SegmentBand 256 295 := more b293 fun k => by
  rw [open0]; show lit0t1_2 _ = _; rw [lit0t1_2, digit2]; show lit0t0_294 _ = _; rw [lit0t0_294, digit3]
  exact (by decide +kernel : ∀ k : Fin 128, lit0t0_294 k.val = expectedBand 294 k) k
/-- With segment 295. -/
theorem b295 : Upto SegmentBand 256 296 := more b294 fun k => by
  rw [open0]; show lit0t1_2 _ = _; rw [lit0t1_2, digit2]; show lit0t0_295 _ = _; rw [lit0t0_295, digit3]
  exact (by decide +kernel : ∀ k : Fin 128, lit0t0_295 k.val = expectedBand 295 k) k
/-- With segment 296. -/
theorem b296 : Upto SegmentBand 256 297 := more b295 fun k => by
  rw [open0]; show lit0t1_2 _ = _; rw [lit0t1_2, digit2]; show lit0t0_296 _ = _; rw [lit0t0_296, digit3]
  exact (by decide +kernel : ∀ k : Fin 128, lit0t0_296 k.val = expectedBand 296 k) k
/-- With segment 297. -/
theorem b297 : Upto SegmentBand 256 298 := more b296 fun k => by
  rw [open0]; show lit0t1_2 _ = _; rw [lit0t1_2, digit2]; show lit0t0_297 _ = _; rw [lit0t0_297, digit3]
  exact (by decide +kernel : ∀ k : Fin 128, lit0t0_297 k.val = expectedBand 297 k) k
/-- With segment 298. -/
theorem b298 : Upto SegmentBand 256 299 := more b297 fun k => by
  rw [open0]; show lit0t1_2 _ = _; rw [lit0t1_2, digit2]; show lit0t0_298 _ = _; rw [lit0t0_298, digit3]
  exact (by decide +kernel : ∀ k : Fin 128, lit0t0_298 k.val = expectedBand 298 k) k
/-- With segment 299. -/
theorem b299 : Upto SegmentBand 256 300 := more b298 fun k => by
  rw [open0]; show lit0t1_2 _ = _; rw [lit0t1_2, digit2]; show lit0t0_299 _ = _; rw [lit0t0_299, digit3]
  exact (by decide +kernel : ∀ k : Fin 128, lit0t0_299 k.val = expectedBand 299 k) k
/-- With segment 300. -/
theorem b300 : Upto SegmentBand 256 301 := more b299 fun k => by
  rw [open0]; show lit0t1_2 _ = _; rw [lit0t1_2, digit2]; show lit0t0_300 _ = _; rw [lit0t0_300, digit3]
  exact (by decide +kernel : ∀ k : Fin 128, lit0t0_300 k.val = expectedBand 300 k) k
/-- With segment 301. -/
theorem b301 : Upto SegmentBand 256 302 := more b300 fun k => by
  rw [open0]; show lit0t1_2 _ = _; rw [lit0t1_2, digit2]; show lit0t0_301 _ = _; rw [lit0t0_301, digit3]
  exact (by decide +kernel : ∀ k : Fin 128, lit0t0_301 k.val = expectedBand 301 k) k
/-- With segment 302. -/
theorem b302 : Upto SegmentBand 256 303 := more b301 fun k => by
  rw [open0]; show lit0t1_2 _ = _; rw [lit0t1_2, digit2]; show lit0t0_302 _ = _; rw [lit0t0_302, digit3]
  exact (by decide +kernel : ∀ k : Fin 128, lit0t0_302 k.val = expectedBand 302 k) k
/-- With segment 303. -/
theorem b303 : Upto SegmentBand 256 304 := more b302 fun k => by
  rw [open0]; show lit0t1_2 _ = _; rw [lit0t1_2, digit2]; show lit0t0_303 _ = _; rw [lit0t0_303, digit3]
  exact (by decide +kernel : ∀ k : Fin 128, lit0t0_303 k.val = expectedBand 303 k) k
/-- With segment 304. -/
theorem b304 : Upto SegmentBand 256 305 := more b303 fun k => by
  rw [open0]; show lit0t1_2 _ = _; rw [lit0t1_2, digit2]; show lit0t0_304 _ = _; rw [lit0t0_304, digit3]
  exact (by decide +kernel : ∀ k : Fin 128, lit0t0_304 k.val = expectedBand 304 k) k
/-- With segment 305. -/
theorem b305 : Upto SegmentBand 256 306 := more b304 fun k => by
  rw [open0]; show lit0t1_2 _ = _; rw [lit0t1_2, digit2]; show lit0t0_305 _ = _; rw [lit0t0_305, digit3]
  exact (by decide +kernel : ∀ k : Fin 128, lit0t0_305 k.val = expectedBand 305 k) k
/-- With segment 306. -/
theorem b306 : Upto SegmentBand 256 307 := more b305 fun k => by
  rw [open0]; show lit0t1_2 _ = _; rw [lit0t1_2, digit2]; show lit0t0_306 _ = _; rw [lit0t0_306, digit3]
  exact (by decide +kernel : ∀ k : Fin 128, lit0t0_306 k.val = expectedBand 306 k) k
/-- With segment 307. -/
theorem b307 : Upto SegmentBand 256 308 := more b306 fun k => by
  rw [open0]; show lit0t1_2 _ = _; rw [lit0t1_2, digit2]; show lit0t0_307 _ = _; rw [lit0t0_307, digit3]
  exact (by decide +kernel : ∀ k : Fin 128, lit0t0_307 k.val = expectedBand 307 k) k
/-- With segment 308. -/
theorem b308 : Upto SegmentBand 256 309 := more b307 fun k => by
  rw [open0]; show lit0t1_2 _ = _; rw [lit0t1_2, digit2]; show lit0t0_308 _ = _; rw [lit0t0_308, digit3]
  exact (by decide +kernel : ∀ k : Fin 128, lit0t0_308 k.val = expectedBand 308 k) k
/-- With segment 309. -/
theorem b309 : Upto SegmentBand 256 310 := more b308 fun k => by
  rw [open0]; show lit0t1_2 _ = _; rw [lit0t1_2, digit2]; show lit0t0_309 _ = _; rw [lit0t0_309, digit3]
  exact (by decide +kernel : ∀ k : Fin 128, lit0t0_309 k.val = expectedBand 309 k) k
/-- With segment 310. -/
theorem b310 : Upto SegmentBand 256 311 := more b309 fun k => by
  rw [open0]; show lit0t1_2 _ = _; rw [lit0t1_2, digit2]; show lit0t0_310 _ = _; rw [lit0t0_310, digit3]
  exact (by decide +kernel : ∀ k : Fin 128, lit0t0_310 k.val = expectedBand 310 k) k
/-- With segment 311. -/
theorem b311 : Upto SegmentBand 256 312 := more b310 fun k => by
  rw [open0]; show lit0t1_2 _ = _; rw [lit0t1_2, digit2]; show lit0t0_311 _ = _; rw [lit0t0_311, digit3]
  exact (by decide +kernel : ∀ k : Fin 128, lit0t0_311 k.val = expectedBand 311 k) k
/-- With segment 312. -/
theorem b312 : Upto SegmentBand 256 313 := more b311 fun k => by
  rw [open0]; show lit0t1_2 _ = _; rw [lit0t1_2, digit2]; show lit0t0_312 _ = _; rw [lit0t0_312, digit3]
  exact (by decide +kernel : ∀ k : Fin 128, lit0t0_312 k.val = expectedBand 312 k) k
/-- With segment 313. -/
theorem b313 : Upto SegmentBand 256 314 := more b312 fun k => by
  rw [open0]; show lit0t1_2 _ = _; rw [lit0t1_2, digit2]; show lit0t0_313 _ = _; rw [lit0t0_313, digit3]
  exact (by decide +kernel : ∀ k : Fin 128, lit0t0_313 k.val = expectedBand 313 k) k
/-- With segment 314. -/
theorem b314 : Upto SegmentBand 256 315 := more b313 fun k => by
  rw [open0]; show lit0t1_2 _ = _; rw [lit0t1_2, digit2]; show lit0t0_314 _ = _; rw [lit0t0_314, digit3]
  exact (by decide +kernel : ∀ k : Fin 128, lit0t0_314 k.val = expectedBand 314 k) k
/-- With segment 315. -/
theorem b315 : Upto SegmentBand 256 316 := more b314 fun k => by
  rw [open0]; show lit0t1_2 _ = _; rw [lit0t1_2, digit2]; show lit0t0_315 _ = _; rw [lit0t0_315, digit3]
  exact (by decide +kernel : ∀ k : Fin 128, lit0t0_315 k.val = expectedBand 315 k) k
/-- With segment 316. -/
theorem b316 : Upto SegmentBand 256 317 := more b315 fun k => by
  rw [open0]; show lit0t1_2 _ = _; rw [lit0t1_2, digit2]; show lit0t0_316 _ = _; rw [lit0t0_316, digit3]
  exact (by decide +kernel : ∀ k : Fin 128, lit0t0_316 k.val = expectedBand 316 k) k
/-- With segment 317. -/
theorem b317 : Upto SegmentBand 256 318 := more b316 fun k => by
  rw [open0]; show lit0t1_2 _ = _; rw [lit0t1_2, digit2]; show lit0t0_317 _ = _; rw [lit0t0_317, digit3]
  exact (by decide +kernel : ∀ k : Fin 128, lit0t0_317 k.val = expectedBand 317 k) k
/-- With segment 318. -/
theorem b318 : Upto SegmentBand 256 319 := more b317 fun k => by
  rw [open0]; show lit0t1_2 _ = _; rw [lit0t1_2, digit2]; show lit0t0_318 _ = _; rw [lit0t0_318, digit3]
  exact (by decide +kernel : ∀ k : Fin 128, lit0t0_318 k.val = expectedBand 318 k) k
/-- With segment 319. -/
theorem b319 : Upto SegmentBand 256 320 := more b318 fun k => by
  rw [open0]; show lit0t1_2 _ = _; rw [lit0t1_2, digit2]; show lit0t0_319 _ = _; rw [lit0t0_319, digit3]
  exact (by decide +kernel : ∀ k : Fin 128, lit0t0_319 k.val = expectedBand 319 k) k

/-- The band table's segments from 256 to 319. -/
theorem band4 : Upto SegmentBand 256 320 := b319

end Cert.SwaIdeal.Table

end
-- ==== Proof.SwaTable5.lean ====
/- Segments 320 to 383 of the distance and band tables of the windowed attention, read. -/
module

public import proofs.«01_k».proof.Proof.SwaTable

@[expose] public section

set_option maxRecDepth 16384

noncomputable section

namespace Cert.SwaIdeal.Table

/-- With segment 320. -/
theorem d320 : Upto Segment 320 321 := more (start 320) fun k => by
  rw [open1]; show lit1t1_2 _ = _; rw [lit1t1_2, digit2]; show lit1t0_320 _ = _; rw [lit1t0_320, digit3]
  exact (by decide +kernel : ∀ k : Fin 128, lit1t0_320 k.val = expected 320 k) k
/-- With segment 321. -/
theorem d321 : Upto Segment 320 322 := more d320 fun k => by
  rw [open1]; show lit1t1_2 _ = _; rw [lit1t1_2, digit2]; show lit1t0_321 _ = _; rw [lit1t0_321, digit3]
  exact (by decide +kernel : ∀ k : Fin 128, lit1t0_321 k.val = expected 321 k) k
/-- With segment 322. -/
theorem d322 : Upto Segment 320 323 := more d321 fun k => by
  rw [open1]; show lit1t1_2 _ = _; rw [lit1t1_2, digit2]; show lit1t0_322 _ = _; rw [lit1t0_322, digit3]
  exact (by decide +kernel : ∀ k : Fin 128, lit1t0_322 k.val = expected 322 k) k
/-- With segment 323. -/
theorem d323 : Upto Segment 320 324 := more d322 fun k => by
  rw [open1]; show lit1t1_2 _ = _; rw [lit1t1_2, digit2]; show lit1t0_323 _ = _; rw [lit1t0_323, digit3]
  exact (by decide +kernel : ∀ k : Fin 128, lit1t0_323 k.val = expected 323 k) k
/-- With segment 324. -/
theorem d324 : Upto Segment 320 325 := more d323 fun k => by
  rw [open1]; show lit1t1_2 _ = _; rw [lit1t1_2, digit2]; show lit1t0_324 _ = _; rw [lit1t0_324, digit3]
  exact (by decide +kernel : ∀ k : Fin 128, lit1t0_324 k.val = expected 324 k) k
/-- With segment 325. -/
theorem d325 : Upto Segment 320 326 := more d324 fun k => by
  rw [open1]; show lit1t1_2 _ = _; rw [lit1t1_2, digit2]; show lit1t0_325 _ = _; rw [lit1t0_325, digit3]
  exact (by decide +kernel : ∀ k : Fin 128, lit1t0_325 k.val = expected 325 k) k
/-- With segment 326. -/
theorem d326 : Upto Segment 320 327 := more d325 fun k => by
  rw [open1]; show lit1t1_2 _ = _; rw [lit1t1_2, digit2]; show lit1t0_326 _ = _; rw [lit1t0_326, digit3]
  exact (by decide +kernel : ∀ k : Fin 128, lit1t0_326 k.val = expected 326 k) k
/-- With segment 327. -/
theorem d327 : Upto Segment 320 328 := more d326 fun k => by
  rw [open1]; show lit1t1_2 _ = _; rw [lit1t1_2, digit2]; show lit1t0_327 _ = _; rw [lit1t0_327, digit3]
  exact (by decide +kernel : ∀ k : Fin 128, lit1t0_327 k.val = expected 327 k) k
/-- With segment 328. -/
theorem d328 : Upto Segment 320 329 := more d327 fun k => by
  rw [open1]; show lit1t1_2 _ = _; rw [lit1t1_2, digit2]; show lit1t0_328 _ = _; rw [lit1t0_328, digit3]
  exact (by decide +kernel : ∀ k : Fin 128, lit1t0_328 k.val = expected 328 k) k
/-- With segment 329. -/
theorem d329 : Upto Segment 320 330 := more d328 fun k => by
  rw [open1]; show lit1t1_2 _ = _; rw [lit1t1_2, digit2]; show lit1t0_329 _ = _; rw [lit1t0_329, digit3]
  exact (by decide +kernel : ∀ k : Fin 128, lit1t0_329 k.val = expected 329 k) k
/-- With segment 330. -/
theorem d330 : Upto Segment 320 331 := more d329 fun k => by
  rw [open1]; show lit1t1_2 _ = _; rw [lit1t1_2, digit2]; show lit1t0_330 _ = _; rw [lit1t0_330, digit3]
  exact (by decide +kernel : ∀ k : Fin 128, lit1t0_330 k.val = expected 330 k) k
/-- With segment 331. -/
theorem d331 : Upto Segment 320 332 := more d330 fun k => by
  rw [open1]; show lit1t1_2 _ = _; rw [lit1t1_2, digit2]; show lit1t0_331 _ = _; rw [lit1t0_331, digit3]
  exact (by decide +kernel : ∀ k : Fin 128, lit1t0_331 k.val = expected 331 k) k
/-- With segment 332. -/
theorem d332 : Upto Segment 320 333 := more d331 fun k => by
  rw [open1]; show lit1t1_2 _ = _; rw [lit1t1_2, digit2]; show lit1t0_332 _ = _; rw [lit1t0_332, digit3]
  exact (by decide +kernel : ∀ k : Fin 128, lit1t0_332 k.val = expected 332 k) k
/-- With segment 333. -/
theorem d333 : Upto Segment 320 334 := more d332 fun k => by
  rw [open1]; show lit1t1_2 _ = _; rw [lit1t1_2, digit2]; show lit1t0_333 _ = _; rw [lit1t0_333, digit3]
  exact (by decide +kernel : ∀ k : Fin 128, lit1t0_333 k.val = expected 333 k) k
/-- With segment 334. -/
theorem d334 : Upto Segment 320 335 := more d333 fun k => by
  rw [open1]; show lit1t1_2 _ = _; rw [lit1t1_2, digit2]; show lit1t0_334 _ = _; rw [lit1t0_334, digit3]
  exact (by decide +kernel : ∀ k : Fin 128, lit1t0_334 k.val = expected 334 k) k
/-- With segment 335. -/
theorem d335 : Upto Segment 320 336 := more d334 fun k => by
  rw [open1]; show lit1t1_2 _ = _; rw [lit1t1_2, digit2]; show lit1t0_335 _ = _; rw [lit1t0_335, digit3]
  exact (by decide +kernel : ∀ k : Fin 128, lit1t0_335 k.val = expected 335 k) k
/-- With segment 336. -/
theorem d336 : Upto Segment 320 337 := more d335 fun k => by
  rw [open1]; show lit1t1_2 _ = _; rw [lit1t1_2, digit2]; show lit1t0_336 _ = _; rw [lit1t0_336, digit3]
  exact (by decide +kernel : ∀ k : Fin 128, lit1t0_336 k.val = expected 336 k) k
/-- With segment 337. -/
theorem d337 : Upto Segment 320 338 := more d336 fun k => by
  rw [open1]; show lit1t1_2 _ = _; rw [lit1t1_2, digit2]; show lit1t0_337 _ = _; rw [lit1t0_337, digit3]
  exact (by decide +kernel : ∀ k : Fin 128, lit1t0_337 k.val = expected 337 k) k
/-- With segment 338. -/
theorem d338 : Upto Segment 320 339 := more d337 fun k => by
  rw [open1]; show lit1t1_2 _ = _; rw [lit1t1_2, digit2]; show lit1t0_338 _ = _; rw [lit1t0_338, digit3]
  exact (by decide +kernel : ∀ k : Fin 128, lit1t0_338 k.val = expected 338 k) k
/-- With segment 339. -/
theorem d339 : Upto Segment 320 340 := more d338 fun k => by
  rw [open1]; show lit1t1_2 _ = _; rw [lit1t1_2, digit2]; show lit1t0_339 _ = _; rw [lit1t0_339, digit3]
  exact (by decide +kernel : ∀ k : Fin 128, lit1t0_339 k.val = expected 339 k) k
/-- With segment 340. -/
theorem d340 : Upto Segment 320 341 := more d339 fun k => by
  rw [open1]; show lit1t1_2 _ = _; rw [lit1t1_2, digit2]; show lit1t0_340 _ = _; rw [lit1t0_340, digit3]
  exact (by decide +kernel : ∀ k : Fin 128, lit1t0_340 k.val = expected 340 k) k
/-- With segment 341. -/
theorem d341 : Upto Segment 320 342 := more d340 fun k => by
  rw [open1]; show lit1t1_2 _ = _; rw [lit1t1_2, digit2]; show lit1t0_341 _ = _; rw [lit1t0_341, digit3]
  exact (by decide +kernel : ∀ k : Fin 128, lit1t0_341 k.val = expected 341 k) k
/-- With segment 342. -/
theorem d342 : Upto Segment 320 343 := more d341 fun k => by
  rw [open1]; show lit1t1_2 _ = _; rw [lit1t1_2, digit2]; show lit1t0_342 _ = _; rw [lit1t0_342, digit3]
  exact (by decide +kernel : ∀ k : Fin 128, lit1t0_342 k.val = expected 342 k) k
/-- With segment 343. -/
theorem d343 : Upto Segment 320 344 := more d342 fun k => by
  rw [open1]; show lit1t1_2 _ = _; rw [lit1t1_2, digit2]; show lit1t0_343 _ = _; rw [lit1t0_343, digit3]
  exact (by decide +kernel : ∀ k : Fin 128, lit1t0_343 k.val = expected 343 k) k
/-- With segment 344. -/
theorem d344 : Upto Segment 320 345 := more d343 fun k => by
  rw [open1]; show lit1t1_2 _ = _; rw [lit1t1_2, digit2]; show lit1t0_344 _ = _; rw [lit1t0_344, digit3]
  exact (by decide +kernel : ∀ k : Fin 128, lit1t0_344 k.val = expected 344 k) k
/-- With segment 345. -/
theorem d345 : Upto Segment 320 346 := more d344 fun k => by
  rw [open1]; show lit1t1_2 _ = _; rw [lit1t1_2, digit2]; show lit1t0_345 _ = _; rw [lit1t0_345, digit3]
  exact (by decide +kernel : ∀ k : Fin 128, lit1t0_345 k.val = expected 345 k) k
/-- With segment 346. -/
theorem d346 : Upto Segment 320 347 := more d345 fun k => by
  rw [open1]; show lit1t1_2 _ = _; rw [lit1t1_2, digit2]; show lit1t0_346 _ = _; rw [lit1t0_346, digit3]
  exact (by decide +kernel : ∀ k : Fin 128, lit1t0_346 k.val = expected 346 k) k
/-- With segment 347. -/
theorem d347 : Upto Segment 320 348 := more d346 fun k => by
  rw [open1]; show lit1t1_2 _ = _; rw [lit1t1_2, digit2]; show lit1t0_347 _ = _; rw [lit1t0_347, digit3]
  exact (by decide +kernel : ∀ k : Fin 128, lit1t0_347 k.val = expected 347 k) k
/-- With segment 348. -/
theorem d348 : Upto Segment 320 349 := more d347 fun k => by
  rw [open1]; show lit1t1_2 _ = _; rw [lit1t1_2, digit2]; show lit1t0_348 _ = _; rw [lit1t0_348, digit3]
  exact (by decide +kernel : ∀ k : Fin 128, lit1t0_348 k.val = expected 348 k) k
/-- With segment 349. -/
theorem d349 : Upto Segment 320 350 := more d348 fun k => by
  rw [open1]; show lit1t1_2 _ = _; rw [lit1t1_2, digit2]; show lit1t0_349 _ = _; rw [lit1t0_349, digit3]
  exact (by decide +kernel : ∀ k : Fin 128, lit1t0_349 k.val = expected 349 k) k
/-- With segment 350. -/
theorem d350 : Upto Segment 320 351 := more d349 fun k => by
  rw [open1]; show lit1t1_2 _ = _; rw [lit1t1_2, digit2]; show lit1t0_350 _ = _; rw [lit1t0_350, digit3]
  exact (by decide +kernel : ∀ k : Fin 128, lit1t0_350 k.val = expected 350 k) k
/-- With segment 351. -/
theorem d351 : Upto Segment 320 352 := more d350 fun k => by
  rw [open1]; show lit1t1_2 _ = _; rw [lit1t1_2, digit2]; show lit1t0_351 _ = _; rw [lit1t0_351, digit3]
  exact (by decide +kernel : ∀ k : Fin 128, lit1t0_351 k.val = expected 351 k) k
/-- With segment 352. -/
theorem d352 : Upto Segment 320 353 := more d351 fun k => by
  rw [open1]; show lit1t1_2 _ = _; rw [lit1t1_2, digit2]; show lit1t0_352 _ = _; rw [lit1t0_352, digit3]
  exact (by decide +kernel : ∀ k : Fin 128, lit1t0_352 k.val = expected 352 k) k
/-- With segment 353. -/
theorem d353 : Upto Segment 320 354 := more d352 fun k => by
  rw [open1]; show lit1t1_2 _ = _; rw [lit1t1_2, digit2]; show lit1t0_353 _ = _; rw [lit1t0_353, digit3]
  exact (by decide +kernel : ∀ k : Fin 128, lit1t0_353 k.val = expected 353 k) k
/-- With segment 354. -/
theorem d354 : Upto Segment 320 355 := more d353 fun k => by
  rw [open1]; show lit1t1_2 _ = _; rw [lit1t1_2, digit2]; show lit1t0_354 _ = _; rw [lit1t0_354, digit3]
  exact (by decide +kernel : ∀ k : Fin 128, lit1t0_354 k.val = expected 354 k) k
/-- With segment 355. -/
theorem d355 : Upto Segment 320 356 := more d354 fun k => by
  rw [open1]; show lit1t1_2 _ = _; rw [lit1t1_2, digit2]; show lit1t0_355 _ = _; rw [lit1t0_355, digit3]
  exact (by decide +kernel : ∀ k : Fin 128, lit1t0_355 k.val = expected 355 k) k
/-- With segment 356. -/
theorem d356 : Upto Segment 320 357 := more d355 fun k => by
  rw [open1]; show lit1t1_2 _ = _; rw [lit1t1_2, digit2]; show lit1t0_356 _ = _; rw [lit1t0_356, digit3]
  exact (by decide +kernel : ∀ k : Fin 128, lit1t0_356 k.val = expected 356 k) k
/-- With segment 357. -/
theorem d357 : Upto Segment 320 358 := more d356 fun k => by
  rw [open1]; show lit1t1_2 _ = _; rw [lit1t1_2, digit2]; show lit1t0_357 _ = _; rw [lit1t0_357, digit3]
  exact (by decide +kernel : ∀ k : Fin 128, lit1t0_357 k.val = expected 357 k) k
/-- With segment 358. -/
theorem d358 : Upto Segment 320 359 := more d357 fun k => by
  rw [open1]; show lit1t1_2 _ = _; rw [lit1t1_2, digit2]; show lit1t0_358 _ = _; rw [lit1t0_358, digit3]
  exact (by decide +kernel : ∀ k : Fin 128, lit1t0_358 k.val = expected 358 k) k
/-- With segment 359. -/
theorem d359 : Upto Segment 320 360 := more d358 fun k => by
  rw [open1]; show lit1t1_2 _ = _; rw [lit1t1_2, digit2]; show lit1t0_359 _ = _; rw [lit1t0_359, digit3]
  exact (by decide +kernel : ∀ k : Fin 128, lit1t0_359 k.val = expected 359 k) k
/-- With segment 360. -/
theorem d360 : Upto Segment 320 361 := more d359 fun k => by
  rw [open1]; show lit1t1_2 _ = _; rw [lit1t1_2, digit2]; show lit1t0_360 _ = _; rw [lit1t0_360, digit3]
  exact (by decide +kernel : ∀ k : Fin 128, lit1t0_360 k.val = expected 360 k) k
/-- With segment 361. -/
theorem d361 : Upto Segment 320 362 := more d360 fun k => by
  rw [open1]; show lit1t1_2 _ = _; rw [lit1t1_2, digit2]; show lit1t0_361 _ = _; rw [lit1t0_361, digit3]
  exact (by decide +kernel : ∀ k : Fin 128, lit1t0_361 k.val = expected 361 k) k
/-- With segment 362. -/
theorem d362 : Upto Segment 320 363 := more d361 fun k => by
  rw [open1]; show lit1t1_2 _ = _; rw [lit1t1_2, digit2]; show lit1t0_362 _ = _; rw [lit1t0_362, digit3]
  exact (by decide +kernel : ∀ k : Fin 128, lit1t0_362 k.val = expected 362 k) k
/-- With segment 363. -/
theorem d363 : Upto Segment 320 364 := more d362 fun k => by
  rw [open1]; show lit1t1_2 _ = _; rw [lit1t1_2, digit2]; show lit1t0_363 _ = _; rw [lit1t0_363, digit3]
  exact (by decide +kernel : ∀ k : Fin 128, lit1t0_363 k.val = expected 363 k) k
/-- With segment 364. -/
theorem d364 : Upto Segment 320 365 := more d363 fun k => by
  rw [open1]; show lit1t1_2 _ = _; rw [lit1t1_2, digit2]; show lit1t0_364 _ = _; rw [lit1t0_364, digit3]
  exact (by decide +kernel : ∀ k : Fin 128, lit1t0_364 k.val = expected 364 k) k
/-- With segment 365. -/
theorem d365 : Upto Segment 320 366 := more d364 fun k => by
  rw [open1]; show lit1t1_2 _ = _; rw [lit1t1_2, digit2]; show lit1t0_365 _ = _; rw [lit1t0_365, digit3]
  exact (by decide +kernel : ∀ k : Fin 128, lit1t0_365 k.val = expected 365 k) k
/-- With segment 366. -/
theorem d366 : Upto Segment 320 367 := more d365 fun k => by
  rw [open1]; show lit1t1_2 _ = _; rw [lit1t1_2, digit2]; show lit1t0_366 _ = _; rw [lit1t0_366, digit3]
  exact (by decide +kernel : ∀ k : Fin 128, lit1t0_366 k.val = expected 366 k) k
/-- With segment 367. -/
theorem d367 : Upto Segment 320 368 := more d366 fun k => by
  rw [open1]; show lit1t1_2 _ = _; rw [lit1t1_2, digit2]; show lit1t0_367 _ = _; rw [lit1t0_367, digit3]
  exact (by decide +kernel : ∀ k : Fin 128, lit1t0_367 k.val = expected 367 k) k
/-- With segment 368. -/
theorem d368 : Upto Segment 320 369 := more d367 fun k => by
  rw [open1]; show lit1t1_2 _ = _; rw [lit1t1_2, digit2]; show lit1t0_368 _ = _; rw [lit1t0_368, digit3]
  exact (by decide +kernel : ∀ k : Fin 128, lit1t0_368 k.val = expected 368 k) k
/-- With segment 369. -/
theorem d369 : Upto Segment 320 370 := more d368 fun k => by
  rw [open1]; show lit1t1_2 _ = _; rw [lit1t1_2, digit2]; show lit1t0_369 _ = _; rw [lit1t0_369, digit3]
  exact (by decide +kernel : ∀ k : Fin 128, lit1t0_369 k.val = expected 369 k) k
/-- With segment 370. -/
theorem d370 : Upto Segment 320 371 := more d369 fun k => by
  rw [open1]; show lit1t1_2 _ = _; rw [lit1t1_2, digit2]; show lit1t0_370 _ = _; rw [lit1t0_370, digit3]
  exact (by decide +kernel : ∀ k : Fin 128, lit1t0_370 k.val = expected 370 k) k
/-- With segment 371. -/
theorem d371 : Upto Segment 320 372 := more d370 fun k => by
  rw [open1]; show lit1t1_2 _ = _; rw [lit1t1_2, digit2]; show lit1t0_371 _ = _; rw [lit1t0_371, digit3]
  exact (by decide +kernel : ∀ k : Fin 128, lit1t0_371 k.val = expected 371 k) k
/-- With segment 372. -/
theorem d372 : Upto Segment 320 373 := more d371 fun k => by
  rw [open1]; show lit1t1_2 _ = _; rw [lit1t1_2, digit2]; show lit1t0_372 _ = _; rw [lit1t0_372, digit3]
  exact (by decide +kernel : ∀ k : Fin 128, lit1t0_372 k.val = expected 372 k) k
/-- With segment 373. -/
theorem d373 : Upto Segment 320 374 := more d372 fun k => by
  rw [open1]; show lit1t1_2 _ = _; rw [lit1t1_2, digit2]; show lit1t0_373 _ = _; rw [lit1t0_373, digit3]
  exact (by decide +kernel : ∀ k : Fin 128, lit1t0_373 k.val = expected 373 k) k
/-- With segment 374. -/
theorem d374 : Upto Segment 320 375 := more d373 fun k => by
  rw [open1]; show lit1t1_2 _ = _; rw [lit1t1_2, digit2]; show lit1t0_374 _ = _; rw [lit1t0_374, digit3]
  exact (by decide +kernel : ∀ k : Fin 128, lit1t0_374 k.val = expected 374 k) k
/-- With segment 375. -/
theorem d375 : Upto Segment 320 376 := more d374 fun k => by
  rw [open1]; show lit1t1_2 _ = _; rw [lit1t1_2, digit2]; show lit1t0_375 _ = _; rw [lit1t0_375, digit3]
  exact (by decide +kernel : ∀ k : Fin 128, lit1t0_375 k.val = expected 375 k) k
/-- With segment 376. -/
theorem d376 : Upto Segment 320 377 := more d375 fun k => by
  rw [open1]; show lit1t1_2 _ = _; rw [lit1t1_2, digit2]; show lit1t0_376 _ = _; rw [lit1t0_376, digit3]
  exact (by decide +kernel : ∀ k : Fin 128, lit1t0_376 k.val = expected 376 k) k
/-- With segment 377. -/
theorem d377 : Upto Segment 320 378 := more d376 fun k => by
  rw [open1]; show lit1t1_2 _ = _; rw [lit1t1_2, digit2]; show lit1t0_377 _ = _; rw [lit1t0_377, digit3]
  exact (by decide +kernel : ∀ k : Fin 128, lit1t0_377 k.val = expected 377 k) k
/-- With segment 378. -/
theorem d378 : Upto Segment 320 379 := more d377 fun k => by
  rw [open1]; show lit1t1_2 _ = _; rw [lit1t1_2, digit2]; show lit1t0_378 _ = _; rw [lit1t0_378, digit3]
  exact (by decide +kernel : ∀ k : Fin 128, lit1t0_378 k.val = expected 378 k) k
/-- With segment 379. -/
theorem d379 : Upto Segment 320 380 := more d378 fun k => by
  rw [open1]; show lit1t1_2 _ = _; rw [lit1t1_2, digit2]; show lit1t0_379 _ = _; rw [lit1t0_379, digit3]
  exact (by decide +kernel : ∀ k : Fin 128, lit1t0_379 k.val = expected 379 k) k
/-- With segment 380. -/
theorem d380 : Upto Segment 320 381 := more d379 fun k => by
  rw [open1]; show lit1t1_2 _ = _; rw [lit1t1_2, digit2]; show lit1t0_380 _ = _; rw [lit1t0_380, digit3]
  exact (by decide +kernel : ∀ k : Fin 128, lit1t0_380 k.val = expected 380 k) k
/-- With segment 381. -/
theorem d381 : Upto Segment 320 382 := more d380 fun k => by
  rw [open1]; show lit1t1_2 _ = _; rw [lit1t1_2, digit2]; show lit1t0_381 _ = _; rw [lit1t0_381, digit3]
  exact (by decide +kernel : ∀ k : Fin 128, lit1t0_381 k.val = expected 381 k) k
/-- With segment 382. -/
theorem d382 : Upto Segment 320 383 := more d381 fun k => by
  rw [open1]; show lit1t1_2 _ = _; rw [lit1t1_2, digit2]; show lit1t0_382 _ = _; rw [lit1t0_382, digit3]
  exact (by decide +kernel : ∀ k : Fin 128, lit1t0_382 k.val = expected 382 k) k
/-- With segment 383. -/
theorem d383 : Upto Segment 320 384 := more d382 fun k => by
  rw [open1]; show lit1t1_2 _ = _; rw [lit1t1_2, digit2]; show lit1t0_383 _ = _; rw [lit1t0_383, digit3]
  exact (by decide +kernel : ∀ k : Fin 128, lit1t0_383 k.val = expected 383 k) k

/-- The distance table's segments from 320 to 383. -/
theorem distance5 : Upto Segment 320 384 := d383

/-- With segment 320. -/
theorem b320 : Upto SegmentBand 320 321 := more (start 320) fun k => by
  rw [open0]; show lit0t1_2 _ = _; rw [lit0t1_2, digit2]; show lit0t0_320 _ = _; rw [lit0t0_320, digit3]
  exact (by decide +kernel : ∀ k : Fin 128, lit0t0_320 k.val = expectedBand 320 k) k
/-- With segment 321. -/
theorem b321 : Upto SegmentBand 320 322 := more b320 fun k => by
  rw [open0]; show lit0t1_2 _ = _; rw [lit0t1_2, digit2]; show lit0t0_321 _ = _; rw [lit0t0_321, digit3]
  exact (by decide +kernel : ∀ k : Fin 128, lit0t0_321 k.val = expectedBand 321 k) k
/-- With segment 322. -/
theorem b322 : Upto SegmentBand 320 323 := more b321 fun k => by
  rw [open0]; show lit0t1_2 _ = _; rw [lit0t1_2, digit2]; show lit0t0_322 _ = _; rw [lit0t0_322, digit3]
  exact (by decide +kernel : ∀ k : Fin 128, lit0t0_322 k.val = expectedBand 322 k) k
/-- With segment 323. -/
theorem b323 : Upto SegmentBand 320 324 := more b322 fun k => by
  rw [open0]; show lit0t1_2 _ = _; rw [lit0t1_2, digit2]; show lit0t0_323 _ = _; rw [lit0t0_323, digit3]
  exact (by decide +kernel : ∀ k : Fin 128, lit0t0_323 k.val = expectedBand 323 k) k
/-- With segment 324. -/
theorem b324 : Upto SegmentBand 320 325 := more b323 fun k => by
  rw [open0]; show lit0t1_2 _ = _; rw [lit0t1_2, digit2]; show lit0t0_324 _ = _; rw [lit0t0_324, digit3]
  exact (by decide +kernel : ∀ k : Fin 128, lit0t0_324 k.val = expectedBand 324 k) k
/-- With segment 325. -/
theorem b325 : Upto SegmentBand 320 326 := more b324 fun k => by
  rw [open0]; show lit0t1_2 _ = _; rw [lit0t1_2, digit2]; show lit0t0_325 _ = _; rw [lit0t0_325, digit3]
  exact (by decide +kernel : ∀ k : Fin 128, lit0t0_325 k.val = expectedBand 325 k) k
/-- With segment 326. -/
theorem b326 : Upto SegmentBand 320 327 := more b325 fun k => by
  rw [open0]; show lit0t1_2 _ = _; rw [lit0t1_2, digit2]; show lit0t0_326 _ = _; rw [lit0t0_326, digit3]
  exact (by decide +kernel : ∀ k : Fin 128, lit0t0_326 k.val = expectedBand 326 k) k
/-- With segment 327. -/
theorem b327 : Upto SegmentBand 320 328 := more b326 fun k => by
  rw [open0]; show lit0t1_2 _ = _; rw [lit0t1_2, digit2]; show lit0t0_327 _ = _; rw [lit0t0_327, digit3]
  exact (by decide +kernel : ∀ k : Fin 128, lit0t0_327 k.val = expectedBand 327 k) k
/-- With segment 328. -/
theorem b328 : Upto SegmentBand 320 329 := more b327 fun k => by
  rw [open0]; show lit0t1_2 _ = _; rw [lit0t1_2, digit2]; show lit0t0_328 _ = _; rw [lit0t0_328, digit3]
  exact (by decide +kernel : ∀ k : Fin 128, lit0t0_328 k.val = expectedBand 328 k) k
/-- With segment 329. -/
theorem b329 : Upto SegmentBand 320 330 := more b328 fun k => by
  rw [open0]; show lit0t1_2 _ = _; rw [lit0t1_2, digit2]; show lit0t0_329 _ = _; rw [lit0t0_329, digit3]
  exact (by decide +kernel : ∀ k : Fin 128, lit0t0_329 k.val = expectedBand 329 k) k
/-- With segment 330. -/
theorem b330 : Upto SegmentBand 320 331 := more b329 fun k => by
  rw [open0]; show lit0t1_2 _ = _; rw [lit0t1_2, digit2]; show lit0t0_330 _ = _; rw [lit0t0_330, digit3]
  exact (by decide +kernel : ∀ k : Fin 128, lit0t0_330 k.val = expectedBand 330 k) k
/-- With segment 331. -/
theorem b331 : Upto SegmentBand 320 332 := more b330 fun k => by
  rw [open0]; show lit0t1_2 _ = _; rw [lit0t1_2, digit2]; show lit0t0_331 _ = _; rw [lit0t0_331, digit3]
  exact (by decide +kernel : ∀ k : Fin 128, lit0t0_331 k.val = expectedBand 331 k) k
/-- With segment 332. -/
theorem b332 : Upto SegmentBand 320 333 := more b331 fun k => by
  rw [open0]; show lit0t1_2 _ = _; rw [lit0t1_2, digit2]; show lit0t0_332 _ = _; rw [lit0t0_332, digit3]
  exact (by decide +kernel : ∀ k : Fin 128, lit0t0_332 k.val = expectedBand 332 k) k
/-- With segment 333. -/
theorem b333 : Upto SegmentBand 320 334 := more b332 fun k => by
  rw [open0]; show lit0t1_2 _ = _; rw [lit0t1_2, digit2]; show lit0t0_333 _ = _; rw [lit0t0_333, digit3]
  exact (by decide +kernel : ∀ k : Fin 128, lit0t0_333 k.val = expectedBand 333 k) k
/-- With segment 334. -/
theorem b334 : Upto SegmentBand 320 335 := more b333 fun k => by
  rw [open0]; show lit0t1_2 _ = _; rw [lit0t1_2, digit2]; show lit0t0_334 _ = _; rw [lit0t0_334, digit3]
  exact (by decide +kernel : ∀ k : Fin 128, lit0t0_334 k.val = expectedBand 334 k) k
/-- With segment 335. -/
theorem b335 : Upto SegmentBand 320 336 := more b334 fun k => by
  rw [open0]; show lit0t1_2 _ = _; rw [lit0t1_2, digit2]; show lit0t0_335 _ = _; rw [lit0t0_335, digit3]
  exact (by decide +kernel : ∀ k : Fin 128, lit0t0_335 k.val = expectedBand 335 k) k
/-- With segment 336. -/
theorem b336 : Upto SegmentBand 320 337 := more b335 fun k => by
  rw [open0]; show lit0t1_2 _ = _; rw [lit0t1_2, digit2]; show lit0t0_336 _ = _; rw [lit0t0_336, digit3]
  exact (by decide +kernel : ∀ k : Fin 128, lit0t0_336 k.val = expectedBand 336 k) k
/-- With segment 337. -/
theorem b337 : Upto SegmentBand 320 338 := more b336 fun k => by
  rw [open0]; show lit0t1_2 _ = _; rw [lit0t1_2, digit2]; show lit0t0_337 _ = _; rw [lit0t0_337, digit3]
  exact (by decide +kernel : ∀ k : Fin 128, lit0t0_337 k.val = expectedBand 337 k) k
/-- With segment 338. -/
theorem b338 : Upto SegmentBand 320 339 := more b337 fun k => by
  rw [open0]; show lit0t1_2 _ = _; rw [lit0t1_2, digit2]; show lit0t0_338 _ = _; rw [lit0t0_338, digit3]
  exact (by decide +kernel : ∀ k : Fin 128, lit0t0_338 k.val = expectedBand 338 k) k
/-- With segment 339. -/
theorem b339 : Upto SegmentBand 320 340 := more b338 fun k => by
  rw [open0]; show lit0t1_2 _ = _; rw [lit0t1_2, digit2]; show lit0t0_339 _ = _; rw [lit0t0_339, digit3]
  exact (by decide +kernel : ∀ k : Fin 128, lit0t0_339 k.val = expectedBand 339 k) k
/-- With segment 340. -/
theorem b340 : Upto SegmentBand 320 341 := more b339 fun k => by
  rw [open0]; show lit0t1_2 _ = _; rw [lit0t1_2, digit2]; show lit0t0_340 _ = _; rw [lit0t0_340, digit3]
  exact (by decide +kernel : ∀ k : Fin 128, lit0t0_340 k.val = expectedBand 340 k) k
/-- With segment 341. -/
theorem b341 : Upto SegmentBand 320 342 := more b340 fun k => by
  rw [open0]; show lit0t1_2 _ = _; rw [lit0t1_2, digit2]; show lit0t0_341 _ = _; rw [lit0t0_341, digit3]
  exact (by decide +kernel : ∀ k : Fin 128, lit0t0_341 k.val = expectedBand 341 k) k
/-- With segment 342. -/
theorem b342 : Upto SegmentBand 320 343 := more b341 fun k => by
  rw [open0]; show lit0t1_2 _ = _; rw [lit0t1_2, digit2]; show lit0t0_342 _ = _; rw [lit0t0_342, digit3]
  exact (by decide +kernel : ∀ k : Fin 128, lit0t0_342 k.val = expectedBand 342 k) k
/-- With segment 343. -/
theorem b343 : Upto SegmentBand 320 344 := more b342 fun k => by
  rw [open0]; show lit0t1_2 _ = _; rw [lit0t1_2, digit2]; show lit0t0_343 _ = _; rw [lit0t0_343, digit3]
  exact (by decide +kernel : ∀ k : Fin 128, lit0t0_343 k.val = expectedBand 343 k) k
/-- With segment 344. -/
theorem b344 : Upto SegmentBand 320 345 := more b343 fun k => by
  rw [open0]; show lit0t1_2 _ = _; rw [lit0t1_2, digit2]; show lit0t0_344 _ = _; rw [lit0t0_344, digit3]
  exact (by decide +kernel : ∀ k : Fin 128, lit0t0_344 k.val = expectedBand 344 k) k
/-- With segment 345. -/
theorem b345 : Upto SegmentBand 320 346 := more b344 fun k => by
  rw [open0]; show lit0t1_2 _ = _; rw [lit0t1_2, digit2]; show lit0t0_345 _ = _; rw [lit0t0_345, digit3]
  exact (by decide +kernel : ∀ k : Fin 128, lit0t0_345 k.val = expectedBand 345 k) k
/-- With segment 346. -/
theorem b346 : Upto SegmentBand 320 347 := more b345 fun k => by
  rw [open0]; show lit0t1_2 _ = _; rw [lit0t1_2, digit2]; show lit0t0_346 _ = _; rw [lit0t0_346, digit3]
  exact (by decide +kernel : ∀ k : Fin 128, lit0t0_346 k.val = expectedBand 346 k) k
/-- With segment 347. -/
theorem b347 : Upto SegmentBand 320 348 := more b346 fun k => by
  rw [open0]; show lit0t1_2 _ = _; rw [lit0t1_2, digit2]; show lit0t0_347 _ = _; rw [lit0t0_347, digit3]
  exact (by decide +kernel : ∀ k : Fin 128, lit0t0_347 k.val = expectedBand 347 k) k
/-- With segment 348. -/
theorem b348 : Upto SegmentBand 320 349 := more b347 fun k => by
  rw [open0]; show lit0t1_2 _ = _; rw [lit0t1_2, digit2]; show lit0t0_348 _ = _; rw [lit0t0_348, digit3]
  exact (by decide +kernel : ∀ k : Fin 128, lit0t0_348 k.val = expectedBand 348 k) k
/-- With segment 349. -/
theorem b349 : Upto SegmentBand 320 350 := more b348 fun k => by
  rw [open0]; show lit0t1_2 _ = _; rw [lit0t1_2, digit2]; show lit0t0_349 _ = _; rw [lit0t0_349, digit3]
  exact (by decide +kernel : ∀ k : Fin 128, lit0t0_349 k.val = expectedBand 349 k) k
/-- With segment 350. -/
theorem b350 : Upto SegmentBand 320 351 := more b349 fun k => by
  rw [open0]; show lit0t1_2 _ = _; rw [lit0t1_2, digit2]; show lit0t0_350 _ = _; rw [lit0t0_350, digit3]
  exact (by decide +kernel : ∀ k : Fin 128, lit0t0_350 k.val = expectedBand 350 k) k
/-- With segment 351. -/
theorem b351 : Upto SegmentBand 320 352 := more b350 fun k => by
  rw [open0]; show lit0t1_2 _ = _; rw [lit0t1_2, digit2]; show lit0t0_351 _ = _; rw [lit0t0_351, digit3]
  exact (by decide +kernel : ∀ k : Fin 128, lit0t0_351 k.val = expectedBand 351 k) k
/-- With segment 352. -/
theorem b352 : Upto SegmentBand 320 353 := more b351 fun k => by
  rw [open0]; show lit0t1_2 _ = _; rw [lit0t1_2, digit2]; show lit0t0_352 _ = _; rw [lit0t0_352, digit3]
  exact (by decide +kernel : ∀ k : Fin 128, lit0t0_352 k.val = expectedBand 352 k) k
/-- With segment 353. -/
theorem b353 : Upto SegmentBand 320 354 := more b352 fun k => by
  rw [open0]; show lit0t1_2 _ = _; rw [lit0t1_2, digit2]; show lit0t0_353 _ = _; rw [lit0t0_353, digit3]
  exact (by decide +kernel : ∀ k : Fin 128, lit0t0_353 k.val = expectedBand 353 k) k
/-- With segment 354. -/
theorem b354 : Upto SegmentBand 320 355 := more b353 fun k => by
  rw [open0]; show lit0t1_2 _ = _; rw [lit0t1_2, digit2]; show lit0t0_354 _ = _; rw [lit0t0_354, digit3]
  exact (by decide +kernel : ∀ k : Fin 128, lit0t0_354 k.val = expectedBand 354 k) k
/-- With segment 355. -/
theorem b355 : Upto SegmentBand 320 356 := more b354 fun k => by
  rw [open0]; show lit0t1_2 _ = _; rw [lit0t1_2, digit2]; show lit0t0_355 _ = _; rw [lit0t0_355, digit3]
  exact (by decide +kernel : ∀ k : Fin 128, lit0t0_355 k.val = expectedBand 355 k) k
/-- With segment 356. -/
theorem b356 : Upto SegmentBand 320 357 := more b355 fun k => by
  rw [open0]; show lit0t1_2 _ = _; rw [lit0t1_2, digit2]; show lit0t0_356 _ = _; rw [lit0t0_356, digit3]
  exact (by decide +kernel : ∀ k : Fin 128, lit0t0_356 k.val = expectedBand 356 k) k
/-- With segment 357. -/
theorem b357 : Upto SegmentBand 320 358 := more b356 fun k => by
  rw [open0]; show lit0t1_2 _ = _; rw [lit0t1_2, digit2]; show lit0t0_357 _ = _; rw [lit0t0_357, digit3]
  exact (by decide +kernel : ∀ k : Fin 128, lit0t0_357 k.val = expectedBand 357 k) k
/-- With segment 358. -/
theorem b358 : Upto SegmentBand 320 359 := more b357 fun k => by
  rw [open0]; show lit0t1_2 _ = _; rw [lit0t1_2, digit2]; show lit0t0_358 _ = _; rw [lit0t0_358, digit3]
  exact (by decide +kernel : ∀ k : Fin 128, lit0t0_358 k.val = expectedBand 358 k) k
/-- With segment 359. -/
theorem b359 : Upto SegmentBand 320 360 := more b358 fun k => by
  rw [open0]; show lit0t1_2 _ = _; rw [lit0t1_2, digit2]; show lit0t0_359 _ = _; rw [lit0t0_359, digit3]
  exact (by decide +kernel : ∀ k : Fin 128, lit0t0_359 k.val = expectedBand 359 k) k
/-- With segment 360. -/
theorem b360 : Upto SegmentBand 320 361 := more b359 fun k => by
  rw [open0]; show lit0t1_2 _ = _; rw [lit0t1_2, digit2]; show lit0t0_360 _ = _; rw [lit0t0_360, digit3]
  exact (by decide +kernel : ∀ k : Fin 128, lit0t0_360 k.val = expectedBand 360 k) k
/-- With segment 361. -/
theorem b361 : Upto SegmentBand 320 362 := more b360 fun k => by
  rw [open0]; show lit0t1_2 _ = _; rw [lit0t1_2, digit2]; show lit0t0_361 _ = _; rw [lit0t0_361, digit3]
  exact (by decide +kernel : ∀ k : Fin 128, lit0t0_361 k.val = expectedBand 361 k) k
/-- With segment 362. -/
theorem b362 : Upto SegmentBand 320 363 := more b361 fun k => by
  rw [open0]; show lit0t1_2 _ = _; rw [lit0t1_2, digit2]; show lit0t0_362 _ = _; rw [lit0t0_362, digit3]
  exact (by decide +kernel : ∀ k : Fin 128, lit0t0_362 k.val = expectedBand 362 k) k
/-- With segment 363. -/
theorem b363 : Upto SegmentBand 320 364 := more b362 fun k => by
  rw [open0]; show lit0t1_2 _ = _; rw [lit0t1_2, digit2]; show lit0t0_363 _ = _; rw [lit0t0_363, digit3]
  exact (by decide +kernel : ∀ k : Fin 128, lit0t0_363 k.val = expectedBand 363 k) k
/-- With segment 364. -/
theorem b364 : Upto SegmentBand 320 365 := more b363 fun k => by
  rw [open0]; show lit0t1_2 _ = _; rw [lit0t1_2, digit2]; show lit0t0_364 _ = _; rw [lit0t0_364, digit3]
  exact (by decide +kernel : ∀ k : Fin 128, lit0t0_364 k.val = expectedBand 364 k) k
/-- With segment 365. -/
theorem b365 : Upto SegmentBand 320 366 := more b364 fun k => by
  rw [open0]; show lit0t1_2 _ = _; rw [lit0t1_2, digit2]; show lit0t0_365 _ = _; rw [lit0t0_365, digit3]
  exact (by decide +kernel : ∀ k : Fin 128, lit0t0_365 k.val = expectedBand 365 k) k
/-- With segment 366. -/
theorem b366 : Upto SegmentBand 320 367 := more b365 fun k => by
  rw [open0]; show lit0t1_2 _ = _; rw [lit0t1_2, digit2]; show lit0t0_366 _ = _; rw [lit0t0_366, digit3]
  exact (by decide +kernel : ∀ k : Fin 128, lit0t0_366 k.val = expectedBand 366 k) k
/-- With segment 367. -/
theorem b367 : Upto SegmentBand 320 368 := more b366 fun k => by
  rw [open0]; show lit0t1_2 _ = _; rw [lit0t1_2, digit2]; show lit0t0_367 _ = _; rw [lit0t0_367, digit3]
  exact (by decide +kernel : ∀ k : Fin 128, lit0t0_367 k.val = expectedBand 367 k) k
/-- With segment 368. -/
theorem b368 : Upto SegmentBand 320 369 := more b367 fun k => by
  rw [open0]; show lit0t1_2 _ = _; rw [lit0t1_2, digit2]; show lit0t0_368 _ = _; rw [lit0t0_368, digit3]
  exact (by decide +kernel : ∀ k : Fin 128, lit0t0_368 k.val = expectedBand 368 k) k
/-- With segment 369. -/
theorem b369 : Upto SegmentBand 320 370 := more b368 fun k => by
  rw [open0]; show lit0t1_2 _ = _; rw [lit0t1_2, digit2]; show lit0t0_369 _ = _; rw [lit0t0_369, digit3]
  exact (by decide +kernel : ∀ k : Fin 128, lit0t0_369 k.val = expectedBand 369 k) k
/-- With segment 370. -/
theorem b370 : Upto SegmentBand 320 371 := more b369 fun k => by
  rw [open0]; show lit0t1_2 _ = _; rw [lit0t1_2, digit2]; show lit0t0_370 _ = _; rw [lit0t0_370, digit3]
  exact (by decide +kernel : ∀ k : Fin 128, lit0t0_370 k.val = expectedBand 370 k) k
/-- With segment 371. -/
theorem b371 : Upto SegmentBand 320 372 := more b370 fun k => by
  rw [open0]; show lit0t1_2 _ = _; rw [lit0t1_2, digit2]; show lit0t0_371 _ = _; rw [lit0t0_371, digit3]
  exact (by decide +kernel : ∀ k : Fin 128, lit0t0_371 k.val = expectedBand 371 k) k
/-- With segment 372. -/
theorem b372 : Upto SegmentBand 320 373 := more b371 fun k => by
  rw [open0]; show lit0t1_2 _ = _; rw [lit0t1_2, digit2]; show lit0t0_372 _ = _; rw [lit0t0_372, digit3]
  exact (by decide +kernel : ∀ k : Fin 128, lit0t0_372 k.val = expectedBand 372 k) k
/-- With segment 373. -/
theorem b373 : Upto SegmentBand 320 374 := more b372 fun k => by
  rw [open0]; show lit0t1_2 _ = _; rw [lit0t1_2, digit2]; show lit0t0_373 _ = _; rw [lit0t0_373, digit3]
  exact (by decide +kernel : ∀ k : Fin 128, lit0t0_373 k.val = expectedBand 373 k) k
/-- With segment 374. -/
theorem b374 : Upto SegmentBand 320 375 := more b373 fun k => by
  rw [open0]; show lit0t1_2 _ = _; rw [lit0t1_2, digit2]; show lit0t0_374 _ = _; rw [lit0t0_374, digit3]
  exact (by decide +kernel : ∀ k : Fin 128, lit0t0_374 k.val = expectedBand 374 k) k
/-- With segment 375. -/
theorem b375 : Upto SegmentBand 320 376 := more b374 fun k => by
  rw [open0]; show lit0t1_2 _ = _; rw [lit0t1_2, digit2]; show lit0t0_375 _ = _; rw [lit0t0_375, digit3]
  exact (by decide +kernel : ∀ k : Fin 128, lit0t0_375 k.val = expectedBand 375 k) k
/-- With segment 376. -/
theorem b376 : Upto SegmentBand 320 377 := more b375 fun k => by
  rw [open0]; show lit0t1_2 _ = _; rw [lit0t1_2, digit2]; show lit0t0_376 _ = _; rw [lit0t0_376, digit3]
  exact (by decide +kernel : ∀ k : Fin 128, lit0t0_376 k.val = expectedBand 376 k) k
/-- With segment 377. -/
theorem b377 : Upto SegmentBand 320 378 := more b376 fun k => by
  rw [open0]; show lit0t1_2 _ = _; rw [lit0t1_2, digit2]; show lit0t0_377 _ = _; rw [lit0t0_377, digit3]
  exact (by decide +kernel : ∀ k : Fin 128, lit0t0_377 k.val = expectedBand 377 k) k
/-- With segment 378. -/
theorem b378 : Upto SegmentBand 320 379 := more b377 fun k => by
  rw [open0]; show lit0t1_2 _ = _; rw [lit0t1_2, digit2]; show lit0t0_378 _ = _; rw [lit0t0_378, digit3]
  exact (by decide +kernel : ∀ k : Fin 128, lit0t0_378 k.val = expectedBand 378 k) k
/-- With segment 379. -/
theorem b379 : Upto SegmentBand 320 380 := more b378 fun k => by
  rw [open0]; show lit0t1_2 _ = _; rw [lit0t1_2, digit2]; show lit0t0_379 _ = _; rw [lit0t0_379, digit3]
  exact (by decide +kernel : ∀ k : Fin 128, lit0t0_379 k.val = expectedBand 379 k) k
/-- With segment 380. -/
theorem b380 : Upto SegmentBand 320 381 := more b379 fun k => by
  rw [open0]; show lit0t1_2 _ = _; rw [lit0t1_2, digit2]; show lit0t0_380 _ = _; rw [lit0t0_380, digit3]
  exact (by decide +kernel : ∀ k : Fin 128, lit0t0_380 k.val = expectedBand 380 k) k
/-- With segment 381. -/
theorem b381 : Upto SegmentBand 320 382 := more b380 fun k => by
  rw [open0]; show lit0t1_2 _ = _; rw [lit0t1_2, digit2]; show lit0t0_381 _ = _; rw [lit0t0_381, digit3]
  exact (by decide +kernel : ∀ k : Fin 128, lit0t0_381 k.val = expectedBand 381 k) k
/-- With segment 382. -/
theorem b382 : Upto SegmentBand 320 383 := more b381 fun k => by
  rw [open0]; show lit0t1_2 _ = _; rw [lit0t1_2, digit2]; show lit0t0_382 _ = _; rw [lit0t0_382, digit3]
  exact (by decide +kernel : ∀ k : Fin 128, lit0t0_382 k.val = expectedBand 382 k) k
/-- With segment 383. -/
theorem b383 : Upto SegmentBand 320 384 := more b382 fun k => by
  rw [open0]; show lit0t1_2 _ = _; rw [lit0t1_2, digit2]; show lit0t0_383 _ = _; rw [lit0t0_383, digit3]
  exact (by decide +kernel : ∀ k : Fin 128, lit0t0_383 k.val = expectedBand 383 k) k

/-- The band table's segments from 320 to 383. -/
theorem band5 : Upto SegmentBand 320 384 := b383

end Cert.SwaIdeal.Table

end
-- ==== Proof.SwaDistance.lean ====
/- The distance and band tables of the windowed attention, as numbers. -/
module

public import proofs.«01_k».proof.Proof.SwaTable0
public import proofs.«01_k».proof.Proof.SwaTable1
public import proofs.«01_k».proof.Proof.SwaTable2
public import proofs.«01_k».proof.Proof.SwaTable3
public import proofs.«01_k».proof.Proof.SwaTable4
public import proofs.«01_k».proof.Proof.SwaTable5

@[expose] public section

set_option maxRecDepth 16384

noncomputable section

namespace Cert.SwaIdeal.Table

open Idealize.ShloMosaic Cert.SwaRow

/-- Six ranges of 64 are the range of 384. -/
theorem joined {P : Nat → Prop} (h0 : Upto P 0 64) (h1 : Upto P 64 128) (h2 : Upto P 128 192) (h3 : Upto P 192 256)
    (h4 : Upto P 256 320) (h5 : Upto P 320 384) (m : Nat) (hm : m < 384) : P m := by
  by_cases c1 : m < 64
  · exact h0 m (Nat.zero_le m) c1
  by_cases c2 : m < 128
  · exact h1 m (Nat.not_lt.1 c1) c2
  by_cases c3 : m < 192
  · exact h2 m (Nat.not_lt.1 c2) c3
  by_cases c4 : m < 256
  · exact h3 m (Nat.not_lt.1 c3) c4
  by_cases c5 : m < 320
  · exact h4 m (Nat.not_lt.1 c4) c5
  exact h5 m (Nat.not_lt.1 c5) hm

/-- Every segment of the distance table. -/
theorem segment (m : Nat) (h : m < 384) : Segment m := joined distance0 distance1 distance2 distance3 distance4 distance5 m h

/-- Every segment of the band table. -/
theorem segmentBand (m : Nat) (h : m < 384) : SegmentBand m := joined band0 band1 band2 band3 band4 band5 m h

/-- The distance table's entries are the distances' patterns. -/
theorem table_eq (a : Fin 128) (j : Fin 384) : lit1t (a.val * 384 + j.val) = pattern (apart a j) := by
  have h := segment (a.val * 3 + j.val / 128) (by omega) ⟨j.val % 128, by omega⟩
  rw [show (a.val * 3 + j.val / 128) * 128 + (⟨j.val % 128, by omega⟩ : Fin 128).val = a.val * 384 + j.val by
    show (a.val * 3 + j.val / 128) * 128 + j.val % 128 = _
    omega] at h
  rw [h]
  unfold expected apart
  dsimp only
  rw [show (a.val * 3 + j.val / 128) / 3 = a.val by omega, show (a.val * 3 + j.val / 128) % 3 * 128 + j.val % 128 = j.val by omega]

/-- The band table's entries are the band. -/
theorem band_eq (a : Fin 128) (j : Fin 384) : lit0t (a.val * 384 + j.val) = 1#1 ↔ Near a j := by
  have h := segmentBand (a.val * 3 + j.val / 128) (by omega) ⟨j.val % 128, by omega⟩
  rw [show (a.val * 3 + j.val / 128) * 128 + (⟨j.val % 128, by omega⟩ : Fin 128).val = a.val * 384 + j.val by
    show (a.val * 3 + j.val / 128) * 128 + j.val % 128 = _
    omega] at h
  rw [h]
  unfold expectedBand Near
  dsimp only
  rw [show (a.val * 3 + j.val / 128) / 3 = a.val by omega, show (a.val * 3 + j.val / 128) % 3 * 128 + j.val % 128 = j.val by omega]
  by_cases hc : a.val ≤ j.val ∧ j.val ≤ a.val + 256
  · rw [if_pos hc]
    exact ⟨fun _ => hc, fun _ => rfl⟩
  · rw [if_neg hc]
    exact ⟨fun e => absurd e (by decide), fun e => absurd e hc⟩

/-- The distance table, read as numbers. -/
theorem distance (a : Fin 128) (j : Fin 384) :
    Ideal.ofBits .f32 (lit1 (S128x384.rowMajor (ix2 a j))) = FloatOps.sitofp (F := Ideal) .f32 (gap a j) := by
  have hr : lit1 (S128x384.rowMajor (ix2 a j)) = lit1t (a.val * 384 + j.val) := by
    show lit1t (S128x384.rowMajor (ix2 a j)).val = _
    rw [Shape.rowMajor_val_two]
    rfl
  have hb : apart a j < 256 := by
    unfold apart
    omega
  rw [hr, table_eq, pattern_value ⟨apart a j, hb⟩]
  show _ = (((gap a j).toInt : ℝ) : EReal)
  rw [← apart_gap]
  norm_cast

/-- The band table, read. -/
theorem band (a : Fin 128) (j : Fin 384) : lit0 (S128x384.rowMajor (ix2 a j)) = 1#1 ↔ Near a j := by
  have hr : lit0 (S128x384.rowMajor (ix2 a j)) = lit0t (a.val * 384 + j.val) := by
    show lit0t (S128x384.rowMajor (ix2 a j)).val = _
    rw [Shape.rowMajor_val_two]
    rfl
  rw [hr]
  exact band_eq a j

end Cert.SwaIdeal.Table

end
-- ==== Proof.SwaValue.lean ====
/- The value of the windowed attention: what the kernel leaves in its output array. -/
module

public import proofs.«01_k».proof.Proof.SwaPayload
public import proofs.«01_k».proof.Proof.SwaDistance
public import Idealize.ShloMosaic.Lib.StableHlo.ReadAt

@[expose] public section

set_option maxRecDepth 16384

noncomputable section

namespace Cert.SwaIdeal.Row

open Cert.SwaIdeal.Gen Cert.SwaIdeal.Value Cert.SwaRow
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The projections, by row and column. -/
def rows (c : Dev nD) : Fin 40960 → Fin 3584 → EReal := fun r k => m ((c.tc : Thread nD τ).loc main_arg0) (ix2 r k)

/-- The sinks, by head. -/
def sinks (c : Dev nD) : Fin 8 → EReal := fun n => m ((c.tc : Thread nD τ).loc main_arg1) (ix1 n)

theorem lt_of (t : Fin cfg0.N) : t.val < 320 := t.isLt

/-! ## The blocks -/

/-- The queries' blocks. -/
theorem index0 : ∀ t : Fin cfg0.N, win0_0.index t = ![t.val, 2] :=
  (by decide +kernel : ∀ t : Fin grid0.N, win0_0.index t = ![t.val, 2])
/-- The blocks of the keys and values. -/
theorem index1 : ∀ t : Fin cfg0.N, win0_1.index t = ![if t.val = 0 ∨ t.val = 64 ∨ t.val = 192 then t.val else t.val - 1, 12] :=
  (by decide +kernel : ∀ t : Fin grid0.N, win0_1.index t = ![if t.val = 0 ∨ t.val = 64 ∨ t.val = 192 then t.val else t.val - 1, 12])
/-- The blocks of the keys and values. -/
theorem index2 : ∀ t : Fin cfg0.N, win0_2.index t = ![t.val, 12] :=
  (by decide +kernel : ∀ t : Fin grid0.N, win0_2.index t = ![t.val, 12])
/-- The blocks of the keys and values. -/
theorem index3 : ∀ t : Fin cfg0.N, win0_3.index t = ![if t.val = 63 ∨ t.val = 191 ∨ t.val = 319 then t.val else t.val + 1, 12] :=
  (by decide +kernel : ∀ t : Fin grid0.N, win0_3.index t = ![if t.val = 63 ∨ t.val = 191 ∨ t.val = 319 then t.val else t.val + 1, 12])
/-- The blocks of the keys and values. -/
theorem index4 : ∀ t : Fin cfg0.N, win0_4.index t = ![if t.val = 0 ∨ t.val = 64 ∨ t.val = 192 then t.val else t.val - 1, 13] :=
  (by decide +kernel : ∀ t : Fin grid0.N, win0_4.index t = ![if t.val = 0 ∨ t.val = 64 ∨ t.val = 192 then t.val else t.val - 1, 13])
/-- The blocks of the keys and values. -/
theorem index5 : ∀ t : Fin cfg0.N, win0_5.index t = ![t.val, 13] :=
  (by decide +kernel : ∀ t : Fin grid0.N, win0_5.index t = ![t.val, 13])
/-- The blocks of the keys and values. -/
theorem index6 : ∀ t : Fin cfg0.N, win0_6.index t = ![if t.val = 63 ∨ t.val = 191 ∨ t.val = 319 then t.val else t.val + 1, 13] :=
  (by decide +kernel : ∀ t : Fin grid0.N, win0_6.index t = ![if t.val = 63 ∨ t.val = 191 ∨ t.val = 319 then t.val else t.val + 1, 13])
/-- The penalties' one block. -/
theorem index7 : ∀ t : Fin cfg0.N, win0_7.index t = ![0, 0, 0] :=
  (by decide +kernel : ∀ t : Fin grid0.N, win0_7.index t = ![0, 0, 0])
/-- The sinks' one block. -/
theorem index8 : ∀ t : Fin cfg0.N, win0_8.index t = ![0, 0, 0] :=
  (by decide +kernel : ∀ t : Fin grid0.N, win0_8.index t = ![0, 0, 0])
/-- The results' blocks. -/
theorem index9 : ∀ t : Fin cfg0.N, win0_9.index t = ![t.val, 0] :=
  (by decide +kernel : ∀ t : Fin grid0.N, win0_9.index t = ![t.val, 0])
/-- The results' blocks cover the array. -/
theorem covers : (cfg0.win 9).Covers := by decide +kernel

/-- The queries' block. -/
theorem block0 (c : Dev nD) (t : Fin cfg0.N) (a : Fin 128) (k : Fin 1024) :
    X0_0 m c t (ix2 a k) = rows m c ⟨t.val * 128 + a.val, by have := lt_of t; omega⟩ ⟨2048 + k.val, by omega⟩ := by
  unfold X0_0 Pipeline.Window.fill
  rw [dif_pos (moved0_0 t _)]
  blk_simp [iblk, index0]
  entry_read
  refine congrArg (m ((c.tc : Thread nD τ).loc main_arg0)) (a₂ := ix2 (⟨t.val * 128 + a.val, by have := lt_of t; omega⟩ : Fin 40960) (⟨2048 + k.val, by omega⟩ : Fin 3584)) ?_
  blk_ext [index0]

/-- The keys of the block before. -/
theorem block1 (c : Dev nD) (t : Fin cfg0.N) (ht : ¬(t.val = 0 ∨ t.val = 64 ∨ t.val = 192)) (a : Fin 128) (k : Fin 256) :
    iblk m c 1 t (ix2 a k) = rows m c ⟨(t.val - 1) * 128 + a.val, by have := lt_of t; omega⟩ ⟨3072 + k.val, by omega⟩ := by
  have e := (index1 t).trans (by rw [if_neg ht])
  blk_simp [iblk, e]
  entry_read
  rw [show (win0_1.blk t).view.emb (ix2 a k) = ix2 (⟨(t.val - 1) * 128 + a.val, by have := lt_of t; omega⟩ : Fin 40960) (⟨3072 + k.val, by omega⟩ : Fin 3584) from by blk_ext [e]]
  rfl

/-- The keys of the block. -/
theorem block2 (c : Dev nD) (t : Fin cfg0.N) (a : Fin 128) (k : Fin 256) :
    iblk m c 2 t (ix2 a k) = rows m c ⟨t.val * 128 + a.val, by have := lt_of t; omega⟩ ⟨3072 + k.val, by omega⟩ := by
  blk_simp [iblk, index2]
  entry_read
  rw [show (win0_2.blk t).view.emb (ix2 a k) = ix2 (⟨t.val * 128 + a.val, by have := lt_of t; omega⟩ : Fin 40960) (⟨3072 + k.val, by omega⟩ : Fin 3584) from by blk_ext [index2]]
  rfl

/-- The keys of the block after. -/
theorem block3 (c : Dev nD) (t : Fin cfg0.N) (ht : ¬(t.val = 63 ∨ t.val = 191 ∨ t.val = 319)) (a : Fin 128) (k : Fin 256) :
    iblk m c 3 t (ix2 a k) = rows m c ⟨(t.val + 1) * 128 + a.val, by have := lt_of t; omega⟩ ⟨3072 + k.val, by omega⟩ := by
  have e := (index3 t).trans (by rw [if_neg ht])
  blk_simp [iblk, e]
  entry_read
  rw [show (win0_3.blk t).view.emb (ix2 a k) = ix2 (⟨(t.val + 1) * 128 + a.val, by have := lt_of t; omega⟩ : Fin 40960) (⟨3072 + k.val, by omega⟩ : Fin 3584) from by blk_ext [e]]
  rfl

/-- The values of the block before. -/
theorem block4 (c : Dev nD) (t : Fin cfg0.N) (ht : ¬(t.val = 0 ∨ t.val = 64 ∨ t.val = 192)) (a : Fin 128) (k : Fin 256) :
    iblk m c 4 t (ix2 a k) = rows m c ⟨(t.val - 1) * 128 + a.val, by have := lt_of t; omega⟩ ⟨3328 + k.val, by omega⟩ := by
  have e := (index4 t).trans (by rw [if_neg ht])
  blk_simp [iblk, e]
  entry_read
  rw [show (win0_4.blk t).view.emb (ix2 a k) = ix2 (⟨(t.val - 1) * 128 + a.val, by have := lt_of t; omega⟩ : Fin 40960) (⟨3328 + k.val, by omega⟩ : Fin 3584) from by blk_ext [e]]
  rfl

/-- The values of the block. -/
theorem block5 (c : Dev nD) (t : Fin cfg0.N) (a : Fin 128) (k : Fin 256) :
    iblk m c 5 t (ix2 a k) = rows m c ⟨t.val * 128 + a.val, by have := lt_of t; omega⟩ ⟨3328 + k.val, by omega⟩ := by
  blk_simp [iblk, index5]
  entry_read
  rw [show (win0_5.blk t).view.emb (ix2 a k) = ix2 (⟨t.val * 128 + a.val, by have := lt_of t; omega⟩ : Fin 40960) (⟨3328 + k.val, by omega⟩ : Fin 3584) from by blk_ext [index5]]
  rfl

/-- The values of the block after. -/
theorem block6 (c : Dev nD) (t : Fin cfg0.N) (ht : ¬(t.val = 63 ∨ t.val = 191 ∨ t.val = 319)) (a : Fin 128) (k : Fin 256) :
    iblk m c 6 t (ix2 a k) = rows m c ⟨(t.val + 1) * 128 + a.val, by have := lt_of t; omega⟩ ⟨3328 + k.val, by omega⟩ := by
  have e := (index6 t).trans (by rw [if_neg ht])
  blk_simp [iblk, e]
  entry_read
  rw [show (win0_6.blk t).view.emb (ix2 a k) = ix2 (⟨(t.val + 1) * 128 + a.val, by have := lt_of t; omega⟩ : Fin 40960) (⟨3328 + k.val, by omega⟩ : Fin 3584) from by blk_ext [e]]
  rfl

/-- The values of the block before, at the sequence's edge: the block's own. -/
theorem edge4 (c : Dev nD) (t : Fin cfg0.N) (ht : t.val = 0 ∨ t.val = 64 ∨ t.val = 192) (a : Fin 128) (k : Fin 256) :
    iblk m c 4 t (ix2 a k) = rows m c ⟨t.val * 128 + a.val, by have := lt_of t; omega⟩ ⟨3328 + k.val, by omega⟩ := by
  have e := (index4 t).trans (by rw [if_pos ht])
  blk_simp [iblk, e]
  entry_read
  rw [show (win0_4.blk t).view.emb (ix2 a k) = ix2 (⟨t.val * 128 + a.val, by have := lt_of t; omega⟩ : Fin 40960) (⟨3328 + k.val, by omega⟩ : Fin 3584) from by blk_ext [e]]
  rfl

/-- The values of the block after, at the sequence's edge: the block's own. -/
theorem edge6 (c : Dev nD) (t : Fin cfg0.N) (ht : t.val = 63 ∨ t.val = 191 ∨ t.val = 319) (a : Fin 128) (k : Fin 256) :
    iblk m c 6 t (ix2 a k) = rows m c ⟨t.val * 128 + a.val, by have := lt_of t; omega⟩ ⟨3328 + k.val, by omega⟩ := by
  have e := (index6 t).trans (by rw [if_pos ht])
  blk_simp [iblk, e]
  entry_read
  rw [show (win0_6.blk t).view.emb (ix2 a k) = ix2 (⟨t.val * 128 + a.val, by have := lt_of t; omega⟩ : Fin 40960) (⟨3328 + k.val, by omega⟩ : Fin 3584) from by blk_ext [e]]
  rfl

/-- The penalty beyond the window. -/
theorem posInf : (id (constant (F := Ideal) S_ .f32 0x7F800000#32) ix0 : EReal) = ⊤ := by
  show Ideal.ofBits .f32 0x7F800000#32 = ⊤
  simp [Ideal.ofBits, Ideal.ieee]

open Classical in
/-- The penalties. -/
theorem block7 (c : Dev nD) (t : Fin cfg0.N) (g : Fin 2) (h : Fin 4) (a : Fin 128) (j : Fin 384) :
    iblk m c 7 t (ix3 g (⟨h.val * 128 + a.val, by omega⟩ : Fin 512) j) = if Near a j then bias (g.val * 4 + h.val) a j else (⊤ : EReal) := by
  blk_simp [iblk, index7]
  entry_read
  rw [show (win0_7.blk t).view.emb (ix3 g (⟨h.val * 128 + a.val, by omega⟩ : Fin 512) j) = ix3 (g : Fin 2) (⟨h.val * 128 + a.val, by omega⟩ : Fin 512) j from by blk_ext [index7]]
  after_reads_at
  pointwise
  rw [show g.val * 4 + (h.val * 128 + a.val) / 128 = g.val * 4 + h.val by omega]
  rw [Table.distance a j]
  exact (if_congr (Table.band a j) rfl posInf)

/-- The sinks. -/
theorem block8 (c : Dev nD) (t : Fin cfg0.N) (g : Fin 2) (h : Fin 4) (a : Fin 128) :
    iblk m c 8 t (ix3 g (⟨h.val * 128 + a.val, by omega⟩ : Fin 512) 0) = sinks m c ⟨g.val * 4 + h.val, by omega⟩ := by
  blk_simp [iblk, index8]
  entry_read
  rw [show (win0_8.blk t).view.emb (ix3 g (⟨h.val * 128 + a.val, by omega⟩ : Fin 512) 0) = ix3 (g : Fin 2) (⟨h.val * 128 + a.val, by omega⟩ : Fin 512) 0 from by blk_ext [index8]]
  after_reads_at
  pointwise
  exact congrArg (sinks m c) (Fin.ext (show (g.val * 512 + (h.val * 128 + a.val)) / 128 = g.val * 4 + h.val by omega))

/-! ## The results -/

/-- Whether a block is a sequence's first. -/
def firstBit (t : Fin cfg0.N) : BitVec 1 := (Scalar.cmpi .eq (BitVec.ofNat 32 (grid0.coords t 0).val) (Scalar.select (Scalar.cmpi .sge (BitVec.ofNat 32 (grid0.coords t 0).val) 192#32) 192#32 (Scalar.select (Scalar.cmpi .sge (BitVec.ofNat 32 (grid0.coords t 0).val) 64#32) 64#32 0#32)))

/-- Whether a block is a sequence's last. -/
def lastBit (t : Fin cfg0.N) : BitVec 1 := (Scalar.cmpi .eq (BitVec.ofNat 32 (grid0.coords t 0).val) (Scalar.select (Scalar.cmpi .sle (BitVec.ofNat 32 (grid0.coords t 0).val) 63#32) 63#32 (Scalar.select (Scalar.cmpi .sle (BitVec.ofNat 32 (grid0.coords t 0).val) 191#32) 191#32 319#32)))

/-- The first blocks. -/
theorem first_iff : ∀ t : Fin cfg0.N, firstBit t = 1#1 ↔ t.val = 0 ∨ t.val = 64 ∨ t.val = 192 :=
  (by decide +kernel : ∀ t : Fin grid0.N, firstBit t = 1#1 ↔ t.val = 0 ∨ t.val = 64 ∨ t.val = 192)

/-- The last blocks. -/
theorem last_iff : ∀ t : Fin cfg0.N, lastBit t = 1#1 ↔ t.val = 63 ∨ t.val = 191 ∨ t.val = 319 :=
  (by decide +kernel : ∀ t : Fin grid0.N, lastBit t = 1#1 ↔ t.val = 63 ∨ t.val = 191 ∨ t.val = 319)

/-- A block, as a block of the calculation. -/
def block (t : Fin cfg0.N) : Fin 320 := ⟨t.val, lt_of t⟩

/-- The masked columns are those outside the sequence. -/
theorem edge_iff (t : Fin cfg0.N) (j : Fin 384) : Edge (firstBit t) (lastBit t) j ↔ ¬Inside (block t) j := by
  unfold Edge Inside block
  rw [first_iff, last_iff]
  dsimp only
  omega

/-- A row of the window, inside the sequence. -/
theorem window_keys (c : Dev nD) (t : Fin cfg0.N) (j : Fin 384) (k : Fin 256) (hi : Inside (block t) j) :
    under (iblk m c 1 t) (iblk m c 2 t) (iblk m c 3 t) j k = rows m c (source (block t) j) ⟨3072 + k.val, by omega⟩ := by
  have ht := lt_of t
  have hj := j.isLt
  unfold Inside block at hi
  dsimp only at hi
  unfold under
  split_ifs with h h'
  · rw [block1 m c t (by omega)]
    refine congrArg (fun r => rows m c r _) (Fin.ext ?_)
    unfold source block
    dsimp only
    omega
  · rw [block2 m c t]
    refine congrArg (fun r => rows m c r _) (Fin.ext ?_)
    unfold source block
    dsimp only
    omega
  · rw [block3 m c t (by omega)]
    refine congrArg (fun r => rows m c r _) (Fin.ext ?_)
    unfold source block
    dsimp only
    omega

/-- A row of the window, inside the sequence. -/
theorem window_values (c : Dev nD) (t : Fin cfg0.N) (j : Fin 384) (k : Fin 256) (hi : Inside (block t) j) :
    under (iblk m c 4 t) (iblk m c 5 t) (iblk m c 6 t) j k = rows m c (source (block t) j) ⟨3328 + k.val, by omega⟩ := by
  have ht := lt_of t
  have hj := j.isLt
  unfold Inside block at hi
  dsimp only at hi
  unfold under
  split_ifs with h h'
  · rw [block4 m c t (by omega)]
    refine congrArg (fun r => rows m c r _) (Fin.ext ?_)
    unfold source block
    dsimp only
    omega
  · rw [block5 m c t]
    refine congrArg (fun r => rows m c r _) (Fin.ext ?_)
    unfold source block
    dsimp only
    omega
  · rw [block6 m c t (by omega)]
    refine congrArg (fun r => rows m c r _) (Fin.ext ?_)
    unfold source block
    dsimp only
    omega

/-- A row of the window, outside the sequence: a row of the block itself. -/
theorem window_copies (c : Dev nD) (t : Fin cfg0.N) (j : Fin 384) (k : Fin 256) (hi : ¬Inside (block t) j) :
    under (iblk m c 4 t) (iblk m c 5 t) (iblk m c 6 t) j k
      = under (iblk m c 4 t) (iblk m c 5 t) (iblk m c 6 t) ⟨128 + j.val % 128, by omega⟩ k := by
  have ht := lt_of t
  have hj := j.isLt
  unfold Inside block at hi
  dsimp only at hi
  unfold under
  rw [dif_neg (show ¬128 + j.val % 128 < 128 by omega), dif_pos (show 128 + j.val % 128 - 128 < 128 by omega), block5 m c t]
  split_ifs with h h'
  · rw [edge4 m c t (by omega)]
    refine congrArg (fun r => rows m c r _) (Fin.ext ?_)
    dsimp only
    omega
  · exfalso
    omega
  · rw [edge6 m c t (by omega)]
    refine congrArg (fun r => rows m c r _) (Fin.ext ?_)
    dsimp only
    omega

/-- A block's head is the calculation's. -/
theorem head_eq (c : Dev nD) (t : Fin cfg0.N) (g : Fin 2) (h : Fin 4) (a d : Fin 128) :
    headOf (firstBit t) (lastBit t) (X0_0 m c t) (iblk m c 1 t) (iblk m c 2 t) (iblk m c 3 t) (iblk m c 4 t) (iblk m c 5 t) (iblk m c 6 t)
        (iblk m c 7 t) (iblk m c 8 t) g h a d = attended (rows m c) (sinks m c) (block t) g h a d := by
  refine Eq.trans ?_ (attended_eq (rows m c) (sinks m c) (block t) g h a d
    (fun j => under (iblk m c 4 t) (iblk m c 5 t) (iblk m c 6 t) j ⟨g.val * 128 + d.val, by omega⟩)
    (fun j hi => window_values m c t j _ hi) fun j hi => window_copies m c t j _ hi)
  unfold headOf
  rw [block8]
  refine congrArg (fun f => attend f _ _) (funext fun j => ?_)
  unfold score
  by_cases hi : Inside (block t) j
  · rw [if_neg (fun e => (edge_iff t j).1 e hi), block7]
    by_cases hn : Near a j
    · rw [if_pos hn, if_pos ⟨hn, hi⟩]
      refine congrArg (fun y => y * scale - bias (g.val * 4 + h.val) a j) (Finset.sum_congr rfl fun e _ => ?_)
      rw [block0, window_keys m c t j _ hi]
      refine congrArg₂ (· * ·) (congrArg₂ (rows m c) rfl (Fin.ext ?_)) rfl
      show 2048 + (g.val * 512 + (h.val * 128 + e.val)) = 2048 + (g.val * 512 + h.val * 128 + e.val)
      omega
    · rw [if_neg hn, if_neg fun q => hn q.1]
      exact EReal.sub_top _
  · rw [if_pos ((edge_iff t j).2 hi), if_neg fun q => hi q.2]

/-- What the kernel leaves in its output array. -/
theorem final (c : Dev nD) :
    (dats m 0 c).arrAt 9 cfg0.N = (fun i => entry (rows m c) (sinks m c) (i 0) (i 1) : FVec Ideal S40960x1024 .bf16) := by
  refine (dats m 0 c).arrAt_eq_of_covers 9 _ covers fun t hf y => ?_
  blk_simp
  rw [after0_9]
  unfold outsAt0 out0_A_9
  frame_out
  obtain ⟨a, k, rfl⟩ : ∃ (a : Fin 128) (k : Fin 1024), y = ix2 a k := ⟨y 0, y 1, by funext x; fin_cases x <;> rfl⟩
  refine (whole (firstBit t) (lastBit t) (X0_0 m c t) (iblk m c 1 t) (iblk m c 2 t) (iblk m c 3 t) (iblk m c 4 t) (iblk m c 5 t) (iblk m c 6 t)
    (iblk m c 7 t) (iblk m c 8 t) _ _ _ _ a k (load7_0 _) (load7_1 _) (load8_0 _) (load8_1 _)).trans ((head_eq m c t _ _ a _).trans ?_)
  have e : ((View.whole main_v20).slice (win0_9.rect t)).emb (ix2 a k) = ix2 (⟨t.val * 128 + a.val, by have := lt_of t; omega⟩ : Fin 40960) k := by
    blk_ext [index9]
  rw [e]
  show _ = entry (rows m c) (sinks m c) (⟨t.val * 128 + a.val, by have := lt_of t; omega⟩ : Fin 40960) k
  have ht := lt_of t
  unfold entry
  refine congrArg₂ (fun T a => attended (rows m c) (sinks m c) T _ _ a _) (Fin.ext ?_) (Fin.ext ?_)
  · show t.val = (t.val * 128 + a.val) / 128
    omega
  · show a.val = (t.val * 128 + a.val) % 128
    omega

end Cert.SwaIdeal.Row

end
-- ==== Proof.SwaReference.lean ====
/- The windowed attention's reference, read at an index: its named values are the block calculation's. -/
module

public import proofs.«01_k».proof.Proof.Norm
public import proofs.«01_k».proof.Proof.SwaRow
public import proofs.«01_k».proof.Proof.Gen.SwaReferenceIdeal.Run
public import Idealize.ShloMosaic.Lib.Pointwise
public import Idealize.ShloMosaic.Lib.Tactic.CleanTypes

@[expose] public section

set_option maxRecDepth 16384

noncomputable section

namespace Cert.SwaReferenceIdeal.Row

open Cert.SwaReferenceIdeal Cert.SwaReferenceIdeal.Gen Cert.SwaReferenceIdeal.Value Cert.SwaRow
open Idealize.ShloMosaic Idealize.ShloMosaic.TcCoe Idealize.SL.Sem

/-- The source indices of a reduction over the last of six axes. -/
theorem last_fiber {n0 n1 n2 n3 n4 n5 : ℕ} (h : (⟨6, ![n0, n1, n2, n3, n4, n5]⟩ : Shape).ReducesTo [5] ⟨5, ![n0, n1, n2, n3, n4]⟩)
    (a : Fin n0) (b : Fin n1) (c : Fin n2) (d : Fin n3) (e : Fin n4) (i : (⟨6, ![n0, n1, n2, n3, n4, n5]⟩ : Shape).Idx) :
    h.drop i = ix5 a b c d e ↔ ∃ k : Fin n5, ix6 a b c d e k = i := by
  constructor
  · intro q
    refine ⟨i 5, ?_⟩
    funext x
    apply Fin.ext
    match x with
    | ⟨0, _⟩ => exact (congrArg Fin.val (congrFun q (0 : Fin 5))).symm
    | ⟨1, _⟩ => exact (congrArg Fin.val (congrFun q (1 : Fin 5))).symm
    | ⟨2, _⟩ => exact (congrArg Fin.val (congrFun q (2 : Fin 5))).symm
    | ⟨3, _⟩ => exact (congrArg Fin.val (congrFun q (3 : Fin 5))).symm
    | ⟨4, _⟩ => exact (congrArg Fin.val (congrFun q (4 : Fin 5))).symm
    | ⟨5, _⟩ => rfl
  · rintro ⟨k, rfl⟩
    funext y
    apply Fin.ext
    match y with
    | ⟨0, _⟩ => rfl
    | ⟨1, _⟩ => rfl
    | ⟨2, _⟩ => rfl
    | ⟨3, _⟩ => rfl
    | ⟨4, _⟩ => rfl

/-- A sum over the last of six axes. -/
theorem last_sum {n0 n1 n2 n3 n4 n5 : ℕ} (h : (⟨6, ![n0, n1, n2, n3, n4, n5]⟩ : Shape).ReducesTo [5] ⟨5, ![n0, n1, n2, n3, n4]⟩)
    (v : (⟨6, ![n0, n1, n2, n3, n4, n5]⟩ : Shape).Idx → EReal) (init : EReal) (a : Fin n0) (b : Fin n1) (c : Fin n2) (d : Fin n3) (e : Fin n4) :
    Ideal.hostReduceAdd h v init (ix5 a b c d e) = init + ∑ k : Fin n5, v (ix6 a b c d e k) :=
  congrArg (init + ·) (Finset.sum_filter_eq_sum_of_fiber _ (fun k : Fin n5 => ix6 a b c d e k) (fun _ _ q => congrFun q (5 : Fin 6))
    (last_fiber h a b c d e) v)

/-- A maximum over the last of six axes. -/
theorem last_max {n0 n1 n2 n3 n4 n5 : ℕ} (h : (⟨6, ![n0, n1, n2, n3, n4, n5]⟩ : Shape).ReducesTo [5] ⟨5, ![n0, n1, n2, n3, n4]⟩)
    (v : (⟨6, ![n0, n1, n2, n3, n4, n5]⟩ : Shape).Idx → EReal) (init : EReal) (a : Fin n0) (b : Fin n1) (c : Fin n2) (d : Fin n3) (e : Fin n4) :
    (Finset.univ.filter fun i => h.drop i = ix5 a b c d e).fold max init v = Finset.univ.fold max init fun k : Fin n5 => v (ix6 a b c d e k) :=
  Finset.fold_filter_eq_fold_of_fiber max _ (fun k : Fin n5 => ix6 a b c d e k) (fun _ _ q => congrFun q (5 : Fin 6))
    (last_fiber h a b c d e) init v

variable (V0 : Valuation τ sig (Elt Ideal))

/-- The projections, by row and column. -/
def rows : Fin 40960 → Fin 3584 → EReal := fun r k => V0 (Proc.devRef .tc main_arg0) (ix2 r k)

/-- The sinks, by head. -/
def sinks : Fin 8 → EReal := fun n => V0 (Proc.devRef .tc main_arg1) (ix1 n)

/-! ## The prompt -/

/-- A block of the group, as a block of the arrays. -/
def block1 (t : Fin 64) : Fin 320 := ⟨t.val, by omega⟩

/-- The padded keys inside the sequence. -/
theorem v11_apply (u : Fin 66) (a : Fin 128) (g : Fin 2) (d : Fin 128) (h : 128 ≤ u.val * 128 + a.val ∧ u.val * 128 + a.val - 128 < 8192) :
    res_main_v11 V0 (ix5 0 u a g d) = rows V0 ⟨u.val * 128 + a.val - 128, by omega⟩ ⟨3072 + (g.val * 128 + d.val), by omega⟩ := by
  unfold res_main_v11 res_main_v2 res_main_v0
  clean_types
  pointwise
  exact dif_pos h

/-- The window's keys where its column lies in the sequence. -/
theorem window_v11 (t : Fin 64) (j : Fin 384) (g : Fin 2) (d : Fin 128) (hi : Inside (block1 t) j) :
    (if h : j.val < 128 then res_main_v11 V0 (ix5 0 ⟨t.val, by omega⟩ ⟨j.val, h⟩ g d)
      else if h' : j.val - 128 < 128 then res_main_v11 V0 (ix5 0 ⟨1 + t.val, by omega⟩ ⟨j.val - 128, h'⟩ g d)
      else res_main_v11 V0 (ix5 0 ⟨2 + t.val, by omega⟩ ⟨j.val - 128 - 128, by omega⟩ g d)) = rows V0 (source (block1 t) j) ⟨3072 + (g.val * 128 + d.val), by omega⟩ := by
  have ht := t.isLt
  have hj := j.isLt
  skip
  unfold Inside block1 at hi
  dsimp only at hi
  split_ifs with h h'
  all_goals
    rw [v11_apply V0  _ _ _ _ (by dsimp only; omega)]
    refine congrArg (fun r => rows V0 r _) (Fin.ext ?_)
    unfold source block1
    dsimp only
    omega

/-- The zero word is zero. -/
theorem zero_word : (FloatOps.sitofp (F := Ideal) .f32 0#32 : EReal) = 0 := by
  show (((0#32 : BitVec 32).toInt : ℝ) : EReal) = 0
  simp

/-- The padded values inside the sequence. -/
theorem v13_apply (u : Fin 66) (a : Fin 128) (g : Fin 2) (d : Fin 128) (h : 128 ≤ u.val * 128 + a.val ∧ u.val * 128 + a.val - 128 < 8192) :
    res_main_v13 V0 (ix5 0 u a g d) = rows V0 ⟨u.val * 128 + a.val - 128, by omega⟩ ⟨3328 + (g.val * 128 + d.val), by omega⟩ := by
  unfold res_main_v13 res_main_v2 res_main_v0
  clean_types
  pointwise
  exact dif_pos h

/-- The window's values where its column lies in the sequence. -/
theorem window_v13 (t : Fin 64) (j : Fin 384) (g : Fin 2) (d : Fin 128) (hi : Inside (block1 t) j) :
    (if h : j.val < 128 then res_main_v13 V0 (ix5 0 ⟨t.val, by omega⟩ ⟨j.val, h⟩ g d)
      else if h' : j.val - 128 < 128 then res_main_v13 V0 (ix5 0 ⟨1 + t.val, by omega⟩ ⟨j.val - 128, h'⟩ g d)
      else res_main_v13 V0 (ix5 0 ⟨2 + t.val, by omega⟩ ⟨j.val - 128 - 128, by omega⟩ g d)) = rows V0 (source (block1 t) j) ⟨3328 + (g.val * 128 + d.val), by omega⟩ := by
  have ht := t.isLt
  have hj := j.isLt
  skip
  unfold Inside block1 at hi
  dsimp only at hi
  split_ifs with h h'
  all_goals
    rw [v13_apply V0  _ _ _ _ (by dsimp only; omega)]
    refine congrArg (fun r => rows V0 r _) (Fin.ext ?_)
    unfold source block1
    dsimp only
    omega

/-- The padded values outside the sequence. -/
theorem v13_zero (u : Fin 66) (a : Fin 128) (g : Fin 2) (d : Fin 128) (h : ¬(128 ≤ u.val * 128 + a.val ∧ u.val * 128 + a.val - 128 < 8192)) :
    @Eq EReal (res_main_v13 V0 (ix5 0 u a g d)) 0 := by
  unfold res_main_v13 res_main_v2 res_main_v0
  clean_types
  pointwise
  exact (dif_neg h).trans zero_word

/-- The window's values. -/
theorem value_v13 (t : Fin 64) (j : Fin 384) (g : Fin 2) (d : Fin 128) :
    (if h : j.val < 128 then res_main_v13 V0 (ix5 0 ⟨t.val, by omega⟩ ⟨j.val, h⟩ g d)
      else if h' : j.val - 128 < 128 then res_main_v13 V0 (ix5 0 ⟨1 + t.val, by omega⟩ ⟨j.val - 128, h'⟩ g d)
      else res_main_v13 V0 (ix5 0 ⟨2 + t.val, by omega⟩ ⟨j.val - 128 - 128, by omega⟩ g d)) = value (rows V0) (block1 t) g d j := by
  unfold value
  by_cases hi : Inside (block1 t) j
  · rw [if_pos hi]
    exact window_v13 V0 t j g d hi
  · rw [if_neg hi]
    have ht := t.isLt
    have hj := j.isLt
    unfold Inside block1 at hi
    dsimp only at hi
    split_ifs with h h'
    all_goals
      refine v13_zero V0 _ _ _ _ ?_
      dsimp only
      omega

/-- The distance words. -/
theorem v34_apply (a : Fin 128) (j : Fin 384) : IntOp.absi (res_main_v34 V0 (ix2 a j)) = gap a j := by
  unfold res_main_v34 res_main_v27 gap
  clean_types
  pointwise

/-- The position words. -/
theorem v44_apply (t : Fin 64) (j : Fin 384) : res_main_v44 V0 (ix2 t j)
    = IntOp.addi (IntOp.subi (IntOp.muli (BitVec.ofNat 32 t.val) 128#32) 128#32) (BitVec.ofNat 32 j.val) := by
  unfold res_main_v44 res_main_v27
  clean_types
  pointwise

/-- The columns in the sequence, as the compares of position words have them. -/
theorem edge1 (t : Fin 64) (j : Fin 384) :
    IntOp.andi (IntOp.cmpi .sge (res_main_v44 V0 (ix2 t j)) 0#32) (IntOp.cmpi .slt (res_main_v44 V0 (ix2 t j)) 8192#32) = 1#1 ↔ Inside (block1 t) j := by
  have ht := t.isLt
  have hj := j.isLt
  skip
  rw [v44_apply, andi_iff, sge_iff, slt_iff, place_toInt _ _ (by omega) (by omega),
    show (0#32 : BitVec 32).toInt = 0 from rfl, show (8192#32 : BitVec 32).toInt = 8192 from rfl]
  unfold Inside block1
  dsimp only
  omega

/-- The masked scores. -/
theorem v78_apply (t : Fin 64) (g : Fin 2) (h : Fin 4) (a : Fin 128) (j : Fin 384) :
    res_main_v78 V0 (ix6 0 t g h a j) = score (rows V0) (block1 t) g h a j := by
  unfold res_main_v78 res_main_v2 res_main_v0
  clean_types
  pointwise [v34_apply]
  have hc := (andi_iff (IntOp.cmpi .sle (gap a j) 128#32)
    (IntOp.andi (IntOp.cmpi .sge (res_main_v44 V0 (ix2 t j)) 0#32) (IntOp.cmpi .slt (res_main_v44 V0 (ix2 t j)) 8192#32))).trans
    (and_congr (near_word a j) (edge1 V0 t j))
  by_cases hn : Near a j ∧ Inside (block1 t) j
  · refine (if_pos (hc.2 hn)).trans (Eq.trans ?_ (if_pos hn).symm)
    refine congrArg (fun y => y * scale - bias (g.val * 4 + h.val) a j) (Finset.sum_congr rfl fun d _ => ?_)
    refine (mul_comm _ _).trans (congrArg₂ (· * ·) ?_ (window_v11 V0 t j g d hn.2))
    rfl
  · exact (if_neg fun e => hn (hc.1 e)).trans (Eq.trans Cert.Norm.negInf (if_neg hn).symm)

/-- The sinks. -/
theorem v80_apply (g : Fin 2) (h : Fin 4) : res_main_v80 V0 (ix5 0 0 g h 0) = sinks V0 ⟨g.val * 4 + h.val, by omega⟩ := by
  unfold res_main_v80
  clean_types
  pointwise
  rfl

/-- The greatest score of a row. -/
theorem greatest1 (s : FVec Ideal S1x64x2x4x128x384 .f32) (t : Fin 64) (g : Fin 2) (h : Fin 4) (a : Fin 128) :
    (Host.reduce FloatOps.maximumf s (constant (F := Ideal) S_ .f32 0xFF800000#32) reducesTo_S1x64x2x4x128x384_S1x64x2x4x128_d5 h_S_) (ix5 0 t g h a) = Finset.univ.fold max (FloatOps.ofBits .f32 0xFF800000#32) fun k : Fin 384 => s (ix6 0 t g h a k) := by
  pointwise [last_max]

/-- The greater of a maximum and the sink. -/
theorem raised1 (top : FVec Ideal S1x64x2x4x128 .f32) (t : Fin 64) (g : Fin 2) (h : Fin 4) (a : Fin 128) :
    (maximumf top (broadcastInDim S1x64x2x4x128 ![0, 1, 2, 3, 4] bcast_S1x1x2x4x1_S1x64x2x4x128_0_1_2_3_4 (res_main_v80 V0))) (ix5 0 t g h a) = max (top (ix5 0 t g h a)) (sinks V0 ⟨g.val * 4 + h.val, by omega⟩) := by
  pointwise [v80_apply]

/-- The softmax's subtracted maximum. -/
theorem v83_apply (t : Fin 64) (g : Fin 2) (h : Fin 4) (a : Fin 128) : res_main_v83 V0 (ix5 0 t g h a)
    = max (Finset.univ.fold max ⊥ (score (rows V0) (block1 t) g h a)) (sinks V0 ⟨g.val * 4 + h.val, by omega⟩) := by
  unfold res_main_v83
  clean_types
  rw [raised1, greatest1]
  simp only [v78_apply]
  exact congrArg (fun y => max (Finset.univ.fold max y (score (rows V0) (block1 t) g h a)) (sinks V0 ⟨g.val * 4 + h.val, by omega⟩)) Cert.Norm.negInf

/-- The softmax's numerators. -/
theorem v87_apply (t : Fin 64) (g : Fin 2) (h : Fin 4) (a : Fin 128) (j : Fin 384) : res_main_v87 V0 (ix6 0 t g h a j)
    = Ideal.exp (score (rows V0) (block1 t) g h a j
        - max (Finset.univ.fold max ⊥ (score (rows V0) (block1 t) g h a)) (sinks V0 ⟨g.val * 4 + h.val, by omega⟩)) := by
  unfold res_main_v87
  clean_types
  pointwise [v78_apply, v83_apply]

/-- The weighted sum of the window's values. -/
theorem heads1 (t : Fin 64) (g : Fin 2) (h : Fin 4) (a d : Fin 128) :
    attend (score (rows V0) (block1 t) g h a) (sinks V0 ⟨g.val * 4 + h.val, by omega⟩) (fun j => (if h : j.val < 128 then res_main_v13 V0 (ix5 0 ⟨t.val, by omega⟩ ⟨j.val, h⟩ g d)
      else if h' : j.val - 128 < 128 then res_main_v13 V0 (ix5 0 ⟨1 + t.val, by omega⟩ ⟨j.val - 128, h'⟩ g d)
      else res_main_v13 V0 (ix5 0 ⟨2 + t.val, by omega⟩ ⟨j.val - 128 - 128, by omega⟩ g d)))
      = attended (rows V0) (sinks V0) (block1 t) g h a d :=
  congrArg (attend _ _) (funext fun j => value_v13 V0 t j g d)

/-- The group's results. -/
theorem out1 (r : Fin 8192) (k : Fin 1024) :
    ((shapeCast _ (shapeCast _ (transpose S1x64x128x2x4x128 [0, 1, 5, 2, 4, 3] (Host.dotGeneral (F := Ideal) (φ₁ := .f32) (φ₂ := .f32) dot_S1x64x384x2x128_S1x64x2x4x128x384_S1x64x2x128x4x128_2_5_4_34_013_012 none ((concatenate S1x64x384x2x128 2 [⟨S1x64x128x2x128, ((extractStridedSlice S1x64x128x2x128 ![0, 0, 0, 0, 0] (res_main_v13 V0) slices_S1x66x128x2x128_S1x64x128x2x128_0_0_0_0_0) : (⟨S1x64x128x2x128, .f32⟩ : BufTy).Contents (Elt Ideal))⟩, ⟨S1x64x128x2x128, ((extractStridedSlice S1x64x128x2x128 ![0, 1, 0, 0, 0] (res_main_v13 V0) slices_S1x66x128x2x128_S1x64x128x2x128_0_1_0_0_0) : (⟨S1x64x128x2x128, .f32⟩ : BufTy).Contents (Elt Ideal))⟩, ⟨S1x64x128x2x128, ((extractStridedSlice S1x64x128x2x128 ![0, 2, 0, 0, 0] (res_main_v13 V0) slices_S1x66x128x2x128_S1x64x128x2x128_0_2_0_0_0) : (⟨S1x64x128x2x128, .f32⟩ : BufTy).Contents (Elt Ideal))⟩] concatenates_S1x64x128x2x128_S1x64x128x2x128_S1x64x128x2x128_S1x64x384x2x128_d2 : (⟨S1x64x384x2x128, .f32⟩ : BufTy).Contents (Elt Ideal))) (Host.divf (res_main_v87 V0) (broadcastInDim S1x64x2x4x128x384 ![0, 1, 2, 3, 4, 5] bcast_S1x64x2x4x128x1_S1x64x2x4x128x384_0_1_2_3_4_5 (broadcastInDim S1x64x2x4x128x1 ![0, 1, 2, 3, 4] bcast_S1x64x2x4x128_S1x64x2x4x128x1_0_1_2_3_4 (addf (Host.reduceAdd (res_main_v87 V0) (constant (F := Ideal) S_ .f32 0x00000000#32) reducesTo_S1x64x2x4x128x384_S1x64x2x4x128_d5 h_S_) (Host.exp (subf (broadcastInDim S1x64x2x4x128 ![0, 1, 2, 3, 4] bcast_S1x1x2x4x1_S1x64x2x4x128_0_1_2_3_4 (res_main_v80 V0)) (res_main_v83 V0)))))))) transposes_S1x64x2x128x4x128_S1x64x128x2x4x128_0_1_5_2_4_3) shapeCasts_S1x64x128x2x4x128_S1x8192x8x128) shapeCasts_S1x8192x8x128_S8192x1024) : FVec Ideal S8192x1024 .f32) (ix2 r k)
      = attended (rows V0) (sinks V0) ⟨0 + r.val / 128, by omega⟩ ⟨k.val / 512, by omega⟩ ⟨k.val / 128 % 4, by omega⟩ ⟨r.val % 128, by omega⟩ ⟨k.val % 128, by omega⟩ := by
  pointwise [last_sum, v87_apply, v80_apply, v83_apply]
  refine (Finset.sum_congr rfl fun j _ => mul_comm _ _).trans ?_
  refine (heads1 V0 ⟨r.val / 128, by omega⟩ ⟨k.val / 512, by omega⟩ ⟨k.val / 128 % 4, by omega⟩ ⟨r.val % 128, by omega⟩ ⟨k.val % 128, by omega⟩).trans ?_
  refine congrArg (fun T => attended (rows V0) (sinks V0) T _ _ _ _) (Fin.ext ?_)
  unfold block1
  dsimp only

/-! ## The samples -/

/-- A block of the group, as a block of the arrays. -/
def block2 (b : Fin 2) (t : Fin 128) : Fin 320 := ⟨64 + (b.val * 128 + t.val), by omega⟩

/-- The padded keys inside the sequence. -/
theorem v110_apply (b : Fin 2) (u : Fin 130) (a : Fin 128) (g : Fin 2) (d : Fin 128) (h : 128 ≤ u.val * 128 + a.val ∧ u.val * 128 + a.val - 128 < 16384) :
    res_main_v110 V0 (ix5 b u a g d) = rows V0 ⟨8192 + (b.val * 16384 + (u.val * 128 + a.val - 128)), by omega⟩ ⟨3072 + (g.val * 128 + d.val), by omega⟩ := by
  unfold res_main_v110 res_main_v101 res_main_v0
  clean_types
  pointwise
  exact dif_pos h

/-- The window's keys where its column lies in the sequence. -/
theorem window_v110 (b : Fin 2) (t : Fin 128) (j : Fin 384) (g : Fin 2) (d : Fin 128) (hi : Inside (block2 b t) j) :
    (if h : j.val < 128 then res_main_v110 V0 (ix5 b ⟨t.val, by omega⟩ ⟨j.val, h⟩ g d)
      else if h' : j.val - 128 < 128 then res_main_v110 V0 (ix5 b ⟨1 + t.val, by omega⟩ ⟨j.val - 128, h'⟩ g d)
      else res_main_v110 V0 (ix5 b ⟨2 + t.val, by omega⟩ ⟨j.val - 128 - 128, by omega⟩ g d)) = rows V0 (source (block2 b t) j) ⟨3072 + (g.val * 128 + d.val), by omega⟩ := by
  have ht := t.isLt
  have hj := j.isLt
  have hb := b.isLt
  unfold Inside block2 at hi
  dsimp only at hi
  split_ifs with h h'
  all_goals
    rw [v110_apply V0 b _ _ _ _ (by dsimp only; omega)]
    refine congrArg (fun r => rows V0 r _) (Fin.ext ?_)
    unfold source block2
    dsimp only
    omega

/-- The padded values inside the sequence. -/
theorem v112_apply (b : Fin 2) (u : Fin 130) (a : Fin 128) (g : Fin 2) (d : Fin 128) (h : 128 ≤ u.val * 128 + a.val ∧ u.val * 128 + a.val - 128 < 16384) :
    res_main_v112 V0 (ix5 b u a g d) = rows V0 ⟨8192 + (b.val * 16384 + (u.val * 128 + a.val - 128)), by omega⟩ ⟨3328 + (g.val * 128 + d.val), by omega⟩ := by
  unfold res_main_v112 res_main_v101 res_main_v0
  clean_types
  pointwise
  exact dif_pos h

/-- The window's values where its column lies in the sequence. -/
theorem window_v112 (b : Fin 2) (t : Fin 128) (j : Fin 384) (g : Fin 2) (d : Fin 128) (hi : Inside (block2 b t) j) :
    (if h : j.val < 128 then res_main_v112 V0 (ix5 b ⟨t.val, by omega⟩ ⟨j.val, h⟩ g d)
      else if h' : j.val - 128 < 128 then res_main_v112 V0 (ix5 b ⟨1 + t.val, by omega⟩ ⟨j.val - 128, h'⟩ g d)
      else res_main_v112 V0 (ix5 b ⟨2 + t.val, by omega⟩ ⟨j.val - 128 - 128, by omega⟩ g d)) = rows V0 (source (block2 b t) j) ⟨3328 + (g.val * 128 + d.val), by omega⟩ := by
  have ht := t.isLt
  have hj := j.isLt
  have hb := b.isLt
  unfold Inside block2 at hi
  dsimp only at hi
  split_ifs with h h'
  all_goals
    rw [v112_apply V0 b _ _ _ _ (by dsimp only; omega)]
    refine congrArg (fun r => rows V0 r _) (Fin.ext ?_)
    unfold source block2
    dsimp only
    omega

/-- The padded values outside the sequence. -/
theorem v112_zero (b : Fin 2) (u : Fin 130) (a : Fin 128) (g : Fin 2) (d : Fin 128) (h : ¬(128 ≤ u.val * 128 + a.val ∧ u.val * 128 + a.val - 128 < 16384)) :
    @Eq EReal (res_main_v112 V0 (ix5 b u a g d)) 0 := by
  unfold res_main_v112 res_main_v101 res_main_v0
  clean_types
  pointwise
  exact (dif_neg h).trans zero_word

/-- The window's values. -/
theorem value_v112 (b : Fin 2) (t : Fin 128) (j : Fin 384) (g : Fin 2) (d : Fin 128) :
    (if h : j.val < 128 then res_main_v112 V0 (ix5 b ⟨t.val, by omega⟩ ⟨j.val, h⟩ g d)
      else if h' : j.val - 128 < 128 then res_main_v112 V0 (ix5 b ⟨1 + t.val, by omega⟩ ⟨j.val - 128, h'⟩ g d)
      else res_main_v112 V0 (ix5 b ⟨2 + t.val, by omega⟩ ⟨j.val - 128 - 128, by omega⟩ g d)) = value (rows V0) (block2 b t) g d j := by
  unfold value
  by_cases hi : Inside (block2 b t) j
  · rw [if_pos hi]
    exact window_v112 V0 b t j g d hi
  · rw [if_neg hi]
    have ht := t.isLt
    have hj := j.isLt
    unfold Inside block2 at hi
    dsimp only at hi
    split_ifs with h h'
    all_goals
      refine v112_zero V0 b _ _ _ _ ?_
      dsimp only
      omega

/-- The distance words. -/
theorem v133_apply (a : Fin 128) (j : Fin 384) : IntOp.absi (res_main_v133 V0 (ix2 a j)) = gap a j := by
  unfold res_main_v133 res_main_v126 gap
  clean_types
  pointwise

/-- The position words. -/
theorem v143_apply (t : Fin 128) (j : Fin 384) : res_main_v143 V0 (ix2 t j)
    = IntOp.addi (IntOp.subi (IntOp.muli (BitVec.ofNat 32 t.val) 128#32) 128#32) (BitVec.ofNat 32 j.val) := by
  unfold res_main_v143 res_main_v126
  clean_types
  pointwise

/-- The columns in the sequence, as the compares of position words have them. -/
theorem edge2 (b : Fin 2) (t : Fin 128) (j : Fin 384) :
    IntOp.andi (IntOp.cmpi .sge (res_main_v143 V0 (ix2 t j)) 0#32) (IntOp.cmpi .slt (res_main_v143 V0 (ix2 t j)) 16384#32) = 1#1 ↔ Inside (block2 b t) j := by
  have ht := t.isLt
  have hj := j.isLt
  have hb := b.isLt
  rw [v143_apply, andi_iff, sge_iff, slt_iff, place_toInt _ _ (by omega) (by omega),
    show (0#32 : BitVec 32).toInt = 0 from rfl, show (16384#32 : BitVec 32).toInt = 16384 from rfl]
  unfold Inside block2
  dsimp only
  omega

/-- The masked scores. -/
theorem v177_apply (b : Fin 2) (t : Fin 128) (g : Fin 2) (h : Fin 4) (a : Fin 128) (j : Fin 384) :
    res_main_v177 V0 (ix6 b t g h a j) = score (rows V0) (block2 b t) g h a j := by
  unfold res_main_v177 res_main_v101 res_main_v0
  clean_types
  pointwise [v133_apply]
  have hc := (andi_iff (IntOp.cmpi .sle (gap a j) 128#32)
    (IntOp.andi (IntOp.cmpi .sge (res_main_v143 V0 (ix2 t j)) 0#32) (IntOp.cmpi .slt (res_main_v143 V0 (ix2 t j)) 16384#32))).trans
    (and_congr (near_word a j) (edge2 V0 b t j))
  by_cases hn : Near a j ∧ Inside (block2 b t) j
  · refine (if_pos (hc.2 hn)).trans (Eq.trans ?_ (if_pos hn).symm)
    refine congrArg (fun y => y * scale - bias (g.val * 4 + h.val) a j) (Finset.sum_congr rfl fun d _ => ?_)
    refine (mul_comm _ _).trans (congrArg₂ (· * ·) ?_ (window_v110 V0 b t j g d hn.2))
    refine congrArg (fun r => rows V0 r _) (Fin.ext ?_)
    unfold block2
    dsimp only
    omega
  · exact (if_neg fun e => hn (hc.1 e)).trans (Eq.trans Cert.Norm.negInf (if_neg hn).symm)

/-- The sinks. -/
theorem v179_apply (g : Fin 2) (h : Fin 4) : res_main_v179 V0 (ix5 0 0 g h 0) = sinks V0 ⟨g.val * 4 + h.val, by omega⟩ := by
  unfold res_main_v179
  clean_types
  pointwise
  rfl

/-- The greatest score of a row. -/
theorem greatest2 (s : FVec Ideal S2x128x2x4x128x384 .f32) (b : Fin 2) (t : Fin 128) (g : Fin 2) (h : Fin 4) (a : Fin 128) :
    (Host.reduce FloatOps.maximumf s (constant (F := Ideal) S_ .f32 0xFF800000#32) reducesTo_S2x128x2x4x128x384_S2x128x2x4x128_d5 h_S_) (ix5 b t g h a) = Finset.univ.fold max (FloatOps.ofBits .f32 0xFF800000#32) fun k : Fin 384 => s (ix6 b t g h a k) := by
  pointwise [last_max]

/-- The greater of a maximum and the sink. -/
theorem raised2 (top : FVec Ideal S2x128x2x4x128 .f32) (b : Fin 2) (t : Fin 128) (g : Fin 2) (h : Fin 4) (a : Fin 128) :
    (maximumf top (broadcastInDim S2x128x2x4x128 ![0, 1, 2, 3, 4] bcast_S1x1x2x4x1_S2x128x2x4x128_0_1_2_3_4 (res_main_v179 V0))) (ix5 b t g h a) = max (top (ix5 b t g h a)) (sinks V0 ⟨g.val * 4 + h.val, by omega⟩) := by
  pointwise [v179_apply]

/-- The softmax's subtracted maximum. -/
theorem v182_apply (b : Fin 2) (t : Fin 128) (g : Fin 2) (h : Fin 4) (a : Fin 128) : res_main_v182 V0 (ix5 b t g h a)
    = max (Finset.univ.fold max ⊥ (score (rows V0) (block2 b t) g h a)) (sinks V0 ⟨g.val * 4 + h.val, by omega⟩) := by
  unfold res_main_v182
  clean_types
  rw [raised2, greatest2]
  simp only [v177_apply]
  exact congrArg (fun y => max (Finset.univ.fold max y (score (rows V0) (block2 b t) g h a)) (sinks V0 ⟨g.val * 4 + h.val, by omega⟩)) Cert.Norm.negInf

/-- The softmax's numerators. -/
theorem v186_apply (b : Fin 2) (t : Fin 128) (g : Fin 2) (h : Fin 4) (a : Fin 128) (j : Fin 384) : res_main_v186 V0 (ix6 b t g h a j)
    = Ideal.exp (score (rows V0) (block2 b t) g h a j
        - max (Finset.univ.fold max ⊥ (score (rows V0) (block2 b t) g h a)) (sinks V0 ⟨g.val * 4 + h.val, by omega⟩)) := by
  unfold res_main_v186
  clean_types
  pointwise [v177_apply, v182_apply]

/-- The weighted sum of the window's values. -/
theorem heads2 (b : Fin 2) (t : Fin 128) (g : Fin 2) (h : Fin 4) (a d : Fin 128) :
    attend (score (rows V0) (block2 b t) g h a) (sinks V0 ⟨g.val * 4 + h.val, by omega⟩) (fun j => (if h : j.val < 128 then res_main_v112 V0 (ix5 b ⟨t.val, by omega⟩ ⟨j.val, h⟩ g d)
      else if h' : j.val - 128 < 128 then res_main_v112 V0 (ix5 b ⟨1 + t.val, by omega⟩ ⟨j.val - 128, h'⟩ g d)
      else res_main_v112 V0 (ix5 b ⟨2 + t.val, by omega⟩ ⟨j.val - 128 - 128, by omega⟩ g d)))
      = attended (rows V0) (sinks V0) (block2 b t) g h a d :=
  congrArg (attend _ _) (funext fun j => value_v112 V0 b t j g d)

/-- The group's results. -/
theorem out2 (r : Fin 32768) (k : Fin 1024) :
    ((shapeCast _ (shapeCast _ (transpose S2x128x128x2x4x128 [0, 1, 5, 2, 4, 3] (Host.dotGeneral (F := Ideal) (φ₁ := .f32) (φ₂ := .f32) dot_S2x128x384x2x128_S2x128x2x4x128x384_S2x128x2x128x4x128_2_5_4_34_013_012 none ((concatenate S2x128x384x2x128 2 [⟨S2x128x128x2x128, ((extractStridedSlice S2x128x128x2x128 ![0, 0, 0, 0, 0] (res_main_v112 V0) slices_S2x130x128x2x128_S2x128x128x2x128_0_0_0_0_0) : (⟨S2x128x128x2x128, .f32⟩ : BufTy).Contents (Elt Ideal))⟩, ⟨S2x128x128x2x128, ((extractStridedSlice S2x128x128x2x128 ![0, 1, 0, 0, 0] (res_main_v112 V0) slices_S2x130x128x2x128_S2x128x128x2x128_0_1_0_0_0) : (⟨S2x128x128x2x128, .f32⟩ : BufTy).Contents (Elt Ideal))⟩, ⟨S2x128x128x2x128, ((extractStridedSlice S2x128x128x2x128 ![0, 2, 0, 0, 0] (res_main_v112 V0) slices_S2x130x128x2x128_S2x128x128x2x128_0_2_0_0_0) : (⟨S2x128x128x2x128, .f32⟩ : BufTy).Contents (Elt Ideal))⟩] concatenates_S2x128x128x2x128_S2x128x128x2x128_S2x128x128x2x128_S2x128x384x2x128_d2 : (⟨S2x128x384x2x128, .f32⟩ : BufTy).Contents (Elt Ideal))) (Host.divf (res_main_v186 V0) (broadcastInDim S2x128x2x4x128x384 ![0, 1, 2, 3, 4, 5] bcast_S2x128x2x4x128x1_S2x128x2x4x128x384_0_1_2_3_4_5 (broadcastInDim S2x128x2x4x128x1 ![0, 1, 2, 3, 4] bcast_S2x128x2x4x128_S2x128x2x4x128x1_0_1_2_3_4 (addf (Host.reduceAdd (res_main_v186 V0) (constant (F := Ideal) S_ .f32 0x00000000#32) reducesTo_S2x128x2x4x128x384_S2x128x2x4x128_d5 h_S_) (Host.exp (subf (broadcastInDim S2x128x2x4x128 ![0, 1, 2, 3, 4] bcast_S1x1x2x4x1_S2x128x2x4x128_0_1_2_3_4 (res_main_v179 V0)) (res_main_v182 V0)))))))) transposes_S2x128x2x128x4x128_S2x128x128x2x4x128_0_1_5_2_4_3) shapeCasts_S2x128x128x2x4x128_S2x16384x8x128) shapeCasts_S2x16384x8x128_S32768x1024) : FVec Ideal S32768x1024 .f32) (ix2 r k)
      = attended (rows V0) (sinks V0) ⟨64 + r.val / 128, by omega⟩ ⟨k.val / 512, by omega⟩ ⟨k.val / 128 % 4, by omega⟩ ⟨r.val % 128, by omega⟩ ⟨k.val % 128, by omega⟩ := by
  pointwise [last_sum, v186_apply, v179_apply, v182_apply]
  refine (Finset.sum_congr rfl fun j _ => mul_comm _ _).trans ?_
  refine (heads2 V0 ⟨r.val / 16384, by omega⟩ ⟨r.val / 128 % 128, by omega⟩ ⟨k.val / 512, by omega⟩ ⟨k.val / 128 % 4, by omega⟩ ⟨r.val % 128, by omega⟩ ⟨k.val % 128, by omega⟩).trans ?_
  refine congrArg (fun T => attended (rows V0) (sinks V0) T _ _ _ _) (Fin.ext ?_)
  unfold block2
  dsimp only
  omega

/-- The two groups' results in one array. -/
theorem joined (x : FVec Ideal S8192x1024 .f32) (y : FVec Ideal S32768x1024 .f32) (r : Fin 40960) (k : Fin 1024) :
    (truncf .bf16 (concatenate S40960x1024 0 [⟨S8192x1024, x⟩, ⟨S32768x1024, y⟩] concatenates_S8192x1024_S32768x1024_S40960x1024_d0) bitsLt_bf16_f32 : FVec Ideal S40960x1024 .bf16) (ix2 r k)
      = if h : r.val < 8192 then x (ix2 ⟨r.val, h⟩ k) else y (ix2 ⟨r.val - 8192, by omega⟩ k) := by
  pointwise

/-- The reference's results, one row and column at a time. -/
theorem result (r : Fin 40960) (k : Fin 1024) :
    (truncf .bf16 (concatenate S40960x1024 0 [⟨S8192x1024, (shapeCast _ (shapeCast _ (transpose S1x64x128x2x4x128 [0, 1, 5, 2, 4, 3] (Host.dotGeneral (F := Ideal) (φ₁ := .f32) (φ₂ := .f32) dot_S1x64x384x2x128_S1x64x2x4x128x384_S1x64x2x128x4x128_2_5_4_34_013_012 none ((concatenate S1x64x384x2x128 2 [⟨S1x64x128x2x128, ((extractStridedSlice S1x64x128x2x128 ![0, 0, 0, 0, 0] (res_main_v13 V0) slices_S1x66x128x2x128_S1x64x128x2x128_0_0_0_0_0) : (⟨S1x64x128x2x128, .f32⟩ : BufTy).Contents (Elt Ideal))⟩, ⟨S1x64x128x2x128, ((extractStridedSlice S1x64x128x2x128 ![0, 1, 0, 0, 0] (res_main_v13 V0) slices_S1x66x128x2x128_S1x64x128x2x128_0_1_0_0_0) : (⟨S1x64x128x2x128, .f32⟩ : BufTy).Contents (Elt Ideal))⟩, ⟨S1x64x128x2x128, ((extractStridedSlice S1x64x128x2x128 ![0, 2, 0, 0, 0] (res_main_v13 V0) slices_S1x66x128x2x128_S1x64x128x2x128_0_2_0_0_0) : (⟨S1x64x128x2x128, .f32⟩ : BufTy).Contents (Elt Ideal))⟩] concatenates_S1x64x128x2x128_S1x64x128x2x128_S1x64x128x2x128_S1x64x384x2x128_d2 : (⟨S1x64x384x2x128, .f32⟩ : BufTy).Contents (Elt Ideal))) (Host.divf (res_main_v87 V0) (broadcastInDim S1x64x2x4x128x384 ![0, 1, 2, 3, 4, 5] bcast_S1x64x2x4x128x1_S1x64x2x4x128x384_0_1_2_3_4_5 (broadcastInDim S1x64x2x4x128x1 ![0, 1, 2, 3, 4] bcast_S1x64x2x4x128_S1x64x2x4x128x1_0_1_2_3_4 (addf (Host.reduceAdd (res_main_v87 V0) (constant (F := Ideal) S_ .f32 0x00000000#32) reducesTo_S1x64x2x4x128x384_S1x64x2x4x128_d5 h_S_) (Host.exp (subf (broadcastInDim S1x64x2x4x128 ![0, 1, 2, 3, 4] bcast_S1x1x2x4x1_S1x64x2x4x128_0_1_2_3_4 (res_main_v80 V0)) (res_main_v83 V0)))))))) transposes_S1x64x2x128x4x128_S1x64x128x2x4x128_0_1_5_2_4_3) shapeCasts_S1x64x128x2x4x128_S1x8192x8x128) shapeCasts_S1x8192x8x128_S8192x1024)⟩, ⟨S32768x1024, (shapeCast _ (shapeCast _ (transpose S2x128x128x2x4x128 [0, 1, 5, 2, 4, 3] (Host.dotGeneral (F := Ideal) (φ₁ := .f32) (φ₂ := .f32) dot_S2x128x384x2x128_S2x128x2x4x128x384_S2x128x2x128x4x128_2_5_4_34_013_012 none ((concatenate S2x128x384x2x128 2 [⟨S2x128x128x2x128, ((extractStridedSlice S2x128x128x2x128 ![0, 0, 0, 0, 0] (res_main_v112 V0) slices_S2x130x128x2x128_S2x128x128x2x128_0_0_0_0_0) : (⟨S2x128x128x2x128, .f32⟩ : BufTy).Contents (Elt Ideal))⟩, ⟨S2x128x128x2x128, ((extractStridedSlice S2x128x128x2x128 ![0, 1, 0, 0, 0] (res_main_v112 V0) slices_S2x130x128x2x128_S2x128x128x2x128_0_1_0_0_0) : (⟨S2x128x128x2x128, .f32⟩ : BufTy).Contents (Elt Ideal))⟩, ⟨S2x128x128x2x128, ((extractStridedSlice S2x128x128x2x128 ![0, 2, 0, 0, 0] (res_main_v112 V0) slices_S2x130x128x2x128_S2x128x128x2x128_0_2_0_0_0) : (⟨S2x128x128x2x128, .f32⟩ : BufTy).Contents (Elt Ideal))⟩] concatenates_S2x128x128x2x128_S2x128x128x2x128_S2x128x128x2x128_S2x128x384x2x128_d2 : (⟨S2x128x384x2x128, .f32⟩ : BufTy).Contents (Elt Ideal))) (Host.divf (res_main_v186 V0) (broadcastInDim S2x128x2x4x128x384 ![0, 1, 2, 3, 4, 5] bcast_S2x128x2x4x128x1_S2x128x2x4x128x384_0_1_2_3_4_5 (broadcastInDim S2x128x2x4x128x1 ![0, 1, 2, 3, 4] bcast_S2x128x2x4x128_S2x128x2x4x128x1_0_1_2_3_4 (addf (Host.reduceAdd (res_main_v186 V0) (constant (F := Ideal) S_ .f32 0x00000000#32) reducesTo_S2x128x2x4x128x384_S2x128x2x4x128_d5 h_S_) (Host.exp (subf (broadcastInDim S2x128x2x4x128 ![0, 1, 2, 3, 4] bcast_S1x1x2x4x1_S2x128x2x4x128_0_1_2_3_4 (res_main_v179 V0)) (res_main_v182 V0)))))))) transposes_S2x128x2x128x4x128_S2x128x128x2x4x128_0_1_5_2_4_3) shapeCasts_S2x128x128x2x4x128_S2x16384x8x128) shapeCasts_S2x16384x8x128_S32768x1024)⟩] concatenates_S8192x1024_S32768x1024_S40960x1024_d0) bitsLt_bf16_f32 : FVec Ideal S40960x1024 .bf16) (ix2 r k)
      = entry (rows V0) (sinks V0) r k := by
  rw [joined]
  split_ifs with h
  · refine (out1 V0 ⟨r.val, h⟩ k).trans ?_
    exact congrArg (fun T => attended (rows V0) (sinks V0) T _ _ _ _) (Fin.ext (Nat.zero_add _))
  · refine (out2 V0 ⟨r.val - 8192, by omega⟩ k).trans ?_
    refine congrArg₂ (fun T a => attended (rows V0) (sinks V0) T _ _ a _) (Fin.ext ?_) (Fin.ext ?_)
    · show 64 + (r.val - 8192) / 128 = r.val / 128
      omega
    · show (r.val - 8192) % 128 = r.val % 128
      omega

end Cert.SwaReferenceIdeal.Row

end
-- ==== Proof.SwaClaims.lean ====
/- The claims about the windowed attention. -/
module

public import proofs.«01_k».proof.Defs
public import proofs.«01_k».proof.Proof.Gen.Swa.Frame
public import proofs.«01_k».proof.Proof.SwaValue
public import proofs.«01_k».proof.Proof.SwaReference
public import Idealize.ShloMosaic.Lib.Quiescent
public import Idealize.ShloMosaic.Lib.Pointwise

@[expose] public section

set_option maxRecDepth 16384

noncomputable section

namespace Cert.Proof.SwaClaims

open Idealize.ShloMosaic Idealize.ShloMosaic.TcCoe Idealize.SL.Sem

/-- The compiled kernel terminates with its arguments unchanged and every counter at zero. -/
theorem frame_kernel : Cert.quiescent_Swa := fun m ρ _ => Cert.Swa.Gen.frame m ρ

/-- So does the kernel read on the extended reals. -/
theorem frame_ideal : Cert.quiescent_SwaIdeal := fun m ρ _ => Cert.SwaIdeal.Gen.frame m ρ

/-- So does the reference: it is host operations only. -/
theorem frame_reference : Cert.quiescent_SwaReferenceIdeal := fun m ρ _ =>
  (θ_run Cert.SwaReferenceIdeal.defs _ _).mono (fun r h => ⟨fun c => (h c).2,
      Idealize.ShloMosaic.sem_eq_zero_of_no_sems (by decide) r.2⟩)
    (Cert.SwaReferenceIdeal.Value.run (F := Ideal) m ρ)

/-- The ideal program is the compiled one with the mask's constant read as minus infinity. -/
theorem preserves : Cert.preserves_Swa_SwaIdeal :=
  IdealRules.named_const.statement Cert.SwaIdeal.κ "mask" .f32 0xF149F2CA#32 ⊥ rfl

/-- On the extended reals the kernel's array is the reference's. -/
theorem algebraic : Cert.algebraic_SwaIdeal_SwaReferenceIdeal := by
  intro m ρ m' ρ' _ hagree
  refine ⟨fun c => (fun i => Cert.SwaRow.entry (Cert.SwaIdeal.Row.rows m c) (Cert.SwaIdeal.Row.sinks m c) (i 0) (i 1) :
      FVec Ideal Cert.SwaIdeal.S40960x1024 .bf16),
    (θ_run Cert.SwaIdeal.defs _ _).mono (fun _ h c => ⟨(h c).1.trans (Cert.SwaIdeal.Row.final m c), (h c).2⟩)
      (Cert.SwaIdeal.Value.run_blocks m ρ), ?_⟩
  refine (θ_run Cert.SwaReferenceIdeal.defs _ _).mono (fun _ h c => ⟨(h c).1.trans ?_, (h c).2⟩)
    (Cert.SwaReferenceIdeal.Value.run (F := Ideal) m' ρ')
  obtain ⟨h0, h1⟩ := hagree c
  have er : Cert.SwaReferenceIdeal.Row.rows (StableHlo.launchContents m' c) = Cert.SwaIdeal.Row.rows m c :=
    funext fun r => funext fun k => congrFun h0 (ix2 r k)
  have es : Cert.SwaReferenceIdeal.Row.sinks (StableHlo.launchContents m' c) = Cert.SwaIdeal.Row.sinks m c :=
    funext fun n => congrFun h1 (ix1 n)
  funext i
  obtain ⟨r, k, rfl⟩ : ∃ (r : Fin 40960) (k : Fin 1024), i = ix2 r k := ⟨i 0, i 1, eq_ix2 i⟩
  refine (Cert.SwaReferenceIdeal.Row.result (StableHlo.launchContents m' c) r k).trans ?_
  rw [er, es]
  rfl

end Cert.Proof.SwaClaims

end
-- ==== Proof.FfnRun.lean ====
/- The run of the expert feed-forward kernel `proofs.«01_k».proof.FfnIdeal`: what its body leaves at each grid point,
   the scratch buffer of hidden activations tracked from point to point, the launch, and the frame. -/
module

public import proofs.«01_k».proof.Proof.Gen.FfnIdeal.Frame
public import proofs.«01_k».proof.Proof.Gen.FfnIdeal.Skeleton
public import Idealize.ShloMosaic.Lib.Claim
public import Idealize.ShloMosaic.Lib.VecWindow

@[expose] public section

set_option maxRecDepth 16384

noncomputable section

namespace Cert.FfnIdeal.Run

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which half of the steps a point is in -/

/-- The hidden steps are the first eight of every sixteen points. -/
theorem hidden_iff : ∀ t : Fin cfg0.N, k0_cond1 (grid0.coords t) = 1#1 ↔ t.val % 16 ≤ 7 :=
  (by decide +kernel : ∀ t : Fin grid0.N, k0_cond1 (grid0.coords t) = 1#1 ↔ t.val % 16 ≤ 7)

/-- The output steps are the last eight of every sixteen points. -/
theorem output_iff : ∀ t : Fin cfg0.N, k0_cond2 (grid0.coords t) = 1#1 ↔ 8 ≤ t.val % 16 :=
  (by decide +kernel : ∀ t : Fin grid0.N, k0_cond2 (grid0.coords t) = 1#1 ↔ 8 ≤ t.val % 16)

/-- A hidden step `s` stores at columns `512 * s` onwards. -/
theorem off_eq : ∀ t : Fin cfg0.N, t.val % 16 ≤ 7 → k0_off1 (grid0.coords t) = ![0, 512 * (t.val % 16)] :=
  (by decide +kernel : ∀ t : Fin grid0.N, t.val % 16 ≤ 7 → k0_off1 (grid0.coords t) = ![0, 512 * (t.val % 16)])

/-! ## The body's two triples -/

set_option maxHeartbeats 1000000 in
/-- A hidden step: the slice of the scratch buffer at the step's columns is overwritten by the step's hidden
    activations, everything else is handed back as it was. -/
theorem hidden_triple (c : Dev nD) (i : grid0.Coords) (arg3 : Memref sig .tc .vmem S1x1024x2048 .bf16) (harg3 : arg3.IsWhole) (arg4 : Memref sig .tc .vmem S1x1024x1 .f32) (harg4 : arg4.IsWhole) (arg5 : Memref sig .tc .vmem S1x1x2048x512 .f32) (harg5 : arg5.IsWhole) (arg6 : Memref sig .tc .vmem S1x1x2048x512 .f32) (harg6 : arg6.IsWhole) (arg7 : Memref sig .tc .vmem S1x1x4096x256 .f32) (harg7 : arg7.IsWhole) (arg8 : Memref sig .tc .vmem S1x1024x256 .bf16) (harg8 : arg8.IsWhole) (arg9 : Memref sig .tc .vmem S1024x4096 .bf16) (harg9 : arg9.IsWhole)
    (hc0 : k0_cond1 i = 1#1) (hc1 : ¬k0_cond2 i = 1#1)
    (x0 : Vec F S1x1024x2048 .bf16) (x2 : Vec F S1x1x2048x512 .f32) (x3 : Vec F S1x1x2048x512 .f32) (h : Vec F S1024x4096 .bf16) :
      ∀ (E : Set ℕ) (K : PUnit → sProp 𝕄),
        iprop(owns (c : Thread nD τ) arg3 fullShare x0 ∗ owns (c : Thread nD τ) arg5 fullShare x2 ∗ owns (c : Thread nD τ) arg6 fullShare x3 ∗ owns (c : Thread nD τ) arg9 fullShare h
            ∗ (iprop(owns (c : Thread nD τ) arg3 fullShare x0 ∗ owns (c : Thread nD τ) arg5 fullShare x2 ∗ owns (c : Thread nD τ) arg6 fullShare x3 ∗ owns (c : Thread nD τ) arg9 fullShare (VecWindow.put h (k0_off1 i) S1024x512.size (k0_pay1 x0 x2 x3))) -∗ K ⟨⟩))
          ⊢ wp frame (wpE (defs₀ (F := F)) Variants.none c none) E (cc0_expert_ffn i arg3 harg3 arg4 harg4 arg5 harg5 arg6 harg6 arg7 harg7 arg8 harg8 arg9 harg9) K := by
    intro E K
    simp only [cc0_expert_ffn_eq_skeleton]; unfold cc0_expert_ffn_skel
    unfold owns
    iintro ⟨⟨%f0, %hf0, H0⟩, ⟨%f2, %hf2, H2⟩, ⟨%f3, %hf3, H3⟩, ⟨%fs0, %hfs, HS0⟩, Hk⟩
    obtain rfl := harg3.eq_unread hf0; obtain rfl := harg5.eq_unread hf2; obtain rfl := harg6.eq_unread hf3; obtain rfl := harg9.eq_unread hfs
    sl_exec (disch := first | sl_exact hc0 | sl_exact hc1)
    sl_step
    iapply Hk
    isplitl [H0]
    · iexists _; isplitr; · ipureintro; exact harg3.read_unread _
      iexact H0
    isplitl [H2]
    · iexists _; isplitr; · ipureintro; exact harg5.read_unread _
      iexact H2
    isplitl [H3]
    · iexists _; isplitr; · ipureintro; exact harg6.read_unread _
      iexact H3
    iexists _; isplitr; swap; · iexact HS0
    ipureintro
    rw [View.read_writes_cons_put _ _ _ _ _ rfl, View.writes_nil, harg9.read_unread, View.readAt_full, View.readAt_full, View.readAt_full,
      harg3.read_unread, harg5.read_unread, harg6.read_unread]

set_option maxHeartbeats 1000000 in
/-- An output step: the whole scratch buffer is read and the output's block is computed from it. -/
theorem output_triple (c : Dev nD) (i : grid0.Coords) (arg3 : Memref sig .tc .vmem S1x1024x2048 .bf16) (harg3 : arg3.IsWhole) (arg4 : Memref sig .tc .vmem S1x1024x1 .f32) (harg4 : arg4.IsWhole) (arg5 : Memref sig .tc .vmem S1x1x2048x512 .f32) (harg5 : arg5.IsWhole) (arg6 : Memref sig .tc .vmem S1x1x2048x512 .f32) (harg6 : arg6.IsWhole) (arg7 : Memref sig .tc .vmem S1x1x4096x256 .f32) (harg7 : arg7.IsWhole) (arg8 : Memref sig .tc .vmem S1x1024x256 .bf16) (harg8 : arg8.IsWhole) (arg9 : Memref sig .tc .vmem S1024x4096 .bf16) (harg9 : arg9.IsWhole)
    (hc0 : ¬k0_cond1 i = 1#1) (hc1 : k0_cond2 i = 1#1)
    (x1 : Vec F S1x1024x1 .f32) (x4 : Vec F S1x1x4096x256 .f32) (h : Vec F S1024x4096 .bf16) :
      ∀ (E : Set ℕ) (K : PUnit → sProp 𝕄),
        iprop(owns (c : Thread nD τ) arg4 fullShare x1 ∗ owns (c : Thread nD τ) arg7 fullShare x4 ∗ (∃ d, owns (c : Thread nD τ) arg8 fullShare d) ∗ owns (c : Thread nD τ) arg9 fullShare h
            ∗ (iprop(owns (c : Thread nD τ) arg4 fullShare x1 ∗ owns (c : Thread nD τ) arg7 fullShare x4 ∗ owns (c : Thread nD τ) arg8 fullShare (k0_pay2 h x4 x1) ∗ owns (c : Thread nD τ) arg9 fullShare h) -∗ K ⟨⟩))
          ⊢ wp frame (wpE (defs₀ (F := F)) Variants.none c none) E (cc0_expert_ffn i arg3 harg3 arg4 harg4 arg5 harg5 arg6 harg6 arg7 harg7 arg8 harg8 arg9 harg9) K := by
    intro E K
    simp only [cc0_expert_ffn_eq_skeleton]; unfold cc0_expert_ffn_skel
    unfold owns
    iintro ⟨⟨%f1, %hf1, H1⟩, ⟨%f4, %hf4, H4⟩, ⟨%d5, %f5, -, H5⟩, ⟨%fs0, %hfs, HS0⟩, Hk⟩
    obtain rfl := harg4.eq_unread hf1; obtain rfl := harg7.eq_unread hf4; obtain rfl := harg9.eq_unread hfs
    sl_exec (disch := first | sl_exact hc0 | sl_exact hc1)
    sl_step
    iapply Hk
    isplitl [H1]
    · iexists _; isplitr; · ipureintro; exact harg4.read_unread _
      iexact H1
    isplitl [H4]
    · iexists _; isplitr; · ipureintro; exact harg7.read_unread _
      iexact H4
    isplitl [H5]
    · iexists _; isplitr; swap; · iexact H5
      ipureintro
      rw [View.read_writes_full, View.readAt_full, View.readAt_full, View.readAt_full,
        harg9.read_unread, harg7.read_unread, harg4.read_unread]
    iexists _; isplitr; · ipureintro; exact harg9.read_unread _
    iexact HS0

/-! ## What the kernel leaves, point by point -/

/-- The grid point of position `n`. -/
def pt (n : ℕ) : Fin cfg0.N := ⟨n % 1280, lt_of_lt_of_eq (Nat.mod_lt _ (by decide)) (show cfg0.N = 1280 from N_0).symm⟩

/-- The index inside a hidden step's slice of an index of the scratch buffer. -/
def inSlice (j : S1024x4096.Idx) : S1024x512.Idx := fun a => match a with
  | ⟨0, _⟩ => ⟨(j 0).val, (j 0).isLt⟩
  | ⟨1, _⟩ => ⟨(j 1).val % 512, Nat.mod_lt _ (by decide)⟩

/-- The hidden activations of the `g`-th group of sixteen points: its eight hidden steps' slices side by side. -/
def hid (c : Dev nD) (g : ℕ) : Vec F S1024x4096 .bf16 := fun j =>
  k0_pay1 (iblk m c 0 (pt (16 * g + (j 1).val / 512))) (iblk m c 2 (pt (16 * g + (j 1).val / 512))) (iblk m c 3 (pt (16 * g + (j 1).val / 512))) (inSlice j)

/-- The scratch buffer's invariant before position `p`: the slices of the group's hidden steps so far hold the group's
    hidden activations. -/
def Filled (c : Dev nD) (p : ℕ) (d : Vec F S1024x4096 .bf16) : Prop :=
  ∀ j : S1024x4096.Idx, (j 1).val < 512 * min (p % 16) 8 → d j = hid m c (p / 16) j

/-- Each window's current staging memref at point `t`. -/
abbrev st0 (t : Fin cfg0.N) : Memref sig .tc .vmem S1x1024x2048 .bf16 := win0_0.stage (cfg0.slots t 0)
abbrev st1 (t : Fin cfg0.N) : Memref sig .tc .vmem S1x1024x1 .f32 := win0_1.stage (cfg0.slots t 1)
abbrev st2 (t : Fin cfg0.N) : Memref sig .tc .vmem S1x1x2048x512 .f32 := win0_2.stage (cfg0.slots t 2)
abbrev st3 (t : Fin cfg0.N) : Memref sig .tc .vmem S1x1x2048x512 .f32 := win0_3.stage (cfg0.slots t 3)
abbrev st4 (t : Fin cfg0.N) : Memref sig .tc .vmem S1x1x4096x256 .f32 := win0_4.stage (cfg0.slots t 4)
abbrev st5 (t : Fin cfg0.N) : Memref sig .tc .vmem S1x1024x256 .bf16 := win0_5.stage (cfg0.slots t 5)
/-- The scratch buffer as a memref. -/
abbrev scr : Memref sig .tc .vmem S1024x4096 .bf16 := Memref.whole cc0_scratch0

/-- The launch's own invariant, the scratch buffer spelled as a memref at some contents. -/
theorem inv_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-- The invariant between points: the scratch buffer filled so far, and the generator's register. -/
def inv (c : Dev nD) (p : ℕ) : sProp 𝕄 :=
  iprop((∃ d, ⌜Filled m c p d⌝ ∗ owns (c : Thread nD τ) scr fullShare d) ∗ (∃ r, prngReg c r))

/-- The proof data of the pipeline on core `c`: every input's buffer at its block, the output's at the product of the
    group's hidden activations with the point's slice of the weights, the scratch buffer tracked. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay2 (hid m c (t.val / 16)) (iblk m c 4 t) (iblk m c 1 t)
  Φ p := inv m c p.val
  q _ := fullShare
  owed _ := 0

/-- The proof data's arrays are the contents the kernel finds. -/
theorem A_eq (c : Dev nD) (w : Fin cfg0.W) : (dats m 0 c).A w = V m c (Pipeline.arrRef spec0 w) := by
  dsimp only [dats]

/-- What the body leaves in window 0. -/
theorem after_0 (c : Dev nD) (t : Fin cfg0.N) : (dats m 0 c).after 0 t = iblk m c 0 t := by dsimp only [dats]
/-- What the body leaves in window 1. -/
theorem after_1 (c : Dev nD) (t : Fin cfg0.N) : (dats m 0 c).after 1 t = iblk m c 1 t := by dsimp only [dats]
/-- What the body leaves in window 2. -/
theorem after_2 (c : Dev nD) (t : Fin cfg0.N) : (dats m 0 c).after 2 t = iblk m c 2 t := by dsimp only [dats]
/-- What the body leaves in window 3. -/
theorem after_3 (c : Dev nD) (t : Fin cfg0.N) : (dats m 0 c).after 3 t = iblk m c 3 t := by dsimp only [dats]
/-- What the body leaves in window 4. -/
theorem after_4 (c : Dev nD) (t : Fin cfg0.N) : (dats m 0 c).after 4 t = iblk m c 4 t := by dsimp only [dats]
/-- What the body leaves in the output window. -/
theorem after_5 (c : Dev nD) (t : Fin cfg0.N) :
    (dats m 0 c).after 5 t = k0_pay2 (hid m c (t.val / 16)) (iblk m c 4 t) (iblk m c 1 t) := by dsimp only [dats]

/-- Window 0's buffer holds its block at every point. -/
theorem before_0 (c : Dev nD) (t : Fin cfg0.N) (d) : (dats m 0 c).before 0 t d = iblk m c 0 t :=
  before0_0_of m (dats m 0 c) (A_eq m c 0) (after_0 m c) t d
/-- Window 1's buffer holds its block at every point. -/
theorem before_1 (c : Dev nD) (t : Fin cfg0.N) (d) : (dats m 0 c).before 1 t d = iblk m c 1 t :=
  before0_1_of m (dats m 0 c) (A_eq m c 1) (after_1 m c) t d
/-- Window 2's buffer holds its block at every point. -/
theorem before_2 (c : Dev nD) (t : Fin cfg0.N) (d) : (dats m 0 c).before 2 t d = iblk m c 2 t :=
  before0_2_of m (dats m 0 c) (A_eq m c 2) (after_2 m c) t d
/-- Window 3's buffer holds its block at every point. -/
theorem before_3 (c : Dev nD) (t : Fin cfg0.N) (d) : (dats m 0 c).before 3 t d = iblk m c 3 t :=
  before0_3_of m (dats m 0 c) (A_eq m c 3) (after_3 m c) t d
/-- Window 4's buffer holds its block at every point. -/
theorem before_4 (c : Dev nD) (t : Fin cfg0.N) (d) : (dats m 0 c).before 4 t d = iblk m c 4 t :=
  before0_4_of m (dats m 0 c) (A_eq m c 4) (after_4 m c) t d

/-! ## The body at a generic point -/

/-- The output window is idle at a hidden step. -/
theorem idle_hidden : ∀ t : Fin cfg0.N, t.val % 16 ≤ 7 → cfg0.idle 5 (grid0.coords t) = true :=
  (by decide +kernel : ∀ t : Fin grid0.N, t.val % 16 ≤ 7 → cfg0.idle 5 (grid0.coords t) = true)

/-- The output window is not written back at a hidden step. -/
theorem kept_hidden : ∀ t : Fin cfg0.N, t.val % 16 ≤ 7 → (cfg0.win 5).flush t = false :=
  (by decide +kernel : ∀ t : Fin grid0.N, t.val % 16 ≤ 7 → (cfg0.win 5).flush t = false)

/-- The output window is live at an output step. -/
theorem live_output : ∀ t : Fin cfg0.N, 8 ≤ t.val % 16 → cfg0.idle 5 (grid0.coords t) = false :=
  (by decide +kernel : ∀ t : Fin grid0.N, 8 ≤ t.val % 16 → cfg0.idle 5 (grid0.coords t) = false)

/-- After a hidden step one more slice of the scratch buffer is filled. -/
theorem filled_hidden (c : Dev nD) (t : Fin cfg0.N) (ht : t.val % 16 ≤ 7) (d : Vec F S1024x4096 .bf16) (hd : Filled m c t.val d) :
    Filled m c (t.val + 1) (VecWindow.put d (k0_off1 (grid0.coords t)) S1024x512.size
      (k0_pay1 (iblk m c 0 t) (iblk m c 2 t) (iblk m c 3 t))) := by
  have hN : t.val < 1280 := lt_of_lt_of_eq t.isLt (show cfg0.N = 1280 from N_0)
  rw [off_eq t ht]
  intro j hj
  have h1 : (t.val + 1) / 16 = t.val / 16 := by omega
  have h2 : (t.val + 1) % 16 = t.val % 16 + 1 := by omega
  rw [h2] at hj
  rw [h1]
  unfold VecWindow.put
  by_cases hm : ∀ a, (![0, 512 * (t.val % 16)] : Fin 2 → ℕ) a ≤ (j a).val ∧ (j a).val < (![0, 512 * (t.val % 16)] : Fin 2 → ℕ) a + S1024x512.size a
  · rw [dif_pos hm]
    have hb := hm 1
    have hb1 : 512 * (t.val % 16) ≤ (j 1).val := hb.1
    have hb2 : (j 1).val < 512 * (t.val % 16) + 512 := hb.2
    have hq : (j 1).val / 512 = t.val % 16 := by omega
    have hp : pt (16 * (t.val / 16) + (j 1).val / 512) = t := by
      apply Fin.ext; show (16 * (t.val / 16) + (j 1).val / 512) % 1280 = t.val; omega
    unfold hid
    rw [hp]
    congr 1
    funext a
    match a with
    | ⟨0, _⟩ => exact Fin.ext (show (j 0).val - 0 = (j 0).val by omega)
    | ⟨1, _⟩ => exact Fin.ext (show (j 1).val - 512 * (t.val % 16) = (j 1).val % 512 by omega)
  · rw [dif_neg hm]
    apply hd
    by_contra hlt
    apply hm
    have h0 : (j 0).val < 1024 := (j 0).isLt
    intro a
    match a with
    | ⟨0, _⟩ => exact ⟨Nat.zero_le _, by show (j 0).val < 0 + 1024; omega⟩
    | ⟨1, _⟩ => exact ⟨by show 512 * (t.val % 16) ≤ (j 1).val; omega, by show (j 1).val < 512 * (t.val % 16) + 512; omega⟩

/-- At an output step the scratch buffer holds the whole group's hidden activations. -/
theorem filled_whole (c : Dev nD) (p : ℕ) (hp : 8 ≤ p % 16) (d : Vec F S1024x4096 .bf16) (hd : Filled m c p d) : d = hid m c (p / 16) := by
  funext j
  have h1 : (j 1).val < 4096 := (j 1).isLt
  exact hd j (by omega)

/-- An output step keeps the invariant. -/
theorem filled_output (c : Dev nD) (p : ℕ) (hp : 8 ≤ p % 16) : Filled m c (p + 1) (hid m c (p / 16)) := by
  intro j hj
  by_cases h : (p + 1) % 16 = 0
  · rw [h] at hj; omega
  · rw [show (p + 1) / 16 = p / 16 by omega]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d)))

/-- What the body returns at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- Input window 0 is handed back at its block. -/
theorem leaves_0 (c : Dev nD) (t : Fin cfg0.N) : (dats m 0 c).leavesExact 0 t = owns (c : Thread nD τ) (st0 t) fullShare (iblk m c 0 t) := by
  rw [← after_0]
/-- Input window 1 is handed back at its block. -/
theorem leaves_1 (c : Dev nD) (t : Fin cfg0.N) : (dats m 0 c).leavesExact 1 t = owns (c : Thread nD τ) (st1 t) fullShare (iblk m c 1 t) := by
  rw [← after_1]
/-- Input window 2 is handed back at its block. -/
theorem leaves_2 (c : Dev nD) (t : Fin cfg0.N) : (dats m 0 c).leavesExact 2 t = owns (c : Thread nD τ) (st2 t) fullShare (iblk m c 2 t) := by
  rw [← after_2]
/-- Input window 3 is handed back at its block. -/
theorem leaves_3 (c : Dev nD) (t : Fin cfg0.N) : (dats m 0 c).leavesExact 3 t = owns (c : Thread nD τ) (st3 t) fullShare (iblk m c 3 t) := by
  rw [← after_3]
/-- Input window 4 is handed back at its block. -/
theorem leaves_4 (c : Dev nD) (t : Fin cfg0.N) : (dats m 0 c).leavesExact 4 t = owns (c : Thread nD τ) (st4 t) fullShare (iblk m c 4 t) := by
  rw [← after_4]

set_option maxHeartbeats 800000 in
/-- The body at any point keeps the invariant and leaves what the proof data says. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, leaves_0, leaves_1, leaves_2, leaves_3, leaves_4]
  rw [show (dats m 0 c).owesAt () t.succ = (dats m 0 c).owesAt () t.castSucc from rfl]
  rw [show (dats m 0 c).Φ t.castSucc = inv m c t.val from rfl, show (dats m 0 c).Φ t.succ = inv m c (t.val + 1) from rfl]
  unfold inv
  by_cases h0 : t.val % 16 ≤ 7
  · rw [(dats m 0 c).leavesExact_idle 5 t (idle_hidden t h0) (kept_hidden t h0)]
    iintro ⟨⟨⟨%d, %hd, HS⟩, Hg⟩, Ho, ⟨%d0, H0⟩, ⟨%d1, H1⟩, ⟨%d2, H2⟩, ⟨%d3, H3⟩, ⟨%d4, H4⟩, H5⟩
    iapply ((hidden_triple c (grid0.coords t) _ _ _ _ _ _ _ _ _ _ _ _ _ _ ((hidden_iff t).mpr h0)
      (fun h => absurd ((output_iff t).mp h) (by omega)) (iblk m c 0 t) (iblk m c 2 t) (iblk m c 3 t) d) Set.univ _)
    isplitl [H0]; · iexact H0
    isplitl [H2]; · iexact H2
    isplitl [H3]; · iexact H3
    isplitl [HS]; · iexact HS
    iintro ⟨H0, H2, H3, HS⟩
    isplitl [HS Hg]
    · isplitl [HS]
      · iexists _; isplitr; swap; · iexact HS
        ipureintro; exact filled_hidden m c t h0 d hd
      iexact Hg
    isplitl [Ho]; · iexact Ho
    isplitl [H0]; · iexact H0
    isplitl [H1]; · iexact H1
    isplitl [H2]; · iexact H2
    isplitl [H3]; · iexact H3
    isplitl [H4]; · iexact H4
    iexact H5
  · have h1 : 8 ≤ t.val % 16 := by omega
    rw [show (dats m 0 c).leavesExact 5 t = owns (c : Thread nD τ) (st5 t) fullShare (k0_pay2 (hid m c (t.val / 16)) (iblk m c 4 t) (iblk m c 1 t)) from by
      rw [← after_5]; unfold Dat.leavesExact; rw [live_output t h1]]
    iintro ⟨⟨⟨%d, %hd, HS⟩, Hg⟩, Ho, ⟨%d0, H0⟩, ⟨%d1, H1⟩, ⟨%d2, H2⟩, ⟨%d3, H3⟩, ⟨%d4, H4⟩, ⟨%d5, H5⟩⟩
    obtain rfl := filled_whole m c t.val h1 d hd
    iapply ((output_triple c (grid0.coords t) _ _ _ _ _ _ _ _ _ _ _ _ _ _ (fun h => absurd ((hidden_iff t).mp h) (by omega))
      ((output_iff t).mpr h1) (iblk m c 1 t) (iblk m c 4 t) (hid m c (t.val / 16))) Set.univ _)
    isplitl [H1]; · iexact H1
    isplitl [H4]; · iexact H4
    isplitl [H5]; · iexists _; iexact H5
    isplitl [HS]; · iexact HS
    iintro ⟨H1, H4, H5, HS⟩
    isplitl [HS Hg]
    · isplitl [HS]
      · iexists _; isplitr; swap; · iexact HS
        ipureintro; exact filled_output m c t.val h1
      iexact Hg
    isplitl [Ho]; · iexact Ho
    isplitl [H0]; · iexact H0
    isplitl [H1]; · iexact H1
    isplitl [H2]; · iexact H2
    isplitl [H3]; · iexact H3
    isplitl [H4]; · iexact H4
    iexact H5

/-- The table's row at point `t`'s slots is the body there. -/
theorem defs_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

/-! ## The run and the frame -/

/-- The launch hands over the invariant before point 0. -/
theorem inv_in (c : Dev nD) : (Pipeline.ΦA spec0 c : sProp 𝕄) ⊢ inv m c 0 := by
  rw [inv_eq]; unfold inv
  iintro ⟨⟨%d, HS⟩, Hg⟩
  isplitl [HS]
  · iexists d; isplitr; swap; · iexact HS
    ipureintro; intro j hj; omega
  iexact Hg

/-- The invariant gives back the launch's own after the last point. -/
theorem inv_out (c : Dev nD) (p : ℕ) : inv m c p ⊢ (Pipeline.ΦA spec0 c : sProp 𝕄) := by
  rw [inv_eq]; unfold inv
  iintro ⟨⟨%d, %hd, HS⟩, Hg⟩
  isplitl [HS]
  · iexists d; iexact HS
  iexact Hg

set_option backward.isDefEq.respectTransparency.types false in
/-- Every execution terminates, with the pipeline's arrays at what the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => inv_in m c) (hout := fun c => inv_out m c _)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: every execution terminates, the arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.FfnIdeal.Run

end
-- ==== Proof.FfnPoints.lean ====
/- Where the expert feed-forward kernel's blocks lie, and its two payloads at an index. -/
module

public import proofs.«01_k».proof.Proof.FfnRun
public import Idealize.ShloMosaic.Lib.Pipeline.ValueKit
public import Idealize.ShloMosaic.Lib.Pointwise

@[expose] public section

set_option maxRecDepth 16384

noncomputable section

namespace Cert.FfnIdeal.Network

open Cert.FfnIdeal.Gen Cert.FfnIdeal.Run
open Idealize.ShloMosaic Idealize.ShloMosaic.TcCoe Idealize.SL.Sem
open Idealize.ShloMosaic.Pipeline (Dat)

/-! ## Where the windows' blocks lie -/

/-- The tokens' block index at a point. -/
theorem index0 : ∀ t : Fin cfg0.N, win0_0.index t = ![t.val / 80, t.val / 16 % 5, 0] :=
  (by decide +kernel : ∀ t : Fin grid0.N, win0_0.index t = ![t.val / 80, t.val / 16 % 5, 0])
/-- The gates' block index at a point. -/
theorem index1 : ∀ t : Fin cfg0.N, win0_1.index t = ![t.val / 80, t.val / 16 % 5, 0] :=
  (by decide +kernel : ∀ t : Fin grid0.N, win0_1.index t = ![t.val / 80, t.val / 16 % 5, 0])
/-- The gate weights' block index at a point. -/
theorem index2 : ∀ t : Fin cfg0.N, win0_2.index t = ![0, t.val / 80, 0, min (t.val % 16) 7] :=
  (by decide +kernel : ∀ t : Fin grid0.N, win0_2.index t = ![0, t.val / 80, 0, min (t.val % 16) 7])
/-- The up weights' block index at a point. -/
theorem index3 : ∀ t : Fin cfg0.N, win0_3.index t = ![0, t.val / 80, 0, min (t.val % 16) 7] :=
  (by decide +kernel : ∀ t : Fin grid0.N, win0_3.index t = ![0, t.val / 80, 0, min (t.val % 16) 7])
/-- The down weights' block index at a point. -/
theorem index4 : ∀ t : Fin cfg0.N, win0_4.index t = ![0, t.val / 80, 0, t.val % 16 - 8] :=
  (by decide +kernel : ∀ t : Fin grid0.N, win0_4.index t = ![0, t.val / 80, 0, t.val % 16 - 8])
/-- The output's block index at a point. -/
theorem index5 : ∀ t : Fin cfg0.N, win0_5.index t = ![t.val / 80, t.val / 16 % 5, t.val % 16 - 8] :=
  (by decide +kernel : ∀ t : Fin grid0.N, win0_5.index t = ![t.val / 80, t.val / 16 % 5, t.val % 16 - 8])

/-- The output window is written back at output steps only. -/
theorem flush_output : ∀ t : Fin cfg0.N, (cfg0.win 5).flush t = true → 8 ≤ t.val % 16 :=
  (by decide +kernel : ∀ t : Fin grid0.N, (cfg0.win 5).flush t = true → 8 ≤ t.val % 16)

/-- The output blocks written back cover the output array. -/
theorem covers : (cfg0.win 5).Covers := by decide +kernel

/-! ## The payloads at an index -/

/-- A hidden step's slice at an index. -/
theorem pay1_apply (x : FVec Ideal S1x1024x2048 .bf16) (g u : FVec Ideal S1x1x2048x512 .f32) (a : Fin 1024) (b : Fin 512) :
    k0_pay1 (F := Ideal) x g u (ix2 a b)
      = (∑ d : Fin 2048, x (ix3 0 a d) * g (ix4 0 0 d b)) * Ideal.logistic (∑ d : Fin 2048, x (ix3 0 a d) * g (ix4 0 0 d b))
        * (∑ d : Fin 2048, x (ix3 0 a d) * u (ix4 0 0 d b)) := by
  pointwise [k0_pay1]

/-- An output step's block at an index. -/
theorem pay2_apply (h : FVec Ideal S1024x4096 .bf16) (w : FVec Ideal S1x1x4096x256 .f32) (g : FVec Ideal S1x1024x1 .f32) (a : Fin 1024) (b : Fin 256) :
    k0_pay2 (F := Ideal) h w g (ix3 0 a b) = (∑ k : Fin 4096, h (ix2 a k) * w (ix4 0 0 k b)) * g (ix3 0 a 0) := by
  pointwise [k0_pay2]

end Cert.FfnIdeal.Network

end
-- ==== Proof.FfnValue.lean ====
/- The value of the expert feed-forward kernel: the array it leaves is the gated two-layer network of its arguments. -/
module

public import proofs.«01_k».proof.Proof.FfnPoints
public import Idealize.ShloMosaic.Lib.Pipeline.ValueKit
public import Idealize.ShloMosaic.Lib.Pointwise

@[expose] public section

set_option maxRecDepth 16384

noncomputable section

namespace Cert.FfnIdeal.Network

open Cert.FfnIdeal.Gen Cert.FfnIdeal.Run
open Idealize.ShloMosaic Idealize.ShloMosaic.TcCoe Idealize.SL.Sem
open Idealize.ShloMosaic.Pipeline (Dat)

/-! ## The network -/

/-- Expert `e`'s hidden unit `k` at the expert's row `r`: the gate's logistic unit times the up projection. -/
def hiddenUnit (xe : FVec Ideal S16x5120x2048 .bf16) (wg wu : FVec Ideal S4x16x2048x4096 .f32) (e : Fin 16) (r : Fin 5120) (k : Fin 4096) : EReal :=
  (∑ d : Fin 2048, xe (ix3 e r d) * wg (ix4 0 e d k)) * Ideal.logistic (∑ d : Fin 2048, xe (ix3 e r d) * wg (ix4 0 e d k))
    * (∑ d : Fin 2048, xe (ix3 e r d) * wu (ix4 0 e d k))

/-- Expert `e`'s output at row `r` and column `n`, weighted by the row's gate. -/
def network (xe : FVec Ideal S16x5120x2048 .bf16) (gates : FVec Ideal S16x5120 .f32) (wg wu : FVec Ideal S4x16x2048x4096 .f32)
    (wd : FVec Ideal S4x16x4096x2048 .f32) : FVec Ideal S16x5120x2048 .bf16 := fun i =>
  (∑ k : Fin 4096, hiddenUnit xe wg wu (i 0) (i 1) k * wd (ix4 0 (i 0) k (i 2))) * gates (ix2 (i 0) (i 1))

variable (m : (ℓ : Loc nD τ sig) → Buf (Elt Ideal) ℓ) (ρ : Dev nD → PrngReg)

/-- The group's hidden activations are the network's hidden units at the group's expert and rows. -/
theorem hid_apply (c : Dev nD) (g : ℕ) (hg : g < 80) (a : Fin 1024) (k : Fin 4096) :
    hid m c g (ix2 a k) = hiddenUnit (m ((c.tc : Thread nD τ).loc main_arg0)) (m ((c.tc : Thread nD τ).loc main_arg2)) (m ((c.tc : Thread nD τ).loc main_arg3))
      ⟨g / 5, by omega⟩ ⟨g % 5 * 1024 + a.val, by omega⟩ k := by
  have hk : k.val / 512 < 8 := by omega
  have hp : (pt (16 * g + k.val / 512)).val = 16 * g + k.val / 512 := Nat.mod_eq_of_lt (by omega)
  show k0_pay1 (F := Ideal) (iblk m c 0 (pt (16 * g + k.val / 512))) (iblk m c 2 (pt (16 * g + k.val / 512))) (iblk m c 3 (pt (16 * g + k.val / 512))) (inSlice (ix2 a k)) = _
  rw [show inSlice (ix2 a k) = ix2 a ⟨k.val % 512, Nat.mod_lt _ (by decide)⟩ from by
    funext i; match i with | ⟨0, _⟩ => rfl | ⟨1, _⟩ => rfl]
  rw [pay1_apply]
  have e0 : ∀ d : Fin 2048, iblk m c 0 (pt (16 * g + k.val / 512)) (ix3 0 a d)
      = m ((c.tc : Thread nD τ).loc main_arg0) (ix3 ⟨g / 5, by omega⟩ ⟨g % 5 * 1024 + a.val, by omega⟩ d) := by
    intro d
    blk_simp [iblk, index0]
    rw [V_main_arg0]
    congr 1
    blk_ext [index0, hp]
  have e2 : ∀ d : Fin 2048, iblk m c 2 (pt (16 * g + k.val / 512)) (ix4 0 0 d ⟨k.val % 512, Nat.mod_lt _ (by decide)⟩)
      = m ((c.tc : Thread nD τ).loc main_arg2) (ix4 0 ⟨g / 5, by omega⟩ d k) := by
    intro d
    blk_simp [iblk, index2]
    rw [V_main_arg2]
    congr 1
    blk_ext [index2, hp]
  have e3 : ∀ d : Fin 2048, iblk m c 3 (pt (16 * g + k.val / 512)) (ix4 0 0 d ⟨k.val % 512, Nat.mod_lt _ (by decide)⟩)
      = m ((c.tc : Thread nD τ).loc main_arg3) (ix4 0 ⟨g / 5, by omega⟩ d k) := by
    intro d
    blk_simp [iblk, index3]
    rw [V_main_arg3]
    congr 1
    blk_ext [index3, hp]
  unfold hiddenUnit
  simp only [e0, e2, e3]

/-- What the kernel leaves in the output array is the network of its arguments. -/
theorem final (c : Dev nD) : (dats m 0 c).arrAt 5 cfg0.N
    = network (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  refine (dats m 0 c).arrAt_eq_of_covers 5 _ covers fun t hf y => ?_
  have ht := flush_output t hf
  have hN : t.val < 1280 := lt_of_lt_of_eq t.isLt (show cfg0.N = 1280 from N_0)
  blk_simp
  rw [after_5]
  obtain ⟨a, r, n, rfl⟩ : ∃ (a : Fin 1) (r : Fin 1024) (n : Fin 256), y = ix3 a r n := ⟨y 0, y 1, y 2, eq_ix3 y⟩
  obtain rfl : a = 0 := Subsingleton.elim _ _
  rw [pay2_apply]
  have ei : (win0_5.blk t).view.emb (ix3 0 r n) = ix3 (⟨t.val / 80, by omega⟩ : Fin 16) (⟨t.val / 16 % 5 * 1024 + r.val, by omega⟩ : Fin 5120)
      (⟨(t.val % 16 - 8) * 256 + n.val, by omega⟩ : Fin 2048) := by
    blk_ext [index5]
  have e4 : ∀ k : Fin 4096, iblk m c 4 t (ix4 0 0 k n)
      = m ((c.tc : Thread nD τ).loc main_arg4) (ix4 0 ⟨t.val / 80, by omega⟩ k ⟨(t.val % 16 - 8) * 256 + n.val, by omega⟩) := by
    intro k
    blk_simp [iblk, index4]
    rw [V_main_arg4]
    congr 1
    blk_ext [index4]
  have e1 : iblk m c 1 t (ix3 0 r 0)
      = m ((c.tc : Thread nD τ).loc main_arg1) (ix2 ⟨t.val / 80, by omega⟩ ⟨t.val / 16 % 5 * 1024 + r.val, by omega⟩) := by
    blk_simp [iblk, index1]
    entry_read
    rw [show (win0_1.blk t).view.emb (ix3 0 r 0) = ix3 (⟨t.val / 80, by omega⟩ : Fin 16) (⟨t.val / 16 % 5 * 1024 + r.val, by omega⟩ : Fin 5120) (0 : Fin 1) from by
      blk_ext [index1]]
    pointwise
  rw [e1, ei]
  unfold network
  simp only [e4, hid_apply m c (t.val / 16) (by omega), Nat.div_div_eq_div_mul]
  rfl

/-- The run, read: the output array at the network of the arguments, the arguments unchanged. -/
theorem run_network : θ_run defs (onTc (τ := τ) (main (F := Ideal))) ⟨m, fun _ => 0, ρ⟩ fun r => ∀ c : Dev nD,
      r.2.mem ((c.tc : Thread nD τ).loc main_v1)
        = network (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨h.1 c, h.2 c⟩)
    (θ_run_and (Q₁ := fun r => ∀ c : Dev nD, r.2.mem ((c.tc : Thread nD τ).loc main_v1) = _)
      ((θ_run defs _ _).mono (fun _ h c => ((h c).1 5).trans (final m c)) (run_main m ρ)) (frame_of m ρ (dats m) (A_eq m) (run_main m ρ)))

end Cert.FfnIdeal.Network

end
-- ==== Proof.FfnClaims.lean ====
/- The claims about the expert feed-forward kernel. -/
module

public import proofs.«01_k».proof.Defs
public import proofs.«01_k».proof.Proof.FfnValue
public import proofs.«01_k».proof.Proof.Gen.Ffn
public import proofs.«01_k».proof.Proof.Gen.FfnReferenceIdeal.Run
public import Idealize.ShloMosaic.Lib.Quiescent

@[expose] public section

set_option maxRecDepth 16384

noncomputable section

open Idealize.ShloMosaic Idealize.ShloMosaic.TcCoe Idealize.SL.Sem

namespace Cert.Proof.FfnClaims

/-- The compiled program's kernel bodies are the ideal program's. -/
theorem bodies_eq : Cert.Ffn.defs₀ (F := Bits) = Cert.FfnIdeal.defs₀ (F := Bits) := by
  refine congrArg (Defs.onTc (nD := Cert.Ffn.nD)) (funext fun l => funext fun a => ?_)
  match l, a with
  | 0, (_, _) => rfl
  | ⟨_ + 1, h⟩, _ => exact absurd h (Nat.not_lt.2 (Nat.le_add_left _ _))

/-- So its whole table of bodies is the ideal program's. -/
theorem table_eq : Cert.Ffn.defs (F := Bits) = Cert.FfnIdeal.defs (F := Bits) :=
  congrArg (Pipeline.defs Cert.Ffn.pcfgs) bodies_eq

/-- The compiled kernel terminates with its arguments unchanged and every counter at zero: its text is the ideal
one's, so the run over any float values gives it. -/
theorem frame_kernel : Cert.quiescent_Ffn := fun m ρ _ => by
  rw [table_eq]
  exact Cert.FfnIdeal.Run.frame (F := Bits) m ρ

/-- So does the kernel read on the extended reals. -/
theorem frame_ideal : Cert.quiescent_FfnIdeal := fun m ρ _ => Cert.FfnIdeal.Run.frame m ρ

/-- So does the reference: it is host operations only. -/
theorem frame_reference : Cert.quiescent_FfnReferenceIdeal := fun m ρ _ =>
  (θ_run Cert.FfnReferenceIdeal.defs _ _).mono (fun r h => ⟨fun c => (h c).2,
      Idealize.ShloMosaic.sem_eq_zero_of_no_sems (by decide) r.2⟩)
    (Cert.FfnReferenceIdeal.Value.run (F := Ideal) m ρ)

/-- The ideal program is the compiled one. -/
theorem preserves : Cert.preserves_Ffn_FfnIdeal := trivial

/-- On the extended reals the kernel's array is the reference's. -/
theorem algebraic : Cert.algebraic_FfnIdeal_FfnReferenceIdeal := by
  intro m ρ m' ρ' _ hagree
  refine ⟨fun c => Cert.FfnIdeal.Network.network _ _ _ _ _, Cert.FfnIdeal.Network.run_network m ρ, ?_⟩
  refine (θ_run Cert.FfnReferenceIdeal.defs _ _).mono (fun _ h c => ⟨(h c).1.trans ?_, (h c).2⟩)
    (Cert.FfnReferenceIdeal.Value.run (F := Ideal) m' ρ')
  obtain ⟨h0, h1, h2, h3, h4⟩ := hagree c
  rw [h0, h1, h2, h3, h4]
  funext i
  obtain ⟨e, r, n, rfl⟩ : ∃ (e : Fin 16) (r : Fin 5120) (n : Fin 2048), i = ix3 e r n := ⟨i 0, i 1, i 2, eq_ix3 i⟩
  pointwise [Cert.FfnIdeal.Network.network, Cert.FfnIdeal.Network.hiddenUnit]
  simp only [Ideal.logistic]

end Cert.Proof.FfnClaims

end
-- ==== Proof.ProjectClaims.lean ====
/- The claims about the norm joined with the layer's input projections. -/
module

public import proofs.«01_k».proof.Defs
public import proofs.«01_k».proof.Proof.Norm
public import proofs.«01_k».proof.Proof.Gen.Project
public import proofs.«01_k».proof.Proof.Gen.ProjectIdeal.Value
public import proofs.«01_k».proof.Proof.Gen.ProjectReferenceIdeal.Run
public import Idealize.ShloMosaic.Lib.Quiescent
public import Idealize.ShloMosaic.Lib.Pipeline.ValueKit
public import Idealize.ShloMosaic.Lib.Pointwise

@[expose] public section

set_option maxRecDepth 16384

noncomputable section

namespace Cert.ProjectIdeal.Projection

open Cert.ProjectIdeal.Gen Cert.ProjectIdeal.Value
open Idealize.ShloMosaic Idealize.ShloMosaic.TcCoe Idealize.SL.Sem
open Idealize.ShloMosaic.Pipeline (Dat)

/-- The residual rows' block index at a point. -/
theorem index0 : ∀ t : Fin cfg0.N, win0_0.index t = ![t.val, 0] :=
  (by decide +kernel : ∀ t : Fin grid0.N, win0_0.index t = ![t.val, 0])
/-- The gain's block index at a point. -/
theorem index1 : ∀ t : Fin cfg0.N, win0_1.index t = ![0, 0] :=
  (by decide +kernel : ∀ t : Fin grid0.N, win0_1.index t = ![0, 0])
/-- The weights' block index at a point. -/
theorem index2 : ∀ t : Fin cfg0.N, win0_2.index t = ![0, 0] :=
  (by decide +kernel : ∀ t : Fin grid0.N, win0_2.index t = ![0, 0])
/-- The output's block index at a point. -/
theorem index3 : ∀ t : Fin cfg0.N, win0_3.index t = ![t.val, 0] :=
  (by decide +kernel : ∀ t : Fin grid0.N, win0_3.index t = ![t.val, 0])
/-- The output blocks cover the output array. -/
theorem covers : (cfg0.win 3).Covers := by decide +kernel

/-- The body's block at an index: the normed row against the weights' column. -/
theorem pay_apply (x : FVec Ideal S512x2048 .f32) (g : FVec Ideal S1x2048 .f32) (w : FVec Ideal S2048x3584 .bf16) (a : Fin 512) (n : Fin 3584) :
    k0_pay1 (F := Ideal) x g w (ix2 a n)
      = ∑ d : Fin 2048, Cert.Norm.rms (fun k => x (ix2 a k)) (fun k => g (ix2 0 k)) d * w (ix2 d n) := by
  pointwise [k0_pay1, Cert.Norm.rms]

/-- The normed rows against the weights. -/
def product (x : FVec Ideal S40960x2048 .f32) (g : FVec Ideal S2048 .f32) (w : FVec Ideal S2048x3584 .f32) : FVec Ideal S40960x3584 .bf16 := fun i =>
  ∑ d : Fin 2048, Cert.Norm.rms (fun k => x (ix2 (i 0) k)) (fun k => g (ix1 k)) d * w (ix2 d (i 1))

variable (m : (ℓ : Loc nD τ sig) → Buf (Elt Ideal) ℓ) (ρ : Dev nD → PrngReg)

/-- What the kernel leaves in the output array. -/
theorem final (c : Dev nD) : (dats m 0 c).arrAt 3 cfg0.N
    = product (m ((c.tc : Thread nD τ).loc main_arg0)) (m ((c.tc : Thread nD τ).loc main_arg1)) (m ((c.tc : Thread nD τ).loc main_arg2)) := by
  refine (dats m 0 c).arrAt_eq_of_covers 3 _ covers fun t hf y => ?_
  have hN : t.val < 80 := lt_of_lt_of_eq t.isLt (show cfg0.N = 80 from N_0)
  blk_simp
  rw [after0_3]
  frame_out
  obtain ⟨r, n, rfl⟩ : ∃ (r : Fin 512) (n : Fin 3584), y = ix2 r n := ⟨y 0, y 1, eq_ix2 y⟩
  have ei : (win0_3.blk t).view.emb (ix2 r n) = ix2 (⟨t.val * 512 + r.val, by omega⟩ : Fin 40960) n := by
    blk_ext [index3]
  have e0 : ∀ k : Fin 2048, iblk m c 0 t (ix2 r k)
      = m ((c.tc : Thread nD τ).loc main_arg0) (ix2 ⟨t.val * 512 + r.val, by omega⟩ k) := by
    intro k
    blk_simp [iblk, index0]
    rw [V_main_arg0]
    congr 1
    blk_ext [index0]
  have e1 : ∀ k : Fin 2048, iblk m c 1 t (ix2 0 k) = m ((c.tc : Thread nD τ).loc main_arg1) (ix1 k) := by
    intro k
    blk_simp [iblk, index1]
    entry_read
    rw [show (win0_1.blk t).view.emb (ix2 0 k) = ix2 (0 : Fin 1) k from by blk_ext [index1]]
    pointwise
  have e2 : ∀ d : Fin 2048, iblk m c 2 t (ix2 d n) = m ((c.tc : Thread nD τ).loc main_arg2) (ix2 d n) := by
    intro d
    blk_simp [iblk, index2]
    entry_read
    rw [show (win0_2.blk t).view.emb (ix2 d n) = ix2 d n from by blk_ext [index2]]
    pointwise
  rw [pay_apply, ei]
  unfold product
  simp only [e0, e1, e2]
  rfl

/-- The run, read: the output array at the product, the arguments unchanged. -/
theorem run_product : θ_run defs (onTc (τ := τ) (main (F := Ideal))) ⟨m, fun _ => 0, ρ⟩ fun r => ∀ c : Dev nD,
      r.2.mem ((c.tc : Thread nD τ).loc main_v2)
        = product (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final m c), (h c).2⟩) (run_blocks m ρ)

end Cert.ProjectIdeal.Projection

namespace Cert.Proof.ProjectClaims

open Idealize.ShloMosaic Idealize.ShloMosaic.TcCoe Idealize.SL.Sem

/-- The compiled program's kernel bodies are the ideal program's. -/
theorem bodies_eq : Cert.Project.defs₀ (F := Bits) = Cert.ProjectIdeal.defs₀ (F := Bits) := by
  refine congrArg (Defs.onTc (nD := Cert.Project.nD)) (funext fun l => funext fun a => ?_)
  match l, a with
  | 0, (_, _) => rfl
  | ⟨_ + 1, h⟩, _ => exact absurd h (Nat.not_lt.2 (Nat.le_add_left _ _))

/-- So its whole table of bodies is the ideal program's. -/
theorem table_eq : Cert.Project.defs (F := Bits) = Cert.ProjectIdeal.defs (F := Bits) :=
  congrArg (Pipeline.defs Cert.Project.pcfgs) bodies_eq

/-- The compiled kernel terminates with its arguments unchanged and every counter at zero: its text is the ideal
one's, so the run over any float values gives it. -/
theorem frame_kernel : Cert.quiescent_Project := fun m ρ _ => by
  rw [table_eq]
  exact Cert.ProjectIdeal.Gen.frame (F := Bits) m ρ

/-- So does the kernel read on the extended reals. -/
theorem frame_ideal : Cert.quiescent_ProjectIdeal := fun m ρ _ => Cert.ProjectIdeal.Gen.frame m ρ

/-- So does the reference: it is host operations only. -/
theorem frame_reference : Cert.quiescent_ProjectReferenceIdeal := fun m ρ _ =>
  (θ_run Cert.ProjectReferenceIdeal.defs _ _).mono (fun r h => ⟨fun c => (h c).2,
      Idealize.ShloMosaic.sem_eq_zero_of_no_sems (by decide) r.2⟩)
    (Cert.ProjectReferenceIdeal.Value.run (F := Ideal) m ρ)

/-- The ideal program is the compiled one. -/
theorem preserves : Cert.preserves_Project_ProjectIdeal := trivial

/-- On the extended reals the kernel's array is the reference's. -/
theorem algebraic : Cert.algebraic_ProjectIdeal_ProjectReferenceIdeal := by
  intro m ρ m' ρ' _ hagree
  refine ⟨fun c => Cert.ProjectIdeal.Projection.product _ _ _, Cert.ProjectIdeal.Projection.run_product m ρ, ?_⟩
  refine (θ_run Cert.ProjectReferenceIdeal.defs _ _).mono (fun _ h c => ⟨(h c).1.trans ?_, (h c).2⟩)
    (Cert.ProjectReferenceIdeal.Value.run (F := Ideal) m' ρ')
  obtain ⟨h0, h1, h2⟩ := hagree c
  rw [h0, h1, h2]
  funext i
  obtain ⟨r, n, rfl⟩ : ∃ (r : Fin 40960) (n : Fin 3584), i = ix2 r n := ⟨i 0, i 1, eq_ix2 i⟩
  pointwise [Cert.ProjectIdeal.Projection.product, Cert.Norm.rms]

end Cert.Proof.ProjectClaims

end
-- ==== Proof.PromptClaims.lean ====
/- The claims about the final norm of the prompt's rows. -/
module

public import proofs.«01_k».proof.Defs
public import proofs.«01_k».proof.Proof.Norm
public import proofs.«01_k».proof.Proof.Gen.Prompt
public import proofs.«01_k».proof.Proof.Gen.PromptIdeal.Value
public import proofs.«01_k».proof.Proof.Gen.PromptReferenceIdeal.Run
public import Idealize.ShloMosaic.Lib.Quiescent
public import Idealize.ShloMosaic.Lib.Pipeline.ValueKit
public import Idealize.ShloMosaic.Lib.Pointwise

@[expose] public section

set_option maxRecDepth 16384

noncomputable section

namespace Cert.PromptIdeal.Final

open Cert.PromptIdeal.Gen Cert.PromptIdeal.Value
open Idealize.ShloMosaic Idealize.ShloMosaic.TcCoe Idealize.SL.Sem
open Idealize.ShloMosaic.Pipeline (Dat)

/-- The residual rows' block index at a point. -/
theorem index0 : ∀ t : Fin cfg0.N, win0_0.index t = ![t.val + 0, 0] :=
  (by decide +kernel : ∀ t : Fin grid0.N, win0_0.index t = ![t.val + 0, 0])
/-- The gain's block index at a point. -/
theorem index1 : ∀ t : Fin cfg0.N, win0_1.index t = ![0, 0] :=
  (by decide +kernel : ∀ t : Fin grid0.N, win0_1.index t = ![0, 0])
/-- The output's block index at a point. -/
theorem index2 : ∀ t : Fin cfg0.N, win0_2.index t = ![t.val, 0] :=
  (by decide +kernel : ∀ t : Fin grid0.N, win0_2.index t = ![t.val, 0])
/-- The output blocks cover the output array. -/
theorem covers : (cfg0.win 2).Covers := by decide +kernel

/-- The body's block at an index: the norm of the row. -/
theorem pay_apply (x : FVec Ideal S1024x2048 .f32) (g : FVec Ideal S1x2048 .f32) (a : Fin 1024) (d : Fin 2048) :
    k0_pay1 (F := Ideal) x g (ix2 a d) = Cert.Norm.rms (fun k => x (ix2 a k)) (fun k => g (ix2 0 k)) d := by
  pointwise [k0_pay1, Cert.Norm.rms]

/-- The normed prompt's rows. -/
def rows (x : FVec Ideal S40960x2048 .f32) (g : FVec Ideal S2048 .f32) : FVec Ideal S8192x2048 .f32 := fun i =>
  Cert.Norm.rms (fun k => x (ix2 ⟨0 + (i 0).val, by have h : (i 0).val < 8192 := (i 0).isLt; omega⟩ k)) (fun k => g (ix1 k)) (i 1)

variable (m : (ℓ : Loc nD τ sig) → Buf (Elt Ideal) ℓ) (ρ : Dev nD → PrngReg)

/-- What the kernel leaves in the output array. -/
theorem final (c : Dev nD) : (dats m 0 c).arrAt 2 cfg0.N
    = rows (m ((c.tc : Thread nD τ).loc main_arg0)) (m ((c.tc : Thread nD τ).loc main_arg1)) := by
  refine (dats m 0 c).arrAt_eq_of_covers 2 _ covers fun t hf y => ?_
  have hN : t.val < 8 := lt_of_lt_of_eq t.isLt (show cfg0.N = 8 from N_0)
  blk_simp
  rw [after0_2]
  frame_out
  obtain ⟨r, d, rfl⟩ : ∃ (r : Fin 1024) (d : Fin 2048), y = ix2 r d := ⟨y 0, y 1, eq_ix2 y⟩
  have ei : (win0_2.blk t).view.emb (ix2 r d) = ix2 (⟨t.val * 1024 + r.val, by omega⟩ : Fin 8192) d := by
    blk_ext [index2]
  have e0 : ∀ k : Fin 2048, iblk m c 0 t (ix2 r k)
      = m ((c.tc : Thread nD τ).loc main_arg0) (ix2 ⟨0 + (t.val * 1024 + r.val), by omega⟩ k) := by
    intro k
    blk_simp [iblk, index0]
    rw [V_main_arg0]
    congr 1
    blk_ext [index0]
  have e1 : ∀ k : Fin 2048, iblk m c 1 t (ix2 0 k) = m ((c.tc : Thread nD τ).loc main_arg1) (ix1 k) := by
    intro k
    blk_simp [iblk, index1]
    entry_read
    rw [show (win0_1.blk t).view.emb (ix2 0 k) = ix2 (0 : Fin 1) k from by blk_ext [index1]]
    pointwise
  rw [pay_apply, ei]
  unfold rows
  simp only [e0, e1]
  rfl

/-- The run, read: the output array at the normed rows, the arguments unchanged. -/
theorem run_rows : θ_run defs (onTc (τ := τ) (main (F := Ideal))) ⟨m, fun _ => 0, ρ⟩ fun r => ∀ c : Dev nD,
      r.2.mem ((c.tc : Thread nD τ).loc main_v1) = rows (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (run_blocks m ρ)

end Cert.PromptIdeal.Final

namespace Cert.Proof.PromptClaims

open Idealize.ShloMosaic Idealize.ShloMosaic.TcCoe Idealize.SL.Sem

/-- The compiled program's kernel bodies are the ideal program's. -/
theorem bodies_eq : Cert.Prompt.defs₀ (F := Bits) = Cert.PromptIdeal.defs₀ (F := Bits) := by
  refine congrArg (Defs.onTc (nD := Cert.Prompt.nD)) (funext fun l => funext fun a => ?_)
  match l, a with
  | 0, (_, _) => rfl
  | ⟨_ + 1, h⟩, _ => exact absurd h (Nat.not_lt.2 (Nat.le_add_left _ _))

/-- So its whole table of bodies is the ideal program's. -/
theorem table_eq : Cert.Prompt.defs (F := Bits) = Cert.PromptIdeal.defs (F := Bits) :=
  congrArg (Pipeline.defs Cert.Prompt.pcfgs) bodies_eq

/-- The compiled kernel terminates with its arguments unchanged and every counter at zero: its text is the ideal
one's, so the run over any float values gives it. -/
theorem frame_kernel : Cert.quiescent_Prompt := fun m ρ _ => by
  rw [table_eq]
  exact Cert.PromptIdeal.Gen.frame (F := Bits) m ρ

/-- So does the kernel read on the extended reals. -/
theorem frame_ideal : Cert.quiescent_PromptIdeal := fun m ρ _ => Cert.PromptIdeal.Gen.frame m ρ

/-- So does the reference: it is host operations only. -/
theorem frame_reference : Cert.quiescent_PromptReferenceIdeal := fun m ρ _ =>
  (θ_run Cert.PromptReferenceIdeal.defs _ _).mono (fun r h => ⟨fun c => (h c).2,
      Idealize.ShloMosaic.sem_eq_zero_of_no_sems (by decide) r.2⟩)
    (Cert.PromptReferenceIdeal.Value.run (F := Ideal) m ρ)

/-- The ideal program is the compiled one. -/
theorem preserves : Cert.preserves_Prompt_PromptIdeal := trivial

/-- On the extended reals the kernel's array is the reference's. -/
theorem algebraic : Cert.algebraic_PromptIdeal_PromptReferenceIdeal := by
  intro m ρ m' ρ' _ hagree
  refine ⟨fun c => Cert.PromptIdeal.Final.rows _ _, Cert.PromptIdeal.Final.run_rows m ρ, ?_⟩
  refine (θ_run Cert.PromptReferenceIdeal.defs _ _).mono (fun _ h c => ⟨(h c).1.trans ?_, (h c).2⟩)
    (Cert.PromptReferenceIdeal.Value.run (F := Ideal) m' ρ')
  obtain ⟨h0, h1⟩ := hagree c
  rw [h0, h1]
  funext i
  obtain ⟨r, d, rfl⟩ : ∃ (r : Fin 8192) (d : Fin 2048), i = ix2 r d := ⟨i 0, i 1, eq_ix2 i⟩
  pointwise [Cert.PromptIdeal.Final.rows, Cert.Norm.rms]

end Cert.Proof.PromptClaims

end
-- ==== Proof.SampleClaims.lean ====
/- The claims about the final norm of the samples' rows. -/
module

public import proofs.«01_k».proof.Defs
public import proofs.«01_k».proof.Proof.Norm
public import proofs.«01_k».proof.Proof.Gen.Sample
public import proofs.«01_k».proof.Proof.Gen.SampleIdeal.Value
public import proofs.«01_k».proof.Proof.Gen.SampleReferenceIdeal.Run
public import Idealize.ShloMosaic.Lib.Quiescent
public import Idealize.ShloMosaic.Lib.Pipeline.ValueKit
public import Idealize.ShloMosaic.Lib.Pointwise

@[expose] public section

set_option maxRecDepth 16384

noncomputable section

namespace Cert.SampleIdeal.Final

open Cert.SampleIdeal.Gen Cert.SampleIdeal.Value
open Idealize.ShloMosaic Idealize.ShloMosaic.TcCoe Idealize.SL.Sem
open Idealize.ShloMosaic.Pipeline (Dat)

/-- The residual rows' block index at a point. -/
theorem index0 : ∀ t : Fin cfg0.N, win0_0.index t = ![t.val + 8, 0] :=
  (by decide +kernel : ∀ t : Fin grid0.N, win0_0.index t = ![t.val + 8, 0])
/-- The gain's block index at a point. -/
theorem index1 : ∀ t : Fin cfg0.N, win0_1.index t = ![0, 0] :=
  (by decide +kernel : ∀ t : Fin grid0.N, win0_1.index t = ![0, 0])
/-- The output's block index at a point. -/
theorem index2 : ∀ t : Fin cfg0.N, win0_2.index t = ![t.val, 0] :=
  (by decide +kernel : ∀ t : Fin grid0.N, win0_2.index t = ![t.val, 0])
/-- The output blocks cover the output array. -/
theorem covers : (cfg0.win 2).Covers := by decide +kernel

/-- The body's block at an index: the norm of the row. -/
theorem pay_apply (x : FVec Ideal S1024x2048 .f32) (g : FVec Ideal S1x2048 .f32) (a : Fin 1024) (d : Fin 2048) :
    k0_pay1 (F := Ideal) x g (ix2 a d) = Cert.Norm.rms (fun k => x (ix2 a k)) (fun k => g (ix2 0 k)) d := by
  pointwise [k0_pay1, Cert.Norm.rms]

/-- The normed samples' rows. -/
def rows (x : FVec Ideal S40960x2048 .f32) (g : FVec Ideal S2048 .f32) : FVec Ideal S32768x2048 .f32 := fun i =>
  Cert.Norm.rms (fun k => x (ix2 ⟨8192 + (i 0).val, by have h : (i 0).val < 32768 := (i 0).isLt; omega⟩ k)) (fun k => g (ix1 k)) (i 1)

variable (m : (ℓ : Loc nD τ sig) → Buf (Elt Ideal) ℓ) (ρ : Dev nD → PrngReg)

/-- What the kernel leaves in the output array. -/
theorem final (c : Dev nD) : (dats m 0 c).arrAt 2 cfg0.N
    = rows (m ((c.tc : Thread nD τ).loc main_arg0)) (m ((c.tc : Thread nD τ).loc main_arg1)) := by
  refine (dats m 0 c).arrAt_eq_of_covers 2 _ covers fun t hf y => ?_
  have hN : t.val < 32 := lt_of_lt_of_eq t.isLt (show cfg0.N = 32 from N_0)
  blk_simp
  rw [after0_2]
  frame_out
  obtain ⟨r, d, rfl⟩ : ∃ (r : Fin 1024) (d : Fin 2048), y = ix2 r d := ⟨y 0, y 1, eq_ix2 y⟩
  have ei : (win0_2.blk t).view.emb (ix2 r d) = ix2 (⟨t.val * 1024 + r.val, by omega⟩ : Fin 32768) d := by
    blk_ext [index2]
  have e0 : ∀ k : Fin 2048, iblk m c 0 t (ix2 r k)
      = m ((c.tc : Thread nD τ).loc main_arg0) (ix2 ⟨8192 + (t.val * 1024 + r.val), by omega⟩ k) := by
    intro k
    blk_simp [iblk, index0]
    rw [V_main_arg0]
    congr 1
    blk_ext [index0]
  have e1 : ∀ k : Fin 2048, iblk m c 1 t (ix2 0 k) = m ((c.tc : Thread nD τ).loc main_arg1) (ix1 k) := by
    intro k
    blk_simp [iblk, index1]
    entry_read
    rw [show (win0_1.blk t).view.emb (ix2 0 k) = ix2 (0 : Fin 1) k from by blk_ext [index1]]
    pointwise
  rw [pay_apply, ei]
  unfold rows
  simp only [e0, e1]
  rfl

/-- The run, read: the output array at the normed rows, the arguments unchanged. -/
theorem run_rows : θ_run defs (onTc (τ := τ) (main (F := Ideal))) ⟨m, fun _ => 0, ρ⟩ fun r => ∀ c : Dev nD,
      r.2.mem ((c.tc : Thread nD τ).loc main_v1) = rows (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (run_blocks m ρ)

end Cert.SampleIdeal.Final

namespace Cert.Proof.SampleClaims

open Idealize.ShloMosaic Idealize.ShloMosaic.TcCoe Idealize.SL.Sem

/-- The compiled program's kernel bodies are the ideal program's. -/
theorem bodies_eq : Cert.Sample.defs₀ (F := Bits) = Cert.SampleIdeal.defs₀ (F := Bits) := by
  refine congrArg (Defs.onTc (nD := Cert.Sample.nD)) (funext fun l => funext fun a => ?_)
  match l, a with
  | 0, (_, _) => rfl
  | ⟨_ + 1, h⟩, _ => exact absurd h (Nat.not_lt.2 (Nat.le_add_left _ _))

/-- So its whole table of bodies is the ideal program's. -/
theorem table_eq : Cert.Sample.defs (F := Bits) = Cert.SampleIdeal.defs (F := Bits) :=
  congrArg (Pipeline.defs Cert.Sample.pcfgs) bodies_eq

/-- The compiled kernel terminates with its arguments unchanged and every counter at zero: its text is the ideal
one's, so the run over any float values gives it. -/
theorem frame_kernel : Cert.quiescent_Sample := fun m ρ _ => by
  rw [table_eq]
  exact Cert.SampleIdeal.Gen.frame (F := Bits) m ρ

/-- So does the kernel read on the extended reals. -/
theorem frame_ideal : Cert.quiescent_SampleIdeal := fun m ρ _ => Cert.SampleIdeal.Gen.frame m ρ

/-- So does the reference: it is host operations only. -/
theorem frame_reference : Cert.quiescent_SampleReferenceIdeal := fun m ρ _ =>
  (θ_run Cert.SampleReferenceIdeal.defs _ _).mono (fun r h => ⟨fun c => (h c).2,
      Idealize.ShloMosaic.sem_eq_zero_of_no_sems (by decide) r.2⟩)
    (Cert.SampleReferenceIdeal.Value.run (F := Ideal) m ρ)

/-- The ideal program is the compiled one. -/
theorem preserves : Cert.preserves_Sample_SampleIdeal := trivial

/-- On the extended reals the kernel's array is the reference's. -/
theorem algebraic : Cert.algebraic_SampleIdeal_SampleReferenceIdeal := by
  intro m ρ m' ρ' _ hagree
  refine ⟨fun c => Cert.SampleIdeal.Final.rows _ _, Cert.SampleIdeal.Final.run_rows m ρ, ?_⟩
  refine (θ_run Cert.SampleReferenceIdeal.defs _ _).mono (fun _ h c => ⟨(h c).1.trans ?_, (h c).2⟩)
    (Cert.SampleReferenceIdeal.Value.run (F := Ideal) m' ρ')
  obtain ⟨h0, h1⟩ := hagree c
  rw [h0, h1]
  funext i
  obtain ⟨r, d, rfl⟩ : ∃ (r : Fin 32768) (d : Fin 2048), i = ix2 r d := ⟨i 0, i 1, eq_ix2 i⟩
  pointwise [Cert.SampleIdeal.Final.rows, Cert.Norm.rms]

end Cert.Proof.SampleClaims

end
-- ==== Proof.MixRow.lean ====
/- One row of the residual stream through the mixers' output projection, the memory cross-attention, the feed-forward's norm
and the router, on the extended reals, and the kernel's payloads read as that. -/
module

public import proofs.«01_k».proof.Proof.Norm
public import proofs.«01_k».proof.Proof.Gen.MixIdeal.Value
public import Idealize.ShloMosaic.Lib.Pipeline.ValueKit
public import Idealize.ShloMosaic.Lib.Pointwise

@[expose] public section

set_option maxRecDepth 16384

noncomputable section

namespace Cert.MixIdeal.Row

open Cert.MixIdeal.Gen
open Idealize.ShloMosaic

/-! ## The row -/

/-- The softmax of `n` numbers at position `j`. -/
def softmax {n : ℕ} (s : Fin n → EReal) (j : Fin n) : EReal :=
  Ideal.div (Ideal.exp (s j - Finset.univ.fold max ⊥ s)) (∑ k : Fin n, Ideal.exp (s k - Finset.univ.fold max ⊥ s))

/-- The row after the mixers: their three results laid side by side, against the output projection. -/
def mixed (x : Fin 2048 → EReal) (a f : Fin 512 → EReal) (c : Fin 1024 → EReal) (w : Fin 2048 → Fin 2048 → EReal) (n : Fin 2048) : EReal :=
  x n + ((∑ k : Fin 512, a k * w ⟨k.val, by omega⟩ n) + (∑ k : Fin 512, f k * w ⟨512 + k.val, by omega⟩ n)
    + ∑ k : Fin 1024, c k * w ⟨1024 + k.val, by omega⟩ n)

/-- The row's queries. -/
def query (x g : Fin 2048 → EReal) (w : Fin 2048 → Fin 512 → EReal) (n : Fin 512) : EReal :=
  ∑ d : Fin 2048, Cert.Norm.rms x g d * w d n

/-- Head `h`'s scaled score of memory row `j`. -/
def score (q : Fin 512 → EReal) (kv : Fin 256 → Fin 1024 → EReal) (h : Fin 4) (j : Fin 256) : EReal :=
  (∑ d : Fin 128, q ⟨h.val * 128 + d.val, by omega⟩ * kv j ⟨h.val * 128 + d.val, by omega⟩) * Ideal.ofBits .f32 0x3DB504F3#32

/-- What head `h` reads from the memory, column `d`. -/
def recall (q : Fin 512 → EReal) (kv : Fin 256 → Fin 1024 → EReal) (h : Fin 4) (d : Fin 128) : EReal :=
  ∑ j : Fin 256, softmax (score q kv h) j * kv j ⟨512 + h.val * 128 + d.val, by omega⟩

/-- The row after the cross-attention. -/
def attended (x : Fin 2048 → EReal) (q : Fin 512 → EReal) (kv : Fin 256 → Fin 1024 → EReal) (w : Fin 512 → Fin 2048 → EReal) (n : Fin 2048) : EReal :=
  x n + ∑ k : Fin 512, recall q kv ⟨k.val / 128, by omega⟩ ⟨k.val % 128, Nat.mod_lt _ (by decide)⟩ * w k n

/-- The row's router probabilities. -/
def affinity (h : Fin 2048 → EReal) (w : Fin 2048 → Fin 16 → EReal) : Fin 16 → EReal :=
  softmax fun e => ∑ d : Fin 2048, h d * w d e

/-! ## The payloads -/

/-- The residual after the mixers. -/
theorem pay3_apply (x : FVec Ideal S512x2048 .f32) (a f : FVec Ideal S512x512 .bf16) (c : FVec Ideal S512x1024 .bf16)
    (w1 w2 : FVec Ideal S512x2048 .bf16) (w3 : FVec Ideal S1024x2048 .bf16) (r : Fin 512) (n : Fin 2048) :
    k0_pay3 (F := Ideal) x a w1 f w2 c w3 (ix2 r n)
      = x (ix2 r n) + ((∑ k : Fin 512, a (ix2 r k) * w1 (ix2 k n)) + (∑ k : Fin 512, f (ix2 r k) * w2 (ix2 k n))
        + ∑ k : Fin 1024, c (ix2 r k) * w3 (ix2 k n)) := by
  pointwise [k0_pay3]
  simp only [add_assoc]

/-- The queries. -/
theorem pay4_apply (x : FVec Ideal S512x2048 .f32) (a f : FVec Ideal S512x512 .bf16) (c : FVec Ideal S512x1024 .bf16)
    (w1 w2 : FVec Ideal S512x2048 .bf16) (w3 : FVec Ideal S1024x2048 .bf16) (g : FVec Ideal S1x2048 .f32) (wq : FVec Ideal S2048x512 .bf16) (r : Fin 512) (n : Fin 512) :
    k0_pay4 (F := Ideal) x a w1 f w2 c w3 g wq (ix2 r n)
      = query (fun k => k0_pay3 (F := Ideal) x a w1 f w2 c w3 (ix2 r k)) (fun k => g (ix2 0 k)) (fun d n => wq (ix2 d n)) n := by
  pointwise [k0_pay4, query, Cert.Norm.rms]

/-- The first head. -/
theorem pay6_apply (q : FVec Ideal S512x512 .f32) (kv : FVec Ideal S256x1024 .bf16) (r : Fin 512) (d : Fin 128) :
    k0_pay6 (F := Ideal) q kv (ix2 r d) = recall (fun n => q (ix2 r n)) (fun j n => kv (ix2 j n)) 0 d := by
  pointwise [k0_pay6, k0_pay5, recall, score, softmax, Cert.Norm.negInf]

/-- The second head. -/
theorem pay7_apply (q : FVec Ideal S512x512 .f32) (kv : FVec Ideal S256x1024 .bf16) (r : Fin 512) (d : Fin 128) :
    k0_pay7 (F := Ideal) q kv (ix2 r d) = recall (fun n => q (ix2 r n)) (fun j n => kv (ix2 j n)) 1 d := by
  pointwise [k0_pay7, k0_pay5, recall, score, softmax, Cert.Norm.negInf]

/-- The third head. -/
theorem head2_apply (q : FVec Ideal S512x512 .f32) (kv : FVec Ideal S256x1024 .bf16) (r : Fin 512) (d : Fin 128) :
    recall (fun n => q (ix2 r n)) (fun j n => kv (ix2 j n)) 2 d
      = ∑ j : Fin 256, Ideal.div (Ideal.exp (k0_pay9 (F := Ideal) q kv (ix2 r j) - k0_pay10 (F := Ideal) q kv (ix1 r)))
            (∑ k : Fin 256, Ideal.exp (k0_pay9 (F := Ideal) q kv (ix2 r k) - k0_pay10 (F := Ideal) q kv (ix1 r)))
          * k0_pay8 (F := Ideal) kv (ix2 j d) := by
  pointwise [k0_pay8, k0_pay9, k0_pay10, k0_pay5, recall, score, softmax, Cert.Norm.negInf]

/-- The fourth head. -/
theorem head3_apply (q : FVec Ideal S512x512 .f32) (kv : FVec Ideal S256x1024 .bf16) (r : Fin 512) (d : Fin 128) :
    recall (fun n => q (ix2 r n)) (fun j n => kv (ix2 j n)) 3 d
      = ∑ j : Fin 256, Ideal.div
            (Ideal.exp ((∑ d : Fin 128, k0_pay5 (F := Ideal) q (ix2 r ⟨384 + d.val, by omega⟩) * kv (ix2 j ⟨384 + d.val, by omega⟩)) * Ideal.ofBits .f32 0x3DB504F3#32
              - Finset.univ.fold max (Ideal.ofBits .f32 0xFF800000#32) fun j : Fin 256 =>
                (∑ d : Fin 128, k0_pay5 (F := Ideal) q (ix2 r ⟨384 + d.val, by omega⟩) * kv (ix2 j ⟨384 + d.val, by omega⟩)) * Ideal.ofBits .f32 0x3DB504F3#32))
            (∑ i : Fin 256, Ideal.exp ((∑ d : Fin 128, k0_pay5 (F := Ideal) q (ix2 r ⟨384 + d.val, by omega⟩) * kv (ix2 i ⟨384 + d.val, by omega⟩)) * Ideal.ofBits .f32 0x3DB504F3#32
              - Finset.univ.fold max (Ideal.ofBits .f32 0xFF800000#32) fun j : Fin 256 =>
                (∑ d : Fin 128, k0_pay5 (F := Ideal) q (ix2 r ⟨384 + d.val, by omega⟩) * kv (ix2 j ⟨384 + d.val, by omega⟩)) * Ideal.ofBits .f32 0x3DB504F3#32))
          * kv (ix2 j ⟨896 + d.val, by omega⟩) := by
  pointwise [k0_pay5, recall, score, softmax, Cert.Norm.negInf]

/-- The residual after the cross-attention. -/
theorem pay11_apply (x : FVec Ideal S512x2048 .f32) (q : FVec Ideal S512x512 .f32) (kv : FVec Ideal S256x1024 .bf16) (w : FVec Ideal S512x2048 .bf16) (r : Fin 512) (n : Fin 2048) :
    k0_pay11 (F := Ideal) x (k0_pay5 q) kv (k0_pay6 q kv) (k0_pay7 q kv) (k0_pay8 kv) (k0_pay9 q kv) (k0_pay10 q kv) w (ix2 r n)
      = attended (fun k => x (ix2 r k)) (fun n => q (ix2 r n)) (fun j n => kv (ix2 j n)) (fun k n => w (ix2 k n)) n := by
  pointwise [k0_pay11]
  unfold attended
  congr 1
  refine Finset.sum_congr rfl fun k _ => ?_
  congr 1
  by_cases h0 : k.val < 128
  · rw [dif_pos h0, pay6_apply]
    congr 1
    · exact Fin.ext (show 0 = k.val / 128 by omega)
    · exact Fin.ext (show k.val = k.val % 128 by omega)
  rw [dif_neg h0]
  by_cases h1 : k.val - 128 < 128
  · rw [dif_pos h1, pay7_apply]
    congr 1
    · exact Fin.ext (show 1 = k.val / 128 by omega)
    · exact Fin.ext (show k.val - 128 = k.val % 128 by omega)
  rw [dif_neg h1]
  by_cases h2 : k.val - 128 - 128 < 128
  · rw [dif_pos h2]
    refine (head2_apply q kv r ⟨k.val - 128 - 128, h2⟩).symm.trans ?_
    congr 1
    · exact Fin.ext (show 2 = k.val / 128 by omega)
    · exact Fin.ext (show k.val - 128 - 128 = k.val % 128 by omega)
  · rw [dif_neg h2]
    refine (head3_apply q kv r ⟨k.val - 128 - 128 - 128, by omega⟩).symm.trans ?_
    congr 1
    · exact Fin.ext (show 3 = k.val / 128 by omega)
    · exact Fin.ext (show k.val - 128 - 128 - 128 = k.val % 128 by omega)

/-- The normed row. -/
theorem pay1_apply (x : FVec Ideal S512x2048 .f32) (g : FVec Ideal S1x2048 .f32) (s : FVec Ideal S512x1 .f32) (r : Fin 512) (n : Fin 2048)
    (hs : s (ix2 r 0) = Ideal.div (∑ k : Fin 2048, x (ix2 r k) * x (ix2 r k)) (Ideal.ofBits .f32 0x45000000#32)) :
    k0_pay1 (F := Ideal) x g s (Scalar.ofBits .f32 0x358637BD#32) (ix2 r n) = Cert.Norm.rms (fun k => x (ix2 r k)) (fun k => g (ix2 0 k)) n := by
  pointwise [k0_pay1, Cert.Norm.rms]
  rw [hs]

/-- The router probabilities. -/
theorem pay2_apply (x : FVec Ideal S512x2048 .f32) (g : FVec Ideal S1x2048 .f32) (s : FVec Ideal S512x1 .f32) (w : FVec Ideal S2048x16 .bf16) (r : Fin 512) (n : Fin 16) :
    k0_pay2 (F := Ideal) x g s (Scalar.ofBits .f32 0x358637BD#32) w (ix2 r n)
      = affinity (fun k => k0_pay1 (F := Ideal) x g s (Scalar.ofBits .f32 0x358637BD#32) (ix2 r k)) (fun d e => w (ix2 d e)) n := by
  pointwise [k0_pay2, affinity, softmax, Cert.Norm.negInf]

/-- The mean square. -/
theorem pay13_apply (x : FVec Ideal S512x2048 .f32) (q : FVec Ideal S512x512 .bf16) (kv : FVec Ideal S256x1024 .bf16) (h0 h1 : FVec Ideal S512x128 .bf16) (v : FVec Ideal S256x128 .bf16)
    (s : FVec Ideal S512x256 .f32) (M : FVec Ideal S512 .f32) (w : FVec Ideal S512x2048 .bf16) (r : Fin 512) :
    k0_pay13 (F := Ideal) x q kv h0 h1 v s M w (ix2 r 0)
      = Ideal.div (∑ k : Fin 2048, k0_pay11 (F := Ideal) x q kv h0 h1 v s M w (ix2 r k) * k0_pay11 (F := Ideal) x q kv h0 h1 v s M w (ix2 r k)) (Ideal.ofBits .f32 0x45000000#32) := by
  pointwise [k0_pay13]

end Cert.MixIdeal.Row

end
-- ==== Proof.MixValue.lean ====
/- The value of the kernel between the mixers and the experts: what it leaves in its three output arrays. -/
module

public import proofs.«01_k».proof.Proof.MixRow

@[expose] public section

set_option maxRecDepth 16384

noncomputable section

namespace Cert.MixIdeal.Row

open Cert.MixIdeal.Gen Cert.MixIdeal.Value
open Idealize.ShloMosaic Idealize.ShloMosaic.TcCoe Idealize.SL.Sem
open Idealize.ShloMosaic.Pipeline (Dat)

/-! ## The arrays -/

/-- The sequence a row belongs to: the prompt, or one of the two samples. -/
def sequence (r : Fin 40960) : ℕ := if r.val < 8192 then 0 else if r.val < 24576 then 1 else 2

theorem sequence_lt (r : Fin 40960) : sequence r < 3 := by unfold sequence; split_ifs <;> decide

/-- The arrays the calculation reads. -/
structure Input where
  x : FVec Ideal ⟨2, ![40960, 2048]⟩ .f32
  a : FVec Ideal ⟨2, ![40960, 512]⟩ .bf16
  f : FVec Ideal ⟨2, ![40960, 512]⟩ .bf16
  c : FVec Ideal ⟨2, ![40960, 1024]⟩ .bf16
  wOut : FVec Ideal ⟨2, ![2048, 2048]⟩ .f32
  gMem : FVec Ideal ⟨1, ![2048]⟩ .f32
  wq : FVec Ideal ⟨2, ![2048, 512]⟩ .f32
  kv : FVec Ideal ⟨2, ![768, 1024]⟩ .bf16
  wo : FVec Ideal ⟨2, ![512, 2048]⟩ .f32
  gFfn : FVec Ideal ⟨1, ![2048]⟩ .f32
  wr : FVec Ideal ⟨2, ![2048, 16]⟩ .f32

/-- Row `r` of the residual after the mixers. -/
def Input.first (I : Input) (r : Fin 40960) : Fin 2048 → EReal :=
  mixed (fun k => I.x (ix2 r k)) (fun k => I.a (ix2 r k)) (fun k => I.f (ix2 r k)) (fun k => I.c (ix2 r k)) (fun k n => I.wOut (ix2 k n))

/-- Row `r`'s queries. -/
def Input.queries (I : Input) (r : Fin 40960) : Fin 512 → EReal :=
  query (I.first r) (fun k => I.gMem (ix1 k)) (fun d n => I.wq (ix2 d n))

/-- The memory rows that row `r`'s sequence reads. -/
def Input.memory (I : Input) (r : Fin 40960) (j : Fin 256) (n : Fin 1024) : EReal :=
  I.kv (ix2 ⟨sequence r * 256 + j.val, by have h := sequence_lt r; omega⟩ n)

/-- Row `r` of the residual after the cross-attention. -/
def Input.second (I : Input) (r : Fin 40960) : Fin 2048 → EReal :=
  attended (I.first r) (I.queries r) (I.memory r) (fun k n => I.wo (ix2 k n))

/-- Row `r` normed for the experts. -/
def Input.normed (I : Input) (r : Fin 40960) : Fin 2048 → EReal :=
  Cert.Norm.rms (I.second r) (fun k => I.gFfn (ix1 k))

/-- Row `r`'s router probabilities. -/
def Input.affine (I : Input) (r : Fin 40960) : Fin 16 → EReal :=
  affinity (I.normed r) (fun d e => I.wr (ix2 d e))

/-! ## The block's results at an index -/

section
variable (x0 : Vec Ideal S512x2048 .f32) (x1 : Vec Ideal S512x512 .bf16) (x2 : Vec Ideal S512x512 .bf16) (x3 : Vec Ideal S512x1024 .bf16) (x4 : Vec Ideal S2048x2048 .bf16) (x5 : Vec Ideal S1x2048 .f32) (x6 : Vec Ideal S2048x512 .bf16) (x7 : Vec Ideal S256x1024 .bf16) (x8 : Vec Ideal S512x2048 .bf16) (x9 : Vec Ideal S1x2048 .f32) (x10 : Vec Ideal S2048x16 .bf16)

/-- Row `r` of the block after the mixers. -/
def blockFirst (r : Fin 512) : Fin 2048 → EReal :=
  mixed (fun k => x0 (ix2 r k)) (fun k => x1 (ix2 r k)) (fun k => x2 (ix2 r k)) (fun k => x3 (ix2 r k)) (fun k n => x4 (ix2 k n))

/-- Row `r` of the block after the cross-attention. -/
def blockSecond (r : Fin 512) : Fin 2048 → EReal :=
  attended (blockFirst x0 x1 x2 x3 x4 r) (query (blockFirst x0 x1 x2 x3 x4 r) (fun k => x5 (ix2 0 k)) (fun d n => x6 (ix2 d n)))
    (fun j n => x7 (ix2 j n)) (fun k n => x8 (ix2 k n))

/-- The residual after the mixers. -/
theorem pay14_apply (r : Fin 512) (n : Fin 2048) : k0_pay14 (F := Ideal) x0 x1 x2 x3 x4 x5 x6 x7 x8 x9 x10 (ix2 r n) = blockFirst x0 x1 x2 x3 x4 r n := by
  unfold k0_pay14
  rw [pay3_apply]
  pointwise [blockFirst, mixed]

/-- The queries. -/
theorem pay15_apply (r : Fin 512) (n : Fin 512) : k0_pay15 (F := Ideal) x0 x1 x2 x3 x4 x5 x6 x7 x8 x9 x10 (ix2 r n)
    = query (blockFirst x0 x1 x2 x3 x4 r) (fun k => x5 (ix2 0 k)) (fun d n => x6 (ix2 d n)) n := by
  unfold k0_pay15
  rw [pay4_apply, show (fun k => k0_pay3 (F := Ideal) (View.ld x0 r0_0) (View.ld x1 r0_1) (View.ld x4 r0_2) (View.ld x2 r0_1) (View.ld x4 r0_3) (View.ld x3 r0_4) (View.ld x4 r0_5) (ix2 r k))
    = blockFirst x0 x1 x2 x3 x4 r from funext fun k => pay14_apply x0 x1 x2 x3 x4 x5 x6 x7 x8 x9 x10 r k]
  pointwise [query]

/-- The residual after the cross-attention. -/
theorem pay22_apply (r : Fin 512) (n : Fin 2048) : k0_pay22 (F := Ideal) x0 x1 x2 x3 x4 x5 x6 x7 x8 x9 x10 (ix2 r n) = blockSecond x0 x1 x2 x3 x4 x5 x6 x7 x8 r n := by
  unfold k0_pay22 k0_pay16 k0_pay17 k0_pay18 k0_pay19 k0_pay20 k0_pay21
  rw [pay11_apply, show (fun k => k0_pay14 (F := Ideal) x0 x1 x2 x3 x4 x5 x6 x7 x8 x9 x10 (ix2 r k)) = blockFirst x0 x1 x2 x3 x4 r from funext fun k => pay14_apply x0 x1 x2 x3 x4 x5 x6 x7 x8 x9 x10 r k,
    show (fun n => k0_pay15 (F := Ideal) x0 x1 x2 x3 x4 x5 x6 x7 x8 x9 x10 (ix2 r n)) = query (blockFirst x0 x1 x2 x3 x4 r) (fun k => x5 (ix2 0 k)) (fun d n => x6 (ix2 d n)) from
      funext fun n => pay15_apply x0 x1 x2 x3 x4 x5 x6 x7 x8 x9 x10 r n]
  unfold blockSecond
  congr 1
  · funext j n; pointwise
  · funext k n; pointwise

/-- The first output's block. -/
theorem out11_apply (r : Fin 512) (n : Fin 2048) : out0_11 (F := Ideal) x0 x1 x2 x3 x4 x5 x6 x7 x8 x9 x10 (ix2 r n) = blockSecond x0 x1 x2 x3 x4 x5 x6 x7 x8 r n := by
  have h : out0_11 (F := Ideal) x0 x1 x2 x3 x4 x5 x6 x7 x8 x9 x10 = View.canon [⟨r0_0, k0_pay22 (F := Ideal) x0 x1 x2 x3 x4 x5 x6 x7 x8 x9 x10⟩] := by
    unfold out0_11 k0_pay22
    rfl
  rw [h]
  clear h
  generalize hp : k0_pay22 (F := Ideal) x0 x1 x2 x3 x4 x5 x6 x7 x8 x9 x10 = p
  frame_out
  rw [← hp]
  exact pay22_apply x0 x1 x2 x3 x4 x5 x6 x7 x8 x9 x10 r n

/-- The mean square of a row after the cross-attention. -/
theorem pay24_apply (r : Fin 512) : k0_pay24 (F := Ideal) x0 x1 x2 x3 x4 x5 x6 x7 x8 x9 x10 (ix2 r 0)
    = Ideal.div (∑ k : Fin 2048, k0_pay22 (F := Ideal) x0 x1 x2 x3 x4 x5 x6 x7 x8 x9 x10 (ix2 r k) * k0_pay22 (F := Ideal) x0 x1 x2 x3 x4 x5 x6 x7 x8 x9 x10 (ix2 r k)) (Ideal.ofBits .f32 0x45000000#32) := by
  unfold k0_pay24 k0_pay22
  exact pay13_apply _ _ _ _ _ _ _ _ _ r

/-- The normed row. -/
theorem pay1_block (r : Fin 512) (n : Fin 2048) :
    k0_pay1 (F := Ideal) (k0_pay22 x0 x1 x2 x3 x4 x5 x6 x7 x8 x9 x10) (k0_pay23 x0 x1 x2 x3 x4 x5 x6 x7 x8 x9 x10) (k0_pay24 x0 x1 x2 x3 x4 x5 x6 x7 x8 x9 x10) (Scalar.ofBits .f32 0x358637BD#32) (ix2 r n)
      = Cert.Norm.rms (blockSecond x0 x1 x2 x3 x4 x5 x6 x7 x8 r) (fun k => x9 (ix2 0 k)) n := by
  rw [pay1_apply _ _ _ r n (pay24_apply x0 x1 x2 x3 x4 x5 x6 x7 x8 x9 x10 r)]
  congr 1
  · funext k; exact pay22_apply x0 x1 x2 x3 x4 x5 x6 x7 x8 x9 x10 r k
  · funext k; unfold k0_pay23; pointwise [k0_pay12]

/-- The second output's block. -/
theorem out12_apply (r : Fin 512) (n : Fin 2048) : out0_12 (F := Ideal) x0 x1 x2 x3 x4 x5 x6 x7 x8 x9 x10 (ix2 r n)
    = Cert.Norm.rms (blockSecond x0 x1 x2 x3 x4 x5 x6 x7 x8 r) (fun k => x9 (ix2 0 k)) n := by
  unfold out0_12
  frame_out
  exact pay1_block x0 x1 x2 x3 x4 x5 x6 x7 x8 x9 x10 r n

/-- The third output's block. -/
theorem out13_apply (r : Fin 512) (n : Fin 16) : out0_13 (F := Ideal) x0 x1 x2 x3 x4 x5 x6 x7 x8 x9 x10 (ix2 r n)
    = affinity (Cert.Norm.rms (blockSecond x0 x1 x2 x3 x4 x5 x6 x7 x8 r) (fun k => x9 (ix2 0 k))) (fun d e => x10 (ix2 d e)) n := by
  unfold out0_13
  frame_out
  refine (pay2_apply _ _ _ _ r n).trans ?_
  congr 1
  · funext k; exact pay1_block x0 x1 x2 x3 x4 x5 x6 x7 x8 x9 x10 r k
end

/-! ## Where the windows' blocks lie -/

/-- The residual's block index at a point. -/
theorem index0 : ∀ t : Fin cfg0.N, win0_0.index t = ![t.val, 0] :=
  (by decide +kernel : ∀ t : Fin grid0.N, win0_0.index t = ![t.val, 0])
/-- The first mixer's block index at a point. -/
theorem index1 : ∀ t : Fin cfg0.N, win0_1.index t = ![t.val, 0] :=
  (by decide +kernel : ∀ t : Fin grid0.N, win0_1.index t = ![t.val, 0])
/-- The second mixer's block index at a point. -/
theorem index2 : ∀ t : Fin cfg0.N, win0_2.index t = ![t.val, 0] :=
  (by decide +kernel : ∀ t : Fin grid0.N, win0_2.index t = ![t.val, 0])
/-- The third mixer's block index at a point. -/
theorem index3 : ∀ t : Fin cfg0.N, win0_3.index t = ![t.val, 0] :=
  (by decide +kernel : ∀ t : Fin grid0.N, win0_3.index t = ![t.val, 0])
/-- A whole array's block index at a point. -/
theorem index4 : ∀ t : Fin cfg0.N, win0_4.index t = ![0, 0] :=
  (by decide +kernel : ∀ t : Fin grid0.N, win0_4.index t = ![0, 0])
/-- A whole array's block index at a point. -/
theorem index5 : ∀ t : Fin cfg0.N, win0_5.index t = ![0, 0] :=
  (by decide +kernel : ∀ t : Fin grid0.N, win0_5.index t = ![0, 0])
/-- A whole array's block index at a point. -/
theorem index6 : ∀ t : Fin cfg0.N, win0_6.index t = ![0, 0] :=
  (by decide +kernel : ∀ t : Fin grid0.N, win0_6.index t = ![0, 0])
/-- The memory's block index at a point. -/
theorem index7 : ∀ t : Fin cfg0.N, win0_7.index t = ![if t.val < 16 then 0 else if t.val < 48 then 1 else 2, 0] :=
  (by decide +kernel : ∀ t : Fin grid0.N, win0_7.index t = ![if t.val < 16 then 0 else if t.val < 48 then 1 else 2, 0])
/-- A whole array's block index at a point. -/
theorem index8 : ∀ t : Fin cfg0.N, win0_8.index t = ![0, 0] :=
  (by decide +kernel : ∀ t : Fin grid0.N, win0_8.index t = ![0, 0])
/-- A whole array's block index at a point. -/
theorem index9 : ∀ t : Fin cfg0.N, win0_9.index t = ![0, 0] :=
  (by decide +kernel : ∀ t : Fin grid0.N, win0_9.index t = ![0, 0])
/-- A whole array's block index at a point. -/
theorem index10 : ∀ t : Fin cfg0.N, win0_10.index t = ![0, 0] :=
  (by decide +kernel : ∀ t : Fin grid0.N, win0_10.index t = ![0, 0])
/-- An output's block index at a point. -/
theorem index11 : ∀ t : Fin cfg0.N, win0_11.index t = ![t.val, 0] :=
  (by decide +kernel : ∀ t : Fin grid0.N, win0_11.index t = ![t.val, 0])
/-- An output's block index at a point. -/
theorem index12 : ∀ t : Fin cfg0.N, win0_12.index t = ![t.val, 0] :=
  (by decide +kernel : ∀ t : Fin grid0.N, win0_12.index t = ![t.val, 0])
/-- An output's block index at a point. -/
theorem index13 : ∀ t : Fin cfg0.N, win0_13.index t = ![t.val, 0] :=
  (by decide +kernel : ∀ t : Fin grid0.N, win0_13.index t = ![t.val, 0])
/-- The blocks of output window 11 cover its array. -/
theorem covers11 : (cfg0.win 11).Covers := by decide +kernel
/-- The blocks of output window 12 cover its array. -/
theorem covers12 : (cfg0.win 12).Covers := by decide +kernel
/-- The blocks of output window 13 cover its array. -/
theorem covers13 : (cfg0.win 13).Covers := by decide +kernel

variable (m : (ℓ : Loc nD τ sig) → Buf (Elt Ideal) ℓ) (ρ : Dev nD → PrngReg)

/-- The arguments as the calculation's arrays. -/
def input (c : Dev nD) : Input :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10)⟩

/-- Row `r` of a point's block, as a row of the arrays. -/
def row (t : Fin cfg0.N) (r : Fin 512) : Fin 40960 :=
  ⟨t.val * 512 + r.val, by have hN : t.val < 80 := lt_of_lt_of_eq t.isLt (show cfg0.N = 80 from N_0); omega⟩

/-- An entry of window 0's block. -/
theorem entry_0 (c : Dev nD) (t : Fin cfg0.N) (r : Fin 512) (k : Fin 2048) :
    iblk m c 0 t (ix2 r k) = m ((c.tc : Thread nD τ).loc main_arg0) (ix2 (row t r) k) := by
  blk_simp [iblk, index0]
  rw [V_main_arg0]
  congr 1
  unfold row
  blk_ext [index0]

/-- An entry of window 1's block. -/
theorem entry_1 (c : Dev nD) (t : Fin cfg0.N) (r : Fin 512) (k : Fin 512) :
    iblk m c 1 t (ix2 r k) = m ((c.tc : Thread nD τ).loc main_arg1) (ix2 (row t r) k) := by
  blk_simp [iblk, index1]
  rw [V_main_arg1]
  congr 1
  unfold row
  blk_ext [index1]

/-- An entry of window 2's block. -/
theorem entry_2 (c : Dev nD) (t : Fin cfg0.N) (r : Fin 512) (k : Fin 512) :
    iblk m c 2 t (ix2 r k) = m ((c.tc : Thread nD τ).loc main_arg2) (ix2 (row t r) k) := by
  blk_simp [iblk, index2]
  rw [V_main_arg2]
  congr 1
  unfold row
  blk_ext [index2]

/-- An entry of window 3's block. -/
theorem entry_3 (c : Dev nD) (t : Fin cfg0.N) (r : Fin 512) (k : Fin 1024) :
    iblk m c 3 t (ix2 r k) = m ((c.tc : Thread nD τ).loc main_arg3) (ix2 (row t r) k) := by
  blk_simp [iblk, index3]
  rw [V_main_arg3]
  congr 1
  unfold row
  blk_ext [index3]

/-- An entry of window 4's block. -/
theorem entry_4 (c : Dev nD) (t : Fin cfg0.N) (d : Fin 2048) (k : Fin 2048) :
    iblk m c 4 t (ix2 d k) = m ((c.tc : Thread nD τ).loc main_arg4) (ix2 d k) := by
  blk_simp [iblk, index4]
  entry_read
  rw [show (win0_4.blk t).view.emb (ix2 d k) = ix2 d k from by blk_ext [index4]]
  pointwise

/-- An entry of window 5's block. -/
theorem entry_5 (c : Dev nD) (t : Fin cfg0.N) (k : Fin 2048) :
    iblk m c 5 t (ix2 0 k) = m ((c.tc : Thread nD τ).loc main_arg5) (ix1 k) := by
  blk_simp [iblk, index5]
  entry_read
  rw [show (win0_5.blk t).view.emb (ix2 0 k) = ix2 (0 : Fin 1) k from by blk_ext [index5]]
  pointwise

/-- An entry of window 6's block. -/
theorem entry_6 (c : Dev nD) (t : Fin cfg0.N) (d : Fin 2048) (k : Fin 512) :
    iblk m c 6 t (ix2 d k) = m ((c.tc : Thread nD τ).loc main_arg6) (ix2 d k) := by
  blk_simp [iblk, index6]
  entry_read
  rw [show (win0_6.blk t).view.emb (ix2 d k) = ix2 d k from by blk_ext [index6]]
  pointwise

/-- An entry of window 8's block. -/
theorem entry_8 (c : Dev nD) (t : Fin cfg0.N) (d : Fin 512) (k : Fin 2048) :
    iblk m c 8 t (ix2 d k) = m ((c.tc : Thread nD τ).loc main_arg8) (ix2 d k) := by
  blk_simp [iblk, index8]
  entry_read
  rw [show (win0_8.blk t).view.emb (ix2 d k) = ix2 d k from by blk_ext [index8]]
  pointwise

/-- An entry of window 9's block. -/
theorem entry_9 (c : Dev nD) (t : Fin cfg0.N) (k : Fin 2048) :
    iblk m c 9 t (ix2 0 k) = m ((c.tc : Thread nD τ).loc main_arg9) (ix1 k) := by
  blk_simp [iblk, index9]
  entry_read
  rw [show (win0_9.blk t).view.emb (ix2 0 k) = ix2 (0 : Fin 1) k from by blk_ext [index9]]
  pointwise

/-- An entry of window 10's block. -/
theorem entry_10 (c : Dev nD) (t : Fin cfg0.N) (d : Fin 2048) (k : Fin 16) :
    iblk m c 10 t (ix2 d k) = m ((c.tc : Thread nD τ).loc main_arg10) (ix2 d k) := by
  blk_simp [iblk, index10]
  entry_read
  rw [show (win0_10.blk t).view.emb (ix2 d k) = ix2 d k from by blk_ext [index10]]
  pointwise

/-- An entry of the memory's block: the rows of the row's sequence. -/
theorem entry_7 (c : Dev nD) (t : Fin cfg0.N) (r : Fin 512) (j : Fin 256) (n : Fin 1024) :
    iblk m c 7 t (ix2 j n) = (input m c).memory (row t r) j n := by
  have hN : t.val < 80 := lt_of_lt_of_eq t.isLt (show cfg0.N = 80 from N_0)
  have hs : sequence (row t r) = if t.val < 16 then 0 else if t.val < 48 then 1 else 2 := by
    unfold sequence row
    have hr := r.isLt
    by_cases h1 : t.val < 16
    · rw [if_pos (show t.val * 512 + r.val < 8192 by omega), if_pos h1]
    · rw [if_neg (show ¬ t.val * 512 + r.val < 8192 by omega), if_neg h1]
      by_cases h2 : t.val < 48
      · rw [if_pos (show t.val * 512 + r.val < 24576 by omega), if_pos h2]
      · rw [if_neg (show ¬ t.val * 512 + r.val < 24576 by omega), if_neg h2]
  blk_simp [iblk, index7]
  rw [V_main_arg7]
  show _ = m ((c.tc : Thread nD τ).loc main_arg7) (ix2 ⟨sequence (row t r) * 256 + j.val, _⟩ n)
  congr 1
  blk_ext [index7, hs]

/-- A block's row after the cross-attention is the arrays' row. -/
theorem blockSecond_eq (c : Dev nD) (t : Fin cfg0.N) (r : Fin 512) :
    blockSecond (iblk m c 0 t) (iblk m c 1 t) (iblk m c 2 t) (iblk m c 3 t) (iblk m c 4 t) (iblk m c 5 t) (iblk m c 6 t) (iblk m c 7 t) (iblk m c 8 t) r
      = (input m c).second (row t r) := by
  unfold blockSecond blockFirst Input.second Input.queries Input.first
  simp only [entry_0, entry_1, entry_2, entry_3, entry_4, entry_5, entry_6, entry_7 m c t r, entry_8]
  rfl

/-- The first output's array. -/
theorem final11 (c : Dev nD) : (dats m 0 c).arrAt 11 cfg0.N = fun i => (input m c).second (i 0) (i 1) := by
  refine (dats m 0 c).arrAt_eq_of_covers 11 _ covers11 fun t hf y => ?_
  have hN : t.val < 80 := lt_of_lt_of_eq t.isLt (show cfg0.N = 80 from N_0)
  blk_simp
  rw [after0_11]
  obtain ⟨r, n, rfl⟩ : ∃ (r : Fin 512) (n : Fin 2048), y = ix2 r n := ⟨y 0, y 1, eq_ix2 y⟩
  rw [out11_apply, blockSecond_eq, show (win0_11.blk t).view.emb (ix2 r n) = ix2 (row t r) n from by unfold row; blk_ext [index11]]
  rfl

/-- The second output's array. -/
theorem final12 (c : Dev nD) : (dats m 0 c).arrAt 12 cfg0.N = fun i => (input m c).normed (i 0) (i 1) := by
  refine (dats m 0 c).arrAt_eq_of_covers 12 _ covers12 fun t hf y => ?_
  have hN : t.val < 80 := lt_of_lt_of_eq t.isLt (show cfg0.N = 80 from N_0)
  blk_simp
  rw [after0_12]
  obtain ⟨r, n, rfl⟩ : ∃ (r : Fin 512) (n : Fin 2048), y = ix2 r n := ⟨y 0, y 1, eq_ix2 y⟩
  rw [out12_apply, blockSecond_eq, show (win0_12.blk t).view.emb (ix2 r n) = ix2 (row t r) n from by unfold row; blk_ext [index12]]
  simp only [entry_9]
  rfl

/-- The third output's array. -/
theorem final13 (c : Dev nD) : (dats m 0 c).arrAt 13 cfg0.N = fun i => (input m c).affine (i 0) (i 1) := by
  refine (dats m 0 c).arrAt_eq_of_covers 13 _ covers13 fun t hf y => ?_
  have hN : t.val < 80 := lt_of_lt_of_eq t.isLt (show cfg0.N = 80 from N_0)
  blk_simp
  rw [after0_13]
  obtain ⟨r, n, rfl⟩ : ∃ (r : Fin 512) (n : Fin 16), y = ix2 r n := ⟨y 0, y 1, eq_ix2 y⟩
  rw [out13_apply, blockSecond_eq, show (win0_13.blk t).view.emb (ix2 r n) = ix2 (row t r) n from by unfold row; blk_ext [index13]]
  simp only [entry_9, entry_10]
  rfl

/-- The run, read: the three output arrays, the arguments unchanged. -/
theorem run_rows : θ_run defs (onTc (τ := τ) (main (F := Ideal))) ⟨m, fun _ => 0, ρ⟩ fun r => ∀ c : Dev nD,
      r.2.mem ((c.tc : Thread nD τ).loc main_v6_0) = (fun i => (input m c).second (i 0) (i 1))
      ∧ r.2.mem ((c.tc : Thread nD τ).loc main_v6_1) = (fun i => (input m c).normed (i 0) (i 1))
      ∧ r.2.mem ((c.tc : Thread nD τ).loc main_v6_2) = (fun i => (input m c).affine (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c).1.trans (final11 m c), (h c).2.1.trans (final12 m c), (h c).2.2.1.trans (final13 m c), (h c).2.2.2⟩) (run_blocks m ρ)

end Cert.MixIdeal.Row

end
-- ==== Proof.MixReference.lean ====
/- The reference between the mixers and the experts, read at an index: its named values are the row calculation's. -/
module

public import proofs.«01_k».proof.Proof.MixValue
public import proofs.«01_k».proof.Proof.Gen.MixReferenceIdeal.Run
public import Idealize.ShloMosaic.Lib.Tactic.CleanTypes

@[expose] public section

set_option maxRecDepth 16384

noncomputable section

namespace Cert.MixReferenceIdeal.Row

open Cert.MixReferenceIdeal Cert.MixReferenceIdeal.Gen Cert.MixReferenceIdeal.Value Cert.MixIdeal.Row
open Idealize.ShloMosaic Idealize.ShloMosaic.TcCoe Idealize.SL.Sem

/-- A product with three arrays laid side by side is the sum of the products with each. -/
theorem sum_pieces (a f : Fin 512 → EReal) (c : Fin 1024 → EReal) (w : Fin 2048 → EReal) :
    (∑ x : Fin 2048, (if h : x.val < 512 then a ⟨x.val, h⟩
        else if h' : x.val - 512 < 512 then f ⟨x.val - 512, h'⟩ else c ⟨x.val - 512 - 512, by omega⟩) * w x)
      = (∑ k : Fin 512, a k * w ⟨k.val, by omega⟩) + (∑ k : Fin 512, f k * w ⟨512 + k.val, by omega⟩)
        + ∑ k : Fin 1024, c k * w ⟨1024 + k.val, by omega⟩ := by
  rw [Fin.sum_univ_two_halves 1024 1024 rfl, Fin.sum_univ_two_halves 512 512 rfl]
  refine congrArg₂ _ (congrArg₂ _ ?_ ?_) ?_ <;> refine Finset.sum_congr rfl fun k _ => ?_ <;> refine congrArg (· * _) ?_
  · exact dif_pos k.isLt
  · refine (dif_neg (show ¬ 512 + k.val < 512 by omega)).trans ((dif_pos (show 512 + k.val - 512 < 512 by omega)).trans ?_)
    exact congrArg f (Fin.ext (show 512 + k.val - 512 = k.val by omega))
  · refine (dif_neg (show ¬ 1024 + k.val < 512 by omega)).trans ((dif_neg (show ¬ 1024 + k.val - 512 < 512 by omega)).trans ?_)
    exact congrArg c (Fin.ext (show 1024 + k.val - 512 - 512 = k.val by omega))

/-- A maximum started at the machine's least value is one started at −∞. -/
theorem fold_negInf {n : ℕ} (f : Fin n → EReal) :
    Finset.univ.fold max (FloatOps.ofBits (F := Ideal) .f32 0xFF800000#32) f = Finset.univ.fold max ⊥ f :=
  congrArg (fun b => Finset.univ.fold max b f) Cert.Norm.negInf

variable (V0 : Valuation τ sig (Elt Ideal))

/-- The reference's arguments as the calculation's arrays. -/
def input : Input :=
  ⟨V0 (Proc.devRef .tc main_arg0), V0 (Proc.devRef .tc main_arg1), V0 (Proc.devRef .tc main_arg2), V0 (Proc.devRef .tc main_arg3), V0 (Proc.devRef .tc main_arg4), V0 (Proc.devRef .tc main_arg5), V0 (Proc.devRef .tc main_arg6), V0 (Proc.devRef .tc main_arg7), V0 (Proc.devRef .tc main_arg8), V0 (Proc.devRef .tc main_arg9), V0 (Proc.devRef .tc main_arg10)⟩

/-! ## The prompt -/

/-- A row of the group, as a row of the arrays. -/
def row1 (r : Fin 8192) : Fin 40960 := ⟨r.val, by omega⟩

/-- The row's sequence. -/
theorem sequence_row1 (r : Fin 8192) : Cert.MixIdeal.Row.sequence (row1 r) = 0 := by
  unfold Cert.MixIdeal.Row.sequence row1
  skip
  have hr := r.isLt
  dsimp only
  split_ifs <;> omega

/-- The row's memory. -/
theorem memory_row1 (r : Fin 8192) (j : Fin 256) (n : Fin 1024) :
    (input V0).memory (row1 r) j n = (input V0).kv (ix2 ⟨j.val, by omega⟩ n) := by
  unfold Input.memory
  congr 2
  exact Fin.ext (show Cert.MixIdeal.Row.sequence (row1 r) * 256 + j.val = _ by rw [sequence_row1]; dsimp only; omega)

/-- The residual after the mixers. -/
theorem v9_apply (r : Fin 8192) (n : Fin 2048) : res_main_v9 V0 (ix3 0 r n) = (input V0).first (row1 r) n := by
  unfold res_main_v9 res_main_v1
  clean_types
  pointwise [Input.first, mixed, row1, input]
  exact congrArg (HAdd.hAdd ((input V0).x (ix2 (row1 r) n)))
    (sum_pieces (fun k => (input V0).a (ix2 (row1 r) k)) (fun k => (input V0).f (ix2 (row1 r) k))
      (fun k => (input V0).c (ix2 (row1 r) k)) fun k => (input V0).wOut (ix2 k n))

/-- The scaled scores. -/
theorem v33_apply (h : Fin 4) (r : Fin 8192) (j : Fin 256) :
    res_main_v33 V0 (ix4 0 h r j) = score ((input V0).queries (row1 r)) ((input V0).memory (row1 r)) h j := by
  unfold res_main_v33 res_main_v26 res_main_v2
  clean_types
  pointwise [score, Input.queries, query, Cert.Norm.rms, memory_row1, v9_apply]
  rfl

/-- The greatest score over the memory. -/
theorem greatest1 (s : FVec Ideal S1x4x8192x256 .f32) (h : Fin 4) (r : Fin 8192) :
    (Host.reduce FloatOps.maximumf s (constant (F := Ideal) S_ .f32 0xFF800000#32) reducesTo_S1x4x8192x256_S1x4x8192_d3 h_S_) (ix3 0 h r) = Finset.univ.fold max (FloatOps.ofBits .f32 0xFF800000#32) fun k : Fin 256 => s (ix4 0 h r k) := by
  pointwise

/-- The numerators of a softmax over the memory, for any subtracted maximum. -/
theorem shifted1 (s : FVec Ideal S1x4x8192x256 .f32) (top : FVec Ideal S1x4x8192 .f32) (h : Fin 4) (r : Fin 8192) (j : Fin 256) :
    (Host.exp (subf s (broadcastInDim S1x4x8192x256 ![0, 1, 2, 3] bcast_S1x4x8192x1_S1x4x8192x256_0_1_2_3 (broadcastInDim S1x4x8192x1 ![0, 1, 2] bcast_S1x4x8192_S1x4x8192x1_0_1_2 (maximumf (broadcastInDim S1x4x8192 ![] bcast_S_S1x4x8192 (constant S_ .f32 0xFF800000#32)) top))))) (ix4 0 h r j) = Ideal.exp (s (ix4 0 h r j) - top (ix3 0 h r)) := by
  pointwise [Cert.Norm.negInf, max_bot_left]

/-- The numerators of a softmax over the memory. -/
theorem numerator1 (s : FVec Ideal S1x4x8192x256 .f32) (h : Fin 4) (r : Fin 8192) (j : Fin 256) :
    (Host.exp (subf s (broadcastInDim S1x4x8192x256 ![0, 1, 2, 3] bcast_S1x4x8192x1_S1x4x8192x256_0_1_2_3 (broadcastInDim S1x4x8192x1 ![0, 1, 2] bcast_S1x4x8192_S1x4x8192x1_0_1_2 (maximumf (broadcastInDim S1x4x8192 ![] bcast_S_S1x4x8192 (constant S_ .f32 0xFF800000#32)) (Host.reduce FloatOps.maximumf s (constant S_ .f32 0xFF800000#32) reducesTo_S1x4x8192x256_S1x4x8192_d3 h_S_)))))) (ix4 0 h r j)
      = Ideal.exp (s (ix4 0 h r j) - Finset.univ.fold max ⊥ fun k : Fin 256 => s (ix4 0 h r k)) :=
  (shifted1 s _ h r j).trans (congrArg (fun y => Ideal.exp (s (ix4 0 h r j) - y))
    ((greatest1 s h r).trans (fold_negInf _)))

/-- The softmax of the scores. -/
theorem v40_apply (h : Fin 4) (r : Fin 8192) (j : Fin 256) :
    Ideal.div (res_main_v40 V0 (ix4 0 h r j)) (∑ k : Fin 256, res_main_v40 V0 (ix4 0 h r k))
      = softmax (score ((input V0).queries (row1 r)) ((input V0).memory (row1 r)) h) j := by
  have e : ∀ k : Fin 256, res_main_v40 V0 (ix4 0 h r k)
      = Ideal.exp (score ((input V0).queries (row1 r)) ((input V0).memory (row1 r)) h k
          - Finset.univ.fold max ⊥ (score ((input V0).queries (row1 r)) ((input V0).memory (row1 r)) h)) := fun k =>
    (numerator1 (res_main_v33 V0) h r k).trans (by simp only [v33_apply])
  simp only [e]
  rfl

/-- The residual after the cross-attention. -/
theorem v49_apply (r : Fin 8192) (n : Fin 2048) : res_main_v49 V0 (ix3 0 r n) = (input V0).second (row1 r) n := by
  unfold res_main_v49 res_main_v26 res_main_v2
  clean_types
  pointwise [v40_apply, v9_apply, Input.second, attended, recall, memory_row1]
  simp only [mul_comm (softmax _ _)]
  rfl

/-- The normed rows. -/
theorem v63_apply (r : Fin 8192) (n : Fin 2048) : res_main_v63 V0 (ix2 r n) = (input V0).normed (row1 r) n := by
  unfold res_main_v63
  clean_types
  pointwise [v49_apply, Input.normed, Cert.Norm.rms]
  rfl

/-- The router's logits. -/
theorem v65_apply (r : Fin 8192) (e : Fin 16) : res_main_v65 V0 (ix2 r e)
    = ∑ d : Fin 2048, (input V0).normed (row1 r) d * (input V0).wr (ix2 d e) := by
  unfold res_main_v65
  clean_types
  pointwise [v63_apply]
  rfl

/-- The greatest logit over the experts. -/
theorem topmost1 (s : FVec Ideal S8192x16 .f32) (r : Fin 8192) :
    (Host.reduce FloatOps.maximumf s (constant (F := Ideal) S_ .f32 0xFF800000#32) reducesTo_S8192x16_S8192_d1 h_S_) (ix1 r) = Finset.univ.fold max (FloatOps.ofBits .f32 0xFF800000#32) fun k : Fin 16 => s (ix2 r k) := by
  pointwise

/-- The numerators of a softmax over the experts, for any subtracted maximum. -/
theorem reduced1 (s : FVec Ideal S8192x16 .f32) (top : FVec Ideal S8192 .f32) (r : Fin 8192) (e : Fin 16) :
    (Host.exp (subf s (broadcastInDim S8192x16 ![0, 1] bcast_S8192x1_S8192x16_0_1 (broadcastInDim S8192x1 ![0] bcast_S8192_S8192x1_0 (maximumf (broadcastInDim S8192 ![] bcast_S_S8192 (constant S_ .f32 0xFF800000#32)) top))))) (ix2 r e) = Ideal.exp (s (ix2 r e) - top (ix1 r)) := by
  pointwise [Cert.Norm.negInf, max_bot_left]

/-- The numerators of a softmax over the experts. -/
theorem expert1 (s : FVec Ideal S8192x16 .f32) (r : Fin 8192) (e : Fin 16) :
    (Host.exp (subf s (broadcastInDim S8192x16 ![0, 1] bcast_S8192x1_S8192x16_0_1 (broadcastInDim S8192x1 ![0] bcast_S8192_S8192x1_0 (maximumf (broadcastInDim S8192 ![] bcast_S_S8192 (constant S_ .f32 0xFF800000#32)) (Host.reduce FloatOps.maximumf s (constant S_ .f32 0xFF800000#32) reducesTo_S8192x16_S8192_d1 h_S_)))))) (ix2 r e)
      = Ideal.exp (s (ix2 r e) - Finset.univ.fold max ⊥ fun k : Fin 16 => s (ix2 r k)) :=
  (reduced1 s _ r e).trans (congrArg (fun y => Ideal.exp (s (ix2 r e) - y)) ((topmost1 s r).trans (fold_negInf _)))

/-- The router's probabilities. -/
theorem v72_apply (r : Fin 8192) (e : Fin 16) :
    Ideal.div (res_main_v72 V0 (ix2 r e)) (∑ k : Fin 16, res_main_v72 V0 (ix2 r k)) = (input V0).affine (row1 r) e := by
  have h : ∀ k : Fin 16, res_main_v72 V0 (ix2 r k)
      = Ideal.exp ((∑ d : Fin 2048, (input V0).normed (row1 r) d * (input V0).wr (ix2 d k))
          - Finset.univ.fold max ⊥ fun k : Fin 16 => ∑ d : Fin 2048, (input V0).normed (row1 r) d * (input V0).wr (ix2 d k)) := fun k =>
    (expert1 (res_main_v65 V0) r k).trans (by simp only [v65_apply])
  simp only [h]
  rfl

/-! ## The samples -/

/-- A row of the group, as a row of the arrays. -/
def row2 (b : Fin 2) (r : Fin 16384) : Fin 40960 := ⟨8192 + (b.val * 16384 + r.val), by omega⟩

/-- The row's sequence. -/
theorem sequence_row2 (b : Fin 2) (r : Fin 16384) : Cert.MixIdeal.Row.sequence (row2 b r) = b.val + 1 := by
  unfold Cert.MixIdeal.Row.sequence row2
  have hb := b.isLt
  have hr := r.isLt
  dsimp only
  split_ifs <;> omega

/-- The row's memory. -/
theorem memory_row2 (b : Fin 2) (r : Fin 16384) (j : Fin 256) (n : Fin 1024) :
    (input V0).memory (row2 b r) j n = (input V0).kv (ix2 ⟨256 + (b.val * 256 + j.val), by omega⟩ n) := by
  unfold Input.memory
  congr 2
  exact Fin.ext (show Cert.MixIdeal.Row.sequence (row2 b r) * 256 + j.val = _ by rw [sequence_row2]; dsimp only; omega)

/-- The residual after the mixers. -/
theorem v83_apply (b : Fin 2) (r : Fin 16384) (n : Fin 2048) : res_main_v83 V0 (ix3 b r n) = (input V0).first (row2 b r) n := by
  unfold res_main_v83 res_main_v1
  clean_types
  pointwise [Input.first, mixed, row2, input]
  exact congrArg (HAdd.hAdd ((input V0).x (ix2 (row2 b r) n)))
    (sum_pieces (fun k => (input V0).a (ix2 (row2 b r) k)) (fun k => (input V0).f (ix2 (row2 b r) k))
      (fun k => (input V0).c (ix2 (row2 b r) k)) fun k => (input V0).wOut (ix2 k n))

/-- The scaled scores. -/
theorem v107_apply (b : Fin 2) (h : Fin 4) (r : Fin 16384) (j : Fin 256) :
    res_main_v107 V0 (ix4 b h r j) = score ((input V0).queries (row2 b r)) ((input V0).memory (row2 b r)) h j := by
  unfold res_main_v107 res_main_v100 res_main_v2
  clean_types
  pointwise [score, Input.queries, query, Cert.Norm.rms, memory_row2, v83_apply]
  rfl

/-- The greatest score over the memory. -/
theorem greatest2 (s : FVec Ideal S2x4x16384x256 .f32) (b : Fin 2) (h : Fin 4) (r : Fin 16384) :
    (Host.reduce FloatOps.maximumf s (constant (F := Ideal) S_ .f32 0xFF800000#32) reducesTo_S2x4x16384x256_S2x4x16384_d3 h_S_) (ix3 b h r) = Finset.univ.fold max (FloatOps.ofBits .f32 0xFF800000#32) fun k : Fin 256 => s (ix4 b h r k) := by
  pointwise

/-- The numerators of a softmax over the memory, for any subtracted maximum. -/
theorem shifted2 (s : FVec Ideal S2x4x16384x256 .f32) (top : FVec Ideal S2x4x16384 .f32) (b : Fin 2) (h : Fin 4) (r : Fin 16384) (j : Fin 256) :
    (Host.exp (subf s (broadcastInDim S2x4x16384x256 ![0, 1, 2, 3] bcast_S2x4x16384x1_S2x4x16384x256_0_1_2_3 (broadcastInDim S2x4x16384x1 ![0, 1, 2] bcast_S2x4x16384_S2x4x16384x1_0_1_2 (maximumf (broadcastInDim S2x4x16384 ![] bcast_S_S2x4x16384 (constant S_ .f32 0xFF800000#32)) top))))) (ix4 b h r j) = Ideal.exp (s (ix4 b h r j) - top (ix3 b h r)) := by
  pointwise [Cert.Norm.negInf, max_bot_left]

/-- The numerators of a softmax over the memory. -/
theorem numerator2 (s : FVec Ideal S2x4x16384x256 .f32) (b : Fin 2) (h : Fin 4) (r : Fin 16384) (j : Fin 256) :
    (Host.exp (subf s (broadcastInDim S2x4x16384x256 ![0, 1, 2, 3] bcast_S2x4x16384x1_S2x4x16384x256_0_1_2_3 (broadcastInDim S2x4x16384x1 ![0, 1, 2] bcast_S2x4x16384_S2x4x16384x1_0_1_2 (maximumf (broadcastInDim S2x4x16384 ![] bcast_S_S2x4x16384 (constant S_ .f32 0xFF800000#32)) (Host.reduce FloatOps.maximumf s (constant S_ .f32 0xFF800000#32) reducesTo_S2x4x16384x256_S2x4x16384_d3 h_S_)))))) (ix4 b h r j)
      = Ideal.exp (s (ix4 b h r j) - Finset.univ.fold max ⊥ fun k : Fin 256 => s (ix4 b h r k)) :=
  (shifted2 s _ b h r j).trans (congrArg (fun y => Ideal.exp (s (ix4 b h r j) - y))
    ((greatest2 s b h r).trans (fold_negInf _)))

/-- The softmax of the scores. -/
theorem v114_apply (b : Fin 2) (h : Fin 4) (r : Fin 16384) (j : Fin 256) :
    Ideal.div (res_main_v114 V0 (ix4 b h r j)) (∑ k : Fin 256, res_main_v114 V0 (ix4 b h r k))
      = softmax (score ((input V0).queries (row2 b r)) ((input V0).memory (row2 b r)) h) j := by
  have e : ∀ k : Fin 256, res_main_v114 V0 (ix4 b h r k)
      = Ideal.exp (score ((input V0).queries (row2 b r)) ((input V0).memory (row2 b r)) h k
          - Finset.univ.fold max ⊥ (score ((input V0).queries (row2 b r)) ((input V0).memory (row2 b r)) h)) := fun k =>
    (numerator2 (res_main_v107 V0) b h r k).trans (by simp only [v107_apply])
  simp only [e]
  rfl

/-- The residual after the cross-attention. -/
theorem v123_apply (b : Fin 2) (r : Fin 16384) (n : Fin 2048) : res_main_v123 V0 (ix3 b r n) = (input V0).second (row2 b r) n := by
  unfold res_main_v123 res_main_v100 res_main_v2
  clean_types
  pointwise [v114_apply, v83_apply, Input.second, attended, recall, memory_row2]
  simp only [mul_comm (softmax _ _)]
  rfl

/-- The normed rows. -/
theorem v137_apply (r : Fin 32768) (n : Fin 2048) : res_main_v137 V0 (ix2 r n) = (input V0).normed (row2 ⟨r.val / 16384, by omega⟩ ⟨r.val % 16384, Nat.mod_lt _ (by decide)⟩) n := by
  unfold res_main_v137
  clean_types
  pointwise [v123_apply, Input.normed, Cert.Norm.rms]
  rfl

/-- The router's logits. -/
theorem v139_apply (r : Fin 32768) (e : Fin 16) : res_main_v139 V0 (ix2 r e)
    = ∑ d : Fin 2048, (input V0).normed (row2 ⟨r.val / 16384, by omega⟩ ⟨r.val % 16384, Nat.mod_lt _ (by decide)⟩) d * (input V0).wr (ix2 d e) := by
  unfold res_main_v139
  clean_types
  pointwise [v137_apply]
  rfl

/-- The greatest logit over the experts. -/
theorem topmost2 (s : FVec Ideal S32768x16 .f32) (r : Fin 32768) :
    (Host.reduce FloatOps.maximumf s (constant (F := Ideal) S_ .f32 0xFF800000#32) reducesTo_S32768x16_S32768_d1 h_S_) (ix1 r) = Finset.univ.fold max (FloatOps.ofBits .f32 0xFF800000#32) fun k : Fin 16 => s (ix2 r k) := by
  pointwise

/-- The numerators of a softmax over the experts, for any subtracted maximum. -/
theorem reduced2 (s : FVec Ideal S32768x16 .f32) (top : FVec Ideal S32768 .f32) (r : Fin 32768) (e : Fin 16) :
    (Host.exp (subf s (broadcastInDim S32768x16 ![0, 1] bcast_S32768x1_S32768x16_0_1 (broadcastInDim S32768x1 ![0] bcast_S32768_S32768x1_0 (maximumf (broadcastInDim S32768 ![] bcast_S_S32768 (constant S_ .f32 0xFF800000#32)) top))))) (ix2 r e) = Ideal.exp (s (ix2 r e) - top (ix1 r)) := by
  pointwise [Cert.Norm.negInf, max_bot_left]

/-- The numerators of a softmax over the experts. -/
theorem expert2 (s : FVec Ideal S32768x16 .f32) (r : Fin 32768) (e : Fin 16) :
    (Host.exp (subf s (broadcastInDim S32768x16 ![0, 1] bcast_S32768x1_S32768x16_0_1 (broadcastInDim S32768x1 ![0] bcast_S32768_S32768x1_0 (maximumf (broadcastInDim S32768 ![] bcast_S_S32768 (constant S_ .f32 0xFF800000#32)) (Host.reduce FloatOps.maximumf s (constant S_ .f32 0xFF800000#32) reducesTo_S32768x16_S32768_d1 h_S_)))))) (ix2 r e)
      = Ideal.exp (s (ix2 r e) - Finset.univ.fold max ⊥ fun k : Fin 16 => s (ix2 r k)) :=
  (reduced2 s _ r e).trans (congrArg (fun y => Ideal.exp (s (ix2 r e) - y)) ((topmost2 s r).trans (fold_negInf _)))

/-- The router's probabilities. -/
theorem v146_apply (r : Fin 32768) (e : Fin 16) :
    Ideal.div (res_main_v146 V0 (ix2 r e)) (∑ k : Fin 16, res_main_v146 V0 (ix2 r k)) = (input V0).affine (row2 ⟨r.val / 16384, by omega⟩ ⟨r.val % 16384, Nat.mod_lt _ (by decide)⟩) e := by
  have h : ∀ k : Fin 16, res_main_v146 V0 (ix2 r k)
      = Ideal.exp ((∑ d : Fin 2048, (input V0).normed (row2 ⟨r.val / 16384, by omega⟩ ⟨r.val % 16384, Nat.mod_lt _ (by decide)⟩) d * (input V0).wr (ix2 d k))
          - Finset.univ.fold max ⊥ fun k : Fin 16 => ∑ d : Fin 2048, (input V0).normed (row2 ⟨r.val / 16384, by omega⟩ ⟨r.val % 16384, Nat.mod_lt _ (by decide)⟩) d * (input V0).wr (ix2 d k)) := fun k =>
    (expert2 (res_main_v139 V0) r k).trans (by simp only [v139_apply])
  simp only [h]
  rfl

end Cert.MixReferenceIdeal.Row

end
-- ==== Proof.MixClaims.lean ====
/- The claims about the calculation between the mixers and the experts. -/
module

public import proofs.«01_k».proof.Defs
public import proofs.«01_k».proof.Proof.MixValue
public import proofs.«01_k».proof.Proof.MixReference
public import proofs.«01_k».proof.Proof.Gen.Mix
public import Idealize.ShloMosaic.Lib.Quiescent
public import Idealize.ShloMosaic.Lib.Pointwise

@[expose] public section

set_option maxRecDepth 16384

noncomputable section

namespace Cert.MixReferenceIdeal.Row

open Cert.MixReferenceIdeal Cert.MixReferenceIdeal.Gen Cert.MixReferenceIdeal.Value Cert.MixIdeal.Row
open Idealize.ShloMosaic Idealize.ShloMosaic.TcCoe Idealize.SL.Sem

/-- The reference's residual after the cross-attention, read. -/
theorem whole_second (V0 : Valuation τ sig (Elt Ideal)) :
    (concatenate S40960x2048 0 [⟨S8192x2048, (shapeCast _ (res_main_v49 V0) shapeCasts_S1x8192x2048_S8192x2048)⟩, ⟨S32768x2048, (shapeCast _ (res_main_v123 V0) shapeCasts_S2x16384x2048_S32768x2048)⟩] concatenates_S8192x2048_S32768x2048_S40960x2048_d0 : FVec Ideal S40960x2048 .f32) = fun i => (input V0).second (i 0) (i 1) := by
  funext i
  obtain ⟨r, n, rfl⟩ : ∃ (r : Fin 40960) (n : Fin 2048), i = ix2 r n := ⟨i 0, i 1, eq_ix2 i⟩
  pointwise [v49_apply, v123_apply]
  by_cases hr : r.val < 8192
  · refine (dif_pos hr).trans ?_
    first | rfl | exact congrArg (fun k => (input V0).second k n) (Fin.ext rfl)
  · refine (dif_neg hr).trans ?_
    exact congrArg (fun k => (input V0).second k n)
      (Fin.ext (show 8192 + ((r.val - 8192) / 16384 * 16384 + (r.val - 8192) % 16384) = r.val by omega))

/-- The reference's normed rows, read. -/
theorem whole_normed (V0 : Valuation τ sig (Elt Ideal)) :
    (concatenate S40960x2048 0 [⟨S8192x2048, (res_main_v63 V0)⟩, ⟨S32768x2048, (res_main_v137 V0)⟩] concatenates_S8192x2048_S32768x2048_S40960x2048_d0 : FVec Ideal S40960x2048 .f32) = fun i => (input V0).normed (i 0) (i 1) := by
  funext i
  obtain ⟨r, n, rfl⟩ : ∃ (r : Fin 40960) (n : Fin 2048), i = ix2 r n := ⟨i 0, i 1, eq_ix2 i⟩
  pointwise [v63_apply, v137_apply]
  by_cases hr : r.val < 8192
  · refine (dif_pos hr).trans ?_
    first | rfl | exact congrArg (fun k => (input V0).normed k n) (Fin.ext rfl)
  · refine (dif_neg hr).trans ?_
    exact congrArg (fun k => (input V0).normed k n)
      (Fin.ext (show 8192 + ((r.val - 8192) / 16384 * 16384 + (r.val - 8192) % 16384) = r.val by omega))

/-- The reference's router probabilities, read. -/
theorem whole_affine (V0 : Valuation τ sig (Elt Ideal)) :
    (concatenate S40960x16 0 [⟨S8192x16, (Host.divf (res_main_v72 V0) (broadcastInDim S8192x16 ![0, 1] bcast_S8192x1_S8192x16_0_1 (broadcastInDim S8192x1 ![0] bcast_S8192_S8192x1_0 (Host.reduceAdd (res_main_v72 V0) (constant S_ .f32 0x00000000#32) reducesTo_S8192x16_S8192_d1 h_S_))))⟩, ⟨S32768x16, (Host.divf (res_main_v146 V0) (broadcastInDim S32768x16 ![0, 1] bcast_S32768x1_S32768x16_0_1 (broadcastInDim S32768x1 ![0] bcast_S32768_S32768x1_0 (Host.reduceAdd (res_main_v146 V0) (constant S_ .f32 0x00000000#32) reducesTo_S32768x16_S32768_d1 h_S_))))⟩] concatenates_S8192x16_S32768x16_S40960x16_d0 : FVec Ideal S40960x16 .f32) = fun i => (input V0).affine (i 0) (i 1) := by
  funext i
  obtain ⟨r, n, rfl⟩ : ∃ (r : Fin 40960) (n : Fin 16), i = ix2 r n := ⟨i 0, i 1, eq_ix2 i⟩
  pointwise [v72_apply, v146_apply]
  by_cases hr : r.val < 8192
  · refine (dif_pos hr).trans ?_
    first | rfl | exact congrArg (fun k => (input V0).affine k n) (Fin.ext rfl)
  · refine (dif_neg hr).trans ?_
    exact congrArg (fun k => (input V0).affine k n)
      (Fin.ext (show 8192 + ((r.val - 8192) / 16384 * 16384 + (r.val - 8192) % 16384) = r.val by omega))

end Cert.MixReferenceIdeal.Row

namespace Cert.Proof.MixClaims

open Idealize.ShloMosaic Idealize.ShloMosaic.TcCoe Idealize.SL.Sem

/-- The compiled program's kernel bodies are the ideal program's. -/
theorem bodies_eq : Cert.Mix.defs₀ (F := Bits) = Cert.MixIdeal.defs₀ (F := Bits) := by
  refine congrArg (Defs.onTc (nD := Cert.Mix.nD)) (funext fun l => funext fun a => ?_)
  match l, a with
  | 0, (_, _) => rfl
  | ⟨_ + 1, h⟩, _ => exact absurd h (Nat.not_lt.2 (Nat.le_add_left _ _))

/-- So its whole table of bodies is the ideal program's. -/
theorem table_eq : Cert.Mix.defs (F := Bits) = Cert.MixIdeal.defs (F := Bits) :=
  congrArg (Pipeline.defs Cert.Mix.pcfgs) bodies_eq

/-- The compiled kernel terminates with its arguments unchanged and every counter at zero: its text is the ideal
one's, so the run over any float values gives it. -/
theorem frame_kernel : Cert.quiescent_Mix := fun m ρ _ => by
  rw [table_eq]
  exact Cert.MixIdeal.Gen.frame (F := Bits) m ρ

/-- So does the kernel read on the extended reals. -/
theorem frame_ideal : Cert.quiescent_MixIdeal := fun m ρ _ => Cert.MixIdeal.Gen.frame m ρ

/-- So does the reference: it is host operations only. -/
theorem frame_reference : Cert.quiescent_MixReferenceIdeal := fun m ρ _ =>
  (θ_run Cert.MixReferenceIdeal.defs _ _).mono (fun r h => ⟨fun c => (h c).2.2.2,
      Idealize.ShloMosaic.sem_eq_zero_of_no_sems (by decide) r.2⟩)
    (Cert.MixReferenceIdeal.Value.run (F := Ideal) m ρ)

/-- The ideal program is the compiled one. -/
theorem preserves : Cert.preserves_Mix_MixIdeal := trivial

/-- On the extended reals the kernel's three arrays are the reference's. -/
theorem algebraic : Cert.algebraic_MixIdeal_MixReferenceIdeal := by
  intro m ρ m' ρ' _ hagree
  refine ⟨fun c => fun i => (Cert.MixIdeal.Row.input m c).second (i 0) (i 1),
    fun c => fun i => (Cert.MixIdeal.Row.input m c).normed (i 0) (i 1),
    fun c => fun i => (Cert.MixIdeal.Row.input m c).affine (i 0) (i 1), Cert.MixIdeal.Row.run_rows m ρ, ?_⟩
  refine (θ_run Cert.MixReferenceIdeal.defs _ _).mono (fun _ h c => ?_) (Cert.MixReferenceIdeal.Value.run (F := Ideal) m' ρ')
  obtain ⟨h0, h1, h2, h3, h4, h5, h6, h7, h8, h9, h10⟩ := hagree c
  have e : Cert.MixReferenceIdeal.Row.input (StableHlo.launchContents m' c) = Cert.MixIdeal.Row.input m c := by
    simp only [Cert.MixReferenceIdeal.Row.input, Cert.MixIdeal.Row.input, Cert.MixIdeal.Row.Input.mk.injEq]
    exact ⟨h0, h1, h2, h3, h4, h5, h6, h7, h8, h9, h10⟩
  refine ⟨(h c).1.trans ((Cert.MixReferenceIdeal.Row.whole_second _).trans ?_),
    (h c).2.1.trans ((Cert.MixReferenceIdeal.Row.whole_normed _).trans ?_),
    (h c).2.2.1.trans ((Cert.MixReferenceIdeal.Row.whole_affine _).trans ?_), (h c).2.2.2⟩
  · exact congrArg (fun I : Cert.MixIdeal.Row.Input => fun i : Cert.MixIdeal.S40960x2048.Idx => I.second (i 0) (i 1)) e
  · exact congrArg (fun I : Cert.MixIdeal.Row.Input => fun i : Cert.MixIdeal.S40960x2048.Idx => I.normed (i 0) (i 1)) e
  · exact congrArg (fun I : Cert.MixIdeal.Row.Input => fun i : Cert.MixIdeal.S40960x16.Idx => I.affine (i 0) (i 1)) e

end Cert.Proof.MixClaims

end
-- ==== Proof.MemoryClaims.lean ====
/- The claims about the memory's norm joined with its projection to keys and values. -/
module

public import proofs.«01_k».proof.Defs
public import proofs.«01_k».proof.Proof.Norm
public import proofs.«01_k».proof.Proof.Gen.Memory
public import proofs.«01_k».proof.Proof.Gen.MemoryIdeal.Value
public import proofs.«01_k».proof.Proof.Gen.MemoryReferenceIdeal.Run
public import Idealize.ShloMosaic.Lib.Quiescent
public import Idealize.ShloMosaic.Lib.Pipeline.ValueKit
public import Idealize.ShloMosaic.Lib.Pointwise

@[expose] public section

set_option maxRecDepth 16384

noncomputable section

namespace Cert.MemoryIdeal.Projection

open Cert.MemoryIdeal.Gen Cert.MemoryIdeal.Value
open Idealize.ShloMosaic Idealize.ShloMosaic.TcCoe Idealize.SL.Sem
open Idealize.ShloMosaic.Pipeline (Dat)

/-- The memory rows' block index at a point. -/
theorem index0 : ∀ t : Fin cfg0.N, win0_0.index t = ![t.val, 0] :=
  (by decide +kernel : ∀ t : Fin grid0.N, win0_0.index t = ![t.val, 0])
/-- The gain's block index at a point. -/
theorem index1 : ∀ t : Fin cfg0.N, win0_1.index t = ![0, 0] :=
  (by decide +kernel : ∀ t : Fin grid0.N, win0_1.index t = ![0, 0])
/-- The weights' block index at a point. -/
theorem index2 : ∀ t : Fin cfg0.N, win0_2.index t = ![0, 0] :=
  (by decide +kernel : ∀ t : Fin grid0.N, win0_2.index t = ![0, 0])
/-- The output's block index at a point. -/
theorem index3 : ∀ t : Fin cfg0.N, win0_3.index t = ![t.val, 0] :=
  (by decide +kernel : ∀ t : Fin grid0.N, win0_3.index t = ![t.val, 0])
/-- The output blocks cover the output array. -/
theorem covers : (cfg0.win 3).Covers := by decide +kernel

/-- The body's block at an index: the normed row against the weights' column. -/
theorem pay_apply (x : FVec Ideal S256x2048 .f32) (g : FVec Ideal S1x2048 .f32) (w : FVec Ideal S2048x1024 .bf16) (a : Fin 256) (n : Fin 1024) :
    k0_pay1 (F := Ideal) x g w (ix2 a n)
      = ∑ d : Fin 2048, Cert.Norm.rms (fun k => x (ix2 a k)) (fun k => g (ix2 0 k)) d * w (ix2 d n) := by
  pointwise [k0_pay1, Cert.Norm.rms]

/-- The normed rows against the weights. -/
def product (x : FVec Ideal S768x2048 .f32) (g : FVec Ideal S2048 .f32) (w : FVec Ideal S2048x1024 .f32) : FVec Ideal S768x1024 .bf16 := fun i =>
  ∑ d : Fin 2048, Cert.Norm.rms (fun k => x (ix2 (i 0) k)) (fun k => g (ix1 k)) d * w (ix2 d (i 1))

variable (m : (ℓ : Loc nD τ sig) → Buf (Elt Ideal) ℓ) (ρ : Dev nD → PrngReg)

/-- What the kernel leaves in the output array. -/
theorem final (c : Dev nD) : (dats m 0 c).arrAt 3 cfg0.N
    = product (m ((c.tc : Thread nD τ).loc main_arg0)) (m ((c.tc : Thread nD τ).loc main_arg1)) (m ((c.tc : Thread nD τ).loc main_arg2)) := by
  refine (dats m 0 c).arrAt_eq_of_covers 3 _ covers fun t hf y => ?_
  have hN : t.val < 3 := lt_of_lt_of_eq t.isLt (show cfg0.N = 3 from N_0)
  blk_simp
  rw [after0_3]
  frame_out
  obtain ⟨r, n, rfl⟩ : ∃ (r : Fin 256) (n : Fin 1024), y = ix2 r n := ⟨y 0, y 1, eq_ix2 y⟩
  have ei : (win0_3.blk t).view.emb (ix2 r n) = ix2 (⟨t.val * 256 + r.val, by omega⟩ : Fin 768) n := by
    blk_ext [index3]
  have e0 : ∀ k : Fin 2048, iblk m c 0 t (ix2 r k)
      = m ((c.tc : Thread nD τ).loc main_arg0) (ix2 ⟨t.val * 256 + r.val, by omega⟩ k) := by
    intro k
    blk_simp [iblk, index0]
    rw [V_main_arg0]
    congr 1
    blk_ext [index0]
  have e1 : ∀ k : Fin 2048, iblk m c 1 t (ix2 0 k) = m ((c.tc : Thread nD τ).loc main_arg1) (ix1 k) := by
    intro k
    blk_simp [iblk, index1]
    entry_read
    rw [show (win0_1.blk t).view.emb (ix2 0 k) = ix2 (0 : Fin 1) k from by blk_ext [index1]]
    pointwise
  have e2 : ∀ d : Fin 2048, iblk m c 2 t (ix2 d n) = m ((c.tc : Thread nD τ).loc main_arg2) (ix2 d n) := by
    intro d
    blk_simp [iblk, index2]
    entry_read
    rw [show (win0_2.blk t).view.emb (ix2 d n) = ix2 d n from by blk_ext [index2]]
    pointwise
  rw [pay_apply, ei]
  unfold product
  simp only [e0, e1, e2]
  rfl

/-- The run, read: the output array at the product, the arguments unchanged. -/
theorem run_product : θ_run defs (onTc (τ := τ) (main (F := Ideal))) ⟨m, fun _ => 0, ρ⟩ fun r => ∀ c : Dev nD,
      r.2.mem ((c.tc : Thread nD τ).loc main_v2)
        = product (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final m c), (h c).2⟩) (run_blocks m ρ)

end Cert.MemoryIdeal.Projection

namespace Cert.Proof.MemoryClaims

open Idealize.ShloMosaic Idealize.ShloMosaic.TcCoe Idealize.SL.Sem

/-- The compiled program's kernel bodies are the ideal program's. -/
theorem bodies_eq : Cert.Memory.defs₀ (F := Bits) = Cert.MemoryIdeal.defs₀ (F := Bits) := by
  refine congrArg (Defs.onTc (nD := Cert.Memory.nD)) (funext fun l => funext fun a => ?_)
  match l, a with
  | 0, (_, _) => rfl
  | ⟨_ + 1, h⟩, _ => exact absurd h (Nat.not_lt.2 (Nat.le_add_left _ _))

/-- So its whole table of bodies is the ideal program's. -/
theorem table_eq : Cert.Memory.defs (F := Bits) = Cert.MemoryIdeal.defs (F := Bits) :=
  congrArg (Pipeline.defs Cert.Memory.pcfgs) bodies_eq

/-- The compiled kernel terminates with its arguments unchanged and every counter at zero: its text is the ideal
one's, so the run over any float values gives it. -/
theorem frame_kernel : Cert.quiescent_Memory := fun m ρ _ => by
  rw [table_eq]
  exact Cert.MemoryIdeal.Gen.frame (F := Bits) m ρ

/-- So does the kernel read on the extended reals. -/
theorem frame_ideal : Cert.quiescent_MemoryIdeal := fun m ρ _ => Cert.MemoryIdeal.Gen.frame m ρ

/-- So does the reference: it is host operations only. -/
theorem frame_reference : Cert.quiescent_MemoryReferenceIdeal := fun m ρ _ =>
  (θ_run Cert.MemoryReferenceIdeal.defs _ _).mono (fun r h => ⟨fun c => (h c).2,
      Idealize.ShloMosaic.sem_eq_zero_of_no_sems (by decide) r.2⟩)
    (Cert.MemoryReferenceIdeal.Value.run (F := Ideal) m ρ)

/-- The ideal program is the compiled one. -/
theorem preserves : Cert.preserves_Memory_MemoryIdeal := trivial

/-- On the extended reals the kernel's array is the reference's. -/
theorem algebraic : Cert.algebraic_MemoryIdeal_MemoryReferenceIdeal := by
  intro m ρ m' ρ' _ hagree
  refine ⟨fun c => Cert.MemoryIdeal.Projection.product _ _ _, Cert.MemoryIdeal.Projection.run_product m ρ, ?_⟩
  refine (θ_run Cert.MemoryReferenceIdeal.defs _ _).mono (fun _ h c => ⟨(h c).1.trans ?_, (h c).2⟩)
    (Cert.MemoryReferenceIdeal.Value.run (F := Ideal) m' ρ')
  obtain ⟨h0, h1, h2⟩ := hagree c
  rw [h0, h1, h2]
  funext i
  obtain ⟨r, n, rfl⟩ : ∃ (r : Fin 768) (n : Fin 1024), i = ix2 r n := ⟨i 0, i 1, eq_ix2 i⟩
  pointwise [Cert.MemoryIdeal.Projection.product, Cert.Norm.rms]

end Cert.Proof.MemoryClaims

end
-- ==== Proof.NaClaims.lean ====
/- The claims about the neighborhood attention. -/
module

public import proofs.«01_k».proof.Defs
public import proofs.«01_k».proof.Proof.Gen.Na.Frame
public import proofs.«01_k».proof.Proof.Gen.NaIdeal.Value
public import proofs.«01_k».proof.Proof.Gen.NaReferenceIdeal.Run
public import Idealize.ShloMosaic.Lib.Quiescent
public import Idealize.ShloMosaic.Lib.Pointwise

@[expose] public section

set_option maxRecDepth 16384

noncomputable section

namespace Cert.Proof.NaClaims

open Idealize.ShloMosaic Idealize.ShloMosaic.TcCoe Idealize.SL.Sem

/-- The compiled kernel terminates with its arguments unchanged and every counter at zero. -/
theorem frame_kernel : Cert.quiescent_Na := fun m ρ _ => Cert.Na.Gen.frame m ρ

/-- So does the kernel read on the extended reals. -/
theorem frame_ideal : Cert.quiescent_NaIdeal := fun m ρ _ => Cert.NaIdeal.Gen.frame m ρ

/-- So does the reference: it is host operations only. -/
theorem frame_reference : Cert.quiescent_NaReferenceIdeal := fun m ρ _ =>
  (θ_run Cert.NaReferenceIdeal.defs _ _).mono (fun r h => ⟨fun c => (h c).2,
      Idealize.ShloMosaic.sem_eq_zero_of_no_sems (by decide) r.2⟩)
    (Cert.NaReferenceIdeal.Value.run (F := Ideal) m ρ)

/-- The ideal program is the compiled one. -/
theorem preserves : Cert.preserves_Na_NaIdeal := trivial

end Cert.Proof.NaClaims

end
-- ==== Proof.lean ====
module

public import proofs.«01_k».proof.Defs
public import proofs.«01_k».proof.Proof.Gen.Prompt
public import proofs.«01_k».proof.Proof.Gen.Sample
public import proofs.«01_k».proof.Proof.Gen.Project
public import proofs.«01_k».proof.Proof.Gen.Memory
public import proofs.«01_k».proof.Proof.Gen.Na.Frame
public import proofs.«01_k».proof.Proof.Gen.NaIdeal.Value
public import proofs.«01_k».proof.Proof.Gen.NaReferenceIdeal.Run
public import proofs.«01_k».proof.Proof.Gen.MemoryIdeal.Value
public import proofs.«01_k».proof.Proof.Gen.MemoryReferenceIdeal.Run
public import proofs.«01_k».proof.Proof.Gen.Mix
public import proofs.«01_k».proof.Proof.Gen.Swa.Frame
public import proofs.«01_k».proof.Proof.Gen.Swa
public import proofs.«01_k».proof.Proof.SwaClaims
public import proofs.«01_k».proof.Proof.FfnClaims
public import proofs.«01_k».proof.Proof.ProjectClaims
public import proofs.«01_k».proof.Proof.PromptClaims
public import proofs.«01_k».proof.Proof.SampleClaims
public import proofs.«01_k».proof.Proof.MixClaims
public import proofs.«01_k».proof.Proof.MemoryClaims
public import proofs.«01_k».proof.Proof.NaClaims
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnReferenceIdeal
public import proofs.«01_k».proof.Proof.Gen.FfnReferenceIdeal.Run
public import proofs.«01_k».proof.Proof.Gen.MixReferenceIdeal.Run
public import proofs.«01_k».proof.Proof.Gen.MixIdeal.Value
public import proofs.«01_k».proof.Proof.Gen.SampleReferenceIdeal.Run
public import proofs.«01_k».proof.Proof.Gen.SampleIdeal.Value
public import proofs.«01_k».proof.Proof.Gen.PromptReferenceIdeal.Run
public import proofs.«01_k».proof.Proof.Gen.PromptIdeal.Value
public import proofs.«01_k».proof.Proof.Gen.ProjectReferenceIdeal.Run
public import proofs.«01_k».proof.Proof.Gen.ProjectIdeal.Value
public import proofs.«01_k».proof.Proof.Gen.SwaReferenceIdeal.Run
public import proofs.«01_k».proof.Proof.Gen.SwaIdeal.Value
public import Idealize.ShloMosaic.Adequacy
public import Idealize.ShloMosaic.Init

@[expose] public section

noncomputable section

namespace Cert.Proof

open Idealize.ShloMosaic Idealize.SL.Sem

/-- Everything that the certificate states. -/
theorem claim : Cert.Claim :=
  ⟨Cert.Swa.Gen.facts, Cert.SwaIdeal.Gen.facts, Cert.SwaReferenceIdeal.Gen.facts,
    Cert.Ffn.Gen.facts, Cert.FfnIdeal.Gen.facts, Cert.FfnReferenceIdeal.Gen.facts,
    Cert.Project.Gen.facts, Cert.ProjectIdeal.Gen.facts, Cert.ProjectReferenceIdeal.Gen.facts,
    Cert.Prompt.Gen.facts, Cert.PromptIdeal.Gen.facts, Cert.PromptReferenceIdeal.Gen.facts,
    Cert.Sample.Gen.facts, Cert.SampleIdeal.Gen.facts, Cert.SampleReferenceIdeal.Gen.facts,
    Cert.Mix.Gen.facts, Cert.MixIdeal.Gen.facts, Cert.MixReferenceIdeal.Gen.facts,
    Cert.Memory.Gen.facts, Cert.MemoryIdeal.Gen.facts, Cert.MemoryReferenceIdeal.Gen.facts,
    Cert.Na.Gen.facts, Cert.NaIdeal.Gen.facts, Cert.NaReferenceIdeal.Gen.facts,
    SwaClaims.frame_kernel, SwaClaims.frame_ideal, SwaClaims.frame_reference,
    FfnClaims.frame_kernel, FfnClaims.frame_ideal, FfnClaims.frame_reference,
    ProjectClaims.frame_kernel, ProjectClaims.frame_ideal, ProjectClaims.frame_reference,
    PromptClaims.frame_kernel, PromptClaims.frame_ideal, PromptClaims.frame_reference,
    SampleClaims.frame_kernel, SampleClaims.frame_ideal, SampleClaims.frame_reference,
    MixClaims.frame_kernel, MixClaims.frame_ideal, MixClaims.frame_reference,
    MemoryClaims.frame_kernel, MemoryClaims.frame_ideal, MemoryClaims.frame_reference,
    NaClaims.frame_kernel, NaClaims.frame_ideal, NaClaims.frame_reference,
    SwaClaims.preserves, SwaClaims.algebraic,
    FfnClaims.preserves, FfnClaims.algebraic,
    ProjectClaims.preserves, ProjectClaims.algebraic,
    PromptClaims.preserves, PromptClaims.algebraic,
    SampleClaims.preserves, SampleClaims.algebraic,
    MixClaims.preserves, MixClaims.algebraic,
    MemoryClaims.preserves, MemoryClaims.algebraic,
    NaClaims.preserves⟩

end Cert.Proof

end
